-- ==== Defs.lean ====
def Pre_Attention0 (m : (ℓ : Loc Cert.Attention0.nD Cert.Attention0.τ Cert.Attention0.sig) → Buf (Elt Bits) ℓ) : Prop :=
  True

def Pre_Attention0Ideal (m : (ℓ : Loc Cert.Attention0Ideal.nD Cert.Attention0Ideal.τ Cert.Attention0Ideal.sig) → Buf (Elt Ideal) ℓ) : Prop :=
  True

def Pre_Attention0Ideal_apart0 [hPre_apart0 : Cert.Pre_apart0.Facts] (m : (ℓ : Loc Cert.Attention0Ideal.nD Cert.Attention0Ideal.τ Cert.Attention0Ideal.sig) → Buf (Elt Ideal) ℓ) : Prop :=
  ∀ c : Dev Cert.Attention0Ideal.nD,
    (Cert.Pre_apart0.fn (F := Ideal) (m ((c.tc : Thread Cert.Attention0Ideal.nD Cert.Attention0Ideal.τ).loc Cert.Attention0Ideal.main_arg0)) (m ((c.tc : Thread Cert.Attention0Ideal.nD Cert.Attention0Ideal.τ).loc Cert.Attention0Ideal.main_arg1)) (m ((c.tc : Thread Cert.Attention0Ideal.nD Cert.Attention0Ideal.τ).loc Cert.Attention0Ideal.main_arg2)) (m ((c.tc : Thread Cert.Attention0Ideal.nD Cert.Attention0Ideal.τ).loc Cert.Attention0Ideal.main_arg3))) = (fun _ => 1#1)

def Pre_RefAttention0Ideal (m : (ℓ : Loc Cert.RefAttention0Ideal.nD Cert.RefAttention0Ideal.τ Cert.RefAttention0Ideal.sig) → Buf (Elt Ideal) ℓ) : Prop :=
  True

def Pre_RefAttention0Ideal_apart0 [hPre_apart0 : Cert.Pre_apart0.Facts] (m : (ℓ : Loc Cert.RefAttention0Ideal.nD Cert.RefAttention0Ideal.τ Cert.RefAttention0Ideal.sig) → Buf (Elt Ideal) ℓ) : Prop :=
  ∀ c : Dev Cert.RefAttention0Ideal.nD,
    (Cert.Pre_apart0.fn (F := Ideal) (m ((c.tc : Thread Cert.RefAttention0Ideal.nD Cert.RefAttention0Ideal.τ).loc Cert.RefAttention0Ideal.main_arg0)) (m ((c.tc : Thread Cert.RefAttention0Ideal.nD Cert.RefAttention0Ideal.τ).loc Cert.RefAttention0Ideal.main_arg1)) (m ((c.tc : Thread Cert.RefAttention0Ideal.nD Cert.RefAttention0Ideal.τ).loc Cert.RefAttention0Ideal.main_arg2)) (m ((c.tc : Thread Cert.RefAttention0Ideal.nD Cert.RefAttention0Ideal.τ).loc Cert.RefAttention0Ideal.main_arg3))) = (fun _ => 1#1)

def Pre_Attention1 (m : (ℓ : Loc Cert.Attention1.nD Cert.Attention1.τ Cert.Attention1.sig) → Buf (Elt Bits) ℓ) : Prop :=
  True

def Pre_Attention1Ideal (m : (ℓ : Loc Cert.Attention1Ideal.nD Cert.Attention1Ideal.τ Cert.Attention1Ideal.sig) → Buf (Elt Ideal) ℓ) : Prop :=
  True

def Pre_Attention1Ideal_apart1 [hPre_apart1 : Cert.Pre_apart1.Facts] (m : (ℓ : Loc Cert.Attention1Ideal.nD Cert.Attention1Ideal.τ Cert.Attention1Ideal.sig) → Buf (Elt Ideal) ℓ) : Prop :=
  ∀ c : Dev Cert.Attention1Ideal.nD,
    (Cert.Pre_apart1.fn (F := Ideal) (m ((c.tc : Thread Cert.Attention1Ideal.nD Cert.Attention1Ideal.τ).loc Cert.Attention1Ideal.main_arg0)) (m ((c.tc : Thread Cert.Attention1Ideal.nD Cert.Attention1Ideal.τ).loc Cert.Attention1Ideal.main_arg1)) (m ((c.tc : Thread Cert.Attention1Ideal.nD Cert.Attention1Ideal.τ).loc Cert.Attention1Ideal.main_arg2)) (m ((c.tc : Thread Cert.Attention1Ideal.nD Cert.Attention1Ideal.τ).loc Cert.Attention1Ideal.main_arg3))) = (fun _ => 1#1)

def Pre_RefAttention1Ideal (m : (ℓ : Loc Cert.RefAttention1Ideal.nD Cert.RefAttention1Ideal.τ Cert.RefAttention1Ideal.sig) → Buf (Elt Ideal) ℓ) : Prop :=
  True

def Pre_RefAttention1Ideal_apart1 [hPre_apart1 : Cert.Pre_apart1.Facts] (m : (ℓ : Loc Cert.RefAttention1Ideal.nD Cert.RefAttention1Ideal.τ Cert.RefAttention1Ideal.sig) → Buf (Elt Ideal) ℓ) : Prop :=
  ∀ c : Dev Cert.RefAttention1Ideal.nD,
    (Cert.Pre_apart1.fn (F := Ideal) (m ((c.tc : Thread Cert.RefAttention1Ideal.nD Cert.RefAttention1Ideal.τ).loc Cert.RefAttention1Ideal.main_arg0)) (m ((c.tc : Thread Cert.RefAttention1Ideal.nD Cert.RefAttention1Ideal.τ).loc Cert.RefAttention1Ideal.main_arg1)) (m ((c.tc : Thread Cert.RefAttention1Ideal.nD Cert.RefAttention1Ideal.τ).loc Cert.RefAttention1Ideal.main_arg2)) (m ((c.tc : Thread Cert.RefAttention1Ideal.nD Cert.RefAttention1Ideal.τ).loc Cert.RefAttention1Ideal.main_arg3))) = (fun _ => 1#1)

def Pre_Attention2 (m : (ℓ : Loc Cert.Attention2.nD Cert.Attention2.τ Cert.Attention2.sig) → Buf (Elt Bits) ℓ) : Prop :=
  True

def Pre_Attention2Ideal (m : (ℓ : Loc Cert.Attention2Ideal.nD Cert.Attention2Ideal.τ Cert.Attention2Ideal.sig) → Buf (Elt Ideal) ℓ) : Prop :=
  True

def Pre_Attention2Ideal_apart2 [hPre_apart2 : Cert.Pre_apart2.Facts] (m : (ℓ : Loc Cert.Attention2Ideal.nD Cert.Attention2Ideal.τ Cert.Attention2Ideal.sig) → Buf (Elt Ideal) ℓ) : Prop :=
  ∀ c : Dev Cert.Attention2Ideal.nD,
    (Cert.Pre_apart2.fn (F := Ideal) (m ((c.tc : Thread Cert.Attention2Ideal.nD Cert.Attention2Ideal.τ).loc Cert.Attention2Ideal.main_arg0)) (m ((c.tc : Thread Cert.Attention2Ideal.nD Cert.Attention2Ideal.τ).loc Cert.Attention2Ideal.main_arg1)) (m ((c.tc : Thread Cert.Attention2Ideal.nD Cert.Attention2Ideal.τ).loc Cert.Attention2Ideal.main_arg2)) (m ((c.tc : Thread Cert.Attention2Ideal.nD Cert.Attention2Ideal.τ).loc Cert.Attention2Ideal.main_arg3))) = (fun _ => 1#1)

def Pre_RefAttention2Ideal (m : (ℓ : Loc Cert.RefAttention2Ideal.nD Cert.RefAttention2Ideal.τ Cert.RefAttention2Ideal.sig) → Buf (Elt Ideal) ℓ) : Prop :=
  True

def Pre_RefAttention2Ideal_apart2 [hPre_apart2 : Cert.Pre_apart2.Facts] (m : (ℓ : Loc Cert.RefAttention2Ideal.nD Cert.RefAttention2Ideal.τ Cert.RefAttention2Ideal.sig) → Buf (Elt Ideal) ℓ) : Prop :=
  ∀ c : Dev Cert.RefAttention2Ideal.nD,
    (Cert.Pre_apart2.fn (F := Ideal) (m ((c.tc : Thread Cert.RefAttention2Ideal.nD Cert.RefAttention2Ideal.τ).loc Cert.RefAttention2Ideal.main_arg0)) (m ((c.tc : Thread Cert.RefAttention2Ideal.nD Cert.RefAttention2Ideal.τ).loc Cert.RefAttention2Ideal.main_arg1)) (m ((c.tc : Thread Cert.RefAttention2Ideal.nD Cert.RefAttention2Ideal.τ).loc Cert.RefAttention2Ideal.main_arg2)) (m ((c.tc : Thread Cert.RefAttention2Ideal.nD Cert.RefAttention2Ideal.τ).loc Cert.RefAttention2Ideal.main_arg3))) = (fun _ => 1#1)

def Pre_Attention3 (m : (ℓ : Loc Cert.Attention3.nD Cert.Attention3.τ Cert.Attention3.sig) → Buf (Elt Bits) ℓ) : Prop :=
  True

def Pre_Attention3Ideal (m : (ℓ : Loc Cert.Attention3Ideal.nD Cert.Attention3Ideal.τ Cert.Attention3Ideal.sig) → Buf (Elt Ideal) ℓ) : Prop :=
  True

def Pre_Attention3Ideal_apart3 [hPre_apart3 : Cert.Pre_apart3.Facts] (m : (ℓ : Loc Cert.Attention3Ideal.nD Cert.Attention3Ideal.τ Cert.Attention3Ideal.sig) → Buf (Elt Ideal) ℓ) : Prop :=
  ∀ c : Dev Cert.Attention3Ideal.nD,
    (Cert.Pre_apart3.fn (F := Ideal) (m ((c.tc : Thread Cert.Attention3Ideal.nD Cert.Attention3Ideal.τ).loc Cert.Attention3Ideal.main_arg0)) (m ((c.tc : Thread Cert.Attention3Ideal.nD Cert.Attention3Ideal.τ).loc Cert.Attention3Ideal.main_arg1)) (m ((c.tc : Thread Cert.Attention3Ideal.nD Cert.Attention3Ideal.τ).loc Cert.Attention3Ideal.main_arg2)) (m ((c.tc : Thread Cert.Attention3Ideal.nD Cert.Attention3Ideal.τ).loc Cert.Attention3Ideal.main_arg3))) = (fun _ => 1#1)

def Pre_RefAttention3Ideal (m : (ℓ : Loc Cert.RefAttention3Ideal.nD Cert.RefAttention3Ideal.τ Cert.RefAttention3Ideal.sig) → Buf (Elt Ideal) ℓ) : Prop :=
  True

def Pre_RefAttention3Ideal_apart3 [hPre_apart3 : Cert.Pre_apart3.Facts] (m : (ℓ : Loc Cert.RefAttention3Ideal.nD Cert.RefAttention3Ideal.τ Cert.RefAttention3Ideal.sig) → Buf (Elt Ideal) ℓ) : Prop :=
  ∀ c : Dev Cert.RefAttention3Ideal.nD,
    (Cert.Pre_apart3.fn (F := Ideal) (m ((c.tc : Thread Cert.RefAttention3Ideal.nD Cert.RefAttention3Ideal.τ).loc Cert.RefAttention3Ideal.main_arg0)) (m ((c.tc : Thread Cert.RefAttention3Ideal.nD Cert.RefAttention3Ideal.τ).loc Cert.RefAttention3Ideal.main_arg1)) (m ((c.tc : Thread Cert.RefAttention3Ideal.nD Cert.RefAttention3Ideal.τ).loc Cert.RefAttention3Ideal.main_arg2)) (m ((c.tc : Thread Cert.RefAttention3Ideal.nD Cert.RefAttention3Ideal.τ).loc Cert.RefAttention3Ideal.main_arg3))) = (fun _ => 1#1)

def Pre_Features0 (m : (ℓ : Loc Cert.Features0.nD Cert.Features0.τ Cert.Features0.sig) → Buf (Elt Bits) ℓ) : Prop :=
  True

def Pre_Features0Ideal (m : (ℓ : Loc Cert.Features0Ideal.nD Cert.Features0Ideal.τ Cert.Features0Ideal.sig) → Buf (Elt Ideal) ℓ) : Prop :=
  True

def Pre_Features0Ideal_near0 [hPre_near0 : Cert.Pre_near0.Facts] (m : (ℓ : Loc Cert.Features0Ideal.nD Cert.Features0Ideal.τ Cert.Features0Ideal.sig) → Buf (Elt Ideal) ℓ) : Prop :=
  ∀ c : Dev Cert.Features0Ideal.nD,
    (Cert.Pre_near0.fn (F := Ideal) (m ((c.tc : Thread Cert.Features0Ideal.nD Cert.Features0Ideal.τ).loc Cert.Features0Ideal.main_arg0)) (m ((c.tc : Thread Cert.Features0Ideal.nD Cert.Features0Ideal.τ).loc Cert.Features0Ideal.main_arg1)) (m ((c.tc : Thread Cert.Features0Ideal.nD Cert.Features0Ideal.τ).loc Cert.Features0Ideal.main_arg2)) (m ((c.tc : Thread Cert.Features0Ideal.nD Cert.Features0Ideal.τ).loc Cert.Features0Ideal.main_arg3)) (m ((c.tc : Thread Cert.Features0Ideal.nD Cert.Features0Ideal.τ).loc Cert.Features0Ideal.main_arg4))) = (fun _ => 1#1)

def Pre_RefFeatures0Ideal (m : (ℓ : Loc Cert.RefFeatures0Ideal.nD Cert.RefFeatures0Ideal.τ Cert.RefFeatures0Ideal.sig) → Buf (Elt Ideal) ℓ) : Prop :=
  True

def Pre_RefFeatures0Ideal_near0 [hPre_near0 : Cert.Pre_near0.Facts] (m : (ℓ : Loc Cert.RefFeatures0Ideal.nD Cert.RefFeatures0Ideal.τ Cert.RefFeatures0Ideal.sig) → Buf (Elt Ideal) ℓ) : Prop :=
  ∀ c : Dev Cert.RefFeatures0Ideal.nD,
    (Cert.Pre_near0.fn (F := Ideal) (m ((c.tc : Thread Cert.RefFeatures0Ideal.nD Cert.RefFeatures0Ideal.τ).loc Cert.RefFeatures0Ideal.main_arg0)) (m ((c.tc : Thread Cert.RefFeatures0Ideal.nD Cert.RefFeatures0Ideal.τ).loc Cert.RefFeatures0Ideal.main_arg1)) (m ((c.tc : Thread Cert.RefFeatures0Ideal.nD Cert.RefFeatures0Ideal.τ).loc Cert.RefFeatures0Ideal.main_arg2)) (m ((c.tc : Thread Cert.RefFeatures0Ideal.nD Cert.RefFeatures0Ideal.τ).loc Cert.RefFeatures0Ideal.main_arg3)) (m ((c.tc : Thread Cert.RefFeatures0Ideal.nD Cert.RefFeatures0Ideal.τ).loc Cert.RefFeatures0Ideal.main_arg4))) = (fun _ => 1#1)

def Pre_Features1 (m : (ℓ : Loc Cert.Features1.nD Cert.Features1.τ Cert.Features1.sig) → Buf (Elt Bits) ℓ) : Prop :=
  True

def Pre_Features1Ideal (m : (ℓ : Loc Cert.Features1Ideal.nD Cert.Features1Ideal.τ Cert.Features1Ideal.sig) → Buf (Elt Ideal) ℓ) : Prop :=
  True

def Pre_Features1Ideal_near1 [hPre_near1 : Cert.Pre_near1.Facts] (m : (ℓ : Loc Cert.Features1Ideal.nD Cert.Features1Ideal.τ Cert.Features1Ideal.sig) → Buf (Elt Ideal) ℓ) : Prop :=
  ∀ c : Dev Cert.Features1Ideal.nD,
    (Cert.Pre_near1.fn (F := Ideal) (m ((c.tc : Thread Cert.Features1Ideal.nD Cert.Features1Ideal.τ).loc Cert.Features1Ideal.main_arg0)) (m ((c.tc : Thread Cert.Features1Ideal.nD Cert.Features1Ideal.τ).loc Cert.Features1Ideal.main_arg1)) (m ((c.tc : Thread Cert.Features1Ideal.nD Cert.Features1Ideal.τ).loc Cert.Features1Ideal.main_arg2)) (m ((c.tc : Thread Cert.Features1Ideal.nD Cert.Features1Ideal.τ).loc Cert.Features1Ideal.main_arg3)) (m ((c.tc : Thread Cert.Features1Ideal.nD Cert.Features1Ideal.τ).loc Cert.Features1Ideal.main_arg4))) = (fun _ => 1#1)

def Pre_RefFeatures1Ideal (m : (ℓ : Loc Cert.RefFeatures1Ideal.nD Cert.RefFeatures1Ideal.τ Cert.RefFeatures1Ideal.sig) → Buf (Elt Ideal) ℓ) : Prop :=
  True

def Pre_RefFeatures1Ideal_near1 [hPre_near1 : Cert.Pre_near1.Facts] (m : (ℓ : Loc Cert.RefFeatures1Ideal.nD Cert.RefFeatures1Ideal.τ Cert.RefFeatures1Ideal.sig) → Buf (Elt Ideal) ℓ) : Prop :=
  ∀ c : Dev Cert.RefFeatures1Ideal.nD,
    (Cert.Pre_near1.fn (F := Ideal) (m ((c.tc : Thread Cert.RefFeatures1Ideal.nD Cert.RefFeatures1Ideal.τ).loc Cert.RefFeatures1Ideal.main_arg0)) (m ((c.tc : Thread Cert.RefFeatures1Ideal.nD Cert.RefFeatures1Ideal.τ).loc Cert.RefFeatures1Ideal.main_arg1)) (m ((c.tc : Thread Cert.RefFeatures1Ideal.nD Cert.RefFeatures1Ideal.τ).loc Cert.RefFeatures1Ideal.main_arg2)) (m ((c.tc : Thread Cert.RefFeatures1Ideal.nD Cert.RefFeatures1Ideal.τ).loc Cert.RefFeatures1Ideal.main_arg3)) (m ((c.tc : Thread Cert.RefFeatures1Ideal.nD Cert.RefFeatures1Ideal.τ).loc Cert.RefFeatures1Ideal.main_arg4))) = (fun _ => 1#1)

def Pre_Features2 (m : (ℓ : Loc Cert.Features2.nD Cert.Features2.τ Cert.Features2.sig) → Buf (Elt Bits) ℓ) : Prop :=
  True

def Pre_Features2Ideal (m : (ℓ : Loc Cert.Features2Ideal.nD Cert.Features2Ideal.τ Cert.Features2Ideal.sig) → Buf (Elt Ideal) ℓ) : Prop :=
  True

def Pre_Features2Ideal_near2 [hPre_near2 : Cert.Pre_near2.Facts] (m : (ℓ : Loc Cert.Features2Ideal.nD Cert.Features2Ideal.τ Cert.Features2Ideal.sig) → Buf (Elt Ideal) ℓ) : Prop :=
  ∀ c : Dev Cert.Features2Ideal.nD,
    (Cert.Pre_near2.fn (F := Ideal) (m ((c.tc : Thread Cert.Features2Ideal.nD Cert.Features2Ideal.τ).loc Cert.Features2Ideal.main_arg0)) (m ((c.tc : Thread Cert.Features2Ideal.nD Cert.Features2Ideal.τ).loc Cert.Features2Ideal.main_arg1)) (m ((c.tc : Thread Cert.Features2Ideal.nD Cert.Features2Ideal.τ).loc Cert.Features2Ideal.main_arg2)) (m ((c.tc : Thread Cert.Features2Ideal.nD Cert.Features2Ideal.τ).loc Cert.Features2Ideal.main_arg3)) (m ((c.tc : Thread Cert.Features2Ideal.nD Cert.Features2Ideal.τ).loc Cert.Features2Ideal.main_arg4))) = (fun _ => 1#1)

def Pre_RefFeatures2Ideal (m : (ℓ : Loc Cert.RefFeatures2Ideal.nD Cert.RefFeatures2Ideal.τ Cert.RefFeatures2Ideal.sig) → Buf (Elt Ideal) ℓ) : Prop :=
  True

def Pre_RefFeatures2Ideal_near2 [hPre_near2 : Cert.Pre_near2.Facts] (m : (ℓ : Loc Cert.RefFeatures2Ideal.nD Cert.RefFeatures2Ideal.τ Cert.RefFeatures2Ideal.sig) → Buf (Elt Ideal) ℓ) : Prop :=
  ∀ c : Dev Cert.RefFeatures2Ideal.nD,
    (Cert.Pre_near2.fn (F := Ideal) (m ((c.tc : Thread Cert.RefFeatures2Ideal.nD Cert.RefFeatures2Ideal.τ).loc Cert.RefFeatures2Ideal.main_arg0)) (m ((c.tc : Thread Cert.RefFeatures2Ideal.nD Cert.RefFeatures2Ideal.τ).loc Cert.RefFeatures2Ideal.main_arg1)) (m ((c.tc : Thread Cert.RefFeatures2Ideal.nD Cert.RefFeatures2Ideal.τ).loc Cert.RefFeatures2Ideal.main_arg2)) (m ((c.tc : Thread Cert.RefFeatures2Ideal.nD Cert.RefFeatures2Ideal.τ).loc Cert.RefFeatures2Ideal.main_arg3)) (m ((c.tc : Thread Cert.RefFeatures2Ideal.nD Cert.RefFeatures2Ideal.τ).loc Cert.RefFeatures2Ideal.main_arg4))) = (fun _ => 1#1)

def Pre_Sample0 (m : (ℓ : Loc Cert.Sample0.nD Cert.Sample0.τ Cert.Sample0.sig) → Buf (Elt Bits) ℓ) : Prop :=
  True

def Pre_Sample0Ideal (m : (ℓ : Loc Cert.Sample0Ideal.nD Cert.Sample0Ideal.τ Cert.Sample0Ideal.sig) → Buf (Elt Ideal) ℓ) : Prop :=
  True

def Pre_RefSample0Ideal (m : (ℓ : Loc Cert.RefSample0Ideal.nD Cert.RefSample0Ideal.τ Cert.RefSample0Ideal.sig) → Buf (Elt Ideal) ℓ) : Prop :=
  True

def Pre_Sample1 (m : (ℓ : Loc Cert.Sample1.nD Cert.Sample1.τ Cert.Sample1.sig) → Buf (Elt Bits) ℓ) : Prop :=
  True

def Pre_Sample1Ideal (m : (ℓ : Loc Cert.Sample1Ideal.nD Cert.Sample1Ideal.τ Cert.Sample1Ideal.sig) → Buf (Elt Ideal) ℓ) : Prop :=
  True

def Pre_RefSample1Ideal (m : (ℓ : Loc Cert.RefSample1Ideal.nD Cert.RefSample1Ideal.τ Cert.RefSample1Ideal.sig) → Buf (Elt Ideal) ℓ) : Prop :=
  True

def Pre_Sample2 (m : (ℓ : Loc Cert.Sample2.nD Cert.Sample2.τ Cert.Sample2.sig) → Buf (Elt Bits) ℓ) : Prop :=
  True

def Pre_Sample2Ideal (m : (ℓ : Loc Cert.Sample2Ideal.nD Cert.Sample2Ideal.τ Cert.Sample2Ideal.sig) → Buf (Elt Ideal) ℓ) : Prop :=
  True

def Pre_RefSample2Ideal (m : (ℓ : Loc Cert.RefSample2Ideal.nD Cert.RefSample2Ideal.τ Cert.RefSample2Ideal.sig) → Buf (Elt Ideal) ℓ) : Prop :=
  True

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_RefLinearIdeal (m : (ℓ : Loc Cert.RefLinearIdeal.nD Cert.RefLinearIdeal.τ Cert.RefLinearIdeal.sig) → Buf (Elt Ideal) ℓ) : Prop :=
  True

def quiescent_Attention0 [hAttention0 : Cert.Attention0.Facts] : Prop :=
  ∀ (m : (ℓ : Loc Cert.Attention0.nD Cert.Attention0.τ Cert.Attention0.sig) → Buf (Elt Bits) ℓ) (g : Dev Cert.Attention0.nD → PrngReg), Pre_Attention0 m →
    θ_run (Cert.Attention0.defs (F := Bits)) (onTc (τ := Cert.Attention0.τ) (Cert.Attention0.main (F := Bits))) ⟨m, fun _ => 0, g⟩ (fun r => (∀ c : Dev Cert.Attention0.nD,
      r.2.mem ((c.tc : Thread Cert.Attention0.nD Cert.Attention0.τ).loc Cert.Attention0.main_arg0) = m ((c.tc : Thread Cert.Attention0.nD Cert.Attention0.τ).loc Cert.Attention0.main_arg0)
      ∧ r.2.mem ((c.tc : Thread Cert.Attention0.nD Cert.Attention0.τ).loc Cert.Attention0.main_arg1) = m ((c.tc : Thread Cert.Attention0.nD Cert.Attention0.τ).loc Cert.Attention0.main_arg1)
      ∧ r.2.mem ((c.tc : Thread Cert.Attention0.nD Cert.Attention0.τ).loc Cert.Attention0.main_arg2) = m ((c.tc : Thread Cert.Attention0.nD Cert.Attention0.τ).loc Cert.Attention0.main_arg2)
      ∧ r.2.mem ((c.tc : Thread Cert.Attention0.nD Cert.Attention0.τ).loc Cert.Attention0.main_arg3) = m ((c.tc : Thread Cert.Attention0.nD Cert.Attention0.τ).loc Cert.Attention0.main_arg3))
      ∧ r.2.sem = fun _ => 0)

def quiescent_Attention0Ideal [hAttention0Ideal : Cert.Attention0Ideal.Facts] : Prop :=
  ∀ (m : (ℓ : Loc Cert.Attention0Ideal.nD Cert.Attention0Ideal.τ Cert.Attention0Ideal.sig) → Buf (Elt Ideal) ℓ) (g : Dev Cert.Attention0Ideal.nD → PrngReg), Pre_Attention0Ideal m →
    θ_run (Cert.Attention0Ideal.defs (F := Ideal)) (onTc (τ := Cert.Attention0Ideal.τ) (Cert.Attention0Ideal.main (F := Ideal))) ⟨m, fun _ => 0, g⟩ (fun r => (∀ c : Dev Cert.Attention0Ideal.nD,
      r.2.mem ((c.tc : Thread Cert.Attention0Ideal.nD Cert.Attention0Ideal.τ).loc Cert.Attention0Ideal.main_arg0) = m ((c.tc : Thread Cert.Attention0Ideal.nD Cert.Attention0Ideal.τ).loc Cert.Attention0Ideal.main_arg0)
      ∧ r.2.mem ((c.tc : Thread Cert.Attention0Ideal.nD Cert.Attention0Ideal.τ).loc Cert.Attention0Ideal.main_arg1) = m ((c.tc : Thread Cert.Attention0Ideal.nD Cert.Attention0Ideal.τ).loc Cert.Attention0Ideal.main_arg1)
      ∧ r.2.mem ((c.tc : Thread Cert.Attention0Ideal.nD Cert.Attention0Ideal.τ).loc Cert.Attention0Ideal.main_arg2) = m ((c.tc : Thread Cert.Attention0Ideal.nD Cert.Attention0Ideal.τ).loc Cert.Attention0Ideal.main_arg2)
      ∧ r.2.mem ((c.tc : Thread Cert.Attention0Ideal.nD Cert.Attention0Ideal.τ).loc Cert.Attention0Ideal.main_arg3) = m ((c.tc : Thread Cert.Attention0Ideal.nD Cert.Attention0Ideal.τ).loc Cert.Attention0Ideal.main_arg3))
      ∧ r.2.sem = fun _ => 0)

def quiescent_Attention0Ideal_pre_apart0 [hAttention0Ideal : Cert.Attention0Ideal.Facts] [hPre_apart0 : Cert.Pre_apart0.Facts] : Prop :=
  ∀ (m : (ℓ : Loc Cert.Attention0Ideal.nD Cert.Attention0Ideal.τ Cert.Attention0Ideal.sig) → Buf (Elt Ideal) ℓ) (g : Dev Cert.Attention0Ideal.nD → PrngReg), Pre_Attention0Ideal_apart0 m →
    θ_run (Cert.Attention0Ideal.defs (F := Ideal)) (onTc (τ := Cert.Attention0Ideal.τ) (Cert.Attention0Ideal.main (F := Ideal))) ⟨m, fun _ => 0, g⟩ (fun r => (∀ c : Dev Cert.Attention0Ideal.nD,
      r.2.mem ((c.tc : Thread Cert.Attention0Ideal.nD Cert.Attention0Ideal.τ).loc Cert.Attention0Ideal.main_arg0) = m ((c.tc : Thread Cert.Attention0Ideal.nD Cert.Attention0Ideal.τ).loc Cert.Attention0Ideal.main_arg0)
      ∧ r.2.mem ((c.tc : Thread Cert.Attention0Ideal.nD Cert.Attention0Ideal.τ).loc Cert.Attention0Ideal.main_arg1) = m ((c.tc : Thread Cert.Attention0Ideal.nD Cert.Attention0Ideal.τ).loc Cert.Attention0Ideal.main_arg1)
      ∧ r.2.mem ((c.tc : Thread Cert.Attention0Ideal.nD Cert.Attention0Ideal.τ).loc Cert.Attention0Ideal.main_arg2) = m ((c.tc : Thread Cert.Attention0Ideal.nD Cert.Attention0Ideal.τ).loc Cert.Attention0Ideal.main_arg2)
      ∧ r.2.mem ((c.tc : Thread Cert.Attention0Ideal.nD Cert.Attention0Ideal.τ).loc Cert.Attention0Ideal.main_arg3) = m ((c.tc : Thread Cert.Attention0Ideal.nD Cert.Attention0Ideal.τ).loc Cert.Attention0Ideal.main_arg3))
      ∧ r.2.sem = fun _ => 0)

def quiescent_RefAttention0Ideal [hRefAttention0Ideal : Cert.RefAttention0Ideal.Facts] : Prop :=
  ∀ (m : (ℓ : Loc Cert.RefAttention0Ideal.nD Cert.RefAttention0Ideal.τ Cert.RefAttention0Ideal.sig) → Buf (Elt Ideal) ℓ) (g : Dev Cert.RefAttention0Ideal.nD → PrngReg), Pre_RefAttention0Ideal m →
    θ_run (Cert.RefAttention0Ideal.defs (F := Ideal)) (onTc (τ := Cert.RefAttention0Ideal.τ) (Cert.RefAttention0Ideal.main (F := Ideal))) ⟨m, fun _ => 0, g⟩ (fun r => (∀ c : Dev Cert.RefAttention0Ideal.nD,
      r.2.mem ((c.tc : Thread Cert.RefAttention0Ideal.nD Cert.RefAttention0Ideal.τ).loc Cert.RefAttention0Ideal.main_arg0) = m ((c.tc : Thread Cert.RefAttention0Ideal.nD Cert.RefAttention0Ideal.τ).loc Cert.RefAttention0Ideal.main_arg0)
      ∧ r.2.mem ((c.tc : Thread Cert.RefAttention0Ideal.nD Cert.RefAttention0Ideal.τ).loc Cert.RefAttention0Ideal.main_arg1) = m ((c.tc : Thread Cert.RefAttention0Ideal.nD Cert.RefAttention0Ideal.τ).loc Cert.RefAttention0Ideal.main_arg1)
      ∧ r.2.mem ((c.tc : Thread Cert.RefAttention0Ideal.nD Cert.RefAttention0Ideal.τ).loc Cert.RefAttention0Ideal.main_arg2) = m ((c.tc : Thread Cert.RefAttention0Ideal.nD Cert.RefAttention0Ideal.τ).loc Cert.RefAttention0Ideal.main_arg2)
      ∧ r.2.mem ((c.tc : Thread Cert.RefAttention0Ideal.nD Cert.RefAttention0Ideal.τ).loc Cert.RefAttention0Ideal.main_arg3) = m ((c.tc : Thread Cert.RefAttention0Ideal.nD Cert.RefAttention0Ideal.τ).loc Cert.RefAttention0Ideal.main_arg3))
      ∧ r.2.sem = fun _ => 0)

def quiescent_RefAttention0Ideal_pre_apart0 [hRefAttention0Ideal : Cert.RefAttention0Ideal.Facts] [hPre_apart0 : Cert.Pre_apart0.Facts] : Prop :=
  ∀ (m : (ℓ : Loc Cert.RefAttention0Ideal.nD Cert.RefAttention0Ideal.τ Cert.RefAttention0Ideal.sig) → Buf (Elt Ideal) ℓ) (g : Dev Cert.RefAttention0Ideal.nD → PrngReg), Pre_RefAttention0Ideal_apart0 m →
    θ_run (Cert.RefAttention0Ideal.defs (F := Ideal)) (onTc (τ := Cert.RefAttention0Ideal.τ) (Cert.RefAttention0Ideal.main (F := Ideal))) ⟨m, fun _ => 0, g⟩ (fun r => (∀ c : Dev Cert.RefAttention0Ideal.nD,
      r.2.mem ((c.tc : Thread Cert.RefAttention0Ideal.nD Cert.RefAttention0Ideal.τ).loc Cert.RefAttention0Ideal.main_arg0) = m ((c.tc : Thread Cert.RefAttention0Ideal.nD Cert.RefAttention0Ideal.τ).loc Cert.RefAttention0Ideal.main_arg0)
      ∧ r.2.mem ((c.tc : Thread Cert.RefAttention0Ideal.nD Cert.RefAttention0Ideal.τ).loc Cert.RefAttention0Ideal.main_arg1) = m ((c.tc : Thread Cert.RefAttention0Ideal.nD Cert.RefAttention0Ideal.τ).loc Cert.RefAttention0Ideal.main_arg1)
      ∧ r.2.mem ((c.tc : Thread Cert.RefAttention0Ideal.nD Cert.RefAttention0Ideal.τ).loc Cert.RefAttention0Ideal.main_arg2) = m ((c.tc : Thread Cert.RefAttention0Ideal.nD Cert.RefAttention0Ideal.τ).loc Cert.RefAttention0Ideal.main_arg2)
      ∧ r.2.mem ((c.tc : Thread Cert.RefAttention0Ideal.nD Cert.RefAttention0Ideal.τ).loc Cert.RefAttention0Ideal.main_arg3) = m ((c.tc : Thread Cert.RefAttention0Ideal.nD Cert.RefAttention0Ideal.τ).loc Cert.RefAttention0Ideal.main_arg3))
      ∧ r.2.sem = fun _ => 0)

def quiescent_Attention1 [hAttention1 : Cert.Attention1.Facts] : Prop :=
  ∀ (m : (ℓ : Loc Cert.Attention1.nD Cert.Attention1.τ Cert.Attention1.sig) → Buf (Elt Bits) ℓ) (g : Dev Cert.Attention1.nD → PrngReg), Pre_Attention1 m →
    θ_run (Cert.Attention1.defs (F := Bits)) (onTc (τ := Cert.Attention1.τ) (Cert.Attention1.main (F := Bits))) ⟨m, fun _ => 0, g⟩ (fun r => (∀ c : Dev Cert.Attention1.nD,
      r.2.mem ((c.tc : Thread Cert.Attention1.nD Cert.Attention1.τ).loc Cert.Attention1.main_arg0) = m ((c.tc : Thread Cert.Attention1.nD Cert.Attention1.τ).loc Cert.Attention1.main_arg0)
      ∧ r.2.mem ((c.tc : Thread Cert.Attention1.nD Cert.Attention1.τ).loc Cert.Attention1.main_arg1) = m ((c.tc : Thread Cert.Attention1.nD Cert.Attention1.τ).loc Cert.Attention1.main_arg1)
      ∧ r.2.mem ((c.tc : Thread Cert.Attention1.nD Cert.Attention1.τ).loc Cert.Attention1.main_arg2) = m ((c.tc : Thread Cert.Attention1.nD Cert.Attention1.τ).loc Cert.Attention1.main_arg2)
      ∧ r.2.mem ((c.tc : Thread Cert.Attention1.nD Cert.Attention1.τ).loc Cert.Attention1.main_arg3) = m ((c.tc : Thread Cert.Attention1.nD Cert.Attention1.τ).loc Cert.Attention1.main_arg3))
      ∧ r.2.sem = fun _ => 0)

def quiescent_Attention1Ideal [hAttention1Ideal : Cert.Attention1Ideal.Facts] : Prop :=
  ∀ (m : (ℓ : Loc Cert.Attention1Ideal.nD Cert.Attention1Ideal.τ Cert.Attention1Ideal.sig) → Buf (Elt Ideal) ℓ) (g : Dev Cert.Attention1Ideal.nD → PrngReg), Pre_Attention1Ideal m →
    θ_run (Cert.Attention1Ideal.defs (F := Ideal)) (onTc (τ := Cert.Attention1Ideal.τ) (Cert.Attention1Ideal.main (F := Ideal))) ⟨m, fun _ => 0, g⟩ (fun r => (∀ c : Dev Cert.Attention1Ideal.nD,
      r.2.mem ((c.tc : Thread Cert.Attention1Ideal.nD Cert.Attention1Ideal.τ).loc Cert.Attention1Ideal.main_arg0) = m ((c.tc : Thread Cert.Attention1Ideal.nD Cert.Attention1Ideal.τ).loc Cert.Attention1Ideal.main_arg0)
      ∧ r.2.mem ((c.tc : Thread Cert.Attention1Ideal.nD Cert.Attention1Ideal.τ).loc Cert.Attention1Ideal.main_arg1) = m ((c.tc : Thread Cert.Attention1Ideal.nD Cert.Attention1Ideal.τ).loc Cert.Attention1Ideal.main_arg1)
      ∧ r.2.mem ((c.tc : Thread Cert.Attention1Ideal.nD Cert.Attention1Ideal.τ).loc Cert.Attention1Ideal.main_arg2) = m ((c.tc : Thread Cert.Attention1Ideal.nD Cert.Attention1Ideal.τ).loc Cert.Attention1Ideal.main_arg2)
      ∧ r.2.mem ((c.tc : Thread Cert.Attention1Ideal.nD Cert.Attention1Ideal.τ).loc Cert.Attention1Ideal.main_arg3) = m ((c.tc : Thread Cert.Attention1Ideal.nD Cert.Attention1Ideal.τ).loc Cert.Attention1Ideal.main_arg3))
      ∧ r.2.sem = fun _ => 0)

def quiescent_Attention1Ideal_pre_apart1 [hAttention1Ideal : Cert.Attention1Ideal.Facts] [hPre_apart1 : Cert.Pre_apart1.Facts] : Prop :=
  ∀ (m : (ℓ : Loc Cert.Attention1Ideal.nD Cert.Attention1Ideal.τ Cert.Attention1Ideal.sig) → Buf (Elt Ideal) ℓ) (g : Dev Cert.Attention1Ideal.nD → PrngReg), Pre_Attention1Ideal_apart1 m →
    θ_run (Cert.Attention1Ideal.defs (F := Ideal)) (onTc (τ := Cert.Attention1Ideal.τ) (Cert.Attention1Ideal.main (F := Ideal))) ⟨m, fun _ => 0, g⟩ (fun r => (∀ c : Dev Cert.Attention1Ideal.nD,
      r.2.mem ((c.tc : Thread Cert.Attention1Ideal.nD Cert.Attention1Ideal.τ).loc Cert.Attention1Ideal.main_arg0) = m ((c.tc : Thread Cert.Attention1Ideal.nD Cert.Attention1Ideal.τ).loc Cert.Attention1Ideal.main_arg0)
      ∧ r.2.mem ((c.tc : Thread Cert.Attention1Ideal.nD Cert.Attention1Ideal.τ).loc Cert.Attention1Ideal.main_arg1) = m ((c.tc : Thread Cert.Attention1Ideal.nD Cert.Attention1Ideal.τ).loc Cert.Attention1Ideal.main_arg1)
      ∧ r.2.mem ((c.tc : Thread Cert.Attention1Ideal.nD Cert.Attention1Ideal.τ).loc Cert.Attention1Ideal.main_arg2) = m ((c.tc : Thread Cert.Attention1Ideal.nD Cert.Attention1Ideal.τ).loc Cert.Attention1Ideal.main_arg2)
      ∧ r.2.mem ((c.tc : Thread Cert.Attention1Ideal.nD Cert.Attention1Ideal.τ).loc Cert.Attention1Ideal.main_arg3) = m ((c.tc : Thread Cert.Attention1Ideal.nD Cert.Attention1Ideal.τ).loc Cert.Attention1Ideal.main_arg3))
      ∧ r.2.sem = fun _ => 0)

def quiescent_RefAttention1Ideal [hRefAttention1Ideal : Cert.RefAttention1Ideal.Facts] : Prop :=
  ∀ (m : (ℓ : Loc Cert.RefAttention1Ideal.nD Cert.RefAttention1Ideal.τ Cert.RefAttention1Ideal.sig) → Buf (Elt Ideal) ℓ) (g : Dev Cert.RefAttention1Ideal.nD → PrngReg), Pre_RefAttention1Ideal m →
    θ_run (Cert.RefAttention1Ideal.defs (F := Ideal)) (onTc (τ := Cert.RefAttention1Ideal.τ) (Cert.RefAttention1Ideal.main (F := Ideal))) ⟨m, fun _ => 0, g⟩ (fun r => (∀ c : Dev Cert.RefAttention1Ideal.nD,
      r.2.mem ((c.tc : Thread Cert.RefAttention1Ideal.nD Cert.RefAttention1Ideal.τ).loc Cert.RefAttention1Ideal.main_arg0) = m ((c.tc : Thread Cert.RefAttention1Ideal.nD Cert.RefAttention1Ideal.τ).loc Cert.RefAttention1Ideal.main_arg0)
      ∧ r.2.mem ((c.tc : Thread Cert.RefAttention1Ideal.nD Cert.RefAttention1Ideal.τ).loc Cert.RefAttention1Ideal.main_arg1) = m ((c.tc : Thread Cert.RefAttention1Ideal.nD Cert.RefAttention1Ideal.τ).loc Cert.RefAttention1Ideal.main_arg1)
      ∧ r.2.mem ((c.tc : Thread Cert.RefAttention1Ideal.nD Cert.RefAttention1Ideal.τ).loc Cert.RefAttention1Ideal.main_arg2) = m ((c.tc : Thread Cert.RefAttention1Ideal.nD Cert.RefAttention1Ideal.τ).loc Cert.RefAttention1Ideal.main_arg2)
      ∧ r.2.mem ((c.tc : Thread Cert.RefAttention1Ideal.nD Cert.RefAttention1Ideal.τ).loc Cert.RefAttention1Ideal.main_arg3) = m ((c.tc : Thread Cert.RefAttention1Ideal.nD Cert.RefAttention1Ideal.τ).loc Cert.RefAttention1Ideal.main_arg3))
      ∧ r.2.sem = fun _ => 0)

def quiescent_RefAttention1Ideal_pre_apart1 [hRefAttention1Ideal : Cert.RefAttention1Ideal.Facts] [hPre_apart1 : Cert.Pre_apart1.Facts] : Prop :=
  ∀ (m : (ℓ : Loc Cert.RefAttention1Ideal.nD Cert.RefAttention1Ideal.τ Cert.RefAttention1Ideal.sig) → Buf (Elt Ideal) ℓ) (g : Dev Cert.RefAttention1Ideal.nD → PrngReg), Pre_RefAttention1Ideal_apart1 m →
    θ_run (Cert.RefAttention1Ideal.defs (F := Ideal)) (onTc (τ := Cert.RefAttention1Ideal.τ) (Cert.RefAttention1Ideal.main (F := Ideal))) ⟨m, fun _ => 0, g⟩ (fun r => (∀ c : Dev Cert.RefAttention1Ideal.nD,
      r.2.mem ((c.tc : Thread Cert.RefAttention1Ideal.nD Cert.RefAttention1Ideal.τ).loc Cert.RefAttention1Ideal.main_arg0) = m ((c.tc : Thread Cert.RefAttention1Ideal.nD Cert.RefAttention1Ideal.τ).loc Cert.RefAttention1Ideal.main_arg0)
      ∧ r.2.mem ((c.tc : Thread Cert.RefAttention1Ideal.nD Cert.RefAttention1Ideal.τ).loc Cert.RefAttention1Ideal.main_arg1) = m ((c.tc : Thread Cert.RefAttention1Ideal.nD Cert.RefAttention1Ideal.τ).loc Cert.RefAttention1Ideal.main_arg1)
      ∧ r.2.mem ((c.tc : Thread Cert.RefAttention1Ideal.nD Cert.RefAttention1Ideal.τ).loc Cert.RefAttention1Ideal.main_arg2) = m ((c.tc : Thread Cert.RefAttention1Ideal.nD Cert.RefAttention1Ideal.τ).loc Cert.RefAttention1Ideal.main_arg2)
      ∧ r.2.mem ((c.tc : Thread Cert.RefAttention1Ideal.nD Cert.RefAttention1Ideal.τ).loc Cert.RefAttention1Ideal.main_arg3) = m ((c.tc : Thread Cert.RefAttention1Ideal.nD Cert.RefAttention1Ideal.τ).loc Cert.RefAttention1Ideal.main_arg3))
      ∧ r.2.sem = fun _ => 0)

def quiescent_Attention2 [hAttention2 : Cert.Attention2.Facts] : Prop :=
  ∀ (m : (ℓ : Loc Cert.Attention2.nD Cert.Attention2.τ Cert.Attention2.sig) → Buf (Elt Bits) ℓ) (g : Dev Cert.Attention2.nD → PrngReg), Pre_Attention2 m →
    θ_run (Cert.Attention2.defs (F := Bits)) (onTc (τ := Cert.Attention2.τ) (Cert.Attention2.main (F := Bits))) ⟨m, fun _ => 0, g⟩ (fun r => (∀ c : Dev Cert.Attention2.nD,
      r.2.mem ((c.tc : Thread Cert.Attention2.nD Cert.Attention2.τ).loc Cert.Attention2.main_arg0) = m ((c.tc : Thread Cert.Attention2.nD Cert.Attention2.τ).loc Cert.Attention2.main_arg0)
      ∧ r.2.mem ((c.tc : Thread Cert.Attention2.nD Cert.Attention2.τ).loc Cert.Attention2.main_arg1) = m ((c.tc : Thread Cert.Attention2.nD Cert.Attention2.τ).loc Cert.Attention2.main_arg1)
      ∧ r.2.mem ((c.tc : Thread Cert.Attention2.nD Cert.Attention2.τ).loc Cert.Attention2.main_arg2) = m ((c.tc : Thread Cert.Attention2.nD Cert.Attention2.τ).loc Cert.Attention2.main_arg2)
      ∧ r.2.mem ((c.tc : Thread Cert.Attention2.nD Cert.Attention2.τ).loc Cert.Attention2.main_arg3) = m ((c.tc : Thread Cert.Attention2.nD Cert.Attention2.τ).loc Cert.Attention2.main_arg3))
      ∧ r.2.sem = fun _ => 0)

def quiescent_Attention2Ideal [hAttention2Ideal : Cert.Attention2Ideal.Facts] : Prop :=
  ∀ (m : (ℓ : Loc Cert.Attention2Ideal.nD Cert.Attention2Ideal.τ Cert.Attention2Ideal.sig) → Buf (Elt Ideal) ℓ) (g : Dev Cert.Attention2Ideal.nD → PrngReg), Pre_Attention2Ideal m →
    θ_run (Cert.Attention2Ideal.defs (F := Ideal)) (onTc (τ := Cert.Attention2Ideal.τ) (Cert.Attention2Ideal.main (F := Ideal))) ⟨m, fun _ => 0, g⟩ (fun r => (∀ c : Dev Cert.Attention2Ideal.nD,
      r.2.mem ((c.tc : Thread Cert.Attention2Ideal.nD Cert.Attention2Ideal.τ).loc Cert.Attention2Ideal.main_arg0) = m ((c.tc : Thread Cert.Attention2Ideal.nD Cert.Attention2Ideal.τ).loc Cert.Attention2Ideal.main_arg0)
      ∧ r.2.mem ((c.tc : Thread Cert.Attention2Ideal.nD Cert.Attention2Ideal.τ).loc Cert.Attention2Ideal.main_arg1) = m ((c.tc : Thread Cert.Attention2Ideal.nD Cert.Attention2Ideal.τ).loc Cert.Attention2Ideal.main_arg1)
      ∧ r.2.mem ((c.tc : Thread Cert.Attention2Ideal.nD Cert.Attention2Ideal.τ).loc Cert.Attention2Ideal.main_arg2) = m ((c.tc : Thread Cert.Attention2Ideal.nD Cert.Attention2Ideal.τ).loc Cert.Attention2Ideal.main_arg2)
      ∧ r.2.mem ((c.tc : Thread Cert.Attention2Ideal.nD Cert.Attention2Ideal.τ).loc Cert.Attention2Ideal.main_arg3) = m ((c.tc : Thread Cert.Attention2Ideal.nD Cert.Attention2Ideal.τ).loc Cert.Attention2Ideal.main_arg3))
      ∧ r.2.sem = fun _ => 0)

def quiescent_Attention2Ideal_pre_apart2 [hAttention2Ideal : Cert.Attention2Ideal.Facts] [hPre_apart2 : Cert.Pre_apart2.Facts] : Prop :=
  ∀ (m : (ℓ : Loc Cert.Attention2Ideal.nD Cert.Attention2Ideal.τ Cert.Attention2Ideal.sig) → Buf (Elt Ideal) ℓ) (g : Dev Cert.Attention2Ideal.nD → PrngReg), Pre_Attention2Ideal_apart2 m →
    θ_run (Cert.Attention2Ideal.defs (F := Ideal)) (onTc (τ := Cert.Attention2Ideal.τ) (Cert.Attention2Ideal.main (F := Ideal))) ⟨m, fun _ => 0, g⟩ (fun r => (∀ c : Dev Cert.Attention2Ideal.nD,
      r.2.mem ((c.tc : Thread Cert.Attention2Ideal.nD Cert.Attention2Ideal.τ).loc Cert.Attention2Ideal.main_arg0) = m ((c.tc : Thread Cert.Attention2Ideal.nD Cert.Attention2Ideal.τ).loc Cert.Attention2Ideal.main_arg0)
      ∧ r.2.mem ((c.tc : Thread Cert.Attention2Ideal.nD Cert.Attention2Ideal.τ).loc Cert.Attention2Ideal.main_arg1) = m ((c.tc : Thread Cert.Attention2Ideal.nD Cert.Attention2Ideal.τ).loc Cert.Attention2Ideal.main_arg1)
      ∧ r.2.mem ((c.tc : Thread Cert.Attention2Ideal.nD Cert.Attention2Ideal.τ).loc Cert.Attention2Ideal.main_arg2) = m ((c.tc : Thread Cert.Attention2Ideal.nD Cert.Attention2Ideal.τ).loc Cert.Attention2Ideal.main_arg2)
      ∧ r.2.mem ((c.tc : Thread Cert.Attention2Ideal.nD Cert.Attention2Ideal.τ).loc Cert.Attention2Ideal.main_arg3) = m ((c.tc : Thread Cert.Attention2Ideal.nD Cert.Attention2Ideal.τ).loc Cert.Attention2Ideal.main_arg3))
      ∧ r.2.sem = fun _ => 0)

def quiescent_RefAttention2Ideal [hRefAttention2Ideal : Cert.RefAttention2Ideal.Facts] : Prop :=
  ∀ (m : (ℓ : Loc Cert.RefAttention2Ideal.nD Cert.RefAttention2Ideal.τ Cert.RefAttention2Ideal.sig) → Buf (Elt Ideal) ℓ) (g : Dev Cert.RefAttention2Ideal.nD → PrngReg), Pre_RefAttention2Ideal m →
    θ_run (Cert.RefAttention2Ideal.defs (F := Ideal)) (onTc (τ := Cert.RefAttention2Ideal.τ) (Cert.RefAttention2Ideal.main (F := Ideal))) ⟨m, fun _ => 0, g⟩ (fun r => (∀ c : Dev Cert.RefAttention2Ideal.nD,
      r.2.mem ((c.tc : Thread Cert.RefAttention2Ideal.nD Cert.RefAttention2Ideal.τ).loc Cert.RefAttention2Ideal.main_arg0) = m ((c.tc : Thread Cert.RefAttention2Ideal.nD Cert.RefAttention2Ideal.τ).loc Cert.RefAttention2Ideal.main_arg0)
      ∧ r.2.mem ((c.tc : Thread Cert.RefAttention2Ideal.nD Cert.RefAttention2Ideal.τ).loc Cert.RefAttention2Ideal.main_arg1) = m ((c.tc : Thread Cert.RefAttention2Ideal.nD Cert.RefAttention2Ideal.τ).loc Cert.RefAttention2Ideal.main_arg1)
      ∧ r.2.mem ((c.tc : Thread Cert.RefAttention2Ideal.nD Cert.RefAttention2Ideal.τ).loc Cert.RefAttention2Ideal.main_arg2) = m ((c.tc : Thread Cert.RefAttention2Ideal.nD Cert.RefAttention2Ideal.τ).loc Cert.RefAttention2Ideal.main_arg2)
      ∧ r.2.mem ((c.tc : Thread Cert.RefAttention2Ideal.nD Cert.RefAttention2Ideal.τ).loc Cert.RefAttention2Ideal.main_arg3) = m ((c.tc : Thread Cert.RefAttention2Ideal.nD Cert.RefAttention2Ideal.τ).loc Cert.RefAttention2Ideal.main_arg3))
      ∧ r.2.sem = fun _ => 0)

def quiescent_RefAttention2Ideal_pre_apart2 [hRefAttention2Ideal : Cert.RefAttention2Ideal.Facts] [hPre_apart2 : Cert.Pre_apart2.Facts] : Prop :=
  ∀ (m : (ℓ : Loc Cert.RefAttention2Ideal.nD Cert.RefAttention2Ideal.τ Cert.RefAttention2Ideal.sig) → Buf (Elt Ideal) ℓ) (g : Dev Cert.RefAttention2Ideal.nD → PrngReg), Pre_RefAttention2Ideal_apart2 m →
    θ_run (Cert.RefAttention2Ideal.defs (F := Ideal)) (onTc (τ := Cert.RefAttention2Ideal.τ) (Cert.RefAttention2Ideal.main (F := Ideal))) ⟨m, fun _ => 0, g⟩ (fun r => (∀ c : Dev Cert.RefAttention2Ideal.nD,
      r.2.mem ((c.tc : Thread Cert.RefAttention2Ideal.nD Cert.RefAttention2Ideal.τ).loc Cert.RefAttention2Ideal.main_arg0) = m ((c.tc : Thread Cert.RefAttention2Ideal.nD Cert.RefAttention2Ideal.τ).loc Cert.RefAttention2Ideal.main_arg0)
      ∧ r.2.mem ((c.tc : Thread Cert.RefAttention2Ideal.nD Cert.RefAttention2Ideal.τ).loc Cert.RefAttention2Ideal.main_arg1) = m ((c.tc : Thread Cert.RefAttention2Ideal.nD Cert.RefAttention2Ideal.τ).loc Cert.RefAttention2Ideal.main_arg1)
      ∧ r.2.mem ((c.tc : Thread Cert.RefAttention2Ideal.nD Cert.RefAttention2Ideal.τ).loc Cert.RefAttention2Ideal.main_arg2) = m ((c.tc : Thread Cert.RefAttention2Ideal.nD Cert.RefAttention2Ideal.τ).loc Cert.RefAttention2Ideal.main_arg2)
      ∧ r.2.mem ((c.tc : Thread Cert.RefAttention2Ideal.nD Cert.RefAttention2Ideal.τ).loc Cert.RefAttention2Ideal.main_arg3) = m ((c.tc : Thread Cert.RefAttention2Ideal.nD Cert.RefAttention2Ideal.τ).loc Cert.RefAttention2Ideal.main_arg3))
      ∧ r.2.sem = fun _ => 0)

def quiescent_Attention3 [hAttention3 : Cert.Attention3.Facts] : Prop :=
  ∀ (m : (ℓ : Loc Cert.Attention3.nD Cert.Attention3.τ Cert.Attention3.sig) → Buf (Elt Bits) ℓ) (g : Dev Cert.Attention3.nD → PrngReg), Pre_Attention3 m →
    θ_run (Cert.Attention3.defs (F := Bits)) (onTc (τ := Cert.Attention3.τ) (Cert.Attention3.main (F := Bits))) ⟨m, fun _ => 0, g⟩ (fun r => (∀ c : Dev Cert.Attention3.nD,
      r.2.mem ((c.tc : Thread Cert.Attention3.nD Cert.Attention3.τ).loc Cert.Attention3.main_arg0) = m ((c.tc : Thread Cert.Attention3.nD Cert.Attention3.τ).loc Cert.Attention3.main_arg0)
      ∧ r.2.mem ((c.tc : Thread Cert.Attention3.nD Cert.Attention3.τ).loc Cert.Attention3.main_arg1) = m ((c.tc : Thread Cert.Attention3.nD Cert.Attention3.τ).loc Cert.Attention3.main_arg1)
      ∧ r.2.mem ((c.tc : Thread Cert.Attention3.nD Cert.Attention3.τ).loc Cert.Attention3.main_arg2) = m ((c.tc : Thread Cert.Attention3.nD Cert.Attention3.τ).loc Cert.Attention3.main_arg2)
      ∧ r.2.mem ((c.tc : Thread Cert.Attention3.nD Cert.Attention3.τ).loc Cert.Attention3.main_arg3) = m ((c.tc : Thread Cert.Attention3.nD Cert.Attention3.τ).loc Cert.Attention3.main_arg3))
      ∧ r.2.sem = fun _ => 0)

def quiescent_Attention3Ideal [hAttention3Ideal : Cert.Attention3Ideal.Facts] : Prop :=
  ∀ (m : (ℓ : Loc Cert.Attention3Ideal.nD Cert.Attention3Ideal.τ Cert.Attention3Ideal.sig) → Buf (Elt Ideal) ℓ) (g : Dev Cert.Attention3Ideal.nD → PrngReg), Pre_Attention3Ideal m →
    θ_run (Cert.Attention3Ideal.defs (F := Ideal)) (onTc (τ := Cert.Attention3Ideal.τ) (Cert.Attention3Ideal.main (F := Ideal))) ⟨m, fun _ => 0, g⟩ (fun r => (∀ c : Dev Cert.Attention3Ideal.nD,
      r.2.mem ((c.tc : Thread Cert.Attention3Ideal.nD Cert.Attention3Ideal.τ).loc Cert.Attention3Ideal.main_arg0) = m ((c.tc : Thread Cert.Attention3Ideal.nD Cert.Attention3Ideal.τ).loc Cert.Attention3Ideal.main_arg0)
      ∧ r.2.mem ((c.tc : Thread Cert.Attention3Ideal.nD Cert.Attention3Ideal.τ).loc Cert.Attention3Ideal.main_arg1) = m ((c.tc : Thread Cert.Attention3Ideal.nD Cert.Attention3Ideal.τ).loc Cert.Attention3Ideal.main_arg1)
      ∧ r.2.mem ((c.tc : Thread Cert.Attention3Ideal.nD Cert.Attention3Ideal.τ).loc Cert.Attention3Ideal.main_arg2) = m ((c.tc : Thread Cert.Attention3Ideal.nD Cert.Attention3Ideal.τ).loc Cert.Attention3Ideal.main_arg2)
      ∧ r.2.mem ((c.tc : Thread Cert.Attention3Ideal.nD Cert.Attention3Ideal.τ).loc Cert.Attention3Ideal.main_arg3) = m ((c.tc : Thread Cert.Attention3Ideal.nD Cert.Attention3Ideal.τ).loc Cert.Attention3Ideal.main_arg3))
      ∧ r.2.sem = fun _ => 0)

def quiescent_Attention3Ideal_pre_apart3 [hAttention3Ideal : Cert.Attention3Ideal.Facts] [hPre_apart3 : Cert.Pre_apart3.Facts] : Prop :=
  ∀ (m : (ℓ : Loc Cert.Attention3Ideal.nD Cert.Attention3Ideal.τ Cert.Attention3Ideal.sig) → Buf (Elt Ideal) ℓ) (g : Dev Cert.Attention3Ideal.nD → PrngReg), Pre_Attention3Ideal_apart3 m →
    θ_run (Cert.Attention3Ideal.defs (F := Ideal)) (onTc (τ := Cert.Attention3Ideal.τ) (Cert.Attention3Ideal.main (F := Ideal))) ⟨m, fun _ => 0, g⟩ (fun r => (∀ c : Dev Cert.Attention3Ideal.nD,
      r.2.mem ((c.tc : Thread Cert.Attention3Ideal.nD Cert.Attention3Ideal.τ).loc Cert.Attention3Ideal.main_arg0) = m ((c.tc : Thread Cert.Attention3Ideal.nD Cert.Attention3Ideal.τ).loc Cert.Attention3Ideal.main_arg0)
      ∧ r.2.mem ((c.tc : Thread Cert.Attention3Ideal.nD Cert.Attention3Ideal.τ).loc Cert.Attention3Ideal.main_arg1) = m ((c.tc : Thread Cert.Attention3Ideal.nD Cert.Attention3Ideal.τ).loc Cert.Attention3Ideal.main_arg1)
      ∧ r.2.mem ((c.tc : Thread Cert.Attention3Ideal.nD Cert.Attention3Ideal.τ).loc Cert.Attention3Ideal.main_arg2) = m ((c.tc : Thread Cert.Attention3Ideal.nD Cert.Attention3Ideal.τ).loc Cert.Attention3Ideal.main_arg2)
      ∧ r.2.mem ((c.tc : Thread Cert.Attention3Ideal.nD Cert.Attention3Ideal.τ).loc Cert.Attention3Ideal.main_arg3) = m ((c.tc : Thread Cert.Attention3Ideal.nD Cert.Attention3Ideal.τ).loc Cert.Attention3Ideal.main_arg3))
      ∧ r.2.sem = fun _ => 0)

def quiescent_RefAttention3Ideal [hRefAttention3Ideal : Cert.RefAttention3Ideal.Facts] : Prop :=
  ∀ (m : (ℓ : Loc Cert.RefAttention3Ideal.nD Cert.RefAttention3Ideal.τ Cert.RefAttention3Ideal.sig) → Buf (Elt Ideal) ℓ) (g : Dev Cert.RefAttention3Ideal.nD → PrngReg), Pre_RefAttention3Ideal m →
    θ_run (Cert.RefAttention3Ideal.defs (F := Ideal)) (onTc (τ := Cert.RefAttention3Ideal.τ) (Cert.RefAttention3Ideal.main (F := Ideal))) ⟨m, fun _ => 0, g⟩ (fun r => (∀ c : Dev Cert.RefAttention3Ideal.nD,
      r.2.mem ((c.tc : Thread Cert.RefAttention3Ideal.nD Cert.RefAttention3Ideal.τ).loc Cert.RefAttention3Ideal.main_arg0) = m ((c.tc : Thread Cert.RefAttention3Ideal.nD Cert.RefAttention3Ideal.τ).loc Cert.RefAttention3Ideal.main_arg0)
      ∧ r.2.mem ((c.tc : Thread Cert.RefAttention3Ideal.nD Cert.RefAttention3Ideal.τ).loc Cert.RefAttention3Ideal.main_arg1) = m ((c.tc : Thread Cert.RefAttention3Ideal.nD Cert.RefAttention3Ideal.τ).loc Cert.RefAttention3Ideal.main_arg1)
      ∧ r.2.mem ((c.tc : Thread Cert.RefAttention3Ideal.nD Cert.RefAttention3Ideal.τ).loc Cert.RefAttention3Ideal.main_arg2) = m ((c.tc : Thread Cert.RefAttention3Ideal.nD Cert.RefAttention3Ideal.τ).loc Cert.RefAttention3Ideal.main_arg2)
      ∧ r.2.mem ((c.tc : Thread Cert.RefAttention3Ideal.nD Cert.RefAttention3Ideal.τ).loc Cert.RefAttention3Ideal.main_arg3) = m ((c.tc : Thread Cert.RefAttention3Ideal.nD Cert.RefAttention3Ideal.τ).loc Cert.RefAttention3Ideal.main_arg3))
      ∧ r.2.sem = fun _ => 0)

def quiescent_RefAttention3Ideal_pre_apart3 [hRefAttention3Ideal : Cert.RefAttention3Ideal.Facts] [hPre_apart3 : Cert.Pre_apart3.Facts] : Prop :=
  ∀ (m : (ℓ : Loc Cert.RefAttention3Ideal.nD Cert.RefAttention3Ideal.τ Cert.RefAttention3Ideal.sig) → Buf (Elt Ideal) ℓ) (g : Dev Cert.RefAttention3Ideal.nD → PrngReg), Pre_RefAttention3Ideal_apart3 m →
    θ_run (Cert.RefAttention3Ideal.defs (F := Ideal)) (onTc (τ := Cert.RefAttention3Ideal.τ) (Cert.RefAttention3Ideal.main (F := Ideal))) ⟨m, fun _ => 0, g⟩ (fun r => (∀ c : Dev Cert.RefAttention3Ideal.nD,
      r.2.mem ((c.tc : Thread Cert.RefAttention3Ideal.nD Cert.RefAttention3Ideal.τ).loc Cert.RefAttention3Ideal.main_arg0) = m ((c.tc : Thread Cert.RefAttention3Ideal.nD Cert.RefAttention3Ideal.τ).loc Cert.RefAttention3Ideal.main_arg0)
      ∧ r.2.mem ((c.tc : Thread Cert.RefAttention3Ideal.nD Cert.RefAttention3Ideal.τ).loc Cert.RefAttention3Ideal.main_arg1) = m ((c.tc : Thread Cert.RefAttention3Ideal.nD Cert.RefAttention3Ideal.τ).loc Cert.RefAttention3Ideal.main_arg1)
      ∧ r.2.mem ((c.tc : Thread Cert.RefAttention3Ideal.nD Cert.RefAttention3Ideal.τ).loc Cert.RefAttention3Ideal.main_arg2) = m ((c.tc : Thread Cert.RefAttention3Ideal.nD Cert.RefAttention3Ideal.τ).loc Cert.RefAttention3Ideal.main_arg2)
      ∧ r.2.mem ((c.tc : Thread Cert.RefAttention3Ideal.nD Cert.RefAttention3Ideal.τ).loc Cert.RefAttention3Ideal.main_arg3) = m ((c.tc : Thread Cert.RefAttention3Ideal.nD Cert.RefAttention3Ideal.τ).loc Cert.RefAttention3Ideal.main_arg3))
      ∧ r.2.sem = fun _ => 0)

def quiescent_Features0 [hFeatures0 : Cert.Features0.Facts] : Prop :=
  ∀ (m : (ℓ : Loc Cert.Features0.nD Cert.Features0.τ Cert.Features0.sig) → Buf (Elt Bits) ℓ) (g : Dev Cert.Features0.nD → PrngReg), Pre_Features0 m →
    θ_run (Cert.Features0.defs (F := Bits)) (onTc (τ := Cert.Features0.τ) (Cert.Features0.main (F := Bits))) ⟨m, fun _ => 0, g⟩ (fun r => (∀ c : Dev Cert.Features0.nD,
      r.2.mem ((c.tc : Thread Cert.Features0.nD Cert.Features0.τ).loc Cert.Features0.main_arg0) = m ((c.tc : Thread Cert.Features0.nD Cert.Features0.τ).loc Cert.Features0.main_arg0)
      ∧ r.2.mem ((c.tc : Thread Cert.Features0.nD Cert.Features0.τ).loc Cert.Features0.main_arg1) = m ((c.tc : Thread Cert.Features0.nD Cert.Features0.τ).loc Cert.Features0.main_arg1)
      ∧ r.2.mem ((c.tc : Thread Cert.Features0.nD Cert.Features0.τ).loc Cert.Features0.main_arg2) = m ((c.tc : Thread Cert.Features0.nD Cert.Features0.τ).loc Cert.Features0.main_arg2)
      ∧ r.2.mem ((c.tc : Thread Cert.Features0.nD Cert.Features0.τ).loc Cert.Features0.main_arg3) = m ((c.tc : Thread Cert.Features0.nD Cert.Features0.τ).loc Cert.Features0.main_arg3)
      ∧ r.2.mem ((c.tc : Thread Cert.Features0.nD Cert.Features0.τ).loc Cert.Features0.main_arg4) = m ((c.tc : Thread Cert.Features0.nD Cert.Features0.τ).loc Cert.Features0.main_arg4))
      ∧ r.2.sem = fun _ => 0)

def quiescent_Features0Ideal [hFeatures0Ideal : Cert.Features0Ideal.Facts] : Prop :=
  ∀ (m : (ℓ : Loc Cert.Features0Ideal.nD Cert.Features0Ideal.τ Cert.Features0Ideal.sig) → Buf (Elt Ideal) ℓ) (g : Dev Cert.Features0Ideal.nD → PrngReg), Pre_Features0Ideal m →
    θ_run (Cert.Features0Ideal.defs (F := Ideal)) (onTc (τ := Cert.Features0Ideal.τ) (Cert.Features0Ideal.main (F := Ideal))) ⟨m, fun _ => 0, g⟩ (fun r => (∀ c : Dev Cert.Features0Ideal.nD,
      r.2.mem ((c.tc : Thread Cert.Features0Ideal.nD Cert.Features0Ideal.τ).loc Cert.Features0Ideal.main_arg0) = m ((c.tc : Thread Cert.Features0Ideal.nD Cert.Features0Ideal.τ).loc Cert.Features0Ideal.main_arg0)
      ∧ r.2.mem ((c.tc : Thread Cert.Features0Ideal.nD Cert.Features0Ideal.τ).loc Cert.Features0Ideal.main_arg1) = m ((c.tc : Thread Cert.Features0Ideal.nD Cert.Features0Ideal.τ).loc Cert.Features0Ideal.main_arg1)
      ∧ r.2.mem ((c.tc : Thread Cert.Features0Ideal.nD Cert.Features0Ideal.τ).loc Cert.Features0Ideal.main_arg2) = m ((c.tc : Thread Cert.Features0Ideal.nD Cert.Features0Ideal.τ).loc Cert.Features0Ideal.main_arg2)
      ∧ r.2.mem ((c.tc : Thread Cert.Features0Ideal.nD Cert.Features0Ideal.τ).loc Cert.Features0Ideal.main_arg3) = m ((c.tc : Thread Cert.Features0Ideal.nD Cert.Features0Ideal.τ).loc Cert.Features0Ideal.main_arg3)
      ∧ r.2.mem ((c.tc : Thread Cert.Features0Ideal.nD Cert.Features0Ideal.τ).loc Cert.Features0Ideal.main_arg4) = m ((c.tc : Thread Cert.Features0Ideal.nD Cert.Features0Ideal.τ).loc Cert.Features0Ideal.main_arg4))
      ∧ r.2.sem = fun _ => 0)

def quiescent_Features0Ideal_pre_near0 [hFeatures0Ideal : Cert.Features0Ideal.Facts] [hPre_near0 : Cert.Pre_near0.Facts] : Prop :=
  ∀ (m : (ℓ : Loc Cert.Features0Ideal.nD Cert.Features0Ideal.τ Cert.Features0Ideal.sig) → Buf (Elt Ideal) ℓ) (g : Dev Cert.Features0Ideal.nD → PrngReg), Pre_Features0Ideal_near0 m →
    θ_run (Cert.Features0Ideal.defs (F := Ideal)) (onTc (τ := Cert.Features0Ideal.τ) (Cert.Features0Ideal.main (F := Ideal))) ⟨m, fun _ => 0, g⟩ (fun r => (∀ c : Dev Cert.Features0Ideal.nD,
      r.2.mem ((c.tc : Thread Cert.Features0Ideal.nD Cert.Features0Ideal.τ).loc Cert.Features0Ideal.main_arg0) = m ((c.tc : Thread Cert.Features0Ideal.nD Cert.Features0Ideal.τ).loc Cert.Features0Ideal.main_arg0)
      ∧ r.2.mem ((c.tc : Thread Cert.Features0Ideal.nD Cert.Features0Ideal.τ).loc Cert.Features0Ideal.main_arg1) = m ((c.tc : Thread Cert.Features0Ideal.nD Cert.Features0Ideal.τ).loc Cert.Features0Ideal.main_arg1)
      ∧ r.2.mem ((c.tc : Thread Cert.Features0Ideal.nD Cert.Features0Ideal.τ).loc Cert.Features0Ideal.main_arg2) = m ((c.tc : Thread Cert.Features0Ideal.nD Cert.Features0Ideal.τ).loc Cert.Features0Ideal.main_arg2)
      ∧ r.2.mem ((c.tc : Thread Cert.Features0Ideal.nD Cert.Features0Ideal.τ).loc Cert.Features0Ideal.main_arg3) = m ((c.tc : Thread Cert.Features0Ideal.nD Cert.Features0Ideal.τ).loc Cert.Features0Ideal.main_arg3)
      ∧ r.2.mem ((c.tc : Thread Cert.Features0Ideal.nD Cert.Features0Ideal.τ).loc Cert.Features0Ideal.main_arg4) = m ((c.tc : Thread Cert.Features0Ideal.nD Cert.Features0Ideal.τ).loc Cert.Features0Ideal.main_arg4))
      ∧ r.2.sem = fun _ => 0)

def quiescent_RefFeatures0Ideal [hRefFeatures0Ideal : Cert.RefFeatures0Ideal.Facts] : Prop :=
  ∀ (m : (ℓ : Loc Cert.RefFeatures0Ideal.nD Cert.RefFeatures0Ideal.τ Cert.RefFeatures0Ideal.sig) → Buf (Elt Ideal) ℓ) (g : Dev Cert.RefFeatures0Ideal.nD → PrngReg), Pre_RefFeatures0Ideal m →
    θ_run (Cert.RefFeatures0Ideal.defs (F := Ideal)) (onTc (τ := Cert.RefFeatures0Ideal.τ) (Cert.RefFeatures0Ideal.main (F := Ideal))) ⟨m, fun _ => 0, g⟩ (fun r => (∀ c : Dev Cert.RefFeatures0Ideal.nD,
      r.2.mem ((c.tc : Thread Cert.RefFeatures0Ideal.nD Cert.RefFeatures0Ideal.τ).loc Cert.RefFeatures0Ideal.main_arg0) = m ((c.tc : Thread Cert.RefFeatures0Ideal.nD Cert.RefFeatures0Ideal.τ).loc Cert.RefFeatures0Ideal.main_arg0)
      ∧ r.2.mem ((c.tc : Thread Cert.RefFeatures0Ideal.nD Cert.RefFeatures0Ideal.τ).loc Cert.RefFeatures0Ideal.main_arg1) = m ((c.tc : Thread Cert.RefFeatures0Ideal.nD Cert.RefFeatures0Ideal.τ).loc Cert.RefFeatures0Ideal.main_arg1)
      ∧ r.2.mem ((c.tc : Thread Cert.RefFeatures0Ideal.nD Cert.RefFeatures0Ideal.τ).loc Cert.RefFeatures0Ideal.main_arg2) = m ((c.tc : Thread Cert.RefFeatures0Ideal.nD Cert.RefFeatures0Ideal.τ).loc Cert.RefFeatures0Ideal.main_arg2)
      ∧ r.2.mem ((c.tc : Thread Cert.RefFeatures0Ideal.nD Cert.RefFeatures0Ideal.τ).loc Cert.RefFeatures0Ideal.main_arg3) = m ((c.tc : Thread Cert.RefFeatures0Ideal.nD Cert.RefFeatures0Ideal.τ).loc Cert.RefFeatures0Ideal.main_arg3)
      ∧ r.2.mem ((c.tc : Thread Cert.RefFeatures0Ideal.nD Cert.RefFeatures0Ideal.τ).loc Cert.RefFeatures0Ideal.main_arg4) = m ((c.tc : Thread Cert.RefFeatures0Ideal.nD Cert.RefFeatures0Ideal.τ).loc Cert.RefFeatures0Ideal.main_arg4))
      ∧ r.2.sem = fun _ => 0)

def quiescent_RefFeatures0Ideal_pre_near0 [hRefFeatures0Ideal : Cert.RefFeatures0Ideal.Facts] [hPre_near0 : Cert.Pre_near0.Facts] : Prop :=
  ∀ (m : (ℓ : Loc Cert.RefFeatures0Ideal.nD Cert.RefFeatures0Ideal.τ Cert.RefFeatures0Ideal.sig) → Buf (Elt Ideal) ℓ) (g : Dev Cert.RefFeatures0Ideal.nD → PrngReg), Pre_RefFeatures0Ideal_near0 m →
    θ_run (Cert.RefFeatures0Ideal.defs (F := Ideal)) (onTc (τ := Cert.RefFeatures0Ideal.τ) (Cert.RefFeatures0Ideal.main (F := Ideal))) ⟨m, fun _ => 0, g⟩ (fun r => (∀ c : Dev Cert.RefFeatures0Ideal.nD,
      r.2.mem ((c.tc : Thread Cert.RefFeatures0Ideal.nD Cert.RefFeatures0Ideal.τ).loc Cert.RefFeatures0Ideal.main_arg0) = m ((c.tc : Thread Cert.RefFeatures0Ideal.nD Cert.RefFeatures0Ideal.τ).loc Cert.RefFeatures0Ideal.main_arg0)
      ∧ r.2.mem ((c.tc : Thread Cert.RefFeatures0Ideal.nD Cert.RefFeatures0Ideal.τ).loc Cert.RefFeatures0Ideal.main_arg1) = m ((c.tc : Thread Cert.RefFeatures0Ideal.nD Cert.RefFeatures0Ideal.τ).loc Cert.RefFeatures0Ideal.main_arg1)
      ∧ r.2.mem ((c.tc : Thread Cert.RefFeatures0Ideal.nD Cert.RefFeatures0Ideal.τ).loc Cert.RefFeatures0Ideal.main_arg2) = m ((c.tc : Thread Cert.RefFeatures0Ideal.nD Cert.RefFeatures0Ideal.τ).loc Cert.RefFeatures0Ideal.main_arg2)
      ∧ r.2.mem ((c.tc : Thread Cert.RefFeatures0Ideal.nD Cert.RefFeatures0Ideal.τ).loc Cert.RefFeatures0Ideal.main_arg3) = m ((c.tc : Thread Cert.RefFeatures0Ideal.nD Cert.RefFeatures0Ideal.τ).loc Cert.RefFeatures0Ideal.main_arg3)
      ∧ r.2.mem ((c.tc : Thread Cert.RefFeatures0Ideal.nD Cert.RefFeatures0Ideal.τ).loc Cert.RefFeatures0Ideal.main_arg4) = m ((c.tc : Thread Cert.RefFeatures0Ideal.nD Cert.RefFeatures0Ideal.τ).loc Cert.RefFeatures0Ideal.main_arg4))
      ∧ r.2.sem = fun _ => 0)

def quiescent_Features1 [hFeatures1 : Cert.Features1.Facts] : Prop :=
  ∀ (m : (ℓ : Loc Cert.Features1.nD Cert.Features1.τ Cert.Features1.sig) → Buf (Elt Bits) ℓ) (g : Dev Cert.Features1.nD → PrngReg), Pre_Features1 m →
    θ_run (Cert.Features1.defs (F := Bits)) (onTc (τ := Cert.Features1.τ) (Cert.Features1.main (F := Bits))) ⟨m, fun _ => 0, g⟩ (fun r => (∀ c : Dev Cert.Features1.nD,
      r.2.mem ((c.tc : Thread Cert.Features1.nD Cert.Features1.τ).loc Cert.Features1.main_arg0) = m ((c.tc : Thread Cert.Features1.nD Cert.Features1.τ).loc Cert.Features1.main_arg0)
      ∧ r.2.mem ((c.tc : Thread Cert.Features1.nD Cert.Features1.τ).loc Cert.Features1.main_arg1) = m ((c.tc : Thread Cert.Features1.nD Cert.Features1.τ).loc Cert.Features1.main_arg1)
      ∧ r.2.mem ((c.tc : Thread Cert.Features1.nD Cert.Features1.τ).loc Cert.Features1.main_arg2) = m ((c.tc : Thread Cert.Features1.nD Cert.Features1.τ).loc Cert.Features1.main_arg2)
      ∧ r.2.mem ((c.tc : Thread Cert.Features1.nD Cert.Features1.τ).loc Cert.Features1.main_arg3) = m ((c.tc : Thread Cert.Features1.nD Cert.Features1.τ).loc Cert.Features1.main_arg3)
      ∧ r.2.mem ((c.tc : Thread Cert.Features1.nD Cert.Features1.τ).loc Cert.Features1.main_arg4) = m ((c.tc : Thread Cert.Features1.nD Cert.Features1.τ).loc Cert.Features1.main_arg4))
      ∧ r.2.sem = fun _ => 0)

def quiescent_Features1Ideal [hFeatures1Ideal : Cert.Features1Ideal.Facts] : Prop :=
  ∀ (m : (ℓ : Loc Cert.Features1Ideal.nD Cert.Features1Ideal.τ Cert.Features1Ideal.sig) → Buf (Elt Ideal) ℓ) (g : Dev Cert.Features1Ideal.nD → PrngReg), Pre_Features1Ideal m →
    θ_run (Cert.Features1Ideal.defs (F := Ideal)) (onTc (τ := Cert.Features1Ideal.τ) (Cert.Features1Ideal.main (F := Ideal))) ⟨m, fun _ => 0, g⟩ (fun r => (∀ c : Dev Cert.Features1Ideal.nD,
      r.2.mem ((c.tc : Thread Cert.Features1Ideal.nD Cert.Features1Ideal.τ).loc Cert.Features1Ideal.main_arg0) = m ((c.tc : Thread Cert.Features1Ideal.nD Cert.Features1Ideal.τ).loc Cert.Features1Ideal.main_arg0)
      ∧ r.2.mem ((c.tc : Thread Cert.Features1Ideal.nD Cert.Features1Ideal.τ).loc Cert.Features1Ideal.main_arg1) = m ((c.tc : Thread Cert.Features1Ideal.nD Cert.Features1Ideal.τ).loc Cert.Features1Ideal.main_arg1)
      ∧ r.2.mem ((c.tc : Thread Cert.Features1Ideal.nD Cert.Features1Ideal.τ).loc Cert.Features1Ideal.main_arg2) = m ((c.tc : Thread Cert.Features1Ideal.nD Cert.Features1Ideal.τ).loc Cert.Features1Ideal.main_arg2)
      ∧ r.2.mem ((c.tc : Thread Cert.Features1Ideal.nD Cert.Features1Ideal.τ).loc Cert.Features1Ideal.main_arg3) = m ((c.tc : Thread Cert.Features1Ideal.nD Cert.Features1Ideal.τ).loc Cert.Features1Ideal.main_arg3)
      ∧ r.2.mem ((c.tc : Thread Cert.Features1Ideal.nD Cert.Features1Ideal.τ).loc Cert.Features1Ideal.main_arg4) = m ((c.tc : Thread Cert.Features1Ideal.nD Cert.Features1Ideal.τ).loc Cert.Features1Ideal.main_arg4))
      ∧ r.2.sem = fun _ => 0)

def quiescent_Features1Ideal_pre_near1 [hFeatures1Ideal : Cert.Features1Ideal.Facts] [hPre_near1 : Cert.Pre_near1.Facts] : Prop :=
  ∀ (m : (ℓ : Loc Cert.Features1Ideal.nD Cert.Features1Ideal.τ Cert.Features1Ideal.sig) → Buf (Elt Ideal) ℓ) (g : Dev Cert.Features1Ideal.nD → PrngReg), Pre_Features1Ideal_near1 m →
    θ_run (Cert.Features1Ideal.defs (F := Ideal)) (onTc (τ := Cert.Features1Ideal.τ) (Cert.Features1Ideal.main (F := Ideal))) ⟨m, fun _ => 0, g⟩ (fun r => (∀ c : Dev Cert.Features1Ideal.nD,
      r.2.mem ((c.tc : Thread Cert.Features1Ideal.nD Cert.Features1Ideal.τ).loc Cert.Features1Ideal.main_arg0) = m ((c.tc : Thread Cert.Features1Ideal.nD Cert.Features1Ideal.τ).loc Cert.Features1Ideal.main_arg0)
      ∧ r.2.mem ((c.tc : Thread Cert.Features1Ideal.nD Cert.Features1Ideal.τ).loc Cert.Features1Ideal.main_arg1) = m ((c.tc : Thread Cert.Features1Ideal.nD Cert.Features1Ideal.τ).loc Cert.Features1Ideal.main_arg1)
      ∧ r.2.mem ((c.tc : Thread Cert.Features1Ideal.nD Cert.Features1Ideal.τ).loc Cert.Features1Ideal.main_arg2) = m ((c.tc : Thread Cert.Features1Ideal.nD Cert.Features1Ideal.τ).loc Cert.Features1Ideal.main_arg2)
      ∧ r.2.mem ((c.tc : Thread Cert.Features1Ideal.nD Cert.Features1Ideal.τ).loc Cert.Features1Ideal.main_arg3) = m ((c.tc : Thread Cert.Features1Ideal.nD Cert.Features1Ideal.τ).loc Cert.Features1Ideal.main_arg3)
      ∧ r.2.mem ((c.tc : Thread Cert.Features1Ideal.nD Cert.Features1Ideal.τ).loc Cert.Features1Ideal.main_arg4) = m ((c.tc : Thread Cert.Features1Ideal.nD Cert.Features1Ideal.τ).loc Cert.Features1Ideal.main_arg4))
      ∧ r.2.sem = fun _ => 0)

def quiescent_RefFeatures1Ideal [hRefFeatures1Ideal : Cert.RefFeatures1Ideal.Facts] : Prop :=
  ∀ (m : (ℓ : Loc Cert.RefFeatures1Ideal.nD Cert.RefFeatures1Ideal.τ Cert.RefFeatures1Ideal.sig) → Buf (Elt Ideal) ℓ) (g : Dev Cert.RefFeatures1Ideal.nD → PrngReg), Pre_RefFeatures1Ideal m →
    θ_run (Cert.RefFeatures1Ideal.defs (F := Ideal)) (onTc (τ := Cert.RefFeatures1Ideal.τ) (Cert.RefFeatures1Ideal.main (F := Ideal))) ⟨m, fun _ => 0, g⟩ (fun r => (∀ c : Dev Cert.RefFeatures1Ideal.nD,
      r.2.mem ((c.tc : Thread Cert.RefFeatures1Ideal.nD Cert.RefFeatures1Ideal.τ).loc Cert.RefFeatures1Ideal.main_arg0) = m ((c.tc : Thread Cert.RefFeatures1Ideal.nD Cert.RefFeatures1Ideal.τ).loc Cert.RefFeatures1Ideal.main_arg0)
      ∧ r.2.mem ((c.tc : Thread Cert.RefFeatures1Ideal.nD Cert.RefFeatures1Ideal.τ).loc Cert.RefFeatures1Ideal.main_arg1) = m ((c.tc : Thread Cert.RefFeatures1Ideal.nD Cert.RefFeatures1Ideal.τ).loc Cert.RefFeatures1Ideal.main_arg1)
      ∧ r.2.mem ((c.tc : Thread Cert.RefFeatures1Ideal.nD Cert.RefFeatures1Ideal.τ).loc Cert.RefFeatures1Ideal.main_arg2) = m ((c.tc : Thread Cert.RefFeatures1Ideal.nD Cert.RefFeatures1Ideal.τ).loc Cert.RefFeatures1Ideal.main_arg2)
      ∧ r.2.mem ((c.tc : Thread Cert.RefFeatures1Ideal.nD Cert.RefFeatures1Ideal.τ).loc Cert.RefFeatures1Ideal.main_arg3) = m ((c.tc : Thread Cert.RefFeatures1Ideal.nD Cert.RefFeatures1Ideal.τ).loc Cert.RefFeatures1Ideal.main_arg3)
      ∧ r.2.mem ((c.tc : Thread Cert.RefFeatures1Ideal.nD Cert.RefFeatures1Ideal.τ).loc Cert.RefFeatures1Ideal.main_arg4) = m ((c.tc : Thread Cert.RefFeatures1Ideal.nD Cert.RefFeatures1Ideal.τ).loc Cert.RefFeatures1Ideal.main_arg4))
      ∧ r.2.sem = fun _ => 0)

def quiescent_RefFeatures1Ideal_pre_near1 [hRefFeatures1Ideal : Cert.RefFeatures1Ideal.Facts] [hPre_near1 : Cert.Pre_near1.Facts] : Prop :=
  ∀ (m : (ℓ : Loc Cert.RefFeatures1Ideal.nD Cert.RefFeatures1Ideal.τ Cert.RefFeatures1Ideal.sig) → Buf (Elt Ideal) ℓ) (g : Dev Cert.RefFeatures1Ideal.nD → PrngReg), Pre_RefFeatures1Ideal_near1 m →
    θ_run (Cert.RefFeatures1Ideal.defs (F := Ideal)) (onTc (τ := Cert.RefFeatures1Ideal.τ) (Cert.RefFeatures1Ideal.main (F := Ideal))) ⟨m, fun _ => 0, g⟩ (fun r => (∀ c : Dev Cert.RefFeatures1Ideal.nD,
      r.2.mem ((c.tc : Thread Cert.RefFeatures1Ideal.nD Cert.RefFeatures1Ideal.τ).loc Cert.RefFeatures1Ideal.main_arg0) = m ((c.tc : Thread Cert.RefFeatures1Ideal.nD Cert.RefFeatures1Ideal.τ).loc Cert.RefFeatures1Ideal.main_arg0)
      ∧ r.2.mem ((c.tc : Thread Cert.RefFeatures1Ideal.nD Cert.RefFeatures1Ideal.τ).loc Cert.RefFeatures1Ideal.main_arg1) = m ((c.tc : Thread Cert.RefFeatures1Ideal.nD Cert.RefFeatures1Ideal.τ).loc Cert.RefFeatures1Ideal.main_arg1)
      ∧ r.2.mem ((c.tc : Thread Cert.RefFeatures1Ideal.nD Cert.RefFeatures1Ideal.τ).loc Cert.RefFeatures1Ideal.main_arg2) = m ((c.tc : Thread Cert.RefFeatures1Ideal.nD Cert.RefFeatures1Ideal.τ).loc Cert.RefFeatures1Ideal.main_arg2)
      ∧ r.2.mem ((c.tc : Thread Cert.RefFeatures1Ideal.nD Cert.RefFeatures1Ideal.τ).loc Cert.RefFeatures1Ideal.main_arg3) = m ((c.tc : Thread Cert.RefFeatures1Ideal.nD Cert.RefFeatures1Ideal.τ).loc Cert.RefFeatures1Ideal.main_arg3)
      ∧ r.2.mem ((c.tc : Thread Cert.RefFeatures1Ideal.nD Cert.RefFeatures1Ideal.τ).loc Cert.RefFeatures1Ideal.main_arg4) = m ((c.tc : Thread Cert.RefFeatures1Ideal.nD Cert.RefFeatures1Ideal.τ).loc Cert.RefFeatures1Ideal.main_arg4))
      ∧ r.2.sem = fun _ => 0)

def quiescent_Features2 [hFeatures2 : Cert.Features2.Facts] : Prop :=
  ∀ (m : (ℓ : Loc Cert.Features2.nD Cert.Features2.τ Cert.Features2.sig) → Buf (Elt Bits) ℓ) (g : Dev Cert.Features2.nD → PrngReg), Pre_Features2 m →
    θ_run (Cert.Features2.defs (F := Bits)) (onTc (τ := Cert.Features2.τ) (Cert.Features2.main (F := Bits))) ⟨m, fun _ => 0, g⟩ (fun r => (∀ c : Dev Cert.Features2.nD,
      r.2.mem ((c.tc : Thread Cert.Features2.nD Cert.Features2.τ).loc Cert.Features2.main_arg0) = m ((c.tc : Thread Cert.Features2.nD Cert.Features2.τ).loc Cert.Features2.main_arg0)
      ∧ r.2.mem ((c.tc : Thread Cert.Features2.nD Cert.Features2.τ).loc Cert.Features2.main_arg1) = m ((c.tc : Thread Cert.Features2.nD Cert.Features2.τ).loc Cert.Features2.main_arg1)
      ∧ r.2.mem ((c.tc : Thread Cert.Features2.nD Cert.Features2.τ).loc Cert.Features2.main_arg2) = m ((c.tc : Thread Cert.Features2.nD Cert.Features2.τ).loc Cert.Features2.main_arg2)
      ∧ r.2.mem ((c.tc : Thread Cert.Features2.nD Cert.Features2.τ).loc Cert.Features2.main_arg3) = m ((c.tc : Thread Cert.Features2.nD Cert.Features2.τ).loc Cert.Features2.main_arg3)
      ∧ r.2.mem ((c.tc : Thread Cert.Features2.nD Cert.Features2.τ).loc Cert.Features2.main_arg4) = m ((c.tc : Thread Cert.Features2.nD Cert.Features2.τ).loc Cert.Features2.main_arg4))
      ∧ r.2.sem = fun _ => 0)

def quiescent_Features2Ideal [hFeatures2Ideal : Cert.Features2Ideal.Facts] : Prop :=
  ∀ (m : (ℓ : Loc Cert.Features2Ideal.nD Cert.Features2Ideal.τ Cert.Features2Ideal.sig) → Buf (Elt Ideal) ℓ) (g : Dev Cert.Features2Ideal.nD → PrngReg), Pre_Features2Ideal m →
    θ_run (Cert.Features2Ideal.defs (F := Ideal)) (onTc (τ := Cert.Features2Ideal.τ) (Cert.Features2Ideal.main (F := Ideal))) ⟨m, fun _ => 0, g⟩ (fun r => (∀ c : Dev Cert.Features2Ideal.nD,
      r.2.mem ((c.tc : Thread Cert.Features2Ideal.nD Cert.Features2Ideal.τ).loc Cert.Features2Ideal.main_arg0) = m ((c.tc : Thread Cert.Features2Ideal.nD Cert.Features2Ideal.τ).loc Cert.Features2Ideal.main_arg0)
      ∧ r.2.mem ((c.tc : Thread Cert.Features2Ideal.nD Cert.Features2Ideal.τ).loc Cert.Features2Ideal.main_arg1) = m ((c.tc : Thread Cert.Features2Ideal.nD Cert.Features2Ideal.τ).loc Cert.Features2Ideal.main_arg1)
      ∧ r.2.mem ((c.tc : Thread Cert.Features2Ideal.nD Cert.Features2Ideal.τ).loc Cert.Features2Ideal.main_arg2) = m ((c.tc : Thread Cert.Features2Ideal.nD Cert.Features2Ideal.τ).loc Cert.Features2Ideal.main_arg2)
      ∧ r.2.mem ((c.tc : Thread Cert.Features2Ideal.nD Cert.Features2Ideal.τ).loc Cert.Features2Ideal.main_arg3) = m ((c.tc : Thread Cert.Features2Ideal.nD Cert.Features2Ideal.τ).loc Cert.Features2Ideal.main_arg3)
      ∧ r.2.mem ((c.tc : Thread Cert.Features2Ideal.nD Cert.Features2Ideal.τ).loc Cert.Features2Ideal.main_arg4) = m ((c.tc : Thread Cert.Features2Ideal.nD Cert.Features2Ideal.τ).loc Cert.Features2Ideal.main_arg4))
      ∧ r.2.sem = fun _ => 0)

def quiescent_Features2Ideal_pre_near2 [hFeatures2Ideal : Cert.Features2Ideal.Facts] [hPre_near2 : Cert.Pre_near2.Facts] : Prop :=
  ∀ (m : (ℓ : Loc Cert.Features2Ideal.nD Cert.Features2Ideal.τ Cert.Features2Ideal.sig) → Buf (Elt Ideal) ℓ) (g : Dev Cert.Features2Ideal.nD → PrngReg), Pre_Features2Ideal_near2 m →
    θ_run (Cert.Features2Ideal.defs (F := Ideal)) (onTc (τ := Cert.Features2Ideal.τ) (Cert.Features2Ideal.main (F := Ideal))) ⟨m, fun _ => 0, g⟩ (fun r => (∀ c : Dev Cert.Features2Ideal.nD,
      r.2.mem ((c.tc : Thread Cert.Features2Ideal.nD Cert.Features2Ideal.τ).loc Cert.Features2Ideal.main_arg0) = m ((c.tc : Thread Cert.Features2Ideal.nD Cert.Features2Ideal.τ).loc Cert.Features2Ideal.main_arg0)
      ∧ r.2.mem ((c.tc : Thread Cert.Features2Ideal.nD Cert.Features2Ideal.τ).loc Cert.Features2Ideal.main_arg1) = m ((c.tc : Thread Cert.Features2Ideal.nD Cert.Features2Ideal.τ).loc Cert.Features2Ideal.main_arg1)
      ∧ r.2.mem ((c.tc : Thread Cert.Features2Ideal.nD Cert.Features2Ideal.τ).loc Cert.Features2Ideal.main_arg2) = m ((c.tc : Thread Cert.Features2Ideal.nD Cert.Features2Ideal.τ).loc Cert.Features2Ideal.main_arg2)
      ∧ r.2.mem ((c.tc : Thread Cert.Features2Ideal.nD Cert.Features2Ideal.τ).loc Cert.Features2Ideal.main_arg3) = m ((c.tc : Thread Cert.Features2Ideal.nD Cert.Features2Ideal.τ).loc Cert.Features2Ideal.main_arg3)
      ∧ r.2.mem ((c.tc : Thread Cert.Features2Ideal.nD Cert.Features2Ideal.τ).loc Cert.Features2Ideal.main_arg4) = m ((c.tc : Thread Cert.Features2Ideal.nD Cert.Features2Ideal.τ).loc Cert.Features2Ideal.main_arg4))
      ∧ r.2.sem = fun _ => 0)

def quiescent_RefFeatures2Ideal [hRefFeatures2Ideal : Cert.RefFeatures2Ideal.Facts] : Prop :=
  ∀ (m : (ℓ : Loc Cert.RefFeatures2Ideal.nD Cert.RefFeatures2Ideal.τ Cert.RefFeatures2Ideal.sig) → Buf (Elt Ideal) ℓ) (g : Dev Cert.RefFeatures2Ideal.nD → PrngReg), Pre_RefFeatures2Ideal m →
    θ_run (Cert.RefFeatures2Ideal.defs (F := Ideal)) (onTc (τ := Cert.RefFeatures2Ideal.τ) (Cert.RefFeatures2Ideal.main (F := Ideal))) ⟨m, fun _ => 0, g⟩ (fun r => (∀ c : Dev Cert.RefFeatures2Ideal.nD,
      r.2.mem ((c.tc : Thread Cert.RefFeatures2Ideal.nD Cert.RefFeatures2Ideal.τ).loc Cert.RefFeatures2Ideal.main_arg0) = m ((c.tc : Thread Cert.RefFeatures2Ideal.nD Cert.RefFeatures2Ideal.τ).loc Cert.RefFeatures2Ideal.main_arg0)
      ∧ r.2.mem ((c.tc : Thread Cert.RefFeatures2Ideal.nD Cert.RefFeatures2Ideal.τ).loc Cert.RefFeatures2Ideal.main_arg1) = m ((c.tc : Thread Cert.RefFeatures2Ideal.nD Cert.RefFeatures2Ideal.τ).loc Cert.RefFeatures2Ideal.main_arg1)
      ∧ r.2.mem ((c.tc : Thread Cert.RefFeatures2Ideal.nD Cert.RefFeatures2Ideal.τ).loc Cert.RefFeatures2Ideal.main_arg2) = m ((c.tc : Thread Cert.RefFeatures2Ideal.nD Cert.RefFeatures2Ideal.τ).loc Cert.RefFeatures2Ideal.main_arg2)
      ∧ r.2.mem ((c.tc : Thread Cert.RefFeatures2Ideal.nD Cert.RefFeatures2Ideal.τ).loc Cert.RefFeatures2Ideal.main_arg3) = m ((c.tc : Thread Cert.RefFeatures2Ideal.nD Cert.RefFeatures2Ideal.τ).loc Cert.RefFeatures2Ideal.main_arg3)
      ∧ r.2.mem ((c.tc : Thread Cert.RefFeatures2Ideal.nD Cert.RefFeatures2Ideal.τ).loc Cert.RefFeatures2Ideal.main_arg4) = m ((c.tc : Thread Cert.RefFeatures2Ideal.nD Cert.RefFeatures2Ideal.τ).loc Cert.RefFeatures2Ideal.main_arg4))
      ∧ r.2.sem = fun _ => 0)

def quiescent_RefFeatures2Ideal_pre_near2 [hRefFeatures2Ideal : Cert.RefFeatures2Ideal.Facts] [hPre_near2 : Cert.Pre_near2.Facts] : Prop :=
  ∀ (m : (ℓ : Loc Cert.RefFeatures2Ideal.nD Cert.RefFeatures2Ideal.τ Cert.RefFeatures2Ideal.sig) → Buf (Elt Ideal) ℓ) (g : Dev Cert.RefFeatures2Ideal.nD → PrngReg), Pre_RefFeatures2Ideal_near2 m →
    θ_run (Cert.RefFeatures2Ideal.defs (F := Ideal)) (onTc (τ := Cert.RefFeatures2Ideal.τ) (Cert.RefFeatures2Ideal.main (F := Ideal))) ⟨m, fun _ => 0, g⟩ (fun r => (∀ c : Dev Cert.RefFeatures2Ideal.nD,
      r.2.mem ((c.tc : Thread Cert.RefFeatures2Ideal.nD Cert.RefFeatures2Ideal.τ).loc Cert.RefFeatures2Ideal.main_arg0) = m ((c.tc : Thread Cert.RefFeatures2Ideal.nD Cert.RefFeatures2Ideal.τ).loc Cert.RefFeatures2Ideal.main_arg0)
      ∧ r.2.mem ((c.tc : Thread Cert.RefFeatures2Ideal.nD Cert.RefFeatures2Ideal.τ).loc Cert.RefFeatures2Ideal.main_arg1) = m ((c.tc : Thread Cert.RefFeatures2Ideal.nD Cert.RefFeatures2Ideal.τ).loc Cert.RefFeatures2Ideal.main_arg1)
      ∧ r.2.mem ((c.tc : Thread Cert.RefFeatures2Ideal.nD Cert.RefFeatures2Ideal.τ).loc Cert.RefFeatures2Ideal.main_arg2) = m ((c.tc : Thread Cert.RefFeatures2Ideal.nD Cert.RefFeatures2Ideal.τ).loc Cert.RefFeatures2Ideal.main_arg2)
      ∧ r.2.mem ((c.tc : Thread Cert.RefFeatures2Ideal.nD Cert.RefFeatures2Ideal.τ).loc Cert.RefFeatures2Ideal.main_arg3) = m ((c.tc : Thread Cert.RefFeatures2Ideal.nD Cert.RefFeatures2Ideal.τ).loc Cert.RefFeatures2Ideal.main_arg3)
      ∧ r.2.mem ((c.tc : Thread Cert.RefFeatures2Ideal.nD Cert.RefFeatures2Ideal.τ).loc Cert.RefFeatures2Ideal.main_arg4) = m ((c.tc : Thread Cert.RefFeatures2Ideal.nD Cert.RefFeatures2Ideal.τ).loc Cert.RefFeatures2Ideal.main_arg4))
      ∧ r.2.sem = fun _ => 0)

def quiescent_Sample0 [hSample0 : Cert.Sample0.Facts] : Prop :=
  ∀ (m : (ℓ : Loc Cert.Sample0.nD Cert.Sample0.τ Cert.Sample0.sig) → Buf (Elt Bits) ℓ) (g : Dev Cert.Sample0.nD → PrngReg), Pre_Sample0 m →
    θ_run (Cert.Sample0.defs (F := Bits)) (onTc (τ := Cert.Sample0.τ) (Cert.Sample0.main (F := Bits))) ⟨m, fun _ => 0, g⟩ (fun r => (∀ c : Dev Cert.Sample0.nD,
      r.2.mem ((c.tc : Thread Cert.Sample0.nD Cert.Sample0.τ).loc Cert.Sample0.main_arg0) = m ((c.tc : Thread Cert.Sample0.nD Cert.Sample0.τ).loc Cert.Sample0.main_arg0))
      ∧ r.2.sem = fun _ => 0)

def quiescent_Sample0Ideal [hSample0Ideal : Cert.Sample0Ideal.Facts] : Prop :=
  ∀ (m : (ℓ : Loc Cert.Sample0Ideal.nD Cert.Sample0Ideal.τ Cert.Sample0Ideal.sig) → Buf (Elt Ideal) ℓ) (g : Dev Cert.Sample0Ideal.nD → PrngReg), Pre_Sample0Ideal m →
    θ_run (Cert.Sample0Ideal.defs (F := Ideal)) (onTc (τ := Cert.Sample0Ideal.τ) (Cert.Sample0Ideal.main (F := Ideal))) ⟨m, fun _ => 0, g⟩ (fun r => (∀ c : Dev Cert.Sample0Ideal.nD,
      r.2.mem ((c.tc : Thread Cert.Sample0Ideal.nD Cert.Sample0Ideal.τ).loc Cert.Sample0Ideal.main_arg0) = m ((c.tc : Thread Cert.Sample0Ideal.nD Cert.Sample0Ideal.τ).loc Cert.Sample0Ideal.main_arg0))
      ∧ r.2.sem = fun _ => 0)

def quiescent_RefSample0Ideal [hRefSample0Ideal : Cert.RefSample0Ideal.Facts] : Prop :=
  ∀ (m : (ℓ : Loc Cert.RefSample0Ideal.nD Cert.RefSample0Ideal.τ Cert.RefSample0Ideal.sig) → Buf (Elt Ideal) ℓ) (g : Dev Cert.RefSample0Ideal.nD → PrngReg), Pre_RefSample0Ideal m →
    θ_run (Cert.RefSample0Ideal.defs (F := Ideal)) (onTc (τ := Cert.RefSample0Ideal.τ) (Cert.RefSample0Ideal.main (F := Ideal))) ⟨m, fun _ => 0, g⟩ (fun r => (∀ c : Dev Cert.RefSample0Ideal.nD,
      r.2.mem ((c.tc : Thread Cert.RefSample0Ideal.nD Cert.RefSample0Ideal.τ).loc Cert.RefSample0Ideal.main_arg0) = m ((c.tc : Thread Cert.RefSample0Ideal.nD Cert.RefSample0Ideal.τ).loc Cert.RefSample0Ideal.main_arg0))
      ∧ r.2.sem = fun _ => 0)

def quiescent_Sample1 [hSample1 : Cert.Sample1.Facts] : Prop :=
  ∀ (m : (ℓ : Loc Cert.Sample1.nD Cert.Sample1.τ Cert.Sample1.sig) → Buf (Elt Bits) ℓ) (g : Dev Cert.Sample1.nD → PrngReg), Pre_Sample1 m →
    θ_run (Cert.Sample1.defs (F := Bits)) (onTc (τ := Cert.Sample1.τ) (Cert.Sample1.main (F := Bits))) ⟨m, fun _ => 0, g⟩ (fun r => (∀ c : Dev Cert.Sample1.nD,
      r.2.mem ((c.tc : Thread Cert.Sample1.nD Cert.Sample1.τ).loc Cert.Sample1.main_arg0) = m ((c.tc : Thread Cert.Sample1.nD Cert.Sample1.τ).loc Cert.Sample1.main_arg0))
      ∧ r.2.sem = fun _ => 0)

def quiescent_Sample1Ideal [hSample1Ideal : Cert.Sample1Ideal.Facts] : Prop :=
  ∀ (m : (ℓ : Loc Cert.Sample1Ideal.nD Cert.Sample1Ideal.τ Cert.Sample1Ideal.sig) → Buf (Elt Ideal) ℓ) (g : Dev Cert.Sample1Ideal.nD → PrngReg), Pre_Sample1Ideal m →
    θ_run (Cert.Sample1Ideal.defs (F := Ideal)) (onTc (τ := Cert.Sample1Ideal.τ) (Cert.Sample1Ideal.main (F := Ideal))) ⟨m, fun _ => 0, g⟩ (fun r => (∀ c : Dev Cert.Sample1Ideal.nD,
      r.2.mem ((c.tc : Thread Cert.Sample1Ideal.nD Cert.Sample1Ideal.τ).loc Cert.Sample1Ideal.main_arg0) = m ((c.tc : Thread Cert.Sample1Ideal.nD Cert.Sample1Ideal.τ).loc Cert.Sample1Ideal.main_arg0))
      ∧ r.2.sem = fun _ => 0)

def quiescent_RefSample1Ideal [hRefSample1Ideal : Cert.RefSample1Ideal.Facts] : Prop :=
  ∀ (m : (ℓ : Loc Cert.RefSample1Ideal.nD Cert.RefSample1Ideal.τ Cert.RefSample1Ideal.sig) → Buf (Elt Ideal) ℓ) (g : Dev Cert.RefSample1Ideal.nD → PrngReg), Pre_RefSample1Ideal m →
    θ_run (Cert.RefSample1Ideal.defs (F := Ideal)) (onTc (τ := Cert.RefSample1Ideal.τ) (Cert.RefSample1Ideal.main (F := Ideal))) ⟨m, fun _ => 0, g⟩ (fun r => (∀ c : Dev Cert.RefSample1Ideal.nD,
      r.2.mem ((c.tc : Thread Cert.RefSample1Ideal.nD Cert.RefSample1Ideal.τ).loc Cert.RefSample1Ideal.main_arg0) = m ((c.tc : Thread Cert.RefSample1Ideal.nD Cert.RefSample1Ideal.τ).loc Cert.RefSample1Ideal.main_arg0))
      ∧ r.2.sem = fun _ => 0)

def quiescent_Sample2 [hSample2 : Cert.Sample2.Facts] : Prop :=
  ∀ (m : (ℓ : Loc Cert.Sample2.nD Cert.Sample2.τ Cert.Sample2.sig) → Buf (Elt Bits) ℓ) (g : Dev Cert.Sample2.nD → PrngReg), Pre_Sample2 m →
    θ_run (Cert.Sample2.defs (F := Bits)) (onTc (τ := Cert.Sample2.τ) (Cert.Sample2.main (F := Bits))) ⟨m, fun _ => 0, g⟩ (fun r => (∀ c : Dev Cert.Sample2.nD,
      r.2.mem ((c.tc : Thread Cert.Sample2.nD Cert.Sample2.τ).loc Cert.Sample2.main_arg0) = m ((c.tc : Thread Cert.Sample2.nD Cert.Sample2.τ).loc Cert.Sample2.main_arg0))
      ∧ r.2.sem = fun _ => 0)

def quiescent_Sample2Ideal [hSample2Ideal : Cert.Sample2Ideal.Facts] : Prop :=
  ∀ (m : (ℓ : Loc Cert.Sample2Ideal.nD Cert.Sample2Ideal.τ Cert.Sample2Ideal.sig) → Buf (Elt Ideal) ℓ) (g : Dev Cert.Sample2Ideal.nD → PrngReg), Pre_Sample2Ideal m →
    θ_run (Cert.Sample2Ideal.defs (F := Ideal)) (onTc (τ := Cert.Sample2Ideal.τ) (Cert.Sample2Ideal.main (F := Ideal))) ⟨m, fun _ => 0, g⟩ (fun r => (∀ c : Dev Cert.Sample2Ideal.nD,
      r.2.mem ((c.tc : Thread Cert.Sample2Ideal.nD Cert.Sample2Ideal.τ).loc Cert.Sample2Ideal.main_arg0) = m ((c.tc : Thread Cert.Sample2Ideal.nD Cert.Sample2Ideal.τ).loc Cert.Sample2Ideal.main_arg0))
      ∧ r.2.sem = fun _ => 0)

def quiescent_RefSample2Ideal [hRefSample2Ideal : Cert.RefSample2Ideal.Facts] : Prop :=
  ∀ (m : (ℓ : Loc Cert.RefSample2Ideal.nD Cert.RefSample2Ideal.τ Cert.RefSample2Ideal.sig) → Buf (Elt Ideal) ℓ) (g : Dev Cert.RefSample2Ideal.nD → PrngReg), Pre_RefSample2Ideal m →
    θ_run (Cert.RefSample2Ideal.defs (F := Ideal)) (onTc (τ := Cert.RefSample2Ideal.τ) (Cert.RefSample2Ideal.main (F := Ideal))) ⟨m, fun _ => 0, g⟩ (fun r => (∀ c : Dev Cert.RefSample2Ideal.nD,
      r.2.mem ((c.tc : Thread Cert.RefSample2Ideal.nD Cert.RefSample2Ideal.τ).loc Cert.RefSample2Ideal.main_arg0) = m ((c.tc : Thread Cert.RefSample2Ideal.nD Cert.RefSample2Ideal.τ).loc Cert.RefSample2Ideal.main_arg0))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ r.2.sem = fun _ => 0)

def quiescent_RefLinearIdeal [hRefLinearIdeal : Cert.RefLinearIdeal.Facts] : Prop :=
  ∀ (m : (ℓ : Loc Cert.RefLinearIdeal.nD Cert.RefLinearIdeal.τ Cert.RefLinearIdeal.sig) → Buf (Elt Ideal) ℓ) (g : Dev Cert.RefLinearIdeal.nD → PrngReg), Pre_RefLinearIdeal m →
    θ_run (Cert.RefLinearIdeal.defs (F := Ideal)) (onTc (τ := Cert.RefLinearIdeal.τ) (Cert.RefLinearIdeal.main (F := Ideal))) ⟨m, fun _ => 0, g⟩ (fun r => (∀ c : Dev Cert.RefLinearIdeal.nD,
      r.2.mem ((c.tc : Thread Cert.RefLinearIdeal.nD Cert.RefLinearIdeal.τ).loc Cert.RefLinearIdeal.main_arg0) = m ((c.tc : Thread Cert.RefLinearIdeal.nD Cert.RefLinearIdeal.τ).loc Cert.RefLinearIdeal.main_arg0)
      ∧ r.2.mem ((c.tc : Thread Cert.RefLinearIdeal.nD Cert.RefLinearIdeal.τ).loc Cert.RefLinearIdeal.main_arg1) = m ((c.tc : Thread Cert.RefLinearIdeal.nD Cert.RefLinearIdeal.τ).loc Cert.RefLinearIdeal.main_arg1)
      ∧ r.2.mem ((c.tc : Thread Cert.RefLinearIdeal.nD Cert.RefLinearIdeal.τ).loc Cert.RefLinearIdeal.main_arg2) = m ((c.tc : Thread Cert.RefLinearIdeal.nD Cert.RefLinearIdeal.τ).loc Cert.RefLinearIdeal.main_arg2))
      ∧ r.2.sem = fun _ => 0)

def preserves_Attention0_Attention0Ideal : Prop :=
  IdealRules.named_const.Statement Cert.Attention0Ideal.κ "scale" .f32 0x3E3504F3#32 (((Real.sqrt 32)⁻¹ : ℝ) : EReal)
  ∧ IdealRules.named_const.Statement Cert.Attention0Ideal.κ "mask" .f32 0xF149F2CA#32 ⊥

def algebraic_Attention0Ideal_RefAttention0Ideal_pre_apart0 [hAttention0Ideal : Cert.Attention0Ideal.Facts] [hRefAttention0Ideal : Cert.RefAttention0Ideal.Facts] [hPre_apart0 : Cert.Pre_apart0.Facts] : Prop :=
  ∀ (m : (ℓ : Loc Cert.Attention0Ideal.nD Cert.Attention0Ideal.τ Cert.Attention0Ideal.sig) → Buf (Elt Ideal) ℓ) (g : Dev Cert.Attention0Ideal.nD → PrngReg)
    (m' : (ℓ : Loc Cert.RefAttention0Ideal.nD Cert.RefAttention0Ideal.τ Cert.RefAttention0Ideal.sig) → Buf (Elt Ideal) ℓ) (g' : Dev Cert.RefAttention0Ideal.nD → PrngReg), Pre_Attention0Ideal_apart0 m →
    (∀ c : Dev Cert.Attention0Ideal.nD,
      m' ((c.tc : Thread Cert.RefAttention0Ideal.nD Cert.RefAttention0Ideal.τ).loc Cert.RefAttention0Ideal.main_arg0) = m ((c.tc : Thread Cert.Attention0Ideal.nD Cert.Attention0Ideal.τ).loc Cert.Attention0Ideal.main_arg0)
      ∧ m' ((c.tc : Thread Cert.RefAttention0Ideal.nD Cert.RefAttention0Ideal.τ).loc Cert.RefAttention0Ideal.main_arg1) = m ((c.tc : Thread Cert.Attention0Ideal.nD Cert.Attention0Ideal.τ).loc Cert.Attention0Ideal.main_arg1)
      ∧ m' ((c.tc : Thread Cert.RefAttention0Ideal.nD Cert.RefAttention0Ideal.τ).loc Cert.RefAttention0Ideal.main_arg2) = m ((c.tc : Thread Cert.Attention0Ideal.nD Cert.Attention0Ideal.τ).loc Cert.Attention0Ideal.main_arg2)
      ∧ m' ((c.tc : Thread Cert.RefAttention0Ideal.nD Cert.RefAttention0Ideal.τ).loc Cert.RefAttention0Ideal.main_arg3) = m ((c.tc : Thread Cert.Attention0Ideal.nD Cert.Attention0Ideal.τ).loc Cert.Attention0Ideal.main_arg3)) →
    ∃ (v0 : (c : Dev Cert.Attention0Ideal.nD) → Buf (Elt Ideal) ((c.tc : Thread Cert.Attention0Ideal.nD Cert.Attention0Ideal.τ).loc Cert.Attention0Ideal.main_v2)),
      θ_run (Cert.Attention0Ideal.defs (F := Ideal)) (onTc (τ := Cert.Attention0Ideal.τ) (Cert.Attention0Ideal.main (F := Ideal))) ⟨m, fun _ => 0, g⟩ (fun r => ∀ c : Dev Cert.Attention0Ideal.nD,
          r.2.mem ((c.tc : Thread Cert.Attention0Ideal.nD Cert.Attention0Ideal.τ).loc Cert.Attention0Ideal.main_v2) = v0 c
          ∧ r.2.mem ((c.tc : Thread Cert.Attention0Ideal.nD Cert.Attention0Ideal.τ).loc Cert.Attention0Ideal.main_arg0) = m ((c.tc : Thread Cert.Attention0Ideal.nD Cert.Attention0Ideal.τ).loc Cert.Attention0Ideal.main_arg0)
          ∧ r.2.mem ((c.tc : Thread Cert.Attention0Ideal.nD Cert.Attention0Ideal.τ).loc Cert.Attention0Ideal.main_arg1) = m ((c.tc : Thread Cert.Attention0Ideal.nD Cert.Attention0Ideal.τ).loc Cert.Attention0Ideal.main_arg1)
          ∧ r.2.mem ((c.tc : Thread Cert.Attention0Ideal.nD Cert.Attention0Ideal.τ).loc Cert.Attention0Ideal.main_arg2) = m ((c.tc : Thread Cert.Attention0Ideal.nD Cert.Attention0Ideal.τ).loc Cert.Attention0Ideal.main_arg2)
          ∧ r.2.mem ((c.tc : Thread Cert.Attention0Ideal.nD Cert.Attention0Ideal.τ).loc Cert.Attention0Ideal.main_arg3) = m ((c.tc : Thread Cert.Attention0Ideal.nD Cert.Attention0Ideal.τ).loc Cert.Attention0Ideal.main_arg3))
      ∧ θ_run (Cert.RefAttention0Ideal.defs (F := Ideal)) (onTc (τ := Cert.RefAttention0Ideal.τ) (Cert.RefAttention0Ideal.main (F := Ideal))) ⟨m', fun _ => 0, g'⟩ (fun r => ∀ c : Dev Cert.RefAttention0Ideal.nD,
          r.2.mem ((c.tc : Thread Cert.RefAttention0Ideal.nD Cert.RefAttention0Ideal.τ).loc Cert.RefAttention0Ideal.main_v45) = v0 c
          ∧ r.2.mem ((c.tc : Thread Cert.RefAttention0Ideal.nD Cert.RefAttention0Ideal.τ).loc Cert.RefAttention0Ideal.main_arg0) = m' ((c.tc : Thread Cert.RefAttention0Ideal.nD Cert.RefAttention0Ideal.τ).loc Cert.RefAttention0Ideal.main_arg0)
          ∧ r.2.mem ((c.tc : Thread Cert.RefAttention0Ideal.nD Cert.RefAttention0Ideal.τ).loc Cert.RefAttention0Ideal.main_arg1) = m' ((c.tc : Thread Cert.RefAttention0Ideal.nD Cert.RefAttention0Ideal.τ).loc Cert.RefAttention0Ideal.main_arg1)
          ∧ r.2.mem ((c.tc : Thread Cert.RefAttention0Ideal.nD Cert.RefAttention0Ideal.τ).loc Cert.RefAttention0Ideal.main_arg2) = m' ((c.tc : Thread Cert.RefAttention0Ideal.nD Cert.RefAttention0Ideal.τ).loc Cert.RefAttention0Ideal.main_arg2)
          ∧ r.2.mem ((c.tc : Thread Cert.RefAttention0Ideal.nD Cert.RefAttention0Ideal.τ).loc Cert.RefAttention0Ideal.main_arg3) = m' ((c.tc : Thread Cert.RefAttention0Ideal.nD Cert.RefAttention0Ideal.τ).loc Cert.RefAttention0Ideal.main_arg3))

def preserves_Attention1_Attention1Ideal : Prop :=
  IdealRules.named_const.Statement Cert.Attention1Ideal.κ "mask" .f32 0xF149F2CA#32 ⊥

def algebraic_Attention1Ideal_RefAttention1Ideal_pre_apart1 [hAttention1Ideal : Cert.Attention1Ideal.Facts] [hRefAttention1Ideal : Cert.RefAttention1Ideal.Facts] [hPre_apart1 : Cert.Pre_apart1.Facts] : Prop :=
  ∀ (m : (ℓ : Loc Cert.Attention1Ideal.nD Cert.Attention1Ideal.τ Cert.Attention1Ideal.sig) → Buf (Elt Ideal) ℓ) (g : Dev Cert.Attention1Ideal.nD → PrngReg)
    (m' : (ℓ : Loc Cert.RefAttention1Ideal.nD Cert.RefAttention1Ideal.τ Cert.RefAttention1Ideal.sig) → Buf (Elt Ideal) ℓ) (g' : Dev Cert.RefAttention1Ideal.nD → PrngReg), Pre_Attention1Ideal_apart1 m →
    (∀ c : Dev Cert.Attention1Ideal.nD,
      m' ((c.tc : Thread Cert.RefAttention1Ideal.nD Cert.RefAttention1Ideal.τ).loc Cert.RefAttention1Ideal.main_arg0) = m ((c.tc : Thread Cert.Attention1Ideal.nD Cert.Attention1Ideal.τ).loc Cert.Attention1Ideal.main_arg0)
      ∧ m' ((c.tc : Thread Cert.RefAttention1Ideal.nD Cert.RefAttention1Ideal.τ).loc Cert.RefAttention1Ideal.main_arg1) = m ((c.tc : Thread Cert.Attention1Ideal.nD Cert.Attention1Ideal.τ).loc Cert.Attention1Ideal.main_arg1)
      ∧ m' ((c.tc : Thread Cert.RefAttention1Ideal.nD Cert.RefAttention1Ideal.τ).loc Cert.RefAttention1Ideal.main_arg2) = m ((c.tc : Thread Cert.Attention1Ideal.nD Cert.Attention1Ideal.τ).loc Cert.Attention1Ideal.main_arg2)
      ∧ m' ((c.tc : Thread Cert.RefAttention1Ideal.nD Cert.RefAttention1Ideal.τ).loc Cert.RefAttention1Ideal.main_arg3) = m ((c.tc : Thread Cert.Attention1Ideal.nD Cert.Attention1Ideal.τ).loc Cert.Attention1Ideal.main_arg3)) →
    ∃ (v0 : (c : Dev Cert.Attention1Ideal.nD) → Buf (Elt Ideal) ((c.tc : Thread Cert.Attention1Ideal.nD Cert.Attention1Ideal.τ).loc Cert.Attention1Ideal.main_v2)),
      θ_run (Cert.Attention1Ideal.defs (F := Ideal)) (onTc (τ := Cert.Attention1Ideal.τ) (Cert.Attention1Ideal.main (F := Ideal))) ⟨m, fun _ => 0, g⟩ (fun r => ∀ c : Dev Cert.Attention1Ideal.nD,
          r.2.mem ((c.tc : Thread Cert.Attention1Ideal.nD Cert.Attention1Ideal.τ).loc Cert.Attention1Ideal.main_v2) = v0 c
          ∧ r.2.mem ((c.tc : Thread Cert.Attention1Ideal.nD Cert.Attention1Ideal.τ).loc Cert.Attention1Ideal.main_arg0) = m ((c.tc : Thread Cert.Attention1Ideal.nD Cert.Attention1Ideal.τ).loc Cert.Attention1Ideal.main_arg0)
          ∧ r.2.mem ((c.tc : Thread Cert.Attention1Ideal.nD Cert.Attention1Ideal.τ).loc Cert.Attention1Ideal.main_arg1) = m ((c.tc : Thread Cert.Attention1Ideal.nD Cert.Attention1Ideal.τ).loc Cert.Attention1Ideal.main_arg1)
          ∧ r.2.mem ((c.tc : Thread Cert.Attention1Ideal.nD Cert.Attention1Ideal.τ).loc Cert.Attention1Ideal.main_arg2) = m ((c.tc : Thread Cert.Attention1Ideal.nD Cert.Attention1Ideal.τ).loc Cert.Attention1Ideal.main_arg2)
          ∧ r.2.mem ((c.tc : Thread Cert.Attention1Ideal.nD Cert.Attention1Ideal.τ).loc Cert.Attention1Ideal.main_arg3) = m ((c.tc : Thread Cert.Attention1Ideal.nD Cert.Attention1Ideal.τ).loc Cert.Attention1Ideal.main_arg3))
      ∧ θ_run (Cert.RefAttention1Ideal.defs (F := Ideal)) (onTc (τ := Cert.RefAttention1Ideal.τ) (Cert.RefAttention1Ideal.main (F := Ideal))) ⟨m', fun _ => 0, g'⟩ (fun r => ∀ c : Dev Cert.RefAttention1Ideal.nD,
          r.2.mem ((c.tc : Thread Cert.RefAttention1Ideal.nD Cert.RefAttention1Ideal.τ).loc Cert.RefAttention1Ideal.main_v45) = v0 c
          ∧ r.2.mem ((c.tc : Thread Cert.RefAttention1Ideal.nD Cert.RefAttention1Ideal.τ).loc Cert.RefAttention1Ideal.main_arg0) = m' ((c.tc : Thread Cert.RefAttention1Ideal.nD Cert.RefAttention1Ideal.τ).loc Cert.RefAttention1Ideal.main_arg0)
          ∧ r.2.mem ((c.tc : Thread Cert.RefAttention1Ideal.nD Cert.RefAttention1Ideal.τ).loc Cert.RefAttention1Ideal.main_arg1) = m' ((c.tc : Thread Cert.RefAttention1Ideal.nD Cert.RefAttention1Ideal.τ).loc Cert.RefAttention1Ideal.main_arg1)
          ∧ r.2.mem ((c.tc : Thread Cert.RefAttention1Ideal.nD Cert.RefAttention1Ideal.τ).loc Cert.RefAttention1Ideal.main_arg2) = m' ((c.tc : Thread Cert.RefAttention1Ideal.nD Cert.RefAttention1Ideal.τ).loc Cert.RefAttention1Ideal.main_arg2)
          ∧ r.2.mem ((c.tc : Thread Cert.RefAttention1Ideal.nD Cert.RefAttention1Ideal.τ).loc Cert.RefAttention1Ideal.main_arg3) = m' ((c.tc : Thread Cert.RefAttention1Ideal.nD Cert.RefAttention1Ideal.τ).loc Cert.RefAttention1Ideal.main_arg3))

def preserves_Attention2_Attention2Ideal : Prop :=
  IdealRules.named_const.Statement Cert.Attention2Ideal.κ "scale" .f32 0x3DB504F3#32 (((Real.sqrt 128)⁻¹ : ℝ) : EReal)
  ∧ IdealRules.named_const.Statement Cert.Attention2Ideal.κ "mask" .f32 0xF149F2CA#32 ⊥

def algebraic_Attention2Ideal_RefAttention2Ideal_pre_apart2 [hAttention2Ideal : Cert.Attention2Ideal.Facts] [hRefAttention2Ideal : Cert.RefAttention2Ideal.Facts] [hPre_apart2 : Cert.Pre_apart2.Facts] : Prop :=
  ∀ (m : (ℓ : Loc Cert.Attention2Ideal.nD Cert.Attention2Ideal.τ Cert.Attention2Ideal.sig) → Buf (Elt Ideal) ℓ) (g : Dev Cert.Attention2Ideal.nD → PrngReg)
    (m' : (ℓ : Loc Cert.RefAttention2Ideal.nD Cert.RefAttention2Ideal.τ Cert.RefAttention2Ideal.sig) → Buf (Elt Ideal) ℓ) (g' : Dev Cert.RefAttention2Ideal.nD → PrngReg), Pre_Attention2Ideal_apart2 m →
    (∀ c : Dev Cert.Attention2Ideal.nD,
      m' ((c.tc : Thread Cert.RefAttention2Ideal.nD Cert.RefAttention2Ideal.τ).loc Cert.RefAttention2Ideal.main_arg0) = m ((c.tc : Thread Cert.Attention2Ideal.nD Cert.Attention2Ideal.τ).loc Cert.Attention2Ideal.main_arg0)
      ∧ m' ((c.tc : Thread Cert.RefAttention2Ideal.nD Cert.RefAttention2Ideal.τ).loc Cert.RefAttention2Ideal.main_arg1) = m ((c.tc : Thread Cert.Attention2Ideal.nD Cert.Attention2Ideal.τ).loc Cert.Attention2Ideal.main_arg1)
      ∧ m' ((c.tc : Thread Cert.RefAttention2Ideal.nD Cert.RefAttention2Ideal.τ).loc Cert.RefAttention2Ideal.main_arg2) = m ((c.tc : Thread Cert.Attention2Ideal.nD Cert.Attention2Ideal.τ).loc Cert.Attention2Ideal.main_arg2)
      ∧ m' ((c.tc : Thread Cert.RefAttention2Ideal.nD Cert.RefAttention2Ideal.τ).loc Cert.RefAttention2Ideal.main_arg3) = m ((c.tc : Thread Cert.Attention2Ideal.nD Cert.Attention2Ideal.τ).loc Cert.Attention2Ideal.main_arg3)) →
    ∃ (v0 : (c : Dev Cert.Attention2Ideal.nD) → Buf (Elt Ideal) ((c.tc : Thread Cert.Attention2Ideal.nD Cert.Attention2Ideal.τ).loc Cert.Attention2Ideal.main_v2)),
      θ_run (Cert.Attention2Ideal.defs (F := Ideal)) (onTc (τ := Cert.Attention2Ideal.τ) (Cert.Attention2Ideal.main (F := Ideal))) ⟨m, fun _ => 0, g⟩ (fun r => ∀ c : Dev Cert.Attention2Ideal.nD,
          r.2.mem ((c.tc : Thread Cert.Attention2Ideal.nD Cert.Attention2Ideal.τ).loc Cert.Attention2Ideal.main_v2) = v0 c
          ∧ r.2.mem ((c.tc : Thread Cert.Attention2Ideal.nD Cert.Attention2Ideal.τ).loc Cert.Attention2Ideal.main_arg0) = m ((c.tc : Thread Cert.Attention2Ideal.nD Cert.Attention2Ideal.τ).loc Cert.Attention2Ideal.main_arg0)
          ∧ r.2.mem ((c.tc : Thread Cert.Attention2Ideal.nD Cert.Attention2Ideal.τ).loc Cert.Attention2Ideal.main_arg1) = m ((c.tc : Thread Cert.Attention2Ideal.nD Cert.Attention2Ideal.τ).loc Cert.Attention2Ideal.main_arg1)
          ∧ r.2.mem ((c.tc : Thread Cert.Attention2Ideal.nD Cert.Attention2Ideal.τ).loc Cert.Attention2Ideal.main_arg2) = m ((c.tc : Thread Cert.Attention2Ideal.nD Cert.Attention2Ideal.τ).loc Cert.Attention2Ideal.main_arg2)
          ∧ r.2.mem ((c.tc : Thread Cert.Attention2Ideal.nD Cert.Attention2Ideal.τ).loc Cert.Attention2Ideal.main_arg3) = m ((c.tc : Thread Cert.Attention2Ideal.nD Cert.Attention2Ideal.τ).loc Cert.Attention2Ideal.main_arg3))
      ∧ θ_run (Cert.RefAttention2Ideal.defs (F := Ideal)) (onTc (τ := Cert.RefAttention2Ideal.τ) (Cert.RefAttention2Ideal.main (F := Ideal))) ⟨m', fun _ => 0, g'⟩ (fun r => ∀ c : Dev Cert.RefAttention2Ideal.nD,
          r.2.mem ((c.tc : Thread Cert.RefAttention2Ideal.nD Cert.RefAttention2Ideal.τ).loc Cert.RefAttention2Ideal.main_v45) = v0 c
          ∧ r.2.mem ((c.tc : Thread Cert.RefAttention2Ideal.nD Cert.RefAttention2Ideal.τ).loc Cert.RefAttention2Ideal.main_arg0) = m' ((c.tc : Thread Cert.RefAttention2Ideal.nD Cert.RefAttention2Ideal.τ).loc Cert.RefAttention2Ideal.main_arg0)
          ∧ r.2.mem ((c.tc : Thread Cert.RefAttention2Ideal.nD Cert.RefAttention2Ideal.τ).loc Cert.RefAttention2Ideal.main_arg1) = m' ((c.tc : Thread Cert.RefAttention2Ideal.nD Cert.RefAttention2Ideal.τ).loc Cert.RefAttention2Ideal.main_arg1)
          ∧ r.2.mem ((c.tc : Thread Cert.RefAttention2Ideal.nD Cert.RefAttention2Ideal.τ).loc Cert.RefAttention2Ideal.main_arg2) = m' ((c.tc : Thread Cert.RefAttention2Ideal.nD Cert.RefAttention2Ideal.τ).loc Cert.RefAttention2Ideal.main_arg2)
          ∧ r.2.mem ((c.tc : Thread Cert.RefAttention2Ideal.nD Cert.RefAttention2Ideal.τ).loc Cert.RefAttention2Ideal.main_arg3) = m' ((c.tc : Thread Cert.RefAttention2Ideal.nD Cert.RefAttention2Ideal.τ).loc Cert.RefAttention2Ideal.main_arg3))

def preserves_Attention3_Attention3Ideal : Prop :=
  IdealRules.named_const.Statement Cert.Attention3Ideal.κ "mask" .f32 0xF149F2CA#32 ⊥

def algebraic_Attention3Ideal_RefAttention3Ideal_pre_apart3 [hAttention3Ideal : Cert.Attention3Ideal.Facts] [hRefAttention3Ideal : Cert.RefAttention3Ideal.Facts] [hPre_apart3 : Cert.Pre_apart3.Facts] : Prop :=
  ∀ (m : (ℓ : Loc Cert.Attention3Ideal.nD Cert.Attention3Ideal.τ Cert.Attention3Ideal.sig) → Buf (Elt Ideal) ℓ) (g : Dev Cert.Attention3Ideal.nD → PrngReg)
    (m' : (ℓ : Loc Cert.RefAttention3Ideal.nD Cert.RefAttention3Ideal.τ Cert.RefAttention3Ideal.sig) → Buf (Elt Ideal) ℓ) (g' : Dev Cert.RefAttention3Ideal.nD → PrngReg), Pre_Attention3Ideal_apart3 m →
    (∀ c : Dev Cert.Attention3Ideal.nD,
      m' ((c.tc : Thread Cert.RefAttention3Ideal.nD Cert.RefAttention3Ideal.τ).loc Cert.RefAttention3Ideal.main_arg0) = m ((c.tc : Thread Cert.Attention3Ideal.nD Cert.Attention3Ideal.τ).loc Cert.Attention3Ideal.main_arg0)
      ∧ m' ((c.tc : Thread Cert.RefAttention3Ideal.nD Cert.RefAttention3Ideal.τ).loc Cert.RefAttention3Ideal.main_arg1) = m ((c.tc : Thread Cert.Attention3Ideal.nD Cert.Attention3Ideal.τ).loc Cert.Attention3Ideal.main_arg1)
      ∧ m' ((c.tc : Thread Cert.RefAttention3Ideal.nD Cert.RefAttention3Ideal.τ).loc Cert.RefAttention3Ideal.main_arg2) = m ((c.tc : Thread Cert.Attention3Ideal.nD Cert.Attention3Ideal.τ).loc Cert.Attention3Ideal.main_arg2)
      ∧ m' ((c.tc : Thread Cert.RefAttention3Ideal.nD Cert.RefAttention3Ideal.τ).loc Cert.RefAttention3Ideal.main_arg3) = m ((c.tc : Thread Cert.Attention3Ideal.nD Cert.Attention3Ideal.τ).loc Cert.Attention3Ideal.main_arg3)) →
    ∃ (v0 : (c : Dev Cert.Attention3Ideal.nD) → Buf (Elt Ideal) ((c.tc : Thread Cert.Attention3Ideal.nD Cert.Attention3Ideal.τ).loc Cert.Attention3Ideal.main_v2)),
      θ_run (Cert.Attention3Ideal.defs (F := Ideal)) (onTc (τ := Cert.Attention3Ideal.τ) (Cert.Attention3Ideal.main (F := Ideal))) ⟨m, fun _ => 0, g⟩ (fun r => ∀ c : Dev Cert.Attention3Ideal.nD,
          r.2.mem ((c.tc : Thread Cert.Attention3Ideal.nD Cert.Attention3Ideal.τ).loc Cert.Attention3Ideal.main_v2) = v0 c
          ∧ r.2.mem ((c.tc : Thread Cert.Attention3Ideal.nD Cert.Attention3Ideal.τ).loc Cert.Attention3Ideal.main_arg0) = m ((c.tc : Thread Cert.Attention3Ideal.nD Cert.Attention3Ideal.τ).loc Cert.Attention3Ideal.main_arg0)
          ∧ r.2.mem ((c.tc : Thread Cert.Attention3Ideal.nD Cert.Attention3Ideal.τ).loc Cert.Attention3Ideal.main_arg1) = m ((c.tc : Thread Cert.Attention3Ideal.nD Cert.Attention3Ideal.τ).loc Cert.Attention3Ideal.main_arg1)
          ∧ r.2.mem ((c.tc : Thread Cert.Attention3Ideal.nD Cert.Attention3Ideal.τ).loc Cert.Attention3Ideal.main_arg2) = m ((c.tc : Thread Cert.Attention3Ideal.nD Cert.Attention3Ideal.τ).loc Cert.Attention3Ideal.main_arg2)
          ∧ r.2.mem ((c.tc : Thread Cert.Attention3Ideal.nD Cert.Attention3Ideal.τ).loc Cert.Attention3Ideal.main_arg3) = m ((c.tc : Thread Cert.Attention3Ideal.nD Cert.Attention3Ideal.τ).loc Cert.Attention3Ideal.main_arg3))
      ∧ θ_run (Cert.RefAttention3Ideal.defs (F := Ideal)) (onTc (τ := Cert.RefAttention3Ideal.τ) (Cert.RefAttention3Ideal.main (F := Ideal))) ⟨m', fun _ => 0, g'⟩ (fun r => ∀ c : Dev Cert.RefAttention3Ideal.nD,
          r.2.mem ((c.tc : Thread Cert.RefAttention3Ideal.nD Cert.RefAttention3Ideal.τ).loc Cert.RefAttention3Ideal.main_v45) = v0 c
          ∧ r.2.mem ((c.tc : Thread Cert.RefAttention3Ideal.nD Cert.RefAttention3Ideal.τ).loc Cert.RefAttention3Ideal.main_arg0) = m' ((c.tc : Thread Cert.RefAttention3Ideal.nD Cert.RefAttention3Ideal.τ).loc Cert.RefAttention3Ideal.main_arg0)
          ∧ r.2.mem ((c.tc : Thread Cert.RefAttention3Ideal.nD Cert.RefAttention3Ideal.τ).loc Cert.RefAttention3Ideal.main_arg1) = m' ((c.tc : Thread Cert.RefAttention3Ideal.nD Cert.RefAttention3Ideal.τ).loc Cert.RefAttention3Ideal.main_arg1)
          ∧ r.2.mem ((c.tc : Thread Cert.RefAttention3Ideal.nD Cert.RefAttention3Ideal.τ).loc Cert.RefAttention3Ideal.main_arg2) = m' ((c.tc : Thread Cert.RefAttention3Ideal.nD Cert.RefAttention3Ideal.τ).loc Cert.RefAttention3Ideal.main_arg2)
          ∧ r.2.mem ((c.tc : Thread Cert.RefAttention3Ideal.nD Cert.RefAttention3Ideal.τ).loc Cert.RefAttention3Ideal.main_arg3) = m' ((c.tc : Thread Cert.RefAttention3Ideal.nD Cert.RefAttention3Ideal.τ).loc Cert.RefAttention3Ideal.main_arg3))

def preserves_Features0_Features0Ideal : Prop :=
  IdealRules.named_const.Statement Cert.Features0Ideal.κ "mask" .f32 0xF149F2CA#32 ⊥

def algebraic_Features0Ideal_RefFeatures0Ideal_pre_near0 [hFeatures0Ideal : Cert.Features0Ideal.Facts] [hRefFeatures0Ideal : Cert.RefFeatures0Ideal.Facts] [hPre_near0 : Cert.Pre_near0.Facts] : Prop :=
  ∀ (m : (ℓ : Loc Cert.Features0Ideal.nD Cert.Features0Ideal.τ Cert.Features0Ideal.sig) → Buf (Elt Ideal) ℓ) (g : Dev Cert.Features0Ideal.nD → PrngReg)
    (m' : (ℓ : Loc Cert.RefFeatures0Ideal.nD Cert.RefFeatures0Ideal.τ Cert.RefFeatures0Ideal.sig) → Buf (Elt Ideal) ℓ) (g' : Dev Cert.RefFeatures0Ideal.nD → PrngReg), Pre_Features0Ideal_near0 m →
    (∀ c : Dev Cert.Features0Ideal.nD,
      m' ((c.tc : Thread Cert.RefFeatures0Ideal.nD Cert.RefFeatures0Ideal.τ).loc Cert.RefFeatures0Ideal.main_arg0) = m ((c.tc : Thread Cert.Features0Ideal.nD Cert.Features0Ideal.τ).loc Cert.Features0Ideal.main_arg0)
      ∧ m' ((c.tc : Thread Cert.RefFeatures0Ideal.nD Cert.RefFeatures0Ideal.τ).loc Cert.RefFeatures0Ideal.main_arg1) = m ((c.tc : Thread Cert.Features0Ideal.nD Cert.Features0Ideal.τ).loc Cert.Features0Ideal.main_arg1)
      ∧ m' ((c.tc : Thread Cert.RefFeatures0Ideal.nD Cert.RefFeatures0Ideal.τ).loc Cert.RefFeatures0Ideal.main_arg2) = m ((c.tc : Thread Cert.Features0Ideal.nD Cert.Features0Ideal.τ).loc Cert.Features0Ideal.main_arg2)
      ∧ m' ((c.tc : Thread Cert.RefFeatures0Ideal.nD Cert.RefFeatures0Ideal.τ).loc Cert.RefFeatures0Ideal.main_arg3) = m ((c.tc : Thread Cert.Features0Ideal.nD Cert.Features0Ideal.τ).loc Cert.Features0Ideal.main_arg3)
      ∧ m' ((c.tc : Thread Cert.RefFeatures0Ideal.nD Cert.RefFeatures0Ideal.τ).loc Cert.RefFeatures0Ideal.main_arg4) = m ((c.tc : Thread Cert.Features0Ideal.nD Cert.Features0Ideal.τ).loc Cert.Features0Ideal.main_arg4)) →
    ∃ (v0 : (c : Dev Cert.Features0Ideal.nD) → Buf (Elt Ideal) ((c.tc : Thread Cert.Features0Ideal.nD Cert.Features0Ideal.τ).loc Cert.Features0Ideal.main_v4)),
      θ_run (Cert.Features0Ideal.defs (F := Ideal)) (onTc (τ := Cert.Features0Ideal.τ) (Cert.Features0Ideal.main (F := Ideal))) ⟨m, fun _ => 0, g⟩ (fun r => ∀ c : Dev Cert.Features0Ideal.nD,
          r.2.mem ((c.tc : Thread Cert.Features0Ideal.nD Cert.Features0Ideal.τ).loc Cert.Features0Ideal.main_v4) = v0 c
          ∧ r.2.mem ((c.tc : Thread Cert.Features0Ideal.nD Cert.Features0Ideal.τ).loc Cert.Features0Ideal.main_arg0) = m ((c.tc : Thread Cert.Features0Ideal.nD Cert.Features0Ideal.τ).loc Cert.Features0Ideal.main_arg0)
          ∧ r.2.mem ((c.tc : Thread Cert.Features0Ideal.nD Cert.Features0Ideal.τ).loc Cert.Features0Ideal.main_arg1) = m ((c.tc : Thread Cert.Features0Ideal.nD Cert.Features0Ideal.τ).loc Cert.Features0Ideal.main_arg1)
          ∧ r.2.mem ((c.tc : Thread Cert.Features0Ideal.nD Cert.Features0Ideal.τ).loc Cert.Features0Ideal.main_arg2) = m ((c.tc : Thread Cert.Features0Ideal.nD Cert.Features0Ideal.τ).loc Cert.Features0Ideal.main_arg2)
          ∧ r.2.mem ((c.tc : Thread Cert.Features0Ideal.nD Cert.Features0Ideal.τ).loc Cert.Features0Ideal.main_arg3) = m ((c.tc : Thread Cert.Features0Ideal.nD Cert.Features0Ideal.τ).loc Cert.Features0Ideal.main_arg3)
          ∧ r.2.mem ((c.tc : Thread Cert.Features0Ideal.nD Cert.Features0Ideal.τ).loc Cert.Features0Ideal.main_arg4) = m ((c.tc : Thread Cert.Features0Ideal.nD Cert.Features0Ideal.τ).loc Cert.Features0Ideal.main_arg4))
      ∧ θ_run (Cert.RefFeatures0Ideal.defs (F := Ideal)) (onTc (τ := Cert.RefFeatures0Ideal.τ) (Cert.RefFeatures0Ideal.main (F := Ideal))) ⟨m', fun _ => 0, g'⟩ (fun r => ∀ c : Dev Cert.RefFeatures0Ideal.nD,
          r.2.mem ((c.tc : Thread Cert.RefFeatures0Ideal.nD Cert.RefFeatures0Ideal.τ).loc Cert.RefFeatures0Ideal.main_v29) = v0 c
          ∧ r.2.mem ((c.tc : Thread Cert.RefFeatures0Ideal.nD Cert.RefFeatures0Ideal.τ).loc Cert.RefFeatures0Ideal.main_arg0) = m' ((c.tc : Thread Cert.RefFeatures0Ideal.nD Cert.RefFeatures0Ideal.τ).loc Cert.RefFeatures0Ideal.main_arg0)
          ∧ r.2.mem ((c.tc : Thread Cert.RefFeatures0Ideal.nD Cert.RefFeatures0Ideal.τ).loc Cert.RefFeatures0Ideal.main_arg1) = m' ((c.tc : Thread Cert.RefFeatures0Ideal.nD Cert.RefFeatures0Ideal.τ).loc Cert.RefFeatures0Ideal.main_arg1)
          ∧ r.2.mem ((c.tc : Thread Cert.RefFeatures0Ideal.nD Cert.RefFeatures0Ideal.τ).loc Cert.RefFeatures0Ideal.main_arg2) = m' ((c.tc : Thread Cert.RefFeatures0Ideal.nD Cert.RefFeatures0Ideal.τ).loc Cert.RefFeatures0Ideal.main_arg2)
          ∧ r.2.mem ((c.tc : Thread Cert.RefFeatures0Ideal.nD Cert.RefFeatures0Ideal.τ).loc Cert.RefFeatures0Ideal.main_arg3) = m' ((c.tc : Thread Cert.RefFeatures0Ideal.nD Cert.RefFeatures0Ideal.τ).loc Cert.RefFeatures0Ideal.main_arg3)
          ∧ r.2.mem ((c.tc : Thread Cert.RefFeatures0Ideal.nD Cert.RefFeatures0Ideal.τ).loc Cert.RefFeatures0Ideal.main_arg4) = m' ((c.tc : Thread Cert.RefFeatures0Ideal.nD Cert.RefFeatures0Ideal.τ).loc Cert.RefFeatures0Ideal.main_arg4))

def preserves_Features1_Features1Ideal : Prop :=
  IdealRules.named_const.Statement Cert.Features1Ideal.κ "mask" .f32 0xF149F2CA#32 ⊥

def algebraic_Features1Ideal_RefFeatures1Ideal_pre_near1 [hFeatures1Ideal : Cert.Features1Ideal.Facts] [hRefFeatures1Ideal : Cert.RefFeatures1Ideal.Facts] [hPre_near1 : Cert.Pre_near1.Facts] : Prop :=
  ∀ (m : (ℓ : Loc Cert.Features1Ideal.nD Cert.Features1Ideal.τ Cert.Features1Ideal.sig) → Buf (Elt Ideal) ℓ) (g : Dev Cert.Features1Ideal.nD → PrngReg)
    (m' : (ℓ : Loc Cert.RefFeatures1Ideal.nD Cert.RefFeatures1Ideal.τ Cert.RefFeatures1Ideal.sig) → Buf (Elt Ideal) ℓ) (g' : Dev Cert.RefFeatures1Ideal.nD → PrngReg), Pre_Features1Ideal_near1 m →
    (∀ c : Dev Cert.Features1Ideal.nD,
      m' ((c.tc : Thread Cert.RefFeatures1Ideal.nD Cert.RefFeatures1Ideal.τ).loc Cert.RefFeatures1Ideal.main_arg0) = m ((c.tc : Thread Cert.Features1Ideal.nD Cert.Features1Ideal.τ).loc Cert.Features1Ideal.main_arg0)
      ∧ m' ((c.tc : Thread Cert.RefFeatures1Ideal.nD Cert.RefFeatures1Ideal.τ).loc Cert.RefFeatures1Ideal.main_arg1) = m ((c.tc : Thread Cert.Features1Ideal.nD Cert.Features1Ideal.τ).loc Cert.Features1Ideal.main_arg1)
      ∧ m' ((c.tc : Thread Cert.RefFeatures1Ideal.nD Cert.RefFeatures1Ideal.τ).loc Cert.RefFeatures1Ideal.main_arg2) = m ((c.tc : Thread Cert.Features1Ideal.nD Cert.Features1Ideal.τ).loc Cert.Features1Ideal.main_arg2)
      ∧ m' ((c.tc : Thread Cert.RefFeatures1Ideal.nD Cert.RefFeatures1Ideal.τ).loc Cert.RefFeatures1Ideal.main_arg3) = m ((c.tc : Thread Cert.Features1Ideal.nD Cert.Features1Ideal.τ).loc Cert.Features1Ideal.main_arg3)
      ∧ m' ((c.tc : Thread Cert.RefFeatures1Ideal.nD Cert.RefFeatures1Ideal.τ).loc Cert.RefFeatures1Ideal.main_arg4) = m ((c.tc : Thread Cert.Features1Ideal.nD Cert.Features1Ideal.τ).loc Cert.Features1Ideal.main_arg4)) →
    ∃ (v0 : (c : Dev Cert.Features1Ideal.nD) → Buf (Elt Ideal) ((c.tc : Thread Cert.Features1Ideal.nD Cert.Features1Ideal.τ).loc Cert.Features1Ideal.main_v4)),
      θ_run (Cert.Features1Ideal.defs (F := Ideal)) (onTc (τ := Cert.Features1Ideal.τ) (Cert.Features1Ideal.main (F := Ideal))) ⟨m, fun _ => 0, g⟩ (fun r => ∀ c : Dev Cert.Features1Ideal.nD,
          r.2.mem ((c.tc : Thread Cert.Features1Ideal.nD Cert.Features1Ideal.τ).loc Cert.Features1Ideal.main_v4) = v0 c
          ∧ r.2.mem ((c.tc : Thread Cert.Features1Ideal.nD Cert.Features1Ideal.τ).loc Cert.Features1Ideal.main_arg0) = m ((c.tc : Thread Cert.Features1Ideal.nD Cert.Features1Ideal.τ).loc Cert.Features1Ideal.main_arg0)
          ∧ r.2.mem ((c.tc : Thread Cert.Features1Ideal.nD Cert.Features1Ideal.τ).loc Cert.Features1Ideal.main_arg1) = m ((c.tc : Thread Cert.Features1Ideal.nD Cert.Features1Ideal.τ).loc Cert.Features1Ideal.main_arg1)
          ∧ r.2.mem ((c.tc : Thread Cert.Features1Ideal.nD Cert.Features1Ideal.τ).loc Cert.Features1Ideal.main_arg2) = m ((c.tc : Thread Cert.Features1Ideal.nD Cert.Features1Ideal.τ).loc Cert.Features1Ideal.main_arg2)
          ∧ r.2.mem ((c.tc : Thread Cert.Features1Ideal.nD Cert.Features1Ideal.τ).loc Cert.Features1Ideal.main_arg3) = m ((c.tc : Thread Cert.Features1Ideal.nD Cert.Features1Ideal.τ).loc Cert.Features1Ideal.main_arg3)
          ∧ r.2.mem ((c.tc : Thread Cert.Features1Ideal.nD Cert.Features1Ideal.τ).loc Cert.Features1Ideal.main_arg4) = m ((c.tc : Thread Cert.Features1Ideal.nD Cert.Features1Ideal.τ).loc Cert.Features1Ideal.main_arg4))
      ∧ θ_run (Cert.RefFeatures1Ideal.defs (F := Ideal)) (onTc (τ := Cert.RefFeatures1Ideal.τ) (Cert.RefFeatures1Ideal.main (F := Ideal))) ⟨m', fun _ => 0, g'⟩ (fun r => ∀ c : Dev Cert.RefFeatures1Ideal.nD,
          r.2.mem ((c.tc : Thread Cert.RefFeatures1Ideal.nD Cert.RefFeatures1Ideal.τ).loc Cert.RefFeatures1Ideal.main_v29) = v0 c
          ∧ r.2.mem ((c.tc : Thread Cert.RefFeatures1Ideal.nD Cert.RefFeatures1Ideal.τ).loc Cert.RefFeatures1Ideal.main_arg0) = m' ((c.tc : Thread Cert.RefFeatures1Ideal.nD Cert.RefFeatures1Ideal.τ).loc Cert.RefFeatures1Ideal.main_arg0)
          ∧ r.2.mem ((c.tc : Thread Cert.RefFeatures1Ideal.nD Cert.RefFeatures1Ideal.τ).loc Cert.RefFeatures1Ideal.main_arg1) = m' ((c.tc : Thread Cert.RefFeatures1Ideal.nD Cert.RefFeatures1Ideal.τ).loc Cert.RefFeatures1Ideal.main_arg1)
          ∧ r.2.mem ((c.tc : Thread Cert.RefFeatures1Ideal.nD Cert.RefFeatures1Ideal.τ).loc Cert.RefFeatures1Ideal.main_arg2) = m' ((c.tc : Thread Cert.RefFeatures1Ideal.nD Cert.RefFeatures1Ideal.τ).loc Cert.RefFeatures1Ideal.main_arg2)
          ∧ r.2.mem ((c.tc : Thread Cert.RefFeatures1Ideal.nD Cert.RefFeatures1Ideal.τ).loc Cert.RefFeatures1Ideal.main_arg3) = m' ((c.tc : Thread Cert.RefFeatures1Ideal.nD Cert.RefFeatures1Ideal.τ).loc Cert.RefFeatures1Ideal.main_arg3)
          ∧ r.2.mem ((c.tc : Thread Cert.RefFeatures1Ideal.nD Cert.RefFeatures1Ideal.τ).loc Cert.RefFeatures1Ideal.main_arg4) = m' ((c.tc : Thread Cert.RefFeatures1Ideal.nD Cert.RefFeatures1Ideal.τ).loc Cert.RefFeatures1Ideal.main_arg4))

def preserves_Features2_Features2Ideal : Prop :=
  IdealRules.named_const.Statement Cert.Features2Ideal.κ "mask" .f32 0xF149F2CA#32 ⊥

def algebraic_Features2Ideal_RefFeatures2Ideal_pre_near2 [hFeatures2Ideal : Cert.Features2Ideal.Facts] [hRefFeatures2Ideal : Cert.RefFeatures2Ideal.Facts] [hPre_near2 : Cert.Pre_near2.Facts] : Prop :=
  ∀ (m : (ℓ : Loc Cert.Features2Ideal.nD Cert.Features2Ideal.τ Cert.Features2Ideal.sig) → Buf (Elt Ideal) ℓ) (g : Dev Cert.Features2Ideal.nD → PrngReg)
    (m' : (ℓ : Loc Cert.RefFeatures2Ideal.nD Cert.RefFeatures2Ideal.τ Cert.RefFeatures2Ideal.sig) → Buf (Elt Ideal) ℓ) (g' : Dev Cert.RefFeatures2Ideal.nD → PrngReg), Pre_Features2Ideal_near2 m →
    (∀ c : Dev Cert.Features2Ideal.nD,
      m' ((c.tc : Thread Cert.RefFeatures2Ideal.nD Cert.RefFeatures2Ideal.τ).loc Cert.RefFeatures2Ideal.main_arg0) = m ((c.tc : Thread Cert.Features2Ideal.nD Cert.Features2Ideal.τ).loc Cert.Features2Ideal.main_arg0)
      ∧ m' ((c.tc : Thread Cert.RefFeatures2Ideal.nD Cert.RefFeatures2Ideal.τ).loc Cert.RefFeatures2Ideal.main_arg1) = m ((c.tc : Thread Cert.Features2Ideal.nD Cert.Features2Ideal.τ).loc Cert.Features2Ideal.main_arg1)
      ∧ m' ((c.tc : Thread Cert.RefFeatures2Ideal.nD Cert.RefFeatures2Ideal.τ).loc Cert.RefFeatures2Ideal.main_arg2) = m ((c.tc : Thread Cert.Features2Ideal.nD Cert.Features2Ideal.τ).loc Cert.Features2Ideal.main_arg2)
      ∧ m' ((c.tc : Thread Cert.RefFeatures2Ideal.nD Cert.RefFeatures2Ideal.τ).loc Cert.RefFeatures2Ideal.main_arg3) = m ((c.tc : Thread Cert.Features2Ideal.nD Cert.Features2Ideal.τ).loc Cert.Features2Ideal.main_arg3)
      ∧ m' ((c.tc : Thread Cert.RefFeatures2Ideal.nD Cert.RefFeatures2Ideal.τ).loc Cert.RefFeatures2Ideal.main_arg4) = m ((c.tc : Thread Cert.Features2Ideal.nD Cert.Features2Ideal.τ).loc Cert.Features2Ideal.main_arg4)) →
    ∃ (v0 : (c : Dev Cert.Features2Ideal.nD) → Buf (Elt Ideal) ((c.tc : Thread Cert.Features2Ideal.nD Cert.Features2Ideal.τ).loc Cert.Features2Ideal.main_v4)),
      θ_run (Cert.Features2Ideal.defs (F := Ideal)) (onTc (τ := Cert.Features2Ideal.τ) (Cert.Features2Ideal.main (F := Ideal))) ⟨m, fun _ => 0, g⟩ (fun r => ∀ c : Dev Cert.Features2Ideal.nD,
          r.2.mem ((c.tc : Thread Cert.Features2Ideal.nD Cert.Features2Ideal.τ).loc Cert.Features2Ideal.main_v4) = v0 c
          ∧ r.2.mem ((c.tc : Thread Cert.Features2Ideal.nD Cert.Features2Ideal.τ).loc Cert.Features2Ideal.main_arg0) = m ((c.tc : Thread Cert.Features2Ideal.nD Cert.Features2Ideal.τ).loc Cert.Features2Ideal.main_arg0)
          ∧ r.2.mem ((c.tc : Thread Cert.Features2Ideal.nD Cert.Features2Ideal.τ).loc Cert.Features2Ideal.main_arg1) = m ((c.tc : Thread Cert.Features2Ideal.nD Cert.Features2Ideal.τ).loc Cert.Features2Ideal.main_arg1)
          ∧ r.2.mem ((c.tc : Thread Cert.Features2Ideal.nD Cert.Features2Ideal.τ).loc Cert.Features2Ideal.main_arg2) = m ((c.tc : Thread Cert.Features2Ideal.nD Cert.Features2Ideal.τ).loc Cert.Features2Ideal.main_arg2)
          ∧ r.2.mem ((c.tc : Thread Cert.Features2Ideal.nD Cert.Features2Ideal.τ).loc Cert.Features2Ideal.main_arg3) = m ((c.tc : Thread Cert.Features2Ideal.nD Cert.Features2Ideal.τ).loc Cert.Features2Ideal.main_arg3)
          ∧ r.2.mem ((c.tc : Thread Cert.Features2Ideal.nD Cert.Features2Ideal.τ).loc Cert.Features2Ideal.main_arg4) = m ((c.tc : Thread Cert.Features2Ideal.nD Cert.Features2Ideal.τ).loc Cert.Features2Ideal.main_arg4))
      ∧ θ_run (Cert.RefFeatures2Ideal.defs (F := Ideal)) (onTc (τ := Cert.RefFeatures2Ideal.τ) (Cert.RefFeatures2Ideal.main (F := Ideal))) ⟨m', fun _ => 0, g'⟩ (fun r => ∀ c : Dev Cert.RefFeatures2Ideal.nD,
          r.2.mem ((c.tc : Thread Cert.RefFeatures2Ideal.nD Cert.RefFeatures2Ideal.τ).loc Cert.RefFeatures2Ideal.main_v29) = v0 c
          ∧ r.2.mem ((c.tc : Thread Cert.RefFeatures2Ideal.nD Cert.RefFeatures2Ideal.τ).loc Cert.RefFeatures2Ideal.main_arg0) = m' ((c.tc : Thread Cert.RefFeatures2Ideal.nD Cert.RefFeatures2Ideal.τ).loc Cert.RefFeatures2Ideal.main_arg0)
          ∧ r.2.mem ((c.tc : Thread Cert.RefFeatures2Ideal.nD Cert.RefFeatures2Ideal.τ).loc Cert.RefFeatures2Ideal.main_arg1) = m' ((c.tc : Thread Cert.RefFeatures2Ideal.nD Cert.RefFeatures2Ideal.τ).loc Cert.RefFeatures2Ideal.main_arg1)
          ∧ r.2.mem ((c.tc : Thread Cert.RefFeatures2Ideal.nD Cert.RefFeatures2Ideal.τ).loc Cert.RefFeatures2Ideal.main_arg2) = m' ((c.tc : Thread Cert.RefFeatures2Ideal.nD Cert.RefFeatures2Ideal.τ).loc Cert.RefFeatures2Ideal.main_arg2)
          ∧ r.2.mem ((c.tc : Thread Cert.RefFeatures2Ideal.nD Cert.RefFeatures2Ideal.τ).loc Cert.RefFeatures2Ideal.main_arg3) = m' ((c.tc : Thread Cert.RefFeatures2Ideal.nD Cert.RefFeatures2Ideal.τ).loc Cert.RefFeatures2Ideal.main_arg3)
          ∧ r.2.mem ((c.tc : Thread Cert.RefFeatures2Ideal.nD Cert.RefFeatures2Ideal.τ).loc Cert.RefFeatures2Ideal.main_arg4) = m' ((c.tc : Thread Cert.RefFeatures2Ideal.nD Cert.RefFeatures2Ideal.τ).loc Cert.RefFeatures2Ideal.main_arg4))

def preserves_Sample0_Sample0Ideal : Prop :=
  True

def algebraic_Sample0Ideal_RefSample0Ideal [hSample0Ideal : Cert.Sample0Ideal.Facts] [hRefSample0Ideal : Cert.RefSample0Ideal.Facts] : Prop :=
  ∀ (m : (ℓ : Loc Cert.Sample0Ideal.nD Cert.Sample0Ideal.τ Cert.Sample0Ideal.sig) → Buf (Elt Ideal) ℓ) (g : Dev Cert.Sample0Ideal.nD → PrngReg)
    (m' : (ℓ : Loc Cert.RefSample0Ideal.nD Cert.RefSample0Ideal.τ Cert.RefSample0Ideal.sig) → Buf (Elt Ideal) ℓ) (g' : Dev Cert.RefSample0Ideal.nD → PrngReg), Pre_Sample0Ideal m →
    (∀ c : Dev Cert.Sample0Ideal.nD,
      m' ((c.tc : Thread Cert.RefSample0Ideal.nD Cert.RefSample0Ideal.τ).loc Cert.RefSample0Ideal.main_arg0) = m ((c.tc : Thread Cert.Sample0Ideal.nD Cert.Sample0Ideal.τ).loc Cert.Sample0Ideal.main_arg0)) →
    ∃ (v0 : (c : Dev Cert.Sample0Ideal.nD) → Buf (Elt Ideal) ((c.tc : Thread Cert.Sample0Ideal.nD Cert.Sample0Ideal.τ).loc Cert.Sample0Ideal.main_v2)),
      θ_run (Cert.Sample0Ideal.defs (F := Ideal)) (onTc (τ := Cert.Sample0Ideal.τ) (Cert.Sample0Ideal.main (F := Ideal))) ⟨m, fun _ => 0, g⟩ (fun r => ∀ c : Dev Cert.Sample0Ideal.nD,
          r.2.mem ((c.tc : Thread Cert.Sample0Ideal.nD Cert.Sample0Ideal.τ).loc Cert.Sample0Ideal.main_v2) = v0 c
          ∧ r.2.mem ((c.tc : Thread Cert.Sample0Ideal.nD Cert.Sample0Ideal.τ).loc Cert.Sample0Ideal.main_arg0) = m ((c.tc : Thread Cert.Sample0Ideal.nD Cert.Sample0Ideal.τ).loc Cert.Sample0Ideal.main_arg0))
      ∧ θ_run (Cert.RefSample0Ideal.defs (F := Ideal)) (onTc (τ := Cert.RefSample0Ideal.τ) (Cert.RefSample0Ideal.main (F := Ideal))) ⟨m', fun _ => 0, g'⟩ (fun r => ∀ c : Dev Cert.RefSample0Ideal.nD,
          r.2.mem ((c.tc : Thread Cert.RefSample0Ideal.nD Cert.RefSample0Ideal.τ).loc Cert.RefSample0Ideal.main_v7) = v0 c
          ∧ r.2.mem ((c.tc : Thread Cert.RefSample0Ideal.nD Cert.RefSample0Ideal.τ).loc Cert.RefSample0Ideal.main_arg0) = m' ((c.tc : Thread Cert.RefSample0Ideal.nD Cert.RefSample0Ideal.τ).loc Cert.RefSample0Ideal.main_arg0))

def preserves_Sample1_Sample1Ideal : Prop :=
  True

def algebraic_Sample1Ideal_RefSample1Ideal [hSample1Ideal : Cert.Sample1Ideal.Facts] [hRefSample1Ideal : Cert.RefSample1Ideal.Facts] : Prop :=
  ∀ (m : (ℓ : Loc Cert.Sample1Ideal.nD Cert.Sample1Ideal.τ Cert.Sample1Ideal.sig) → Buf (Elt Ideal) ℓ) (g : Dev Cert.Sample1Ideal.nD → PrngReg)
    (m' : (ℓ : Loc Cert.RefSample1Ideal.nD Cert.RefSample1Ideal.τ Cert.RefSample1Ideal.sig) → Buf (Elt Ideal) ℓ) (g' : Dev Cert.RefSample1Ideal.nD → PrngReg), Pre_Sample1Ideal m →
    (∀ c : Dev Cert.Sample1Ideal.nD,
      m' ((c.tc : Thread Cert.RefSample1Ideal.nD Cert.RefSample1Ideal.τ).loc Cert.RefSample1Ideal.main_arg0) = m ((c.tc : Thread Cert.Sample1Ideal.nD Cert.Sample1Ideal.τ).loc Cert.Sample1Ideal.main_arg0)) →
    ∃ (v0 : (c : Dev Cert.Sample1Ideal.nD) → Buf (Elt Ideal) ((c.tc : Thread Cert.Sample1Ideal.nD Cert.Sample1Ideal.τ).loc Cert.Sample1Ideal.main_v2)),
      θ_run (Cert.Sample1Ideal.defs (F := Ideal)) (onTc (τ := Cert.Sample1Ideal.τ) (Cert.Sample1Ideal.main (F := Ideal))) ⟨m, fun _ => 0, g⟩ (fun r => ∀ c : Dev Cert.Sample1Ideal.nD,
          r.2.mem ((c.tc : Thread Cert.Sample1Ideal.nD Cert.Sample1Ideal.τ).loc Cert.Sample1Ideal.main_v2) = v0 c
          ∧ r.2.mem ((c.tc : Thread Cert.Sample1Ideal.nD Cert.Sample1Ideal.τ).loc Cert.Sample1Ideal.main_arg0) = m ((c.tc : Thread Cert.Sample1Ideal.nD Cert.Sample1Ideal.τ).loc Cert.Sample1Ideal.main_arg0))
      ∧ θ_run (Cert.RefSample1Ideal.defs (F := Ideal)) (onTc (τ := Cert.RefSample1Ideal.τ) (Cert.RefSample1Ideal.main (F := Ideal))) ⟨m', fun _ => 0, g'⟩ (fun r => ∀ c : Dev Cert.RefSample1Ideal.nD,
          r.2.mem ((c.tc : Thread Cert.RefSample1Ideal.nD Cert.RefSample1Ideal.τ).loc Cert.RefSample1Ideal.main_v7) = v0 c
          ∧ r.2.mem ((c.tc : Thread Cert.RefSample1Ideal.nD Cert.RefSample1Ideal.τ).loc Cert.RefSample1Ideal.main_arg0) = m' ((c.tc : Thread Cert.RefSample1Ideal.nD Cert.RefSample1Ideal.τ).loc Cert.RefSample1Ideal.main_arg0))

def preserves_Sample2_Sample2Ideal : Prop :=
  True

def algebraic_Sample2Ideal_RefSample2Ideal [hSample2Ideal : Cert.Sample2Ideal.Facts] [hRefSample2Ideal : Cert.RefSample2Ideal.Facts] : Prop :=
  ∀ (m : (ℓ : Loc Cert.Sample2Ideal.nD Cert.Sample2Ideal.τ Cert.Sample2Ideal.sig) → Buf (Elt Ideal) ℓ) (g : Dev Cert.Sample2Ideal.nD → PrngReg)
    (m' : (ℓ : Loc Cert.RefSample2Ideal.nD Cert.RefSample2Ideal.τ Cert.RefSample2Ideal.sig) → Buf (Elt Ideal) ℓ) (g' : Dev Cert.RefSample2Ideal.nD → PrngReg), Pre_Sample2Ideal m →
    (∀ c : Dev Cert.Sample2Ideal.nD,
      m' ((c.tc : Thread Cert.RefSample2Ideal.nD Cert.RefSample2Ideal.τ).loc Cert.RefSample2Ideal.main_arg0) = m ((c.tc : Thread Cert.Sample2Ideal.nD Cert.Sample2Ideal.τ).loc Cert.Sample2Ideal.main_arg0)) →
    ∃ (v0 : (c : Dev Cert.Sample2Ideal.nD) → Buf (Elt Ideal) ((c.tc : Thread Cert.Sample2Ideal.nD Cert.Sample2Ideal.τ).loc Cert.Sample2Ideal.main_v2)),
      θ_run (Cert.Sample2Ideal.defs (F := Ideal)) (onTc (τ := Cert.Sample2Ideal.τ) (Cert.Sample2Ideal.main (F := Ideal))) ⟨m, fun _ => 0, g⟩ (fun r => ∀ c : Dev Cert.Sample2Ideal.nD,
          r.2.mem ((c.tc : Thread Cert.Sample2Ideal.nD Cert.Sample2Ideal.τ).loc Cert.Sample2Ideal.main_v2) = v0 c
          ∧ r.2.mem ((c.tc : Thread Cert.Sample2Ideal.nD Cert.Sample2Ideal.τ).loc Cert.Sample2Ideal.main_arg0) = m ((c.tc : Thread Cert.Sample2Ideal.nD Cert.Sample2Ideal.τ).loc Cert.Sample2Ideal.main_arg0))
      ∧ θ_run (Cert.RefSample2Ideal.defs (F := Ideal)) (onTc (τ := Cert.RefSample2Ideal.τ) (Cert.RefSample2Ideal.main (F := Ideal))) ⟨m', fun _ => 0, g'⟩ (fun r => ∀ c : Dev Cert.RefSample2Ideal.nD,
          r.2.mem ((c.tc : Thread Cert.RefSample2Ideal.nD Cert.RefSample2Ideal.τ).loc Cert.RefSample2Ideal.main_v7) = v0 c
          ∧ r.2.mem ((c.tc : Thread Cert.RefSample2Ideal.nD Cert.RefSample2Ideal.τ).loc Cert.RefSample2Ideal.main_arg0) = m' ((c.tc : Thread Cert.RefSample2Ideal.nD Cert.RefSample2Ideal.τ).loc Cert.RefSample2Ideal.main_arg0))

def preserves_Linear_LinearIdeal : Prop :=
  True

def algebraic_LinearIdeal_RefLinearIdeal [hLinearIdeal : Cert.LinearIdeal.Facts] [hRefLinearIdeal : Cert.RefLinearIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.RefLinearIdeal.nD Cert.RefLinearIdeal.τ Cert.RefLinearIdeal.sig) → Buf (Elt Ideal) ℓ) (g' : Dev Cert.RefLinearIdeal.nD → PrngReg), Pre_LinearIdeal m →
    (∀ c : Dev Cert.LinearIdeal.nD,
      m' ((c.tc : Thread Cert.RefLinearIdeal.nD Cert.RefLinearIdeal.τ).loc Cert.RefLinearIdeal.main_arg0) = m ((c.tc : Thread Cert.LinearIdeal.nD Cert.LinearIdeal.τ).loc Cert.LinearIdeal.main_arg0)
      ∧ m' ((c.tc : Thread Cert.RefLinearIdeal.nD Cert.RefLinearIdeal.τ).loc Cert.RefLinearIdeal.main_arg1) = m ((c.tc : Thread Cert.LinearIdeal.nD Cert.LinearIdeal.τ).loc Cert.LinearIdeal.main_arg1)
      ∧ m' ((c.tc : Thread Cert.RefLinearIdeal.nD Cert.RefLinearIdeal.τ).loc Cert.RefLinearIdeal.main_arg2) = m ((c.tc : Thread Cert.LinearIdeal.nD Cert.LinearIdeal.τ).loc Cert.LinearIdeal.main_arg2)) →
    ∃ (v0 : (c : Dev Cert.LinearIdeal.nD) → Buf (Elt Ideal) ((c.tc : Thread Cert.LinearIdeal.nD Cert.LinearIdeal.τ).loc Cert.LinearIdeal.main_v2)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v2) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2))
      ∧ θ_run (Cert.RefLinearIdeal.defs (F := Ideal)) (onTc (τ := Cert.RefLinearIdeal.τ) (Cert.RefLinearIdeal.main (F := Ideal))) ⟨m', fun _ => 0, g'⟩ (fun r => ∀ c : Dev Cert.RefLinearIdeal.nD,
          r.2.mem ((c.tc : Thread Cert.RefLinearIdeal.nD Cert.RefLinearIdeal.τ).loc Cert.RefLinearIdeal.main_v4) = v0 c
          ∧ r.2.mem ((c.tc : Thread Cert.RefLinearIdeal.nD Cert.RefLinearIdeal.τ).loc Cert.RefLinearIdeal.main_arg0) = m' ((c.tc : Thread Cert.RefLinearIdeal.nD Cert.RefLinearIdeal.τ).loc Cert.RefLinearIdeal.main_arg0)
          ∧ r.2.mem ((c.tc : Thread Cert.RefLinearIdeal.nD Cert.RefLinearIdeal.τ).loc Cert.RefLinearIdeal.main_arg1) = m' ((c.tc : Thread Cert.RefLinearIdeal.nD Cert.RefLinearIdeal.τ).loc Cert.RefLinearIdeal.main_arg1)
          ∧ r.2.mem ((c.tc : Thread Cert.RefLinearIdeal.nD Cert.RefLinearIdeal.τ).loc Cert.RefLinearIdeal.main_arg2) = m' ((c.tc : Thread Cert.RefLinearIdeal.nD Cert.RefLinearIdeal.τ).loc Cert.RefLinearIdeal.main_arg2))

def Claim : Prop :=
  ∃ (hAttention0 : Cert.Attention0.Facts) (hAttention0Ideal : Cert.Attention0Ideal.Facts) (hRefAttention0Ideal : Cert.RefAttention0Ideal.Facts) (hAttention1 : Cert.Attention1.Facts) (hAttention1Ideal : Cert.Attention1Ideal.Facts) (hRefAttention1Ideal : Cert.RefAttention1Ideal.Facts) (hAttention2 : Cert.Attention2.Facts) (hAttention2Ideal : Cert.Attention2Ideal.Facts) (hRefAttention2Ideal : Cert.RefAttention2Ideal.Facts) (hAttention3 : Cert.Attention3.Facts) (hAttention3Ideal : Cert.Attention3Ideal.Facts) (hRefAttention3Ideal : Cert.RefAttention3Ideal.Facts) (hFeatures0 : Cert.Features0.Facts) (hFeatures0Ideal : Cert.Features0Ideal.Facts) (hRefFeatures0Ideal : Cert.RefFeatures0Ideal.Facts) (hFeatures1 : Cert.Features1.Facts) (hFeatures1Ideal : Cert.Features1Ideal.Facts) (hRefFeatures1Ideal : Cert.RefFeatures1Ideal.Facts) (hFeatures2 : Cert.Features2.Facts) (hFeatures2Ideal : Cert.Features2Ideal.Facts) (hRefFeatures2Ideal : Cert.RefFeatures2Ideal.Facts) (hSample0 : Cert.Sample0.Facts) (hSample0Ideal : Cert.Sample0Ideal.Facts) (hRefSample0Ideal : Cert.RefSample0Ideal.Facts) (hSample1 : Cert.Sample1.Facts) (hSample1Ideal : Cert.Sample1Ideal.Facts) (hRefSample1Ideal : Cert.RefSample1Ideal.Facts) (hSample2 : Cert.Sample2.Facts) (hSample2Ideal : Cert.Sample2Ideal.Facts) (hRefSample2Ideal : Cert.RefSample2Ideal.Facts) (hLinear : Cert.Linear.Facts) (hLinearIdeal : Cert.LinearIdeal.Facts) (hRefLinearIdeal : Cert.RefLinearIdeal.Facts) (hPre_apart0 : Cert.Pre_apart0.Facts) (hPre_apart1 : Cert.Pre_apart1.Facts) (hPre_apart2 : Cert.Pre_apart2.Facts) (hPre_apart3 : Cert.Pre_apart3.Facts) (hPre_near0 : Cert.Pre_near0.Facts) (hPre_near1 : Cert.Pre_near1.Facts) (hPre_near2 : Cert.Pre_near2.Facts),
    quiescent_Attention0 (hAttention0 := hAttention0)
    ∧ quiescent_Attention0Ideal (hAttention0Ideal := hAttention0Ideal)
    ∧ quiescent_Attention0Ideal_pre_apart0 (hAttention0Ideal := hAttention0Ideal) (hPre_apart0 := hPre_apart0)
    ∧ quiescent_RefAttention0Ideal (hRefAttention0Ideal := hRefAttention0Ideal)
    ∧ quiescent_RefAttention0Ideal_pre_apart0 (hRefAttention0Ideal := hRefAttention0Ideal) (hPre_apart0 := hPre_apart0)
    ∧ quiescent_Attention1 (hAttention1 := hAttention1)
    ∧ quiescent_Attention1Ideal (hAttention1Ideal := hAttention1Ideal)
    ∧ quiescent_Attention1Ideal_pre_apart1 (hAttention1Ideal := hAttention1Ideal) (hPre_apart1 := hPre_apart1)
    ∧ quiescent_RefAttention1Ideal (hRefAttention1Ideal := hRefAttention1Ideal)
    ∧ quiescent_RefAttention1Ideal_pre_apart1 (hRefAttention1Ideal := hRefAttention1Ideal) (hPre_apart1 := hPre_apart1)
    ∧ quiescent_Attention2 (hAttention2 := hAttention2)
    ∧ quiescent_Attention2Ideal (hAttention2Ideal := hAttention2Ideal)
    ∧ quiescent_Attention2Ideal_pre_apart2 (hAttention2Ideal := hAttention2Ideal) (hPre_apart2 := hPre_apart2)
    ∧ quiescent_RefAttention2Ideal (hRefAttention2Ideal := hRefAttention2Ideal)
    ∧ quiescent_RefAttention2Ideal_pre_apart2 (hRefAttention2Ideal := hRefAttention2Ideal) (hPre_apart2 := hPre_apart2)
    ∧ quiescent_Attention3 (hAttention3 := hAttention3)
    ∧ quiescent_Attention3Ideal (hAttention3Ideal := hAttention3Ideal)
    ∧ quiescent_Attention3Ideal_pre_apart3 (hAttention3Ideal := hAttention3Ideal) (hPre_apart3 := hPre_apart3)
    ∧ quiescent_RefAttention3Ideal (hRefAttention3Ideal := hRefAttention3Ideal)
    ∧ quiescent_RefAttention3Ideal_pre_apart3 (hRefAttention3Ideal := hRefAttention3Ideal) (hPre_apart3 := hPre_apart3)
    ∧ quiescent_Features0 (hFeatures0 := hFeatures0)
    ∧ quiescent_Features0Ideal (hFeatures0Ideal := hFeatures0Ideal)
    ∧ quiescent_Features0Ideal_pre_near0 (hFeatures0Ideal := hFeatures0Ideal) (hPre_near0 := hPre_near0)
    ∧ quiescent_RefFeatures0Ideal (hRefFeatures0Ideal := hRefFeatures0Ideal)
    ∧ quiescent_RefFeatures0Ideal_pre_near0 (hRefFeatures0Ideal := hRefFeatures0Ideal) (hPre_near0 := hPre_near0)
    ∧ quiescent_Features1 (hFeatures1 := hFeatures1)
    ∧ quiescent_Features1Ideal (hFeatures1Ideal := hFeatures1Ideal)
    ∧ quiescent_Features1Ideal_pre_near1 (hFeatures1Ideal := hFeatures1Ideal) (hPre_near1 := hPre_near1)
    ∧ quiescent_RefFeatures1Ideal (hRefFeatures1Ideal := hRefFeatures1Ideal)
    ∧ quiescent_RefFeatures1Ideal_pre_near1 (hRefFeatures1Ideal := hRefFeatures1Ideal) (hPre_near1 := hPre_near1)
    ∧ quiescent_Features2 (hFeatures2 := hFeatures2)
    ∧ quiescent_Features2Ideal (hFeatures2Ideal := hFeatures2Ideal)
    ∧ quiescent_Features2Ideal_pre_near2 (hFeatures2Ideal := hFeatures2Ideal) (hPre_near2 := hPre_near2)
    ∧ quiescent_RefFeatures2Ideal (hRefFeatures2Ideal := hRefFeatures2Ideal)
    ∧ quiescent_RefFeatures2Ideal_pre_near2 (hRefFeatures2Ideal := hRefFeatures2Ideal) (hPre_near2 := hPre_near2)
    ∧ quiescent_Sample0 (hSample0 := hSample0)
    ∧ quiescent_Sample0Ideal (hSample0Ideal := hSample0Ideal)
    ∧ quiescent_RefSample0Ideal (hRefSample0Ideal := hRefSample0Ideal)
    ∧ quiescent_Sample1 (hSample1 := hSample1)
    ∧ quiescent_Sample1Ideal (hSample1Ideal := hSample1Ideal)
    ∧ quiescent_RefSample1Ideal (hRefSample1Ideal := hRefSample1Ideal)
    ∧ quiescent_Sample2 (hSample2 := hSample2)
    ∧ quiescent_Sample2Ideal (hSample2Ideal := hSample2Ideal)
    ∧ quiescent_RefSample2Ideal (hRefSample2Ideal := hRefSample2Ideal)
    ∧ quiescent_Linear (hLinear := hLinear)
    ∧ quiescent_LinearIdeal (hLinearIdeal := hLinearIdeal)
    ∧ quiescent_RefLinearIdeal (hRefLinearIdeal := hRefLinearIdeal)
    ∧ preserves_Attention0_Attention0Ideal
    ∧ algebraic_Attention0Ideal_RefAttention0Ideal_pre_apart0 (hAttention0Ideal := hAttention0Ideal) (hRefAttention0Ideal := hRefAttention0Ideal) (hPre_apart0 := hPre_apart0)
    ∧ preserves_Attention1_Attention1Ideal
    ∧ algebraic_Attention1Ideal_RefAttention1Ideal_pre_apart1 (hAttention1Ideal := hAttention1Ideal) (hRefAttention1Ideal := hRefAttention1Ideal) (hPre_apart1 := hPre_apart1)
    ∧ preserves_Attention2_Attention2Ideal
    ∧ algebraic_Attention2Ideal_RefAttention2Ideal_pre_apart2 (hAttention2Ideal := hAttention2Ideal) (hRefAttention2Ideal := hRefAttention2Ideal) (hPre_apart2 := hPre_apart2)
    ∧ preserves_Attention3_Attention3Ideal
    ∧ algebraic_Attention3Ideal_RefAttention3Ideal_pre_apart3 (hAttention3Ideal := hAttention3Ideal) (hRefAttention3Ideal := hRefAttention3Ideal) (hPre_apart3 := hPre_apart3)
    ∧ preserves_Features0_Features0Ideal
    ∧ algebraic_Features0Ideal_RefFeatures0Ideal_pre_near0 (hFeatures0Ideal := hFeatures0Ideal) (hRefFeatures0Ideal := hRefFeatures0Ideal) (hPre_near0 := hPre_near0)
    ∧ preserves_Features1_Features1Ideal
    ∧ algebraic_Features1Ideal_RefFeatures1Ideal_pre_near1 (hFeatures1Ideal := hFeatures1Ideal) (hRefFeatures1Ideal := hRefFeatures1Ideal) (hPre_near1 := hPre_near1)
    ∧ preserves_Features2_Features2Ideal
    ∧ algebraic_Features2Ideal_RefFeatures2Ideal_pre_near2 (hFeatures2Ideal := hFeatures2Ideal) (hRefFeatures2Ideal := hRefFeatures2Ideal) (hPre_near2 := hPre_near2)
    ∧ preserves_Sample0_Sample0Ideal
    ∧ algebraic_Sample0Ideal_RefSample0Ideal (hSample0Ideal := hSample0Ideal) (hRefSample0Ideal := hRefSample0Ideal)
    ∧ preserves_Sample1_Sample1Ideal
    ∧ algebraic_Sample1Ideal_RefSample1Ideal (hSample1Ideal := hSample1Ideal) (hRefSample1Ideal := hRefSample1Ideal)
    ∧ preserves_Sample2_Sample2Ideal
    ∧ algebraic_Sample2Ideal_RefSample2Ideal (hSample2Ideal := hSample2Ideal) (hRefSample2Ideal := hRefSample2Ideal)
    ∧ preserves_Linear_LinearIdeal
    ∧ algebraic_LinearIdeal_RefLinearIdeal (hLinearIdeal := hLinearIdeal) (hRefLinearIdeal := hRefLinearIdeal)
-- ==== Pre_apart0.lean ====
abbrev S2x4096x64 : Shape := ⟨3, ![2, 4096, 64]⟩
abbrev S2x4096x3 : Shape := ⟨3, ![2, 4096, 3]⟩
abbrev S64x192 : Shape := ⟨2, ![64, 192]⟩
abbrev S64x64 : Shape := ⟨2, ![64, 64]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x21 : Shape := ⟨3, ![2, 4096, 21]⟩
abbrev S2x4096x20 : Shape := ⟨3, ![2, 4096, 20]⟩

class Facts : Prop where
  bcast_S_S2x4096x64 : S_.BroadcastsInDim S2x4096x64 (![] : Fin 0 → Fin S2x4096x64.rank)
  reducesTo_S2x4096x64_S_d0_1_2 : S2x4096x64.ReducesTo [0, 1, 2] S_
  h_S_ : 0 < S_.numel
  bcast_S_S64x192 : S_.BroadcastsInDim S64x192 (![] : Fin 0 → Fin S64x192.rank)
  reducesTo_S64x192_S_d0_1 : S64x192.ReducesTo [0, 1] S_
  reducesTo_S2x4096x3_S2x4096_d2 : S2x4096x3.ReducesTo [2] S2x4096
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  sliceFits_S2x4096x4096_S2x4096x21 : S2x4096x4096.Slices (fun _ => 0) S2x4096x21
  slices_S2x4096x21_S2x4096x20_0_0_1 : S2x4096x21.Slices ![0, 0, 1] S2x4096x20
  slices_S2x4096x21_S2x4096x20_0_0_0 : S2x4096x21.Slices ![0, 0, 0] S2x4096x20
  reducesTo_S2x4096x20_S_d0_1_2 : S2x4096x20.ReducesTo [0, 1, 2] S_
  bcast_S_S2x4096x21 : S_.BroadcastsInDim S2x4096x21 (![] : Fin 0 → Fin S2x4096x21.rank)
  reducesTo_S2x4096x21_S_d0_1_2 : S2x4096x21.ReducesTo [0, 1, 2] S_
  dot_S2x4096x3_S2x4096x3_S2x4096x4096_2_2_1_1_0_0_wf : DotDims.WF S2x4096x3 S2x4096x3 S2x4096x4096 [2] [2] [1] [1] [0] [0]

variable [Facts]

def dot_S2x4096x3_S2x4096x3_S2x4096x4096_2_2_1_1_0_0 : DotDims S2x4096x3 S2x4096x3 S2x4096x4096 where
  lhsContracting := [2]
  rhsContracting := [2]
  lhsNonContracting := [1]
  rhsNonContracting := [1]
  lhsBatch := [0]
  rhsBatch := [0]
  wf := dot_S2x4096x3_S2x4096x3_S2x4096x4096_2_2_1_1_0_0_wf
def fn_part1 {F : FTy → Type} [FloatOps F] (main_arg1 : FVec F S2x4096x3 .f32) (main_v8 : IVec S_ 1) (main_v17 : FVec F S2x4096x4096 .f32) : IVec S_ 1 :=
  let main_v18 : FVec F S2x4096x4096 .f32 := (fun l r => Host.dotGeneral dot_S2x4096x3_S2x4096x3_S2x4096x4096_2_2_1_1_0_0 none l r) main_arg1 main_arg1
  let main_cst_4 : FVec F S_ .f32 := constant S_ .f32 0x40000000#32
  let main_v19 : FVec F S2x4096x4096 .f32 := broadcastInDim S2x4096x4096 ![] bcast_S_S2x4096x4096 main_cst_4
  let main_v20 : FVec F S2x4096x4096 .f32 := mulf main_v19 main_v18
  let main_v21 : FVec F S2x4096x4096 .f32 := subf main_v17 main_v20
  let main_v22 : FVec F S2x4096x4096 .f32 := Host.negf main_v21
  let main_values : FVec F S2x4096x21 .f32 := (fun x => (Host.topK S2x4096x21 2 (FloatOps.cmpfTotal .gt) x sliceFits_S2x4096x4096_S2x4096x21).1) main_v22
  let main_indices : IVec S2x4096x21 32 := (fun x => (Host.topK S2x4096x21 2 (FloatOps.cmpfTotal .gt) x sliceFits_S2x4096x4096_S2x4096x21).2) main_v22
  let main_v23 : FVec F S2x4096x20 .f32 := (extractStridedSlice S2x4096x20 ![0, 0, 1] · slices_S2x4096x21_S2x4096x20_0_0_1) main_values
  let main_v24 : FVec F S2x4096x20 .f32 := (extractStridedSlice S2x4096x20 ![0, 0, 0] · slices_S2x4096x21_S2x4096x20_0_0_0) main_values
  let main_v25 : IVec S2x4096x20 1 := cmpf .olt main_v23 main_v24
  let main_c_5 : IVec S_ 1 := constantI S_ 1 1#1
  let main_v26 : IVec S_ 1 := (fun x v => Host.reduce IntOp.andi x v reducesTo_S2x4096x20_S_d0_1_2 h_S_) main_v25 main_c_5
  let main_cst_6 : FVec F S_ .f32 := constant S_ .f32 0x7F800000#32
  let main_v27 : FVec F S2x4096x21 .f32 := broadcastInDim S2x4096x21 ![] bcast_S_S2x4096x21 main_cst_6
  let main_v28 : IVec S2x4096x21 1 := cmpf .olt main_values main_v27
  let main_c_7 : IVec S_ 1 := constantI S_ 1 1#1
  let main_v29 : IVec S_ 1 := (fun x v => Host.reduce IntOp.andi x v reducesTo_S2x4096x21_S_d0_1_2 h_S_) main_v28 main_c_7
  let main_v30 : IVec S_ 1 := andi main_v26 main_v29
  let main_v31 : IVec S_ 1 := andi main_v8 main_v30
  main_v31

def fn {F : FTy → Type} [FloatOps F] (main_arg0 : FVec F S2x4096x64 .f32) (main_arg1 : FVec F S2x4096x3 .f32) (main_arg2 : FVec F S64x192 .f32) (main_arg3 : FVec F S64x64 .f32) : IVec S_ 1 :=
  let main_v0 : FVec F S2x4096x64 .f32 := Host.absf main_arg0
  let main_cst : FVec F S_ .f32 := constant S_ .f32 0x7F800000#32
  let main_v1 : FVec F S2x4096x64 .f32 := broadcastInDim S2x4096x64 ![] bcast_S_S2x4096x64 main_cst
  let main_v2 : IVec S2x4096x64 1 := cmpf .olt main_v0 main_v1
  let main_c : IVec S_ 1 := constantI S_ 1 1#1
  let main_v3 : IVec S_ 1 := (fun x v => Host.reduce IntOp.andi x v reducesTo_S2x4096x64_S_d0_1_2 h_S_) main_v2 main_c
  let main_v4 : FVec F S64x192 .f32 := Host.absf main_arg2
  let main_cst_0 : FVec F S_ .f32 := constant S_ .f32 0x7F800000#32
  let main_v5 : FVec F S64x192 .f32 := broadcastInDim S64x192 ![] bcast_S_S64x192 main_cst_0
  let main_v6 : IVec S64x192 1 := cmpf .olt main_v4 main_v5
  let main_c_1 : IVec S_ 1 := constantI S_ 1 1#1
  let main_v7 : IVec S_ 1 := (fun x v => Host.reduce IntOp.andi x v reducesTo_S64x192_S_d0_1 h_S_) main_v6 main_c_1
  let main_v8 : IVec S_ 1 := andi main_v3 main_v7
  let main_v9 : FVec F S2x4096x3 .f32 := mulf main_arg1 main_arg1
  let main_cst_2 : FVec F S_ .f32 := constant S_ .f32 0x00000000#32
  let main_v10 : FVec F S2x4096 .f32 := (fun x v => Host.reduceAdd x v reducesTo_S2x4096x3_S2x4096_d2 h_S_) main_v9 main_cst_2
  let main_v11 : FVec F S2x4096x1 .f32 := broadcastInDim S2x4096x1 ![0, 1] bcast_S2x4096_S2x4096x1_0_1 main_v10
  let main_v12 : FVec F S2x4096x3 .f32 := mulf main_arg1 main_arg1
  let main_cst_3 : FVec F S_ .f32 := constant S_ .f32 0x00000000#32
  let main_v13 : FVec F S2x4096 .f32 := (fun x v => Host.reduceAdd x v reducesTo_S2x4096x3_S2x4096_d2 h_S_) main_v12 main_cst_3
  let main_v14 : FVec F S2x1x4096 .f32 := broadcastInDim S2x1x4096 ![0, 2] bcast_S2x4096_S2x1x4096_0_2 main_v13
  let main_v15 : FVec F S2x4096x4096 .f32 := broadcastInDim S2x4096x4096 ![0, 1, 2] bcast_S2x4096x1_S2x4096x4096_0_1_2 main_v11
  let main_v16 : FVec F S2x4096x4096 .f32 := broadcastInDim S2x4096x4096 ![0, 1, 2] bcast_S2x1x4096_S2x4096x4096_0_1_2 main_v14
  let main_v17 : FVec F S2x4096x4096 .f32 := addf main_v15 main_v16
  fn_part1 (F := F) main_arg1 main_v8 main_v17
-- ==== Pre_apart1.lean ====
abbrev S2x1024x128 : Shape := ⟨3, ![2, 1024, 128]⟩
abbrev S2x1024x3 : Shape := ⟨3, ![2, 1024, 3]⟩
abbrev S128x384 : Shape := ⟨2, ![128, 384]⟩
abbrev S128x128 : Shape := ⟨2, ![128, 128]⟩
abbrev S_ : Shape := ⟨0, ![]⟩
abbrev S2x1024 : Shape := ⟨2, ![2, 1024]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S2x1024x21 : Shape := ⟨3, ![2, 1024, 21]⟩
abbrev S2x1024x20 : Shape := ⟨3, ![2, 1024, 20]⟩

class Facts : Prop where
  bcast_S_S2x1024x128 : S_.BroadcastsInDim S2x1024x128 (![] : Fin 0 → Fin S2x1024x128.rank)
  reducesTo_S2x1024x128_S_d0_1_2 : S2x1024x128.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  reducesTo_S2x1024x3_S2x1024_d2 : S2x1024x3.ReducesTo [2] S2x1024
  bcast_S2x1024_S2x1024x1_0_1 : S2x1024.BroadcastsInDim S2x1024x1 (![0, 1] : Fin 2 → Fin S2x1024x1.rank)
  bcast_S2x1024_S2x1x1024_0_2 : S2x1024.BroadcastsInDim S2x1x1024 (![0, 2] : Fin 2 → Fin S2x1x1024.rank)
  bcast_S2x1024x1_S2x1024x1024_0_1_2 : S2x1024x1.BroadcastsInDim S2x1024x1024 (![0, 1, 2] : Fin 3 → Fin S2x1024x1024.rank)
  bcast_S2x1x1024_S2x1024x1024_0_1_2 : S2x1x1024.BroadcastsInDim S2x1024x1024 (![0, 1, 2] : Fin 3 → Fin S2x1024x1024.rank)
  bcast_S_S2x1024x1024 : S_.BroadcastsInDim S2x1024x1024 (![] : Fin 0 → Fin S2x1024x1024.rank)
  sliceFits_S2x1024x1024_S2x1024x21 : S2x1024x1024.Slices (fun _ => 0) S2x1024x21
  slices_S2x1024x21_S2x1024x20_0_0_1 : S2x1024x21.Slices ![0, 0, 1] S2x1024x20
  slices_S2x1024x21_S2x1024x20_0_0_0 : S2x1024x21.Slices ![0, 0, 0] S2x1024x20
  reducesTo_S2x1024x20_S_d0_1_2 : S2x1024x20.ReducesTo [0, 1, 2] S_
  bcast_S_S2x1024x21 : S_.BroadcastsInDim S2x1024x21 (![] : Fin 0 → Fin S2x1024x21.rank)
  reducesTo_S2x1024x21_S_d0_1_2 : S2x1024x21.ReducesTo [0, 1, 2] S_
  dot_S2x1024x3_S2x1024x3_S2x1024x1024_2_2_1_1_0_0_wf : DotDims.WF S2x1024x3 S2x1024x3 S2x1024x1024 [2] [2] [1] [1] [0] [0]

variable [Facts]

def dot_S2x1024x3_S2x1024x3_S2x1024x1024_2_2_1_1_0_0 : DotDims S2x1024x3 S2x1024x3 S2x1024x1024 where
  lhsContracting := [2]
  rhsContracting := [2]
  lhsNonContracting := [1]
  rhsNonContracting := [1]
  lhsBatch := [0]
  rhsBatch := [0]
  wf := dot_S2x1024x3_S2x1024x3_S2x1024x1024_2_2_1_1_0_0_wf
def fn_part1 {F : FTy → Type} [FloatOps F] (main_arg1 : FVec F S2x1024x3 .f32) (main_v8 : IVec S_ 1) (main_v17 : FVec F S2x1024x1024 .f32) : IVec S_ 1 :=
  let main_v18 : FVec F S2x1024x1024 .f32 := (fun l r => Host.dotGeneral dot_S2x1024x3_S2x1024x3_S2x1024x1024_2_2_1_1_0_0 none l r) main_arg1 main_arg1
  let main_cst_4 : FVec F S_ .f32 := constant S_ .f32 0x40000000#32
  let main_v19 : FVec F S2x1024x1024 .f32 := broadcastInDim S2x1024x1024 ![] bcast_S_S2x1024x1024 main_cst_4
  let main_v20 : FVec F S2x1024x1024 .f32 := mulf main_v19 main_v18
  let main_v21 : FVec F S2x1024x1024 .f32 := subf main_v17 main_v20
  let main_v22 : FVec F S2x1024x1024 .f32 := Host.negf main_v21
  let main_values : FVec F S2x1024x21 .f32 := (fun x => (Host.topK S2x1024x21 2 (FloatOps.cmpfTotal .gt) x sliceFits_S2x1024x1024_S2x1024x21).1) main_v22
  let main_indices : IVec S2x1024x21 32 := (fun x => (Host.topK S2x1024x21 2 (FloatOps.cmpfTotal .gt) x sliceFits_S2x1024x1024_S2x1024x21).2) main_v22
  let main_v23 : FVec F S2x1024x20 .f32 := (extractStridedSlice S2x1024x20 ![0, 0, 1] · slices_S2x1024x21_S2x1024x20_0_0_1) main_values
  let main_v24 : FVec F S2x1024x20 .f32 := (extractStridedSlice S2x1024x20 ![0, 0, 0] · slices_S2x1024x21_S2x1024x20_0_0_0) main_values
  let main_v25 : IVec S2x1024x20 1 := cmpf .olt main_v23 main_v24
  let main_c_5 : IVec S_ 1 := constantI S_ 1 1#1
  let main_v26 : IVec S_ 1 := (fun x v => Host.reduce IntOp.andi x v reducesTo_S2x1024x20_S_d0_1_2 h_S_) main_v25 main_c_5
  let main_cst_6 : FVec F S_ .f32 := constant S_ .f32 0x7F800000#32
  let main_v27 : FVec F S2x1024x21 .f32 := broadcastInDim S2x1024x21 ![] bcast_S_S2x1024x21 main_cst_6
  let main_v28 : IVec S2x1024x21 1 := cmpf .olt main_values main_v27
  let main_c_7 : IVec S_ 1 := constantI S_ 1 1#1
  let main_v29 : IVec S_ 1 := (fun x v => Host.reduce IntOp.andi x v reducesTo_S2x1024x21_S_d0_1_2 h_S_) main_v28 main_c_7
  let main_v30 : IVec S_ 1 := andi main_v26 main_v29
  let main_v31 : IVec S_ 1 := andi main_v8 main_v30
  main_v31

def fn {F : FTy → Type} [FloatOps F] (main_arg0 : FVec F S2x1024x128 .f32) (main_arg1 : FVec F S2x1024x3 .f32) (main_arg2 : FVec F S128x384 .f32) (main_arg3 : FVec F S128x128 .f32) : IVec S_ 1 :=
  let main_v0 : FVec F S2x1024x128 .f32 := Host.absf main_arg0
  let main_cst : FVec F S_ .f32 := constant S_ .f32 0x7F800000#32
  let main_v1 : FVec F S2x1024x128 .f32 := broadcastInDim S2x1024x128 ![] bcast_S_S2x1024x128 main_cst
  let main_v2 : IVec S2x1024x128 1 := cmpf .olt main_v0 main_v1
  let main_c : IVec S_ 1 := constantI S_ 1 1#1
  let main_v3 : IVec S_ 1 := (fun x v => Host.reduce IntOp.andi x v reducesTo_S2x1024x128_S_d0_1_2 h_S_) main_v2 main_c
  let main_v4 : FVec F S128x384 .f32 := Host.absf main_arg2
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S2x1024x3 .f32 := mulf main_arg1 main_arg1
  let main_cst_2 : FVec F S_ .f32 := constant S_ .f32 0x00000000#32
  let main_v10 : FVec F S2x1024 .f32 := (fun x v => Host.reduceAdd x v reducesTo_S2x1024x3_S2x1024_d2 h_S_) main_v9 main_cst_2
  let main_v11 : FVec F S2x1024x1 .f32 := broadcastInDim S2x1024x1 ![0, 1] bcast_S2x1024_S2x1024x1_0_1 main_v10
  let main_v12 : FVec F S2x1024x3 .f32 := mulf main_arg1 main_arg1
  let main_cst_3 : FVec F S_ .f32 := constant S_ .f32 0x00000000#32
  let main_v13 : FVec F S2x1024 .f32 := (fun x v => Host.reduceAdd x v reducesTo_S2x1024x3_S2x1024_d2 h_S_) main_v12 main_cst_3
  let main_v14 : FVec F S2x1x1024 .f32 := broadcastInDim S2x1x1024 ![0, 2] bcast_S2x1024_S2x1x1024_0_2 main_v13
  let main_v15 : FVec F S2x1024x1024 .f32 := broadcastInDim S2x1024x1024 ![0, 1, 2] bcast_S2x1024x1_S2x1024x1024_0_1_2 main_v11
  let main_v16 : FVec F S2x1024x1024 .f32 := broadcastInDim S2x1024x1024 ![0, 1, 2] bcast_S2x1x1024_S2x1024x1024_0_1_2 main_v14
  let main_v17 : FVec F S2x1024x1024 .f32 := addf main_v15 main_v16
  fn_part1 (F := F) main_arg1 main_v8 main_v17
-- ==== Pre_apart2.lean ====
abbrev S2x256x256 : Shape := ⟨3, ![2, 256, 256]⟩
abbrev S2x256x3 : Shape := ⟨3, ![2, 256, 3]⟩
abbrev S256x768 : Shape := ⟨2, ![256, 768]⟩
abbrev S256x256 : Shape := ⟨2, ![256, 256]⟩
abbrev S_ : Shape := ⟨0, ![]⟩
abbrev S2x256 : Shape := ⟨2, ![2, 256]⟩
abbrev S2x256x1 : Shape := ⟨3, ![2, 256, 1]⟩
abbrev S2x1x256 : Shape := ⟨3, ![2, 1, 256]⟩
abbrev S2x256x21 : Shape := ⟨3, ![2, 256, 21]⟩
abbrev S2x256x20 : Shape := ⟨3, ![2, 256, 20]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  reducesTo_S2x256x3_S2x256_d2 : S2x256x3.ReducesTo [2] S2x256
  bcast_S2x256_S2x256x1_0_1 : S2x256.BroadcastsInDim S2x256x1 (![0, 1] : Fin 2 → Fin S2x256x1.rank)
  bcast_S2x256_S2x1x256_0_2 : S2x256.BroadcastsInDim S2x1x256 (![0, 2] : Fin 2 → Fin S2x1x256.rank)
  bcast_S2x256x1_S2x256x256_0_1_2 : S2x256x1.BroadcastsInDim S2x256x256 (![0, 1, 2] : Fin 3 → Fin S2x256x256.rank)
  bcast_S2x1x256_S2x256x256_0_1_2 : S2x1x256.BroadcastsInDim S2x256x256 (![0, 1, 2] : Fin 3 → Fin S2x256x256.rank)
  sliceFits_S2x256x256_S2x256x21 : S2x256x256.Slices (fun _ => 0) S2x256x21
  slices_S2x256x21_S2x256x20_0_0_1 : S2x256x21.Slices ![0, 0, 1] S2x256x20
  slices_S2x256x21_S2x256x20_0_0_0 : S2x256x21.Slices ![0, 0, 0] S2x256x20
  reducesTo_S2x256x20_S_d0_1_2 : S2x256x20.ReducesTo [0, 1, 2] S_
  bcast_S_S2x256x21 : S_.BroadcastsInDim S2x256x21 (![] : Fin 0 → Fin S2x256x21.rank)
  reducesTo_S2x256x21_S_d0_1_2 : S2x256x21.ReducesTo [0, 1, 2] S_
  dot_S2x256x3_S2x256x3_S2x256x256_2_2_1_1_0_0_wf : DotDims.WF S2x256x3 S2x256x3 S2x256x256 [2] [2] [1] [1] [0] [0]

variable [Facts]

def dot_S2x256x3_S2x256x3_S2x256x256_2_2_1_1_0_0 : DotDims S2x256x3 S2x256x3 S2x256x256 where
  lhsContracting := [2]
  rhsContracting := [2]
  lhsNonContracting := [1]
  rhsNonContracting := [1]
  lhsBatch := [0]
  rhsBatch := [0]
  wf := dot_S2x256x3_S2x256x3_S2x256x256_2_2_1_1_0_0_wf
def fn_part1 {F : FTy → Type} [FloatOps F] (main_arg1 : FVec F S2x256x3 .f32) (main_v8 : IVec S_ 1) (main_v17 : FVec F S2x256x256 .f32) : IVec S_ 1 :=
  let main_v18 : FVec F S2x256x256 .f32 := (fun l r => Host.dotGeneral dot_S2x256x3_S2x256x3_S2x256x256_2_2_1_1_0_0 none l r) main_arg1 main_arg1
  let main_cst_4 : FVec F S_ .f32 := constant S_ .f32 0x40000000#32
  let main_v19 : FVec F S2x256x256 .f32 := broadcastInDim S2x256x256 ![] bcast_S_S2x256x256 main_cst_4
  let main_v20 : FVec F S2x256x256 .f32 := mulf main_v19 main_v18
  let main_v21 : FVec F S2x256x256 .f32 := subf main_v17 main_v20
  let main_v22 : FVec F S2x256x256 .f32 := Host.negf main_v21
  let main_values : FVec F S2x256x21 .f32 := (fun x => (Host.topK S2x256x21 2 (FloatOps.cmpfTotal .gt) x sliceFits_S2x256x256_S2x256x21).1) main_v22
  let main_indices : IVec S2x256x21 32 := (fun x => (Host.topK S2x256x21 2 (FloatOps.cmpfTotal .gt) x sliceFits_S2x256x256_S2x256x21).2) main_v22
  let main_v23 : FVec F S2x256x20 .f32 := (extractStridedSlice S2x256x20 ![0, 0, 1] · slices_S2x256x21_S2x256x20_0_0_1) main_values
  let main_v24 : FVec F S2x256x20 .f32 := (extractStridedSlice S2x256x20 ![0, 0, 0] · slices_S2x256x21_S2x256x20_0_0_0) main_values
  let main_v25 : IVec S2x256x20 1 := cmpf .olt main_v23 main_v24
  let main_c_5 : IVec S_ 1 := constantI S_ 1 1#1
  let main_v26 : IVec S_ 1 := (fun x v => Host.reduce IntOp.andi x v reducesTo_S2x256x20_S_d0_1_2 h_S_) main_v25 main_c_5
  let main_cst_6 : FVec F S_ .f32 := constant S_ .f32 0x7F800000#32
  let main_v27 : FVec F S2x256x21 .f32 := broadcastInDim S2x256x21 ![] bcast_S_S2x256x21 main_cst_6
  let main_v28 : IVec S2x256x21 1 := cmpf .olt main_values main_v27
  let main_c_7 : IVec S_ 1 := constantI S_ 1 1#1
  let main_v29 : IVec S_ 1 := (fun x v => Host.reduce IntOp.andi x v reducesTo_S2x256x21_S_d0_1_2 h_S_) main_v28 main_c_7
  let main_v30 : IVec S_ 1 := andi main_v26 main_v29
  let main_v31 : IVec S_ 1 := andi main_v8 main_v30
  main_v31

def fn {F : FTy → Type} [FloatOps F] (main_arg0 : FVec F S2x256x256 .f32) (main_arg1 : FVec F S2x256x3 .f32) (main_arg2 : FVec F S256x768 .f32) (main_arg3 : FVec F S256x256 .f32) : IVec S_ 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_c : IVec S_ 1 := constantI S_ 1 1#1
  let main_v3 : IVec S_ 1 := (fun x v => Host.reduce IntOp.andi x v reducesTo_S2x256x256_S_d0_1_2 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S2x256x3 .f32 := mulf main_arg1 main_arg1
  let main_cst_2 : FVec F S_ .f32 := constant S_ .f32 0x00000000#32
  let main_v10 : FVec F S2x256 .f32 := (fun x v => Host.reduceAdd x v reducesTo_S2x256x3_S2x256_d2 h_S_) main_v9 main_cst_2
  let main_v11 : FVec F S2x256x1 .f32 := broadcastInDim S2x256x1 ![0, 1] bcast_S2x256_S2x256x1_0_1 main_v10
  let main_v12 : FVec F S2x256x3 .f32 := mulf main_arg1 main_arg1
  let main_cst_3 : FVec F S_ .f32 := constant S_ .f32 0x00000000#32
  let main_v13 : FVec F S2x256 .f32 := (fun x v => Host.reduceAdd x v reducesTo_S2x256x3_S2x256_d2 h_S_) main_v12 main_cst_3
  let main_v14 : FVec F S2x1x256 .f32 := broadcastInDim S2x1x256 ![0, 2] bcast_S2x256_S2x1x256_0_2 main_v13
  let main_v15 : FVec F S2x256x256 .f32 := broadcastInDim S2x256x256 ![0, 1, 2] bcast_S2x256x1_S2x256x256_0_1_2 main_v11
  let main_v16 : FVec F S2x256x256 .f32 := broadcastInDim S2x256x256 ![0, 1, 2] bcast_S2x1x256_S2x256x256_0_1_2 main_v14
  let main_v17 : FVec F S2x256x256 .f32 := addf main_v15 main_v16
  fn_part1 (F := F) main_arg1 main_v8 main_v17
-- ==== Pre_apart3.lean ====
abbrev S2x64x512 : Shape := ⟨3, ![2, 64, 512]⟩
abbrev S2x64x3 : Shape := ⟨3, ![2, 64, 3]⟩
abbrev S512x1536 : Shape := ⟨2, ![512, 1536]⟩
abbrev S512x512 : Shape := ⟨2, ![512, 512]⟩
abbrev S_ : Shape := ⟨0, ![]⟩
abbrev S2x64 : Shape := ⟨2, ![2, 64]⟩
abbrev S2x64x1 : Shape := ⟨3, ![2, 64, 1]⟩
abbrev S2x1x64 : Shape := ⟨3, ![2, 1, 64]⟩
abbrev S2x64x64 : Shape := ⟨3, ![2, 64, 64]⟩
abbrev S2x64x9 : Shape := ⟨3, ![2, 64, 9]⟩
abbrev S2x64x8 : Shape := ⟨3, ![2, 64, 8]⟩

class Facts : Prop where
  bcast_S_S2x64x512 : S_.BroadcastsInDim S2x64x512 (![] : Fin 0 → Fin S2x64x512.rank)
  reducesTo_S2x64x512_S_d0_1_2 : S2x64x512.ReducesTo [0, 1, 2] S_
  h_S_ : 0 < S_.numel
  bcast_S_S512x1536 : S_.BroadcastsInDim S512x1536 (![] : Fin 0 → Fin S512x1536.rank)
  reducesTo_S512x1536_S_d0_1 : S512x1536.ReducesTo [0, 1] S_
  reducesTo_S2x64x3_S2x64_d2 : S2x64x3.ReducesTo [2] S2x64
  bcast_S2x64_S2x64x1_0_1 : S2x64.BroadcastsInDim S2x64x1 (![0, 1] : Fin 2 → Fin S2x64x1.rank)
  bcast_S2x64_S2x1x64_0_2 : S2x64.BroadcastsInDim S2x1x64 (![0, 2] : Fin 2 → Fin S2x1x64.rank)
  bcast_S2x64x1_S2x64x64_0_1_2 : S2x64x1.BroadcastsInDim S2x64x64 (![0, 1, 2] : Fin 3 → Fin S2x64x64.rank)
  bcast_S2x1x64_S2x64x64_0_1_2 : S2x1x64.BroadcastsInDim S2x64x64 (![0, 1, 2] : Fin 3 → Fin S2x64x64.rank)
  bcast_S_S2x64x64 : S_.BroadcastsInDim S2x64x64 (![] : Fin 0 → Fin S2x64x64.rank)
  sliceFits_S2x64x64_S2x64x9 : S2x64x64.Slices (fun _ => 0) S2x64x9
  slices_S2x64x9_S2x64x8_0_0_1 : S2x64x9.Slices ![0, 0, 1] S2x64x8
  slices_S2x64x9_S2x64x8_0_0_0 : S2x64x9.Slices ![0, 0, 0] S2x64x8
  reducesTo_S2x64x8_S_d0_1_2 : S2x64x8.ReducesTo [0, 1, 2] S_
  bcast_S_S2x64x9 : S_.BroadcastsInDim S2x64x9 (![] : Fin 0 → Fin S2x64x9.rank)
  reducesTo_S2x64x9_S_d0_1_2 : S2x64x9.ReducesTo [0, 1, 2] S_
  dot_S2x64x3_S2x64x3_S2x64x64_2_2_1_1_0_0_wf : DotDims.WF S2x64x3 S2x64x3 S2x64x64 [2] [2] [1] [1] [0] [0]

variable [Facts]

def dot_S2x64x3_S2x64x3_S2x64x64_2_2_1_1_0_0 : DotDims S2x64x3 S2x64x3 S2x64x64 where
  lhsContracting := [2]
  rhsContracting := [2]
  lhsNonContracting := [1]
  rhsNonContracting := [1]
  lhsBatch := [0]
  rhsBatch := [0]
  wf := dot_S2x64x3_S2x64x3_S2x64x64_2_2_1_1_0_0_wf
def fn_part1 {F : FTy → Type} [FloatOps F] (main_arg1 : FVec F S2x64x3 .f32) (main_v8 : IVec S_ 1) (main_v17 : FVec F S2x64x64 .f32) : IVec S_ 1 :=
  let main_v18 : FVec F S2x64x64 .f32 := (fun l r => Host.dotGeneral dot_S2x64x3_S2x64x3_S2x64x64_2_2_1_1_0_0 none l r) main_arg1 main_arg1
  let main_cst_4 : FVec F S_ .f32 := constant S_ .f32 0x40000000#32
  let main_v19 : FVec F S2x64x64 .f32 := broadcastInDim S2x64x64 ![] bcast_S_S2x64x64 main_cst_4
  let main_v20 : FVec F S2x64x64 .f32 := mulf main_v19 main_v18
  let main_v21 : FVec F S2x64x64 .f32 := subf main_v17 main_v20
  let main_v22 : FVec F S2x64x64 .f32 := Host.negf main_v21
  let main_values : FVec F S2x64x9 .f32 := (fun x => (Host.topK S2x64x9 2 (FloatOps.cmpfTotal .gt) x sliceFits_S2x64x64_S2x64x9).1) main_v22
  let main_indices : IVec S2x64x9 32 := (fun x => (Host.topK S2x64x9 2 (FloatOps.cmpfTotal .gt) x sliceFits_S2x64x64_S2x64x9).2) main_v22
  let main_v23 : FVec F S2x64x8 .f32 := (extractStridedSlice S2x64x8 ![0, 0, 1] · slices_S2x64x9_S2x64x8_0_0_1) main_values
  let main_v24 : FVec F S2x64x8 .f32 := (extractStridedSlice S2x64x8 ![0, 0, 0] · slices_S2x64x9_S2x64x8_0_0_0) main_values
  let main_v25 : IVec S2x64x8 1 := cmpf .olt main_v23 main_v24
  let main_c_5 : IVec S_ 1 := constantI S_ 1 1#1
  let main_v26 : IVec S_ 1 := (fun x v => Host.reduce IntOp.andi x v reducesTo_S2x64x8_S_d0_1_2 h_S_) main_v25 main_c_5
  let main_cst_6 : FVec F S_ .f32 := constant S_ .f32 0x7F800000#32
  let main_v27 : FVec F S2x64x9 .f32 := broadcastInDim S2x64x9 ![] bcast_S_S2x64x9 main_cst_6
  let main_v28 : IVec S2x64x9 1 := cmpf .olt main_values main_v27
  let main_c_7 : IVec S_ 1 := constantI S_ 1 1#1
  let main_v29 : IVec S_ 1 := (fun x v => Host.reduce IntOp.andi x v reducesTo_S2x64x9_S_d0_1_2 h_S_) main_v28 main_c_7
  let main_v30 : IVec S_ 1 := andi main_v26 main_v29
  let main_v31 : IVec S_ 1 := andi main_v8 main_v30
  main_v31

def fn {F : FTy → Type} [FloatOps F] (main_arg0 : FVec F S2x64x512 .f32) (main_arg1 : FVec F S2x64x3 .f32) (main_arg2 : FVec F S512x1536 .f32) (main_arg3 : FVec F S512x512 .f32) : IVec S_ 1 :=
  let main_v0 : FVec F S2x64x512 .f32 := Host.absf main_arg0
  let main_cst : FVec F S_ .f32 := constant S_ .f32 0x7F800000#32
  let main_v1 : FVec F S2x64x512 .f32 := broadcastInDim S2x64x512 ![] bcast_S_S2x64x512 main_cst
  let main_v2 : IVec S2x64x512 1 := cmpf .olt main_v0 main_v1
  let main_c : IVec S_ 1 := constantI S_ 1 1#1
  let main_v3 : IVec S_ 1 := (fun x v => Host.reduce IntOp.andi x v reducesTo_S2x64x512_S_d0_1_2 h_S_) main_v2 main_c
  let main_v4 : FVec F S512x1536 .f32 := Host.absf main_arg2
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S2x64x3 .f32 := mulf main_arg1 main_arg1
  let main_cst_2 : FVec F S_ .f32 := constant S_ .f32 0x00000000#32
  let main_v10 : FVec F S2x64 .f32 := (fun x v => Host.reduceAdd x v reducesTo_S2x64x3_S2x64_d2 h_S_) main_v9 main_cst_2
  let main_v11 : FVec F S2x64x1 .f32 := broadcastInDim S2x64x1 ![0, 1] bcast_S2x64_S2x64x1_0_1 main_v10
  let main_v12 : FVec F S2x64x3 .f32 := mulf main_arg1 main_arg1
  let main_cst_3 : FVec F S_ .f32 := constant S_ .f32 0x00000000#32
  let main_v13 : FVec F S2x64 .f32 := (fun x v => Host.reduceAdd x v reducesTo_S2x64x3_S2x64_d2 h_S_) main_v12 main_cst_3
  let main_v14 : FVec F S2x1x64 .f32 := broadcastInDim S2x1x64 ![0, 2] bcast_S2x64_S2x1x64_0_2 main_v13
  let main_v15 : FVec F S2x64x64 .f32 := broadcastInDim S2x64x64 ![0, 1, 2] bcast_S2x64x1_S2x64x64_0_1_2 main_v11
  let main_v16 : FVec F S2x64x64 .f32 := broadcastInDim S2x64x64 ![0, 1, 2] bcast_S2x1x64_S2x64x64_0_1_2 main_v14
  let main_v17 : FVec F S2x64x64 .f32 := addf main_v15 main_v16
  fn_part1 (F := F) main_arg1 main_v8 main_v17
-- ==== Pre_near0.lean ====
abbrev S2x1024x3 : Shape := ⟨3, ![2, 1024, 3]⟩
abbrev S2x4096x3 : Shape := ⟨3, ![2, 4096, 3]⟩
abbrev S2x4096x64 : Shape := ⟨3, ![2, 4096, 64]⟩
abbrev S67x128 : Shape := ⟨2, ![67, 128]⟩
abbrev S128 : Shape := ⟨1, ![128]⟩
abbrev S_ : Shape := ⟨0, ![]⟩
abbrev S2x1024 : Shape := ⟨2, ![2, 1024]⟩
abbrev S2x1024x1 : Shape := ⟨3, ![2, 1024, 1]⟩
abbrev S2x4096 : Shape := ⟨2, ![2, 4096]⟩
abbrev S2x1x4096 : Shape := ⟨3, ![2, 1, 4096]⟩
abbrev S2x1024x4096 : Shape := ⟨3, ![2, 1024, 4096]⟩
abbrev S2x1024x17 : Shape := ⟨3, ![2, 1024, 17]⟩
abbrev S2x1024x16 : Shape := ⟨3, ![2, 1024, 16]⟩

class Facts : Prop where
  bcast_S_S2x1024x3 : S_.BroadcastsInDim S2x1024x3 (![] : Fin 0 → Fin S2x1024x3.rank)
  reducesTo_S2x1024x3_S_d0_1_2 : S2x1024x3.ReducesTo [0, 1, 2] S_
  h_S_ : 0 < S_.numel
  bcast_S_S2x4096x3 : S_.BroadcastsInDim S2x4096x3 (![] : Fin 0 → Fin S2x4096x3.rank)
  reducesTo_S2x4096x3_S_d0_1_2 : S2x4096x3.ReducesTo [0, 1, 2] S_
  bcast_S_S2x4096x64 : S_.BroadcastsInDim S2x4096x64 (![] : Fin 0 → Fin S2x4096x64.rank)
  reducesTo_S2x4096x64_S_d0_1_2 : S2x4096x64.ReducesTo [0, 1, 2] S_
  bcast_S_S67x128 : S_.BroadcastsInDim S67x128 (![] : Fin 0 → Fin S67x128.rank)
  reducesTo_S67x128_S_d0_1 : S67x128.ReducesTo [0, 1] S_
  reducesTo_S2x1024x3_S2x1024_d2 : S2x1024x3.ReducesTo [2] S2x1024
  bcast_S2x1024_S2x1024x1_0_1 : S2x1024.BroadcastsInDim S2x1024x1 (![0, 1] : Fin 2 → Fin S2x1024x1.rank)
  reducesTo_S2x4096x3_S2x4096_d2 : S2x4096x3.ReducesTo [2] S2x4096
  bcast_S2x4096_S2x1x4096_0_2 : S2x4096.BroadcastsInDim S2x1x4096 (![0, 2] : Fin 2 → Fin S2x1x4096.rank)
  bcast_S2x1024x1_S2x1024x4096_0_1_2 : S2x1024x1.BroadcastsInDim S2x1024x4096 (![0, 1, 2] : Fin 3 → Fin S2x1024x4096.rank)
  bcast_S2x1x4096_S2x1024x4096_0_1_2 : S2x1x4096.BroadcastsInDim S2x1024x4096 (![0, 1, 2] : Fin 3 → Fin S2x1024x4096.rank)
  bcast_S_S2x1024x4096 : S_.BroadcastsInDim S2x1024x4096 (![] : Fin 0 → Fin S2x1024x4096.rank)
  sliceFits_S2x1024x4096_S2x1024x17 : S2x1024x4096.Slices (fun _ => 0) S2x1024x17
  slices_S2x1024x17_S2x1024x16_0_0_1 : S2x1024x17.Slices ![0, 0, 1] S2x1024x16
  slices_S2x1024x17_S2x1024x16_0_0_0 : S2x1024x17.Slices ![0, 0, 0] S2x1024x16
  reducesTo_S2x1024x16_S_d0_1_2 : S2x1024x16.ReducesTo [0, 1, 2] S_
  bcast_S_S2x1024x17 : S_.BroadcastsInDim S2x1024x17 (![] : Fin 0 → Fin S2x1024x17.rank)
  reducesTo_S2x1024x17_S_d0_1_2 : S2x1024x17.ReducesTo [0, 1, 2] S_
  dot_S2x1024x3_S2x4096x3_S2x1024x4096_2_2_1_1_0_0_wf : DotDims.WF S2x1024x3 S2x4096x3 S2x1024x4096 [2] [2] [1] [1] [0] [0]

variable [Facts]

def dot_S2x1024x3_S2x4096x3_S2x1024x4096_2_2_1_1_0_0 : DotDims S2x1024x3 S2x4096x3 S2x1024x4096 where
  lhsContracting := [2]
  rhsContracting := [2]
  lhsNonContracting := [1]
  rhsNonContracting := [1]
  lhsBatch := [0]
  rhsBatch := [0]
  wf := dot_S2x1024x3_S2x4096x3_S2x1024x4096_2_2_1_1_0_0_wf
def fn_part2 {F : FTy → Type} [FloatOps F] (main_v18 : IVec S_ 1) (main_values : FVec F S2x1024x17 .f32) (main_v33 : FVec F S2x1024x16 .f32) (main_v34 : FVec F S2x1024x16 .f32) : IVec S_ 1 :=
  let main_v35 : IVec S2x1024x16 1 := cmpf .olt main_v33 main_v34
  let main_c_9 : IVec S_ 1 := constantI S_ 1 1#1
  let main_v36 : IVec S_ 1 := (fun x v => Host.reduce IntOp.andi x v reducesTo_S2x1024x16_S_d0_1_2 h_S_) main_v35 main_c_9
  let main_cst_10 : FVec F S_ .f32 := constant S_ .f32 0x7F800000#32
  let main_v37 : FVec F S2x1024x17 .f32 := broadcastInDim S2x1024x17 ![] bcast_S_S2x1024x17 main_cst_10
  let main_v38 : IVec S2x1024x17 1 := cmpf .olt main_values main_v37
  let main_c_11 : IVec S_ 1 := constantI S_ 1 1#1
  let main_v39 : IVec S_ 1 := (fun x v => Host.reduce IntOp.andi x v reducesTo_S2x1024x17_S_d0_1_2 h_S_) main_v38 main_c_11
  let main_v40 : IVec S_ 1 := andi main_v36 main_v39
  let main_v41 : IVec S_ 1 := andi main_v18 main_v40
  main_v41

def fn_part1 {F : FTy → Type} [FloatOps F] (main_arg0 : FVec F S2x1024x3 .f32) (main_arg1 : FVec F S2x4096x3 .f32) (main_v13 : IVec S_ 1) (main_v16 : IVec S67x128 1) : IVec S_ 1 :=
  let main_c_5 : IVec S_ 1 := constantI S_ 1 1#1
  let main_v17 : IVec S_ 1 := (fun x v => Host.reduce IntOp.andi x v reducesTo_S67x128_S_d0_1 h_S_) main_v16 main_c_5
  let main_v18 : IVec S_ 1 := andi main_v13 main_v17
  let main_v19 : FVec F S2x1024x3 .f32 := mulf main_arg0 main_arg0
  let main_cst_6 : FVec F S_ .f32 := constant S_ .f32 0x00000000#32
  let main_v20 : FVec F S2x1024 .f32 := (fun x v => Host.reduceAdd x v reducesTo_S2x1024x3_S2x1024_d2 h_S_) main_v19 main_cst_6
  let main_v21 : FVec F S2x1024x1 .f32 := broadcastInDim S2x1024x1 ![0, 1] bcast_S2x1024_S2x1024x1_0_1 main_v20
  let main_v22 : FVec F S2x4096x3 .f32 := mulf main_arg1 main_arg1
  let main_cst_7 : FVec F S_ .f32 := constant S_ .f32 0x00000000#32
  let main_v23 : FVec F S2x4096 .f32 := (fun x v => Host.reduceAdd x v reducesTo_S2x4096x3_S2x4096_d2 h_S_) main_v22 main_cst_7
  let main_v24 : FVec F S2x1x4096 .f32 := broadcastInDim S2x1x4096 ![0, 2] bcast_S2x4096_S2x1x4096_0_2 main_v23
  let main_v25 : FVec F S2x1024x4096 .f32 := broadcastInDim S2x1024x4096 ![0, 1, 2] bcast_S2x1024x1_S2x1024x4096_0_1_2 main_v21
  let main_v26 : FVec F S2x1024x4096 .f32 := broadcastInDim S2x1024x4096 ![0, 1, 2] bcast_S2x1x4096_S2x1024x4096_0_1_2 main_v24
  let main_v27 : FVec F S2x1024x4096 .f32 := addf main_v25 main_v26
  let main_v28 : FVec F S2x1024x4096 .f32 := (fun l r => Host.dotGeneral dot_S2x1024x3_S2x4096x3_S2x1024x4096_2_2_1_1_0_0 none l r) main_arg0 main_arg1
  let main_cst_8 : FVec F S_ .f32 := constant S_ .f32 0x40000000#32
  let main_v29 : FVec F S2x1024x4096 .f32 := broadcastInDim S2x1024x4096 ![] bcast_S_S2x1024x4096 main_cst_8
  let main_v30 : FVec F S2x1024x4096 .f32 := mulf main_v29 main_v28
  let main_v31 : FVec F S2x1024x4096 .f32 := subf main_v27 main_v30
  let main_v32 : FVec F S2x1024x4096 .f32 := Host.negf main_v31
  let main_values : FVec F S2x1024x17 .f32 := (fun x => (Host.topK S2x1024x17 2 (FloatOps.cmpfTotal .gt) x sliceFits_S2x1024x4096_S2x1024x17).1) main_v32
  let main_indices : IVec S2x1024x17 32 := (fun x => (Host.topK S2x1024x17 2 (FloatOps.cmpfTotal .gt) x sliceFits_S2x1024x4096_S2x1024x17).2) main_v32
  let main_v33 : FVec F S2x1024x16 .f32 := (extractStridedSlice S2x1024x16 ![0, 0, 1] · slices_S2x1024x17_S2x1024x16_0_0_1) main_values
  let main_v34 : FVec F S2x1024x16 .f32 := (extractStridedSlice S2x1024x16 ![0, 0, 0] · slices_S2x1024x17_S2x1024x16_0_0_0) main_values
  fn_part2 (F := F) main_v18 main_values main_v33 main_v34

def fn {F : FTy → Type} [FloatOps F] (main_arg0 : FVec F S2x1024x3 .f32) (main_arg1 : FVec F S2x4096x3 .f32) (main_arg2 : FVec F S2x4096x64 .f32) (main_arg3 : FVec F S67x128 .f32) (main_arg4 : FVec F S128 .f32) : IVec S_ 1 :=
  let main_v0 : FVec F S2x1024x3 .f32 := Host.absf main_arg0
  let main_cst : FVec F S_ .f32 := constant S_ .f32 0x7F800000#32
  let main_v1 : FVec F S2x1024x3 .f32 := broadcastInDim S2x1024x3 ![] bcast_S_S2x1024x3 main_cst
  let main_v2 : IVec S2x1024x3 1 := cmpf .olt main_v0 main_v1
  let main_c : IVec S_ 1 := constantI S_ 1 1#1
  let main_v3 : IVec S_ 1 := (fun x v => Host.reduce IntOp.andi x v reducesTo_S2x1024x3_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  let main_v9 : FVec F S2x4096x64 .f32 := Host.absf main_arg2
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_c_3 : IVec S_ 1 := constantI S_ 1 1#1
  let main_v12 : IVec S_ 1 := (fun x v => Host.reduce IntOp.andi x v reducesTo_S2x4096x64_S_d0_1_2 h_S_) main_v11 main_c_3
  let main_v13 : IVec S_ 1 := andi main_v8 main_v12
  let main_v14 : FVec F S67x128 .f32 := Host.absf main_arg3
  let main_cst_4 : FVec F S_ .f32 := constant S_ .f32 0x7F800000#32
  let main_v15 : FVec F S67x128 .f32 := broadcastInDim S67x128 ![] bcast_S_S67x128 main_cst_4
  let main_v16 : IVec S67x128 1 := cmpf .olt main_v14 main_v15
  fn_part1 (F := F) main_arg0 main_arg1 main_v13 main_v16
-- ==== Pre_near1.lean ====
abbrev S2x256x3 : Shape := ⟨3, ![2, 256, 3]⟩
abbrev S2x1024x3 : Shape := ⟨3, ![2, 1024, 3]⟩
abbrev S2x1024x128 : Shape := ⟨3, ![2, 1024, 128]⟩
abbrev S131x256 : Shape := ⟨2, ![131, 256]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S2x1024 : Shape := ⟨2, ![2, 1024]⟩
abbrev S2x1x1024 : Shape := ⟨3, ![2, 1, 1024]⟩
abbrev S2x256x1024 : Shape := ⟨3, ![2, 256, 1024]⟩
abbrev S2x256x17 : Shape := ⟨3, ![2, 256, 17]⟩
abbrev S2x256x16 : Shape := ⟨3, ![2, 256, 16]⟩

class Facts : Prop where
  bcast_S_S2x256x3 : S_.BroadcastsInDim S2x256x3 (![] : Fin 0 → Fin S2x256x3.rank)
  reducesTo_S2x256x3_S_d0_1_2 : S2x256x3.ReducesTo [0, 1, 2] S_
  h_S_ : 0 < S_.numel
  bcast_S_S2x1024x3 : S_.BroadcastsInDim S2x1024x3 (![] : Fin 0 → Fin S2x1024x3.rank)
  reducesTo_S2x1024x3_S_d0_1_2 : S2x1024x3.ReducesTo [0, 1, 2] S_
  bcast_S_S2x1024x128 : S_.BroadcastsInDim S2x1024x128 (![] : Fin 0 → Fin S2x1024x128.rank)
  reducesTo_S2x1024x128_S_d0_1_2 : S2x1024x128.ReducesTo [0, 1, 2] S_
  bcast_S_S131x256 : S_.BroadcastsInDim S131x256 (![] : Fin 0 → Fin S131x256.rank)
  reducesTo_S131x256_S_d0_1 : S131x256.ReducesTo [0, 1] S_
  reducesTo_S2x256x3_S2x256_d2 : S2x256x3.ReducesTo [2] S2x256
  bcast_S2x256_S2x256x1_0_1 : S2x256.BroadcastsInDim S2x256x1 (![0, 1] : Fin 2 → Fin S2x256x1.rank)
  reducesTo_S2x1024x3_S2x1024_d2 : S2x1024x3.ReducesTo [2] S2x1024
  bcast_S2x1024_S2x1x1024_0_2 : S2x1024.BroadcastsInDim S2x1x1024 (![0, 2] : Fin 2 → Fin S2x1x1024.rank)
  bcast_S2x256x1_S2x256x1024_0_1_2 : S2x256x1.BroadcastsInDim S2x256x1024 (![0, 1, 2] : Fin 3 → Fin S2x256x1024.rank)
  bcast_S2x1x1024_S2x256x1024_0_1_2 : S2x1x1024.BroadcastsInDim S2x256x1024 (![0, 1, 2] : Fin 3 → Fin S2x256x1024.rank)
  bcast_S_S2x256x1024 : S_.BroadcastsInDim S2x256x1024 (![] : Fin 0 → Fin S2x256x1024.rank)
  sliceFits_S2x256x1024_S2x256x17 : S2x256x1024.Slices (fun _ => 0) S2x256x17
  slices_S2x256x17_S2x256x16_0_0_1 : S2x256x17.Slices ![0, 0, 1] S2x256x16
  slices_S2x256x17_S2x256x16_0_0_0 : S2x256x17.Slices ![0, 0, 0] S2x256x16
  reducesTo_S2x256x16_S_d0_1_2 : S2x256x16.ReducesTo [0, 1, 2] S_
  bcast_S_S2x256x17 : S_.BroadcastsInDim S2x256x17 (![] : Fin 0 → Fin S2x256x17.rank)
  reducesTo_S2x256x17_S_d0_1_2 : S2x256x17.ReducesTo [0, 1, 2] S_
  dot_S2x256x3_S2x1024x3_S2x256x1024_2_2_1_1_0_0_wf : DotDims.WF S2x256x3 S2x1024x3 S2x256x1024 [2] [2] [1] [1] [0] [0]

variable [Facts]

def dot_S2x256x3_S2x1024x3_S2x256x1024_2_2_1_1_0_0 : DotDims S2x256x3 S2x1024x3 S2x256x1024 where
  lhsContracting := [2]
  rhsContracting := [2]
  lhsNonContracting := [1]
  rhsNonContracting := [1]
  lhsBatch := [0]
  rhsBatch := [0]
  wf := dot_S2x256x3_S2x1024x3_S2x256x1024_2_2_1_1_0_0_wf
def fn_part2 {F : FTy → Type} [FloatOps F] (main_v18 : IVec S_ 1) (main_values : FVec F S2x256x17 .f32) (main_v33 : FVec F S2x256x16 .f32) (main_v34 : FVec F S2x256x16 .f32) : IVec S_ 1 :=
  let main_v35 : IVec S2x256x16 1 := cmpf .olt main_v33 main_v34
  let main_c_9 : IVec S_ 1 := constantI S_ 1 1#1
  let main_v36 : IVec S_ 1 := (fun x v => Host.reduce IntOp.andi x v reducesTo_S2x256x16_S_d0_1_2 h_S_) main_v35 main_c_9
  let main_cst_10 : FVec F S_ .f32 := constant S_ .f32 0x7F800000#32
  let main_v37 : FVec F S2x256x17 .f32 := broadcastInDim S2x256x17 ![] bcast_S_S2x256x17 main_cst_10
  let main_v38 : IVec S2x256x17 1 := cmpf .olt main_values main_v37
  let main_c_11 : IVec S_ 1 := constantI S_ 1 1#1
  let main_v39 : IVec S_ 1 := (fun x v => Host.reduce IntOp.andi x v reducesTo_S2x256x17_S_d0_1_2 h_S_) main_v38 main_c_11
  let main_v40 : IVec S_ 1 := andi main_v36 main_v39
  let main_v41 : IVec S_ 1 := andi main_v18 main_v40
  main_v41

def fn_part1 {F : FTy → Type} [FloatOps F] (main_arg0 : FVec F S2x256x3 .f32) (main_arg1 : FVec F S2x1024x3 .f32) (main_v13 : IVec S_ 1) (main_v16 : IVec S131x256 1) : IVec S_ 1 :=
  let main_c_5 : IVec S_ 1 := constantI S_ 1 1#1
  let main_v17 : IVec S_ 1 := (fun x v => Host.reduce IntOp.andi x v reducesTo_S131x256_S_d0_1 h_S_) main_v16 main_c_5
  let main_v18 : IVec S_ 1 := andi main_v13 main_v17
  let main_v19 : FVec F S2x256x3 .f32 := mulf main_arg0 main_arg0
  let main_cst_6 : FVec F S_ .f32 := constant S_ .f32 0x00000000#32
  let main_v20 : FVec F S2x256 .f32 := (fun x v => Host.reduceAdd x v reducesTo_S2x256x3_S2x256_d2 h_S_) main_v19 main_cst_6
  let main_v21 : FVec F S2x256x1 .f32 := broadcastInDim S2x256x1 ![0, 1] bcast_S2x256_S2x256x1_0_1 main_v20
  let main_v22 : FVec F S2x1024x3 .f32 := mulf main_arg1 main_arg1
  let main_cst_7 : FVec F S_ .f32 := constant S_ .f32 0x00000000#32
  let main_v23 : FVec F S2x1024 .f32 := (fun x v => Host.reduceAdd x v reducesTo_S2x1024x3_S2x1024_d2 h_S_) main_v22 main_cst_7
  let main_v24 : FVec F S2x1x1024 .f32 := broadcastInDim S2x1x1024 ![0, 2] bcast_S2x1024_S2x1x1024_0_2 main_v23
  let main_v25 : FVec F S2x256x1024 .f32 := broadcastInDim S2x256x1024 ![0, 1, 2] bcast_S2x256x1_S2x256x1024_0_1_2 main_v21
  let main_v26 : FVec F S2x256x1024 .f32 := broadcastInDim S2x256x1024 ![0, 1, 2] bcast_S2x1x1024_S2x256x1024_0_1_2 main_v24
  let main_v27 : FVec F S2x256x1024 .f32 := addf main_v25 main_v26
  let main_v28 : FVec F S2x256x1024 .f32 := (fun l r => Host.dotGeneral dot_S2x256x3_S2x1024x3_S2x256x1024_2_2_1_1_0_0 none l r) main_arg0 main_arg1
  let main_cst_8 : FVec F S_ .f32 := constant S_ .f32 0x40000000#32
  let main_v29 : FVec F S2x256x1024 .f32 := broadcastInDim S2x256x1024 ![] bcast_S_S2x256x1024 main_cst_8
  let main_v30 : FVec F S2x256x1024 .f32 := mulf main_v29 main_v28
  let main_v31 : FVec F S2x256x1024 .f32 := subf main_v27 main_v30
  let main_v32 : FVec F S2x256x1024 .f32 := Host.negf main_v31
  let main_values : FVec F S2x256x17 .f32 := (fun x => (Host.topK S2x256x17 2 (FloatOps.cmpfTotal .gt) x sliceFits_S2x256x1024_S2x256x17).1) main_v32
  let main_indices : IVec S2x256x17 32 := (fun x => (Host.topK S2x256x17 2 (FloatOps.cmpfTotal .gt) x sliceFits_S2x256x1024_S2x256x17).2) main_v32
  let main_v33 : FVec F S2x256x16 .f32 := (extractStridedSlice S2x256x16 ![0, 0, 1] · slices_S2x256x17_S2x256x16_0_0_1) main_values
  let main_v34 : FVec F S2x256x16 .f32 := (extractStridedSlice S2x256x16 ![0, 0, 0] · slices_S2x256x17_S2x256x16_0_0_0) main_values
  fn_part2 (F := F) main_v18 main_values main_v33 main_v34

def fn {F : FTy → Type} [FloatOps F] (main_arg0 : FVec F S2x256x3 .f32) (main_arg1 : FVec F S2x1024x3 .f32) (main_arg2 : FVec F S2x1024x128 .f32) (main_arg3 : FVec F S131x256 .f32) (main_arg4 : FVec F S256 .f32) : IVec S_ 1 :=
  let main_v0 : FVec F S2x256x3 .f32 := Host.absf main_arg0
  let main_cst : FVec F S_ .f32 := constant S_ .f32 0x7F800000#32
  let main_v1 : FVec F S2x256x3 .f32 := broadcastInDim S2x256x3 ![] bcast_S_S2x256x3 main_cst
  let main_v2 : IVec S2x256x3 1 := cmpf .olt main_v0 main_v1
  let main_c : IVec S_ 1 := constantI S_ 1 1#1
  let main_v3 : IVec S_ 1 := (fun x v => Host.reduce IntOp.andi x v reducesTo_S2x256x3_S_d0_1_2 h_S_) main_v2 main_c
  let main_v4 : FVec F S2x1024x3 .f32 := Host.absf main_arg1
  let main_cst_0 : FVec F S_ .f32 := constant S_ .f32 0x7F800000#32
  let main_v5 : FVec F S2x1024x3 .f32 := broadcastInDim S2x1024x3 ![] bcast_S_S2x1024x3 main_cst_0
  let main_v6 : IVec S2x1024x3 1 := cmpf .olt main_v4 main_v5
  let main_c_1 : IVec S_ 1 := constantI S_ 1 1#1
  let main_v7 : IVec S_ 1 := (fun x v => Host.reduce IntOp.andi x v reducesTo_S2x1024x3_S_d0_1_2 h_S_) main_v6 main_c_1
  let main_v8 : IVec S_ 1 := andi main_v3 main_v7
  let main_v9 : FVec F S2x1024x128 .f32 := Host.absf main_arg2
  let main_cst_2 : FVec F S_ .f32 := constant S_ .f32 0x7F800000#32
  let main_v10 : FVec F S2x1024x128 .f32 := broadcastInDim S2x1024x128 ![] bcast_S_S2x1024x128 main_cst_2
  let main_v11 : IVec S2x1024x128 1 := cmpf .olt main_v9 main_v10
  let main_c_3 : IVec S_ 1 := constantI S_ 1 1#1
  let main_v12 : IVec S_ 1 := (fun x v => Host.reduce IntOp.andi x v reducesTo_S2x1024x128_S_d0_1_2 h_S_) main_v11 main_c_3
  let main_v13 : IVec S_ 1 := andi main_v8 main_v12
  let main_v14 : FVec F S131x256 .f32 := Host.absf main_arg3
  let main_cst_4 : FVec F S_ .f32 := constant S_ .f32 0x7F800000#32
  let main_v15 : FVec F S131x256 .f32 := broadcastInDim S131x256 ![] bcast_S_S131x256 main_cst_4
  let main_v16 : IVec S131x256 1 := cmpf .olt main_v14 main_v15
  fn_part1 (F := F) main_arg0 main_arg1 main_v13 main_v16
-- ==== Pre_near2.lean ====
abbrev S2x64x3 : Shape := ⟨3, ![2, 64, 3]⟩
abbrev S2x256x3 : Shape := ⟨3, ![2, 256, 3]⟩
abbrev S2x256x256 : Shape := ⟨3, ![2, 256, 256]⟩
abbrev S259x512 : Shape := ⟨2, ![259, 512]⟩
abbrev S512 : Shape := ⟨1, ![512]⟩
abbrev S_ : Shape := ⟨0, ![]⟩
abbrev S2x64 : Shape := ⟨2, ![2, 64]⟩
abbrev S2x64x1 : Shape := ⟨3, ![2, 64, 1]⟩
abbrev S2x256 : Shape := ⟨2, ![2, 256]⟩
abbrev S2x1x256 : Shape := ⟨3, ![2, 1, 256]⟩
abbrev S2x64x256 : Shape := ⟨3, ![2, 64, 256]⟩
abbrev S2x64x17 : Shape := ⟨3, ![2, 64, 17]⟩
abbrev S2x64x16 : Shape := ⟨3, ![2, 64, 16]⟩

class Facts : Prop where
  bcast_S_S2x64x3 : S_.BroadcastsInDim S2x64x3 (![] : Fin 0 → Fin S2x64x3.rank)
  reducesTo_S2x64x3_S_d0_1_2 : S2x64x3.ReducesTo [0, 1, 2] S_
  h_S_ : 0 < S_.numel
  bcast_S_S2x256x3 : S_.BroadcastsInDim S2x256x3 (![] : Fin 0 → Fin S2x256x3.rank)
  reducesTo_S2x256x3_S_d0_1_2 : S2x256x3.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S259x512 : S_.BroadcastsInDim S259x512 (![] : Fin 0 → Fin S259x512.rank)
  reducesTo_S259x512_S_d0_1 : S259x512.ReducesTo [0, 1] S_
  reducesTo_S2x64x3_S2x64_d2 : S2x64x3.ReducesTo [2] S2x64
  bcast_S2x64_S2x64x1_0_1 : S2x64.BroadcastsInDim S2x64x1 (![0, 1] : Fin 2 → Fin S2x64x1.rank)
  reducesTo_S2x256x3_S2x256_d2 : S2x256x3.ReducesTo [2] S2x256
  bcast_S2x256_S2x1x256_0_2 : S2x256.BroadcastsInDim S2x1x256 (![0, 2] : Fin 2 → Fin S2x1x256.rank)
  bcast_S2x64x1_S2x64x256_0_1_2 : S2x64x1.BroadcastsInDim S2x64x256 (![0, 1, 2] : Fin 3 → Fin S2x64x256.rank)
  bcast_S2x1x256_S2x64x256_0_1_2 : S2x1x256.BroadcastsInDim S2x64x256 (![0, 1, 2] : Fin 3 → Fin S2x64x256.rank)
  bcast_S_S2x64x256 : S_.BroadcastsInDim S2x64x256 (![] : Fin 0 → Fin S2x64x256.rank)
  sliceFits_S2x64x256_S2x64x17 : S2x64x256.Slices (fun _ => 0) S2x64x17
  slices_S2x64x17_S2x64x16_0_0_1 : S2x64x17.Slices ![0, 0, 1] S2x64x16
  slices_S2x64x17_S2x64x16_0_0_0 : S2x64x17.Slices ![0, 0, 0] S2x64x16
  reducesTo_S2x64x16_S_d0_1_2 : S2x64x16.ReducesTo [0, 1, 2] S_
  bcast_S_S2x64x17 : S_.BroadcastsInDim S2x64x17 (![] : Fin 0 → Fin S2x64x17.rank)
  reducesTo_S2x64x17_S_d0_1_2 : S2x64x17.ReducesTo [0, 1, 2] S_
  dot_S2x64x3_S2x256x3_S2x64x256_2_2_1_1_0_0_wf : DotDims.WF S2x64x3 S2x256x3 S2x64x256 [2] [2] [1] [1] [0] [0]

variable [Facts]

def dot_S2x64x3_S2x256x3_S2x64x256_2_2_1_1_0_0 : DotDims S2x64x3 S2x256x3 S2x64x256 where
  lhsContracting := [2]
  rhsContracting := [2]
  lhsNonContracting := [1]
  rhsNonContracting := [1]
  lhsBatch := [0]
  rhsBatch := [0]
  wf := dot_S2x64x3_S2x256x3_S2x64x256_2_2_1_1_0_0_wf
def fn_part2 {F : FTy → Type} [FloatOps F] (main_v18 : IVec S_ 1) (main_values : FVec F S2x64x17 .f32) (main_v33 : FVec F S2x64x16 .f32) (main_v34 : FVec F S2x64x16 .f32) : IVec S_ 1 :=
  let main_v35 : IVec S2x64x16 1 := cmpf .olt main_v33 main_v34
  let main_c_9 : IVec S_ 1 := constantI S_ 1 1#1
  let main_v36 : IVec S_ 1 := (fun x v => Host.reduce IntOp.andi x v reducesTo_S2x64x16_S_d0_1_2 h_S_) main_v35 main_c_9
  let main_cst_10 : FVec F S_ .f32 := constant S_ .f32 0x7F800000#32
  let main_v37 : FVec F S2x64x17 .f32 := broadcastInDim S2x64x17 ![] bcast_S_S2x64x17 main_cst_10
  let main_v38 : IVec S2x64x17 1 := cmpf .olt main_values main_v37
  let main_c_11 : IVec S_ 1 := constantI S_ 1 1#1
  let main_v39 : IVec S_ 1 := (fun x v => Host.reduce IntOp.andi x v reducesTo_S2x64x17_S_d0_1_2 h_S_) main_v38 main_c_11
  let main_v40 : IVec S_ 1 := andi main_v36 main_v39
  let main_v41 : IVec S_ 1 := andi main_v18 main_v40
  main_v41

def fn_part1 {F : FTy → Type} [FloatOps F] (main_arg0 : FVec F S2x64x3 .f32) (main_arg1 : FVec F S2x256x3 .f32) (main_v13 : IVec S_ 1) (main_v16 : IVec S259x512 1) : IVec S_ 1 :=
  let main_c_5 : IVec S_ 1 := constantI S_ 1 1#1
  let main_v17 : IVec S_ 1 := (fun x v => Host.reduce IntOp.andi x v reducesTo_S259x512_S_d0_1 h_S_) main_v16 main_c_5
  let main_v18 : IVec S_ 1 := andi main_v13 main_v17
  let main_v19 : FVec F S2x64x3 .f32 := mulf main_arg0 main_arg0
  let main_cst_6 : FVec F S_ .f32 := constant S_ .f32 0x00000000#32
  let main_v20 : FVec F S2x64 .f32 := (fun x v => Host.reduceAdd x v reducesTo_S2x64x3_S2x64_d2 h_S_) main_v19 main_cst_6
  let main_v21 : FVec F S2x64x1 .f32 := broadcastInDim S2x64x1 ![0, 1] bcast_S2x64_S2x64x1_0_1 main_v20
  let main_v22 : FVec F S2x256x3 .f32 := mulf main_arg1 main_arg1
  let main_cst_7 : FVec F S_ .f32 := constant S_ .f32 0x00000000#32
  let main_v23 : FVec F S2x256 .f32 := (fun x v => Host.reduceAdd x v reducesTo_S2x256x3_S2x256_d2 h_S_) main_v22 main_cst_7
  let main_v24 : FVec F S2x1x256 .f32 := broadcastInDim S2x1x256 ![0, 2] bcast_S2x256_S2x1x256_0_2 main_v23
  let main_v25 : FVec F S2x64x256 .f32 := broadcastInDim S2x64x256 ![0, 1, 2] bcast_S2x64x1_S2x64x256_0_1_2 main_v21
  let main_v26 : FVec F S2x64x256 .f32 := broadcastInDim S2x64x256 ![0, 1, 2] bcast_S2x1x256_S2x64x256_0_1_2 main_v24
  let main_v27 : FVec F S2x64x256 .f32 := addf main_v25 main_v26
  let main_v28 : FVec F S2x64x256 .f32 := (fun l r => Host.dotGeneral dot_S2x64x3_S2x256x3_S2x64x256_2_2_1_1_0_0 none l r) main_arg0 main_arg1
  let main_cst_8 : FVec F S_ .f32 := constant S_ .f32 0x40000000#32
  let main_v29 : FVec F S2x64x256 .f32 := broadcastInDim S2x64x256 ![] bcast_S_S2x64x256 main_cst_8
  let main_v30 : FVec F S2x64x256 .f32 := mulf main_v29 main_v28
  let main_v31 : FVec F S2x64x256 .f32 := subf main_v27 main_v30
  let main_v32 : FVec F S2x64x256 .f32 := Host.negf main_v31
  let main_values : FVec F S2x64x17 .f32 := (fun x => (Host.topK S2x64x17 2 (FloatOps.cmpfTotal .gt) x sliceFits_S2x64x256_S2x64x17).1) main_v32
  let main_indices : IVec S2x64x17 32 := (fun x => (Host.topK S2x64x17 2 (FloatOps.cmpfTotal .gt) x sliceFits_S2x64x256_S2x64x17).2) main_v32
  let main_v33 : FVec F S2x64x16 .f32 := (extractStridedSlice S2x64x16 ![0, 0, 1] · slices_S2x64x17_S2x64x16_0_0_1) main_values
  let main_v34 : FVec F S2x64x16 .f32 := (extractStridedSlice S2x64x16 ![0, 0, 0] · slices_S2x64x17_S2x64x16_0_0_0) main_values
  fn_part2 (F := F) main_v18 main_values main_v33 main_v34

def fn {F : FTy → Type} [FloatOps F] (main_arg0 : FVec F S2x64x3 .f32) (main_arg1 : FVec F S2x256x3 .f32) (main_arg2 : FVec F S2x256x256 .f32) (main_arg3 : FVec F S259x512 .f32) (main_arg4 : FVec F S512 .f32) : IVec S_ 1 :=
  let main_v0 : FVec F S2x64x3 .f32 := Host.absf main_arg0
  let main_cst : FVec F S_ .f32 := constant S_ .f32 0x7F800000#32
  let main_v1 : FVec F S2x64x3 .f32 := broadcastInDim S2x64x3 ![] bcast_S_S2x64x3 main_cst
  let main_v2 : IVec S2x64x3 1 := cmpf .olt main_v0 main_v1
  let main_c : IVec S_ 1 := constantI S_ 1 1#1
  let main_v3 : IVec S_ 1 := (fun x v => Host.reduce IntOp.andi x v reducesTo_S2x64x3_S_d0_1_2 h_S_) main_v2 main_c
  let main_v4 : FVec F S2x256x3 .f32 := Host.absf main_arg1
  let main_cst_0 : FVec F S_ .f32 := constant S_ .f32 0x7F800000#32
  let main_v5 : FVec F S2x256x3 .f32 := broadcastInDim S2x256x3 ![] bcast_S_S2x256x3 main_cst_0
  let main_v6 : IVec S2x256x3 1 := cmpf .olt main_v4 main_v5
  let main_c_1 : IVec S_ 1 := constantI S_ 1 1#1
  let main_v7 : IVec S_ 1 := (fun x v => Host.reduce IntOp.andi x v reducesTo_S2x256x3_S_d0_1_2 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S259x512 .f32 := Host.absf main_arg3
  let main_cst_4 : FVec F S_ .f32 := constant S_ .f32 0x7F800000#32
  let main_v15 : FVec F S259x512 .f32 := broadcastInDim S259x512 ![] bcast_S_S259x512 main_cst_4
  let main_v16 : IVec S259x512 1 := cmpf .olt main_v14 main_v15
  fn_part1 (F := F) main_arg0 main_arg1 main_v13 main_v16
-- ==== Attention0.lean ====
abbrev S2x4096x64 : Shape := ⟨3, ![2, 4096, 64]⟩
abbrev S2x4096x3 : Shape := ⟨3, ![2, 4096, 3]⟩
abbrev S64x192 : Shape := ⟨2, ![64, 192]⟩
abbrev S64x64 : Shape := ⟨2, ![64, 64]⟩
abbrev S2x64x4096 : Shape := ⟨3, ![2, 64, 4096]⟩
abbrev S2x3x4096 : Shape := ⟨3, ![2, 3, 4096]⟩
abbrev S1x512x64 : Shape := ⟨3, ![1, 512, 64]⟩
abbrev S1x4096x64 : Shape := ⟨3, ![1, 4096, 64]⟩
abbrev S1x64x4096 : Shape := ⟨3, ![1, 64, 4096]⟩
abbrev S1x512x3 : Shape := ⟨3, ![1, 512, 3]⟩
abbrev S1x3x4096 : Shape := ⟨3, ![1, 3, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S512x64 : Shape := ⟨2, ![512, 64]⟩
abbrev S4096x64 : Shape := ⟨2, ![4096, 64]⟩
abbrev S64x4096 : Shape := ⟨2, ![64, 4096]⟩
abbrev S64x32 : Shape := ⟨2, ![64, 32]⟩
abbrev S32x64 : Shape := ⟨2, ![32, 64]⟩
abbrev S32x4096 : Shape := ⟨2, ![32, 4096]⟩
abbrev S4096x32 : Shape := ⟨2, ![4096, 32]⟩
abbrev S512x32 : Shape := ⟨2, ![512, 32]⟩

abbrev nBuf : Space → Nat
  | .hbm => 7
  | .vmem => 14
  | .smem => 0
  | _ => 0

abbrev bufTy : (tb : Table) → Fin (tcTables nBuf tb) → BufTy
  | .hbm, ⟨0, _⟩ => ⟨S2x4096x64, .f32⟩
  | .hbm, ⟨1, _⟩ => ⟨S2x4096x3, .f32⟩
  | .hbm, ⟨2, _⟩ => ⟨S64x192, .f32⟩
  | .hbm, ⟨3, _⟩ => ⟨S64x64, .f32⟩
  | .hbm, ⟨4, _⟩ => ⟨S2x64x4096, .f32⟩
  | .hbm, ⟨5, _⟩ => ⟨S2x3x4096, .f32⟩
  | .hbm, ⟨6, _⟩ => ⟨S2x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x64x4096, .f32⟩
  | .local _ .vmem, ⟨5, _⟩ => ⟨S1x64x4096, .f32⟩
  | .local _ .vmem, ⟨6, _⟩ => ⟨S1x512x3, .f32⟩
  | .local _ .vmem, ⟨7, _⟩ => ⟨S1x512x3, .f32⟩
  | .local _ .vmem, ⟨8, _⟩ => ⟨S1x3x4096, .f32⟩
  | .local _ .vmem, ⟨9, _⟩ => ⟨S1x3x4096, .f32⟩
  | .local _ .vmem, ⟨10, _⟩ => ⟨S64x192, .f32⟩
  | .local _ .vmem, ⟨11, _⟩ => ⟨S64x64, .f32⟩
  | .local _ .vmem, ⟨12, _⟩ => ⟨S1x512x64, .f32⟩
  | .local _ .vmem, ⟨13, _⟩ => ⟨S1x512x64, .f32⟩
  | _, _ => ⟨S2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attention0Ideal.lean ====
variable {F : FTy → Type} [FloatOps F] [Named F]
def κ : String → Option EReal := fun
  | "mask" => some ⊥
  | "scale" => some (((Real.sqrt 32)⁻¹ : ℝ) : EReal)
  | _ => none
-- ==== RefAttention0Ideal.lean ====
abbrev S2x4096x64 : Shape := ⟨3, ![2, 4096, 64]⟩
abbrev S2x4096x3 : Shape := ⟨3, ![2, 4096, 3]⟩
abbrev S64x192 : Shape := ⟨2, ![64, 192]⟩
abbrev S64x64 : Shape := ⟨2, ![64, 64]⟩
abbrev S2x4096x192 : Shape := ⟨3, ![2, 4096, 192]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x20 : Shape := ⟨3, ![2, 4096, 20]⟩
abbrev S2x4096x2x32 : Shape := ⟨4, ![2, 4096, 2, 32]⟩
abbrev S2x81920x1 : Shape := ⟨3, ![2, 81920, 1]⟩
abbrev S2x81920x64 : Shape := ⟨3, ![2, 81920, 64]⟩
abbrev S2x4096x20x64 : Shape := ⟨4, ![2, 4096, 20, 64]⟩
abbrev S2x4096x20x2x32 : Shape := ⟨5, ![2, 4096, 20, 2, 32]⟩
abbrev S2x4096x2x20 : Shape := ⟨4, ![2, 4096, 2, 20]⟩
abbrev S2x4096x2 : Shape := ⟨3, ![2, 4096, 2]⟩
abbrev S2x4096x2x1 : Shape := ⟨4, ![2, 4096, 2, 1]⟩

abbrev nBuf : Space → Nat
  | .hbm => 73
  | .vmem => 0
  | .smem => 0
  | _ => 0

abbrev bufTy : (tb : Table) → Fin (tcTables nBuf tb) → BufTy
  | .hbm, ⟨0, _⟩ => ⟨S2x4096x64, .f32⟩
  | .hbm, ⟨1, _⟩ => ⟨S2x4096x3, .f32⟩
  | .hbm, ⟨2, _⟩ => ⟨S64x192, .f32⟩
  | .hbm, ⟨3, _⟩ => ⟨S64x64, .f32⟩
  | .hbm, ⟨4, _⟩ => ⟨S2x4096x192, .f32⟩
  | .hbm, ⟨5, _⟩ => ⟨S2x4096x64, .f32⟩
  | .hbm, ⟨6, _⟩ => ⟨S2x4096x64, .f32⟩
  | .hbm, ⟨7, _⟩ => ⟨S2x4096x64, .f32⟩
  | .hbm, ⟨8, _⟩ => ⟨S2x4096x3, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S2x4096x3, .f32⟩
  | .hbm, ⟨13, _⟩ => ⟨S_, .f32⟩
  | .hbm, ⟨14, _⟩ => ⟨S2x4096, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S2x4096x20, .f32⟩
  | .hbm, ⟨26, _⟩ => ⟨S2x4096x20, .i32⟩
  | .hbm, ⟨27, _⟩ => ⟨S2x4096x2x32, .f32⟩
  | .hbm, ⟨28, _⟩ => ⟨S2x81920x1, .i32⟩
  | .hbm, ⟨29, _⟩ => ⟨S_, .i32⟩
  | .hbm, ⟨30, _⟩ => ⟨S2x81920x1, .i32⟩
  | .hbm, ⟨31, _⟩ => ⟨S2x81920x1, .i1⟩
  | .hbm, ⟨32, _⟩ => ⟨S_, .i32⟩
  | .hbm, ⟨33, _⟩ => ⟨S2x81920x1, .i32⟩
  | .hbm, ⟨34, _⟩ => ⟨S2x81920x1, .i32⟩
  | .hbm, ⟨35, _⟩ => ⟨S2x81920x1, .i32⟩
  | .hbm, ⟨36, _⟩ => ⟨S2x81920x64, .f32⟩
  | .hbm, ⟨37, _⟩ => ⟨S2x4096x20x64, .f32⟩
  | .hbm, ⟨38, _⟩ => ⟨S2x4096x20x2x32, .f32⟩
  | .hbm, ⟨39, _⟩ => ⟨S2x81920x1, .i32⟩
  | .hbm, ⟨40, _⟩ => ⟨S_, .i32⟩
  | .hbm, ⟨41, _⟩ => ⟨S2x81920x1, .i32⟩
  | .hbm, ⟨42, _⟩ => ⟨S2x81920x1, .i1⟩
  | .hbm, ⟨43, _⟩ => ⟨S_, .i32⟩
  | .hbm, ⟨44, _⟩ => ⟨S2x81920x1, .i32⟩
  | .hbm, ⟨45, _⟩ => ⟨S2x81920x1, .i32⟩
  | .hbm, ⟨46, _⟩ => ⟨S2x81920x1, .i32⟩
  | .hbm, ⟨47, _⟩ => ⟨S2x81920x64, .f32⟩
  | .hbm, ⟨48, _⟩ => ⟨S2x4096x20x64, .f32⟩
  | .hbm, ⟨49, _⟩ => ⟨S2x4096x20x2x32, .f32⟩
  | .hbm, ⟨50, _⟩ => ⟨S2x4096x2x20, .f32⟩
  | .hbm, ⟨51, _⟩ => ⟨S_, .f32⟩
  | .hbm, ⟨52, _⟩ => ⟨S_, .f32⟩
  | .hbm, ⟨53, _⟩ => ⟨S2x4096x2x20, .f32⟩
  | .hbm, ⟨54, _⟩ => ⟨S2x4096x2x20, .f32⟩
  | .hbm, ⟨55, _⟩ => ⟨S_, .f32⟩
  | .hbm, ⟨56, _⟩ => ⟨S2x4096x2, .f32⟩
  | .hbm, ⟨57, _⟩ => ⟨S_, .f32⟩
  | .hbm, ⟨58, _⟩ => ⟨S2x4096x2, .f32⟩
  | .hbm, ⟨59, _⟩ => ⟨S2x4096x2, .f32⟩
  | .hbm, ⟨60, _⟩ => ⟨S2x4096x2x1, .f32⟩
  | .hbm, ⟨61, _⟩ => ⟨S2x4096x2x20, .f32⟩
  | .hbm, ⟨62, _⟩ => ⟨S2x4096x2x20, .f32⟩
  | .hbm, ⟨63, _⟩ => ⟨S2x4096x2x20, .f32⟩
  | .hbm, ⟨64, _⟩ => ⟨S_, .f32⟩
  | .hbm, ⟨65, _⟩ => ⟨S2x4096x2, .f32⟩
  | .hbm, ⟨66, _⟩ => ⟨S2x4096x2x1, .f32⟩
  | .hbm, ⟨67, _⟩ => ⟨S2x4096x2x20, .f32⟩
  | .hbm, ⟨68, _⟩ => ⟨S2x4096x2x20, .f32⟩
  | .hbm, ⟨69, _⟩ => ⟨S2x4096x2x32, .f32⟩
  | .hbm, ⟨70, _⟩ => ⟨S2x4096x64, .f32⟩
  | .hbm, ⟨71, _⟩ => ⟨S2x4096x64, .f32⟩
  | .hbm, ⟨72, _⟩ => ⟨S2x4096x64, .f32⟩
  | _, _ => ⟨S2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Attention1.lean ====
abbrev S2x1024x128 : Shape := ⟨3, ![2, 1024, 128]⟩
abbrev S2x1024x3 : Shape := ⟨3, ![2, 1024, 3]⟩
abbrev S128x384 : Shape := ⟨2, ![128, 384]⟩
abbrev S128x128 : Shape := ⟨2, ![128, 128]⟩
abbrev S2x128x1024 : Shape := ⟨3, ![2, 128, 1024]⟩
abbrev S2x3x1024 : Shape := ⟨3, ![2, 3, 1024]⟩
abbrev S1x512x128 : Shape := ⟨3, ![1, 512, 128]⟩
abbrev S1x1024x128 : Shape := ⟨3, ![1, 1024, 128]⟩
abbrev S1x128x1024 : Shape := ⟨3, ![1, 128, 1024]⟩
abbrev S1x512x3 : Shape := ⟨3, ![1, 512, 3]⟩
abbrev S1x3x1024 : Shape := ⟨3, ![1, 3, 1024]⟩
abbrev S512x3 : Shape := ⟨2, ![512, 3]⟩
abbrev S3x1024 : Shape := ⟨2, ![3, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1024x128 : Shape := ⟨2, ![1024, 128]⟩
abbrev S128x1024 : Shape := ⟨2, ![128, 1024]⟩
abbrev S128x64 : Shape := ⟨2, ![128, 64]⟩
abbrev S64x128 : Shape := ⟨2, ![64, 128]⟩
abbrev S64x1024 : Shape := ⟨2, ![64, 1024]⟩
abbrev S1024x64 : Shape := ⟨2, ![1024, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S2x1024x3, .f32⟩
  | .hbm, ⟨2, _⟩ => ⟨S128x384, .f32⟩
  | .hbm, ⟨3, _⟩ => ⟨S128x128, .f32⟩
  | .hbm, ⟨4, _⟩ => ⟨S2x128x1024, .f32⟩
  | .hbm, ⟨5, _⟩ => ⟨S2x3x1024, .f32⟩
  | .hbm, ⟨6, _⟩ => ⟨S2x1024x128, .f32⟩
  | .local _ .vmem, ⟨0, _⟩ => ⟨S1x512x128, .f32⟩
  | .local _ .vmem, ⟨1, _⟩ => ⟨S1x512x128, .f32⟩
  | .local _ .vmem, ⟨2, _⟩ => ⟨S1x1024x128, .f32⟩
  | .local _ .vmem, ⟨3, _⟩ => ⟨S1x1024x128, .f32⟩
  | .local _ .vmem, ⟨4, _⟩ => ⟨S1x128x1024, .f32⟩
  | .local _ .vmem, ⟨5, _⟩ => ⟨S1x128x1024, .f32⟩
  | .local _ .vmem, ⟨6, _⟩ => ⟨S1x512x3, .f32⟩
  | .local _ .vmem, ⟨7, _⟩ => ⟨S1x512x3, .f32⟩
  | .local _ .vmem, ⟨8, _⟩ => ⟨S1x3x1024, .f32⟩
  | .local _ .vmem, ⟨9, _⟩ => ⟨S1x3x1024, .f32⟩
  | .local _ .vmem, ⟨10, _⟩ => ⟨S128x384, .f32⟩
  | .local _ .vmem, ⟨11, _⟩ => ⟨S128x128, .f32⟩
  | .local _ .vmem, ⟨12, _⟩ => ⟨S1x512x128, .f32⟩
  | .local _ .vmem, ⟨13, _⟩ => ⟨S1x512x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attention1Ideal.lean ====
variable {F : FTy → Type} [FloatOps F] [Named F]
def κ : String → Option EReal := fun
  | "mask" => some ⊥
  | _ => none
-- ==== RefAttention1Ideal.lean ====
abbrev S2x1024x128 : Shape := ⟨3, ![2, 1024, 128]⟩
abbrev S2x1024x3 : Shape := ⟨3, ![2, 1024, 3]⟩
abbrev S128x384 : Shape := ⟨2, ![128, 384]⟩
abbrev S128x128 : Shape := ⟨2, ![128, 128]⟩
abbrev S2x1024x384 : Shape := ⟨3, ![2, 1024, 384]⟩
abbrev S_ : Shape := ⟨0, ![]⟩
abbrev S2x1024 : Shape := ⟨2, ![2, 1024]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S2x1024x20 : Shape := ⟨3, ![2, 1024, 20]⟩
abbrev S2x1024x2x64 : Shape := ⟨4, ![2, 1024, 2, 64]⟩
abbrev S2x20480x1 : Shape := ⟨3, ![2, 20480, 1]⟩
abbrev S2x20480x128 : Shape := ⟨3, ![2, 20480, 128]⟩
abbrev S2x1024x20x128 : Shape := ⟨4, ![2, 1024, 20, 128]⟩
abbrev S2x1024x20x2x64 : Shape := ⟨5, ![2, 1024, 20, 2, 64]⟩
abbrev S2x1024x2x20 : Shape := ⟨4, ![2, 1024, 2, 20]⟩
abbrev S2x1024x2 : Shape := ⟨3, ![2, 1024, 2]⟩
abbrev S2x1024x2x1 : Shape := ⟨4, ![2, 1024, 2, 1]⟩

abbrev nBuf : Space → Nat
  | .hbm => 73
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S2x1024x3, .f32⟩
  | .hbm, ⟨2, _⟩ => ⟨S128x384, .f32⟩
  | .hbm, ⟨3, _⟩ => ⟨S128x128, .f32⟩
  | .hbm, ⟨4, _⟩ => ⟨S2x1024x384, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .hbm, ⟨8, _⟩ => ⟨S2x1024x3, .f32⟩
  | .hbm, ⟨9, _⟩ => ⟨S_, .f32⟩
  | .hbm, ⟨10, _⟩ => ⟨S2x1024, .f32⟩
  | .hbm, ⟨11, _⟩ => ⟨S2x1024x1, .f32⟩
  | .hbm, ⟨12, _⟩ => ⟨S2x1024x3, .f32⟩
  | .hbm, ⟨13, _⟩ => ⟨S_, .f32⟩
  | .hbm, ⟨14, _⟩ => ⟨S2x1024, .f32⟩
  | .hbm, ⟨15, _⟩ => ⟨S2x1x1024, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S2x1024x1024, .f32⟩
  | .hbm, ⟨20, _⟩ => ⟨S_, .f32⟩
  | .hbm, ⟨21, _⟩ => ⟨S2x1024x1024, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S2x1024x20, .f32⟩
  | .hbm, ⟨26, _⟩ => ⟨S2x1024x20, .i32⟩
  | .hbm, ⟨27, _⟩ => ⟨S2x1024x2x64, .f32⟩
  | .hbm, ⟨28, _⟩ => ⟨S2x20480x1, .i32⟩
  | .hbm, ⟨29, _⟩ => ⟨S_, .i32⟩
  | .hbm, ⟨30, _⟩ => ⟨S2x20480x1, .i32⟩
  | .hbm, ⟨31, _⟩ => ⟨S2x20480x1, .i1⟩
  | .hbm, ⟨32, _⟩ => ⟨S_, .i32⟩
  | .hbm, ⟨33, _⟩ => ⟨S2x20480x1, .i32⟩
  | .hbm, ⟨34, _⟩ => ⟨S2x20480x1, .i32⟩
  | .hbm, ⟨35, _⟩ => ⟨S2x20480x1, .i32⟩
  | .hbm, ⟨36, _⟩ => ⟨S2x20480x128, .f32⟩
  | .hbm, ⟨37, _⟩ => ⟨S2x1024x20x128, .f32⟩
  | .hbm, ⟨38, _⟩ => ⟨S2x1024x20x2x64, .f32⟩
  | .hbm, ⟨39, _⟩ => ⟨S2x20480x1, .i32⟩
  | .hbm, ⟨40, _⟩ => ⟨S_, .i32⟩
  | .hbm, ⟨41, _⟩ => ⟨S2x20480x1, .i32⟩
  | .hbm, ⟨42, _⟩ => ⟨S2x20480x1, .i1⟩
  | .hbm, ⟨43, _⟩ => ⟨S_, .i32⟩
  | .hbm, ⟨44, _⟩ => ⟨S2x20480x1, .i32⟩
  | .hbm, ⟨45, _⟩ => ⟨S2x20480x1, .i32⟩
  | .hbm, ⟨46, _⟩ => ⟨S2x20480x1, .i32⟩
  | .hbm, ⟨47, _⟩ => ⟨S2x20480x128, .f32⟩
  | .hbm, ⟨48, _⟩ => ⟨S2x1024x20x128, .f32⟩
  | .hbm, ⟨49, _⟩ => ⟨S2x1024x20x2x64, .f32⟩
  | .hbm, ⟨50, _⟩ => ⟨S2x1024x2x20, .f32⟩
  | .hbm, ⟨51, _⟩ => ⟨S_, .f32⟩
  | .hbm, ⟨52, _⟩ => ⟨S_, .f32⟩
  | .hbm, ⟨53, _⟩ => ⟨S2x1024x2x20, .f32⟩
  | .hbm, ⟨54, _⟩ => ⟨S2x1024x2x20, .f32⟩
  | .hbm, ⟨55, _⟩ => ⟨S_, .f32⟩
  | .hbm, ⟨56, _⟩ => ⟨S2x1024x2, .f32⟩
  | .hbm, ⟨57, _⟩ => ⟨S_, .f32⟩
  | .hbm, ⟨58, _⟩ => ⟨S2x1024x2, .f32⟩
  | .hbm, ⟨59, _⟩ => ⟨S2x1024x2, .f32⟩
  | .hbm, ⟨60, _⟩ => ⟨S2x1024x2x1, .f32⟩
  | .hbm, ⟨61, _⟩ => ⟨S2x1024x2x20, .f32⟩
  | .hbm, ⟨62, _⟩ => ⟨S2x1024x2x20, .f32⟩
  | .hbm, ⟨63, _⟩ => ⟨S2x1024x2x20, .f32⟩
  | .hbm, ⟨64, _⟩ => ⟨S_, .f32⟩
  | .hbm, ⟨65, _⟩ => ⟨S2x1024x2, .f32⟩
  | .hbm, ⟨66, _⟩ => ⟨S2x1024x2x1, .f32⟩
  | .hbm, ⟨67, _⟩ => ⟨S2x1024x2x20, .f32⟩
  | .hbm, ⟨68, _⟩ => ⟨S2x1024x2x20, .f32⟩
  | .hbm, ⟨69, _⟩ => ⟨S2x1024x2x64, .f32⟩
  | .hbm, ⟨70, _⟩ => ⟨S2x1024x128, .f32⟩
  | .hbm, ⟨71, _⟩ => ⟨S2x1024x128, .f32⟩
  | .hbm, ⟨72, _⟩ => ⟨S2x1024x128, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Attention2.lean ====
abbrev S2x256x256 : Shape := ⟨3, ![2, 256, 256]⟩
abbrev S2x256x3 : Shape := ⟨3, ![2, 256, 3]⟩
abbrev S256x768 : Shape := ⟨2, ![256, 768]⟩
abbrev S256x256 : Shape := ⟨2, ![256, 256]⟩
abbrev S2x3x256 : Shape := ⟨3, ![2, 3, 256]⟩
abbrev S1x256x256 : Shape := ⟨3, ![1, 256, 256]⟩
abbrev S1x256x3 : Shape := ⟨3, ![1, 256, 3]⟩
abbrev S1x3x256 : Shape := ⟨3, ![1, 3, 256]⟩
abbrev S256x3 : Shape := ⟨2, ![256, 3]⟩
abbrev S3x256 : Shape := ⟨2, ![3, 256]⟩
abbrev S256 : Shape := ⟨1, ![256]⟩
abbrev S256x1 : Shape := ⟨2, ![256, 1]⟩
abbrev S1x256 : Shape := ⟨2, ![1, 256]⟩
abbrev S256x128 : Shape := ⟨2, ![256, 128]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x3, .f32⟩
  | .hbm, ⟨2, _⟩ => ⟨S256x768, .f32⟩
  | .hbm, ⟨3, _⟩ => ⟨S256x256, .f32⟩
  | .hbm, ⟨4, _⟩ => ⟨S2x256x256, .f32⟩
  | .hbm, ⟨5, _⟩ => ⟨S2x3x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x3, .f32⟩
  | .local _ .vmem, ⟨7, _⟩ => ⟨S1x256x3, .f32⟩
  | .local _ .vmem, ⟨8, _⟩ => ⟨S1x3x256, .f32⟩
  | .local _ .vmem, ⟨9, _⟩ => ⟨S1x3x256, .f32⟩
  | .local _ .vmem, ⟨10, _⟩ => ⟨S256x768, .f32⟩
  | .local _ .vmem, ⟨11, _⟩ => ⟨S256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attention2Ideal.lean ====
variable {F : FTy → Type} [FloatOps F] [Named F]
def κ : String → Option EReal := fun
  | "mask" => some ⊥
  | "scale" => some (((Real.sqrt 128)⁻¹ : ℝ) : EReal)
  | _ => none
-- ==== RefAttention2Ideal.lean ====
abbrev S2x256x256 : Shape := ⟨3, ![2, 256, 256]⟩
abbrev S2x256x3 : Shape := ⟨3, ![2, 256, 3]⟩
abbrev S256x768 : Shape := ⟨2, ![256, 768]⟩
abbrev S256x256 : Shape := ⟨2, ![256, 256]⟩
abbrev S2x256x768 : Shape := ⟨3, ![2, 256, 768]⟩
abbrev S_ : Shape := ⟨0, ![]⟩
abbrev S2x256 : Shape := ⟨2, ![2, 256]⟩
abbrev S2x256x1 : Shape := ⟨3, ![2, 256, 1]⟩
abbrev S2x1x256 : Shape := ⟨3, ![2, 1, 256]⟩
abbrev S2x256x20 : Shape := ⟨3, ![2, 256, 20]⟩
abbrev S2x256x2x128 : Shape := ⟨4, ![2, 256, 2, 128]⟩
abbrev S2x5120x1 : Shape := ⟨3, ![2, 5120, 1]⟩
abbrev S2x5120x256 : Shape := ⟨3, ![2, 5120, 256]⟩
abbrev S2x256x20x256 : Shape := ⟨4, ![2, 256, 20, 256]⟩
abbrev S2x256x20x2x128 : Shape := ⟨5, ![2, 256, 20, 2, 128]⟩
abbrev S2x256x2x20 : Shape := ⟨4, ![2, 256, 2, 20]⟩
abbrev S2x256x2 : Shape := ⟨3, ![2, 256, 2]⟩
abbrev S2x256x2x1 : Shape := ⟨4, ![2, 256, 2, 1]⟩

abbrev nBuf : Space → Nat
  | .hbm => 73
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x3, .f32⟩
  | .hbm, ⟨2, _⟩ => ⟨S256x768, .f32⟩
  | .hbm, ⟨3, _⟩ => ⟨S256x256, .f32⟩
  | .hbm, ⟨4, _⟩ => ⟨S2x256x768, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x3, .f32⟩
  | .hbm, ⟨9, _⟩ => ⟨S_, .f32⟩
  | .hbm, ⟨10, _⟩ => ⟨S2x256, .f32⟩
  | .hbm, ⟨11, _⟩ => ⟨S2x256x1, .f32⟩
  | .hbm, ⟨12, _⟩ => ⟨S2x256x3, .f32⟩
  | .hbm, ⟨13, _⟩ => ⟨S_, .f32⟩
  | .hbm, ⟨14, _⟩ => ⟨S2x256, .f32⟩
  | .hbm, ⟨15, _⟩ => ⟨S2x1x256, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S2x256x20, .f32⟩
  | .hbm, ⟨26, _⟩ => ⟨S2x256x20, .i32⟩
  | .hbm, ⟨27, _⟩ => ⟨S2x256x2x128, .f32⟩
  | .hbm, ⟨28, _⟩ => ⟨S2x5120x1, .i32⟩
  | .hbm, ⟨29, _⟩ => ⟨S_, .i32⟩
  | .hbm, ⟨30, _⟩ => ⟨S2x5120x1, .i32⟩
  | .hbm, ⟨31, _⟩ => ⟨S2x5120x1, .i1⟩
  | .hbm, ⟨32, _⟩ => ⟨S_, .i32⟩
  | .hbm, ⟨33, _⟩ => ⟨S2x5120x1, .i32⟩
  | .hbm, ⟨34, _⟩ => ⟨S2x5120x1, .i32⟩
  | .hbm, ⟨35, _⟩ => ⟨S2x5120x1, .i32⟩
  | .hbm, ⟨36, _⟩ => ⟨S2x5120x256, .f32⟩
  | .hbm, ⟨37, _⟩ => ⟨S2x256x20x256, .f32⟩
  | .hbm, ⟨38, _⟩ => ⟨S2x256x20x2x128, .f32⟩
  | .hbm, ⟨39, _⟩ => ⟨S2x5120x1, .i32⟩
  | .hbm, ⟨40, _⟩ => ⟨S_, .i32⟩
  | .hbm, ⟨41, _⟩ => ⟨S2x5120x1, .i32⟩
  | .hbm, ⟨42, _⟩ => ⟨S2x5120x1, .i1⟩
  | .hbm, ⟨43, _⟩ => ⟨S_, .i32⟩
  | .hbm, ⟨44, _⟩ => ⟨S2x5120x1, .i32⟩
  | .hbm, ⟨45, _⟩ => ⟨S2x5120x1, .i32⟩
  | .hbm, ⟨46, _⟩ => ⟨S2x5120x1, .i32⟩
  | .hbm, ⟨47, _⟩ => ⟨S2x5120x256, .f32⟩
  | .hbm, ⟨48, _⟩ => ⟨S2x256x20x256, .f32⟩
  | .hbm, ⟨49, _⟩ => ⟨S2x256x20x2x128, .f32⟩
  | .hbm, ⟨50, _⟩ => ⟨S2x256x2x20, .f32⟩
  | .hbm, ⟨51, _⟩ => ⟨S_, .f32⟩
  | .hbm, ⟨52, _⟩ => ⟨S_, .f32⟩
  | .hbm, ⟨53, _⟩ => ⟨S2x256x2x20, .f32⟩
  | .hbm, ⟨54, _⟩ => ⟨S2x256x2x20, .f32⟩
  | .hbm, ⟨55, _⟩ => ⟨S_, .f32⟩
  | .hbm, ⟨56, _⟩ => ⟨S2x256x2, .f32⟩
  | .hbm, ⟨57, _⟩ => ⟨S_, .f32⟩
  | .hbm, ⟨58, _⟩ => ⟨S2x256x2, .f32⟩
  | .hbm, ⟨59, _⟩ => ⟨S2x256x2, .f32⟩
  | .hbm, ⟨60, _⟩ => ⟨S2x256x2x1, .f32⟩
  | .hbm, ⟨61, _⟩ => ⟨S2x256x2x20, .f32⟩
  | .hbm, ⟨62, _⟩ => ⟨S2x256x2x20, .f32⟩
  | .hbm, ⟨63, _⟩ => ⟨S2x256x2x20, .f32⟩
  | .hbm, ⟨64, _⟩ => ⟨S_, .f32⟩
  | .hbm, ⟨65, _⟩ => ⟨S2x256x2, .f32⟩
  | .hbm, ⟨66, _⟩ => ⟨S2x256x2x1, .f32⟩
  | .hbm, ⟨67, _⟩ => ⟨S2x256x2x20, .f32⟩
  | .hbm, ⟨68, _⟩ => ⟨S2x256x2x20, .f32⟩
  | .hbm, ⟨69, _⟩ => ⟨S2x256x2x128, .f32⟩
  | .hbm, ⟨70, _⟩ => ⟨S2x256x256, .f32⟩
  | .hbm, ⟨71, _⟩ => ⟨S2x256x256, .f32⟩
  | .hbm, ⟨72, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Attention3.lean ====
abbrev S2x64x512 : Shape := ⟨3, ![2, 64, 512]⟩
abbrev S2x64x3 : Shape := ⟨3, ![2, 64, 3]⟩
abbrev S512x1536 : Shape := ⟨2, ![512, 1536]⟩
abbrev S512x512 : Shape := ⟨2, ![512, 512]⟩
abbrev S2x512x64 : Shape := ⟨3, ![2, 512, 64]⟩
abbrev S2x3x64 : Shape := ⟨3, ![2, 3, 64]⟩
abbrev S1x64x512 : Shape := ⟨3, ![1, 64, 512]⟩
abbrev S1x512x64 : Shape := ⟨3, ![1, 512, 64]⟩
abbrev S1x64x3 : Shape := ⟨3, ![1, 64, 3]⟩
abbrev S1x3x64 : Shape := ⟨3, ![1, 3, 64]⟩
abbrev S64x3 : Shape := ⟨2, ![64, 3]⟩
abbrev S3x64 : Shape := ⟨2, ![3, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x512 : Shape := ⟨2, ![64, 512]⟩
abbrev S512x64 : Shape := ⟨2, ![512, 64]⟩
abbrev S512x256 : Shape := ⟨2, ![512, 256]⟩
abbrev S256x512 : Shape := ⟨2, ![256, 512]⟩
abbrev S256x64 : Shape := ⟨2, ![256, 64]⟩
abbrev S64x256 : Shape := ⟨2, ![64, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x64x512, .f32⟩
  | .hbm, ⟨1, _⟩ => ⟨S2x64x3, .f32⟩
  | .hbm, ⟨2, _⟩ => ⟨S512x1536, .f32⟩
  | .hbm, ⟨3, _⟩ => ⟨S512x512, .f32⟩
  | .hbm, ⟨4, _⟩ => ⟨S2x512x64, .f32⟩
  | .hbm, ⟨5, _⟩ => ⟨S2x3x64, .f32⟩
  | .hbm, ⟨6, _⟩ => ⟨S2x64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x512x64, .f32⟩
  | .local _ .vmem, ⟨5, _⟩ => ⟨S1x512x64, .f32⟩
  | .local _ .vmem, ⟨6, _⟩ => ⟨S1x64x3, .f32⟩
  | .local _ .vmem, ⟨7, _⟩ => ⟨S1x64x3, .f32⟩
  | .local _ .vmem, ⟨8, _⟩ => ⟨S1x3x64, .f32⟩
  | .local _ .vmem, ⟨9, _⟩ => ⟨S1x3x64, .f32⟩
  | .local _ .vmem, ⟨10, _⟩ => ⟨S512x1536, .f32⟩
  | .local _ .vmem, ⟨11, _⟩ => ⟨S512x512, .f32⟩
  | .local _ .vmem, ⟨12, _⟩ => ⟨S1x64x512, .f32⟩
  | .local _ .vmem, ⟨13, _⟩ => ⟨S1x64x512, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attention3Ideal.lean ====
variable {F : FTy → Type} [FloatOps F] [Named F]
def κ : String → Option EReal := fun
  | "mask" => some ⊥
  | _ => none
-- ==== RefAttention3Ideal.lean ====
abbrev S2x64x512 : Shape := ⟨3, ![2, 64, 512]⟩
abbrev S2x64x3 : Shape := ⟨3, ![2, 64, 3]⟩
abbrev S512x1536 : Shape := ⟨2, ![512, 1536]⟩
abbrev S512x512 : Shape := ⟨2, ![512, 512]⟩
abbrev S2x64x1536 : Shape := ⟨3, ![2, 64, 1536]⟩
abbrev S_ : Shape := ⟨0, ![]⟩
abbrev S2x64 : Shape := ⟨2, ![2, 64]⟩
abbrev S2x64x1 : Shape := ⟨3, ![2, 64, 1]⟩
abbrev S2x1x64 : Shape := ⟨3, ![2, 1, 64]⟩
abbrev S2x64x64 : Shape := ⟨3, ![2, 64, 64]⟩
abbrev S2x64x8 : Shape := ⟨3, ![2, 64, 8]⟩
abbrev S2x64x2x256 : Shape := ⟨4, ![2, 64, 2, 256]⟩
abbrev S2x512x1 : Shape := ⟨3, ![2, 512, 1]⟩
abbrev S2x512x512 : Shape := ⟨3, ![2, 512, 512]⟩
abbrev S2x64x8x512 : Shape := ⟨4, ![2, 64, 8, 512]⟩
abbrev S2x64x8x2x256 : Shape := ⟨5, ![2, 64, 8, 2, 256]⟩
abbrev S2x64x2x8 : Shape := ⟨4, ![2, 64, 2, 8]⟩
abbrev S2x64x2 : Shape := ⟨3, ![2, 64, 2]⟩
abbrev S2x64x2x1 : Shape := ⟨4, ![2, 64, 2, 1]⟩

abbrev nBuf : Space → Nat
  | .hbm => 73
  | .vmem => 0
  | .smem => 0
  | _ => 0

abbrev bufTy : (tb : Table) → Fin (tcTables nBuf tb) → BufTy
  | .hbm, ⟨0, _⟩ => ⟨S2x64x512, .f32⟩
  | .hbm, ⟨1, _⟩ => ⟨S2x64x3, .f32⟩
  | .hbm, ⟨2, _⟩ => ⟨S512x1536, .f32⟩
  | .hbm, ⟨3, _⟩ => ⟨S512x512, .f32⟩
  | .hbm, ⟨4, _⟩ => ⟨S2x64x1536, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x3, .f32⟩
  | .hbm, ⟨9, _⟩ => ⟨S_, .f32⟩
  | .hbm, ⟨10, _⟩ => ⟨S2x64, .f32⟩
  | .hbm, ⟨11, _⟩ => ⟨S2x64x1, .f32⟩
  | .hbm, ⟨12, _⟩ => ⟨S2x64x3, .f32⟩
  | .hbm, ⟨13, _⟩ => ⟨S_, .f32⟩
  | .hbm, ⟨14, _⟩ => ⟨S2x64, .f32⟩
  | .hbm, ⟨15, _⟩ => ⟨S2x1x64, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S2x64x64, .f32⟩
  | .hbm, ⟨20, _⟩ => ⟨S_, .f32⟩
  | .hbm, ⟨21, _⟩ => ⟨S2x64x64, .f32⟩
  | .hbm, ⟨22, _⟩ => ⟨S2x64x64, .f32⟩
  | .hbm, ⟨23, _⟩ => ⟨S2x64x64, .f32⟩
  | .hbm, ⟨24, _⟩ => ⟨S2x64x64, .f32⟩
  | .hbm, ⟨25, _⟩ => ⟨S2x64x8, .f32⟩
  | .hbm, ⟨26, _⟩ => ⟨S2x64x8, .i32⟩
  | .hbm, ⟨27, _⟩ => ⟨S2x64x2x256, .f32⟩
  | .hbm, ⟨28, _⟩ => ⟨S2x512x1, .i32⟩
  | .hbm, ⟨29, _⟩ => ⟨S_, .i32⟩
  | .hbm, ⟨30, _⟩ => ⟨S2x512x1, .i32⟩
  | .hbm, ⟨31, _⟩ => ⟨S2x512x1, .i1⟩
  | .hbm, ⟨32, _⟩ => ⟨S_, .i32⟩
  | .hbm, ⟨33, _⟩ => ⟨S2x512x1, .i32⟩
  | .hbm, ⟨34, _⟩ => ⟨S2x512x1, .i32⟩
  | .hbm, ⟨35, _⟩ => ⟨S2x512x1, .i32⟩
  | .hbm, ⟨36, _⟩ => ⟨S2x512x512, .f32⟩
  | .hbm, ⟨37, _⟩ => ⟨S2x64x8x512, .f32⟩
  | .hbm, ⟨38, _⟩ => ⟨S2x64x8x2x256, .f32⟩
  | .hbm, ⟨39, _⟩ => ⟨S2x512x1, .i32⟩
  | .hbm, ⟨40, _⟩ => ⟨S_, .i32⟩
  | .hbm, ⟨41, _⟩ => ⟨S2x512x1, .i32⟩
  | .hbm, ⟨42, _⟩ => ⟨S2x512x1, .i1⟩
  | .hbm, ⟨43, _⟩ => ⟨S_, .i32⟩
  | .hbm, ⟨44, _⟩ => ⟨S2x512x1, .i32⟩
  | .hbm, ⟨45, _⟩ => ⟨S2x512x1, .i32⟩
  | .hbm, ⟨46, _⟩ => ⟨S2x512x1, .i32⟩
  | .hbm, ⟨47, _⟩ => ⟨S2x512x512, .f32⟩
  | .hbm, ⟨48, _⟩ => ⟨S2x64x8x512, .f32⟩
  | .hbm, ⟨49, _⟩ => ⟨S2x64x8x2x256, .f32⟩
  | .hbm, ⟨50, _⟩ => ⟨S2x64x2x8, .f32⟩
  | .hbm, ⟨51, _⟩ => ⟨S_, .f32⟩
  | .hbm, ⟨52, _⟩ => ⟨S_, .f32⟩
  | .hbm, ⟨53, _⟩ => ⟨S2x64x2x8, .f32⟩
  | .hbm, ⟨54, _⟩ => ⟨S2x64x2x8, .f32⟩
  | .hbm, ⟨55, _⟩ => ⟨S_, .f32⟩
  | .hbm, ⟨56, _⟩ => ⟨S2x64x2, .f32⟩
  | .hbm, ⟨57, _⟩ => ⟨S_, .f32⟩
  | .hbm, ⟨58, _⟩ => ⟨S2x64x2, .f32⟩
  | .hbm, ⟨59, _⟩ => ⟨S2x64x2, .f32⟩
  | .hbm, ⟨60, _⟩ => ⟨S2x64x2x1, .f32⟩
  | .hbm, ⟨61, _⟩ => ⟨S2x64x2x8, .f32⟩
  | .hbm, ⟨62, _⟩ => ⟨S2x64x2x8, .f32⟩
  | .hbm, ⟨63, _⟩ => ⟨S2x64x2x8, .f32⟩
  | .hbm, ⟨64, _⟩ => ⟨S_, .f32⟩
  | .hbm, ⟨65, _⟩ => ⟨S2x64x2, .f32⟩
  | .hbm, ⟨66, _⟩ => ⟨S2x64x2x1, .f32⟩
  | .hbm, ⟨67, _⟩ => ⟨S2x64x2x8, .f32⟩
  | .hbm, ⟨68, _⟩ => ⟨S2x64x2x8, .f32⟩
  | .hbm, ⟨69, _⟩ => ⟨S2x64x2x256, .f32⟩
  | .hbm, ⟨70, _⟩ => ⟨S2x64x512, .f32⟩
  | .hbm, ⟨71, _⟩ => ⟨S2x64x512, .f32⟩
  | .hbm, ⟨72, _⟩ => ⟨S2x64x512, .f32⟩
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Features0.lean ====
abbrev S2x1024x3 : Shape := ⟨3, ![2, 1024, 3]⟩
abbrev S2x4096x3 : Shape := ⟨3, ![2, 4096, 3]⟩
abbrev S2x4096x64 : Shape := ⟨3, ![2, 4096, 64]⟩
abbrev S67x128 : Shape := ⟨2, ![67, 128]⟩
abbrev S128 : Shape := ⟨1, ![128]⟩
abbrev S64x128 : Shape := ⟨2, ![64, 128]⟩
abbrev S3x128 : Shape := ⟨2, ![3, 128]⟩
abbrev S2x3x4096 : Shape := ⟨3, ![2, 3, 4096]⟩
abbrev S1x128 : Shape := ⟨2, ![1, 128]⟩
abbrev S2x1024x128 : Shape := ⟨3, ![2, 1024, 128]⟩
abbrev S1x256x3 : Shape := ⟨3, ![1, 256, 3]⟩
abbrev S1x4096x3 : Shape := ⟨3, ![1, 4096, 3]⟩
abbrev S1x3x4096 : Shape := ⟨3, ![1, 3, 4096]⟩
abbrev S1x4096x64 : Shape := ⟨3, ![1, 4096, 64]⟩
abbrev S1x256x128 : Shape := ⟨3, ![1, 256, 128]⟩
abbrev S256x3 : Shape := ⟨2, ![256, 3]⟩
abbrev S3x4096 : Shape := ⟨2, ![3, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S4096x64 : Shape := ⟨2, ![4096, 64]⟩
abbrev S4096x128 : Shape := ⟨2, ![4096, 128]⟩
abbrev S4096x3 : Shape := ⟨2, ![4096, 3]⟩
abbrev S256x128 : Shape := ⟨2, ![256, 128]⟩

abbrev nBuf : Space → Nat
  | .hbm => 10
  | .vmem => 13
  | .smem => 0
  | _ => 0

abbrev bufTy : (tb : Table) → Fin (tcTables nBuf tb) → BufTy
  | .hbm, ⟨0, _⟩ => ⟨S2x1024x3, .f32⟩
  | .hbm, ⟨1, _⟩ => ⟨S2x4096x3, .f32⟩
  | .hbm, ⟨2, _⟩ => ⟨S2x4096x64, .f32⟩
  | .hbm, ⟨3, _⟩ => ⟨S67x128, .f32⟩
  | .hbm, ⟨4, _⟩ => ⟨S128, .f32⟩
  | .hbm, ⟨5, _⟩ => ⟨S64x128, .f32⟩
  | .hbm, ⟨6, _⟩ => ⟨S3x128, .f32⟩
  | .hbm, ⟨7, _⟩ => ⟨S2x3x4096, .f32⟩
  | .hbm, ⟨8, _⟩ => ⟨S1x128, .f32⟩
  | .hbm, ⟨9, _⟩ => ⟨S2x1024x128, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x3x4096, .f32⟩
  | .local _ .vmem, ⟨5, _⟩ => ⟨S1x3x4096, .f32⟩
  | .local _ .vmem, ⟨6, _⟩ => ⟨S1x4096x64, .f32⟩
  | .local _ .vmem, ⟨7, _⟩ => ⟨S1x4096x64, .f32⟩
  | .local _ .vmem, ⟨8, _⟩ => ⟨S64x128, .f32⟩
  | .local _ .vmem, ⟨9, _⟩ => ⟨S3x128, .f32⟩
  | .local _ .vmem, ⟨10, _⟩ => ⟨S1x128, .f32⟩
  | .local _ .vmem, ⟨11, _⟩ => ⟨S1x256x128, .f32⟩
  | .local _ .vmem, ⟨12, _⟩ => ⟨S1x256x128, .f32⟩
  | _, _ => ⟨S2x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Features0Ideal.lean ====
variable {F : FTy → Type} [FloatOps F] [Named F]
def κ : String → Option EReal := fun
  | "mask" => some ⊥
  | _ => none
-- ==== RefFeatures0Ideal.lean ====
abbrev S2x1024x3 : Shape := ⟨3, ![2, 1024, 3]⟩
abbrev S2x4096x3 : Shape := ⟨3, ![2, 4096, 3]⟩
abbrev S2x4096x64 : Shape := ⟨3, ![2, 4096, 64]⟩
abbrev S67x128 : Shape := ⟨2, ![67, 128]⟩
abbrev S128 : Shape := ⟨1, ![128]⟩
abbrev S_ : Shape := ⟨0, ![]⟩
abbrev S2x1024 : Shape := ⟨2, ![2, 1024]⟩
abbrev S2x1024x1 : Shape := ⟨3, ![2, 1024, 1]⟩
abbrev S2x4096 : Shape := ⟨2, ![2, 4096]⟩
abbrev S2x1x4096 : Shape := ⟨3, ![2, 1, 4096]⟩
abbrev S2x1024x4096 : Shape := ⟨3, ![2, 1024, 4096]⟩
abbrev S2x1024x16 : Shape := ⟨3, ![2, 1024, 16]⟩
abbrev S2x16384x1 : Shape := ⟨3, ![2, 16384, 1]⟩
abbrev S2x16384x64 : Shape := ⟨3, ![2, 16384, 64]⟩
abbrev S2x1024x16x64 : Shape := ⟨4, ![2, 1024, 16, 64]⟩
abbrev S2x16384x3 : Shape := ⟨3, ![2, 16384, 3]⟩
abbrev S2x1024x16x3 : Shape := ⟨4, ![2, 1024, 16, 3]⟩
abbrev S2x1024x1x3 : Shape := ⟨4, ![2, 1024, 1, 3]⟩
abbrev S2x1024x16x67 : Shape := ⟨4, ![2, 1024, 16, 67]⟩
abbrev S2x1024x16x128 : Shape := ⟨4, ![2, 1024, 16, 128]⟩
abbrev S1x1x1x128 : Shape := ⟨4, ![1, 1, 1, 128]⟩
abbrev S2x1024x128 : Shape := ⟨3, ![2, 1024, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x1024x3, .f32⟩
  | .hbm, ⟨1, _⟩ => ⟨S2x4096x3, .f32⟩
  | .hbm, ⟨2, _⟩ => ⟨S2x4096x64, .f32⟩
  | .hbm, ⟨3, _⟩ => ⟨S67x128, .f32⟩
  | .hbm, ⟨4, _⟩ => ⟨S128, .f32⟩
  | .hbm, ⟨5, _⟩ => ⟨S2x1024x3, .f32⟩
  | .hbm, ⟨6, _⟩ => ⟨S_, .f32⟩
  | .hbm, ⟨7, _⟩ => ⟨S2x1024, .f32⟩
  | .hbm, ⟨8, _⟩ => ⟨S2x1024x1, .f32⟩
  | .hbm, ⟨9, _⟩ => ⟨S2x4096x3, .f32⟩
  | .hbm, ⟨10, _⟩ => ⟨S_, .f32⟩
  | .hbm, ⟨11, _⟩ => ⟨S2x4096, .f32⟩
  | .hbm, ⟨12, _⟩ => ⟨S2x1x4096, .f32⟩
  | .hbm, ⟨13, _⟩ => ⟨S2x1024x4096, .f32⟩
  | .hbm, ⟨14, _⟩ => ⟨S2x1024x4096, .f32⟩
  | .hbm, ⟨15, _⟩ => ⟨S2x1024x4096, .f32⟩
  | .hbm, ⟨16, _⟩ => ⟨S2x1024x4096, .f32⟩
  | .hbm, ⟨17, _⟩ => ⟨S_, .f32⟩
  | .hbm, ⟨18, _⟩ => ⟨S2x1024x4096, .f32⟩
  | .hbm, ⟨19, _⟩ => ⟨S2x1024x4096, .f32⟩
  | .hbm, ⟨20, _⟩ => ⟨S2x1024x4096, .f32⟩
  | .hbm, ⟨21, _⟩ => ⟨S2x1024x4096, .f32⟩
  | .hbm, ⟨22, _⟩ => ⟨S2x1024x16, .f32⟩
  | .hbm, ⟨23, _⟩ => ⟨S2x1024x16, .i32⟩
  | .hbm, ⟨24, _⟩ => ⟨S2x16384x1, .i32⟩
  | .hbm, ⟨25, _⟩ => ⟨S_, .i32⟩
  | .hbm, ⟨26, _⟩ => ⟨S2x16384x1, .i32⟩
  | .hbm, ⟨27, _⟩ => ⟨S2x16384x1, .i1⟩
  | .hbm, ⟨28, _⟩ => ⟨S_, .i32⟩
  | .hbm, ⟨29, _⟩ => ⟨S2x16384x1, .i32⟩
  | .hbm, ⟨30, _⟩ => ⟨S2x16384x1, .i32⟩
  | .hbm, ⟨31, _⟩ => ⟨S2x16384x1, .i32⟩
  | .hbm, ⟨32, _⟩ => ⟨S2x16384x64, .f32⟩
  | .hbm, ⟨33, _⟩ => ⟨S2x1024x16x64, .f32⟩
  | .hbm, ⟨34, _⟩ => ⟨S2x16384x1, .i32⟩
  | .hbm, ⟨35, _⟩ => ⟨S_, .i32⟩
  | .hbm, ⟨36, _⟩ => ⟨S2x16384x1, .i32⟩
  | .hbm, ⟨37, _⟩ => ⟨S2x16384x1, .i1⟩
  | .hbm, ⟨38, _⟩ => ⟨S_, .i32⟩
  | .hbm, ⟨39, _⟩ => ⟨S2x16384x1, .i32⟩
  | .hbm, ⟨40, _⟩ => ⟨S2x16384x1, .i32⟩
  | .hbm, ⟨41, _⟩ => ⟨S2x16384x1, .i32⟩
  | .hbm, ⟨42, _⟩ => ⟨S2x16384x3, .f32⟩
  | .hbm, ⟨43, _⟩ => ⟨S2x1024x16x3, .f32⟩
  | .hbm, ⟨44, _⟩ => ⟨S2x1024x1x3, .f32⟩
  | .hbm, ⟨45, _⟩ => ⟨S2x1024x16x3, .f32⟩
  | .hbm, ⟨46, _⟩ => ⟨S2x1024x16x3, .f32⟩
  | .hbm, ⟨47, _⟩ => ⟨S2x1024x16x67, .f32⟩
  | .hbm, ⟨48, _⟩ => ⟨S2x1024x16x128, .f32⟩
  | .hbm, ⟨49, _⟩ => ⟨S1x1x1x128, .f32⟩
  | .hbm, ⟨50, _⟩ => ⟨S2x1024x16x128, .f32⟩
  | .hbm, ⟨51, _⟩ => ⟨S2x1024x16x128, .f32⟩
  | .hbm, ⟨52, _⟩ => ⟨S_, .f32⟩
  | .hbm, ⟨53, _⟩ => ⟨S2x1024x16x128, .f32⟩
  | .hbm, ⟨54, _⟩ => ⟨S2x1024x16x128, .f32⟩
  | .hbm, ⟨55, _⟩ => ⟨S_, .f32⟩
  | .hbm, ⟨56, _⟩ => ⟨S2x1024x128, .f32⟩
  | _, _ => ⟨S2x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call2_cst : Ref sig .tc := ⟨.hbm, 52, rfl⟩
abbrev main_call2_v0 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Features1.lean ====
abbrev S2x256x3 : Shape := ⟨3, ![2, 256, 3]⟩
abbrev S2x1024x3 : Shape := ⟨3, ![2, 1024, 3]⟩
abbrev S2x1024x128 : Shape := ⟨3, ![2, 1024, 128]⟩
abbrev S131x256 : Shape := ⟨2, ![131, 256]⟩
abbrev S256 : Shape := ⟨1, ![256]⟩
abbrev S128x256 : Shape := ⟨2, ![128, 256]⟩
abbrev S3x256 : Shape := ⟨2, ![3, 256]⟩
abbrev S2x3x1024 : Shape := ⟨3, ![2, 3, 1024]⟩
abbrev S1x256 : Shape := ⟨2, ![1, 256]⟩
abbrev S2x256x256 : Shape := ⟨3, ![2, 256, 256]⟩
abbrev S1x256x3 : Shape := ⟨3, ![1, 256, 3]⟩
abbrev S1x1024x3 : Shape := ⟨3, ![1, 1024, 3]⟩
abbrev S1x3x1024 : Shape := ⟨3, ![1, 3, 1024]⟩
abbrev S1x1024x128 : Shape := ⟨3, ![1, 1024, 128]⟩
abbrev S1x256x256 : Shape := ⟨3, ![1, 256, 256]⟩
abbrev S256x3 : Shape := ⟨2, ![256, 3]⟩
abbrev S3x1024 : Shape := ⟨2, ![3, 1024]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S1024x128 : Shape := ⟨2, ![1024, 128]⟩
abbrev S1024x256 : Shape := ⟨2, ![1024, 256]⟩
abbrev S1024x3 : Shape := ⟨2, ![1024, 3]⟩
abbrev S256x256 : Shape := ⟨2, ![256, 256]⟩

abbrev nBuf : Space → Nat
  | .hbm => 10
  | .vmem => 13
  | .smem => 0
  | _ => 0

abbrev bufTy : (tb : Table) → Fin (tcTables nBuf tb) → BufTy
  | .hbm, ⟨0, _⟩ => ⟨S2x256x3, .f32⟩
  | .hbm, ⟨1, _⟩ => ⟨S2x1024x3, .f32⟩
  | .hbm, ⟨2, _⟩ => ⟨S2x1024x128, .f32⟩
  | .hbm, ⟨3, _⟩ => ⟨S131x256, .f32⟩
  | .hbm, ⟨4, _⟩ => ⟨S256, .f32⟩
  | .hbm, ⟨5, _⟩ => ⟨S128x256, .f32⟩
  | .hbm, ⟨6, _⟩ => ⟨S3x256, .f32⟩
  | .hbm, ⟨7, _⟩ => ⟨S2x3x1024, .f32⟩
  | .hbm, ⟨8, _⟩ => ⟨S1x256, .f32⟩
  | .hbm, ⟨9, _⟩ => ⟨S2x256x256, .f32⟩
  | .local _ .vmem, ⟨0, _⟩ => ⟨S1x256x3, .f32⟩
  | .local _ .vmem, ⟨1, _⟩ => ⟨S1x256x3, .f32⟩
  | .local _ .vmem, ⟨2, _⟩ => ⟨S1x1024x3, .f32⟩
  | .local _ .vmem, ⟨3, _⟩ => ⟨S1x1024x3, .f32⟩
  | .local _ .vmem, ⟨4, _⟩ => ⟨S1x3x1024, .f32⟩
  | .local _ .vmem, ⟨5, _⟩ => ⟨S1x3x1024, .f32⟩
  | .local _ .vmem, ⟨6, _⟩ => ⟨S1x1024x128, .f32⟩
  | .local _ .vmem, ⟨7, _⟩ => ⟨S1x1024x128, .f32⟩
  | .local _ .vmem, ⟨8, _⟩ => ⟨S128x256, .f32⟩
  | .local _ .vmem, ⟨9, _⟩ => ⟨S3x256, .f32⟩
  | .local _ .vmem, ⟨10, _⟩ => ⟨S1x256, .f32⟩
  | .local _ .vmem, ⟨11, _⟩ => ⟨S1x256x256, .f32⟩
  | .local _ .vmem, ⟨12, _⟩ => ⟨S1x256x256, .f32⟩
  | _, _ => ⟨S2x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Features1Ideal.lean ====
variable {F : FTy → Type} [FloatOps F] [Named F]
def κ : String → Option EReal := fun
  | "mask" => some ⊥
  | _ => none
-- ==== RefFeatures1Ideal.lean ====
abbrev S2x256x3 : Shape := ⟨3, ![2, 256, 3]⟩
abbrev S2x1024x3 : Shape := ⟨3, ![2, 1024, 3]⟩
abbrev S2x1024x128 : Shape := ⟨3, ![2, 1024, 128]⟩
abbrev S131x256 : Shape := ⟨2, ![131, 256]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S2x1024 : Shape := ⟨2, ![2, 1024]⟩
abbrev S2x1x1024 : Shape := ⟨3, ![2, 1, 1024]⟩
abbrev S2x256x1024 : Shape := ⟨3, ![2, 256, 1024]⟩
abbrev S2x256x16 : Shape := ⟨3, ![2, 256, 16]⟩
abbrev S2x4096x1 : Shape := ⟨3, ![2, 4096, 1]⟩
abbrev S2x4096x128 : Shape := ⟨3, ![2, 4096, 128]⟩
abbrev S2x256x16x128 : Shape := ⟨4, ![2, 256, 16, 128]⟩
abbrev S2x4096x3 : Shape := ⟨3, ![2, 4096, 3]⟩
abbrev S2x256x16x3 : Shape := ⟨4, ![2, 256, 16, 3]⟩
abbrev S2x256x1x3 : Shape := ⟨4, ![2, 256, 1, 3]⟩
abbrev S2x256x16x131 : Shape := ⟨4, ![2, 256, 16, 131]⟩
abbrev S2x256x16x256 : Shape := ⟨4, ![2, 256, 16, 256]⟩
abbrev S1x1x1x256 : Shape := ⟨4, ![1, 1, 1, 256]⟩
abbrev S2x256x256 : Shape := ⟨3, ![2, 256, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x256x3, .f32⟩
  | .hbm, ⟨1, _⟩ => ⟨S2x1024x3, .f32⟩
  | .hbm, ⟨2, _⟩ => ⟨S2x1024x128, .f32⟩
  | .hbm, ⟨3, _⟩ => ⟨S131x256, .f32⟩
  | .hbm, ⟨4, _⟩ => ⟨S256, .f32⟩
  | .hbm, ⟨5, _⟩ => ⟨S2x256x3, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S2x1024x3, .f32⟩
  | .hbm, ⟨10, _⟩ => ⟨S_, .f32⟩
  | .hbm, ⟨11, _⟩ => ⟨S2x1024, .f32⟩
  | .hbm, ⟨12, _⟩ => ⟨S2x1x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S2x256x16, .f32⟩
  | .hbm, ⟨23, _⟩ => ⟨S2x256x16, .i32⟩
  | .hbm, ⟨24, _⟩ => ⟨S2x4096x1, .i32⟩
  | .hbm, ⟨25, _⟩ => ⟨S_, .i32⟩
  | .hbm, ⟨26, _⟩ => ⟨S2x4096x1, .i32⟩
  | .hbm, ⟨27, _⟩ => ⟨S2x4096x1, .i1⟩
  | .hbm, ⟨28, _⟩ => ⟨S_, .i32⟩
  | .hbm, ⟨29, _⟩ => ⟨S2x4096x1, .i32⟩
  | .hbm, ⟨30, _⟩ => ⟨S2x4096x1, .i32⟩
  | .hbm, ⟨31, _⟩ => ⟨S2x4096x1, .i32⟩
  | .hbm, ⟨32, _⟩ => ⟨S2x4096x128, .f32⟩
  | .hbm, ⟨33, _⟩ => ⟨S2x256x16x128, .f32⟩
  | .hbm, ⟨34, _⟩ => ⟨S2x4096x1, .i32⟩
  | .hbm, ⟨35, _⟩ => ⟨S_, .i32⟩
  | .hbm, ⟨36, _⟩ => ⟨S2x4096x1, .i32⟩
  | .hbm, ⟨37, _⟩ => ⟨S2x4096x1, .i1⟩
  | .hbm, ⟨38, _⟩ => ⟨S_, .i32⟩
  | .hbm, ⟨39, _⟩ => ⟨S2x4096x1, .i32⟩
  | .hbm, ⟨40, _⟩ => ⟨S2x4096x1, .i32⟩
  | .hbm, ⟨41, _⟩ => ⟨S2x4096x1, .i32⟩
  | .hbm, ⟨42, _⟩ => ⟨S2x4096x3, .f32⟩
  | .hbm, ⟨43, _⟩ => ⟨S2x256x16x3, .f32⟩
  | .hbm, ⟨44, _⟩ => ⟨S2x256x1x3, .f32⟩
  | .hbm, ⟨45, _⟩ => ⟨S2x256x16x3, .f32⟩
  | .hbm, ⟨46, _⟩ => ⟨S2x256x16x3, .f32⟩
  | .hbm, ⟨47, _⟩ => ⟨S2x256x16x131, .f32⟩
  | .hbm, ⟨48, _⟩ => ⟨S2x256x16x256, .f32⟩
  | .hbm, ⟨49, _⟩ => ⟨S1x1x1x256, .f32⟩
  | .hbm, ⟨50, _⟩ => ⟨S2x256x16x256, .f32⟩
  | .hbm, ⟨51, _⟩ => ⟨S2x256x16x256, .f32⟩
  | .hbm, ⟨52, _⟩ => ⟨S_, .f32⟩
  | .hbm, ⟨53, _⟩ => ⟨S2x256x16x256, .f32⟩
  | .hbm, ⟨54, _⟩ => ⟨S2x256x16x256, .f32⟩
  | .hbm, ⟨55, _⟩ => ⟨S_, .f32⟩
  | .hbm, ⟨56, _⟩ => ⟨S2x256x256, .f32⟩
  | _, _ => ⟨S2x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call2_cst : Ref sig .tc := ⟨.hbm, 52, rfl⟩
abbrev main_call2_v0 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Features2.lean ====
abbrev S2x64x3 : Shape := ⟨3, ![2, 64, 3]⟩
abbrev S2x256x3 : Shape := ⟨3, ![2, 256, 3]⟩
abbrev S2x256x256 : Shape := ⟨3, ![2, 256, 256]⟩
abbrev S259x512 : Shape := ⟨2, ![259, 512]⟩
abbrev S512 : Shape := ⟨1, ![512]⟩
abbrev S256x512 : Shape := ⟨2, ![256, 512]⟩
abbrev S3x512 : Shape := ⟨2, ![3, 512]⟩
abbrev S2x3x256 : Shape := ⟨3, ![2, 3, 256]⟩
abbrev S1x512 : Shape := ⟨2, ![1, 512]⟩
abbrev S2x64x512 : Shape := ⟨3, ![2, 64, 512]⟩
abbrev S1x64x3 : Shape := ⟨3, ![1, 64, 3]⟩
abbrev S1x256x3 : Shape := ⟨3, ![1, 256, 3]⟩
abbrev S1x3x256 : Shape := ⟨3, ![1, 3, 256]⟩
abbrev S1x256x256 : Shape := ⟨3, ![1, 256, 256]⟩
abbrev S1x64x512 : Shape := ⟨3, ![1, 64, 512]⟩
abbrev S64x3 : Shape := ⟨2, ![64, 3]⟩
abbrev S3x256 : Shape := ⟨2, ![3, 256]⟩
abbrev S64 : Shape := ⟨1, ![64]⟩
abbrev S64x1 : Shape := ⟨2, ![64, 1]⟩
abbrev S256 : Shape := ⟨1, ![256]⟩
abbrev S1x256 : Shape := ⟨2, ![1, 256]⟩
abbrev S64x256 : Shape := ⟨2, ![64, 256]⟩
abbrev S256x256 : Shape := ⟨2, ![256, 256]⟩
abbrev S256x3 : Shape := ⟨2, ![256, 3]⟩
abbrev S64x512 : Shape := ⟨2, ![64, 512]⟩

abbrev nBuf : Space → Nat
  | .hbm => 10
  | .vmem => 13
  | .smem => 0
  | _ => 0

abbrev bufTy : (tb : Table) → Fin (tcTables nBuf tb) → BufTy
  | .hbm, ⟨0, _⟩ => ⟨S2x64x3, .f32⟩
  | .hbm, ⟨1, _⟩ => ⟨S2x256x3, .f32⟩
  | .hbm, ⟨2, _⟩ => ⟨S2x256x256, .f32⟩
  | .hbm, ⟨3, _⟩ => ⟨S259x512, .f32⟩
  | .hbm, ⟨4, _⟩ => ⟨S512, .f32⟩
  | .hbm, ⟨5, _⟩ => ⟨S256x512, .f32⟩
  | .hbm, ⟨6, _⟩ => ⟨S3x512, .f32⟩
  | .hbm, ⟨7, _⟩ => ⟨S2x3x256, .f32⟩
  | .hbm, ⟨8, _⟩ => ⟨S1x512, .f32⟩
  | .hbm, ⟨9, _⟩ => ⟨S2x64x512, .f32⟩
  | .local _ .vmem, ⟨0, _⟩ => ⟨S1x64x3, .f32⟩
  | .local _ .vmem, ⟨1, _⟩ => ⟨S1x64x3, .f32⟩
  | .local _ .vmem, ⟨2, _⟩ => ⟨S1x256x3, .f32⟩
  | .local _ .vmem, ⟨3, _⟩ => ⟨S1x256x3, .f32⟩
  | .local _ .vmem, ⟨4, _⟩ => ⟨S1x3x256, .f32⟩
  | .local _ .vmem, ⟨5, _⟩ => ⟨S1x3x256, .f32⟩
  | .local _ .vmem, ⟨6, _⟩ => ⟨S1x256x256, .f32⟩
  | .local _ .vmem, ⟨7, _⟩ => ⟨S1x256x256, .f32⟩
  | .local _ .vmem, ⟨8, _⟩ => ⟨S256x512, .f32⟩
  | .local _ .vmem, ⟨9, _⟩ => ⟨S3x512, .f32⟩
  | .local _ .vmem, ⟨10, _⟩ => ⟨S1x512, .f32⟩
  | .local _ .vmem, ⟨11, _⟩ => ⟨S1x64x512, .f32⟩
  | .local _ .vmem, ⟨12, _⟩ => ⟨S1x64x512, .f32⟩
  | _, _ => ⟨S2x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Features2Ideal.lean ====
variable {F : FTy → Type} [FloatOps F] [Named F]
def κ : String → Option EReal := fun
  | "mask" => some ⊥
  | _ => none
-- ==== RefFeatures2Ideal.lean ====
abbrev S2x64x3 : Shape := ⟨3, ![2, 64, 3]⟩
abbrev S2x256x3 : Shape := ⟨3, ![2, 256, 3]⟩
abbrev S2x256x256 : Shape := ⟨3, ![2, 256, 256]⟩
abbrev S259x512 : Shape := ⟨2, ![259, 512]⟩
abbrev S512 : Shape := ⟨1, ![512]⟩
abbrev S_ : Shape := ⟨0, ![]⟩
abbrev S2x64 : Shape := ⟨2, ![2, 64]⟩
abbrev S2x64x1 : Shape := ⟨3, ![2, 64, 1]⟩
abbrev S2x256 : Shape := ⟨2, ![2, 256]⟩
abbrev S2x1x256 : Shape := ⟨3, ![2, 1, 256]⟩
abbrev S2x64x256 : Shape := ⟨3, ![2, 64, 256]⟩
abbrev S2x64x16 : Shape := ⟨3, ![2, 64, 16]⟩
abbrev S2x1024x1 : Shape := ⟨3, ![2, 1024, 1]⟩
abbrev S2x1024x256 : Shape := ⟨3, ![2, 1024, 256]⟩
abbrev S2x64x16x256 : Shape := ⟨4, ![2, 64, 16, 256]⟩
abbrev S2x1024x3 : Shape := ⟨3, ![2, 1024, 3]⟩
abbrev S2x64x16x3 : Shape := ⟨4, ![2, 64, 16, 3]⟩
abbrev S2x64x1x3 : Shape := ⟨4, ![2, 64, 1, 3]⟩
abbrev S2x64x16x259 : Shape := ⟨4, ![2, 64, 16, 259]⟩
abbrev S2x64x16x512 : Shape := ⟨4, ![2, 64, 16, 512]⟩
abbrev S1x1x1x512 : Shape := ⟨4, ![1, 1, 1, 512]⟩
abbrev S2x64x512 : Shape := ⟨3, ![2, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x64x3, .f32⟩
  | .hbm, ⟨1, _⟩ => ⟨S2x256x3, .f32⟩
  | .hbm, ⟨2, _⟩ => ⟨S2x256x256, .f32⟩
  | .hbm, ⟨3, _⟩ => ⟨S259x512, .f32⟩
  | .hbm, ⟨4, _⟩ => ⟨S512, .f32⟩
  | .hbm, ⟨5, _⟩ => ⟨S2x64x3, .f32⟩
  | .hbm, ⟨6, _⟩ => ⟨S_, .f32⟩
  | .hbm, ⟨7, _⟩ => ⟨S2x64, .f32⟩
  | .hbm, ⟨8, _⟩ => ⟨S2x64x1, .f32⟩
  | .hbm, ⟨9, _⟩ => ⟨S2x256x3, .f32⟩
  | .hbm, ⟨10, _⟩ => ⟨S_, .f32⟩
  | .hbm, ⟨11, _⟩ => ⟨S2x256, .f32⟩
  | .hbm, ⟨12, _⟩ => ⟨S2x1x256, .f32⟩
  | .hbm, ⟨13, _⟩ => ⟨S2x64x256, .f32⟩
  | .hbm, ⟨14, _⟩ => ⟨S2x64x256, .f32⟩
  | .hbm, ⟨15, _⟩ => ⟨S2x64x256, .f32⟩
  | .hbm, ⟨16, _⟩ => ⟨S2x64x256, .f32⟩
  | .hbm, ⟨17, _⟩ => ⟨S_, .f32⟩
  | .hbm, ⟨18, _⟩ => ⟨S2x64x256, .f32⟩
  | .hbm, ⟨19, _⟩ => ⟨S2x64x256, .f32⟩
  | .hbm, ⟨20, _⟩ => ⟨S2x64x256, .f32⟩
  | .hbm, ⟨21, _⟩ => ⟨S2x64x256, .f32⟩
  | .hbm, ⟨22, _⟩ => ⟨S2x64x16, .f32⟩
  | .hbm, ⟨23, _⟩ => ⟨S2x64x16, .i32⟩
  | .hbm, ⟨24, _⟩ => ⟨S2x1024x1, .i32⟩
  | .hbm, ⟨25, _⟩ => ⟨S_, .i32⟩
  | .hbm, ⟨26, _⟩ => ⟨S2x1024x1, .i32⟩
  | .hbm, ⟨27, _⟩ => ⟨S2x1024x1, .i1⟩
  | .hbm, ⟨28, _⟩ => ⟨S_, .i32⟩
  | .hbm, ⟨29, _⟩ => ⟨S2x1024x1, .i32⟩
  | .hbm, ⟨30, _⟩ => ⟨S2x1024x1, .i32⟩
  | .hbm, ⟨31, _⟩ => ⟨S2x1024x1, .i32⟩
  | .hbm, ⟨32, _⟩ => ⟨S2x1024x256, .f32⟩
  | .hbm, ⟨33, _⟩ => ⟨S2x64x16x256, .f32⟩
  | .hbm, ⟨34, _⟩ => ⟨S2x1024x1, .i32⟩
  | .hbm, ⟨35, _⟩ => ⟨S_, .i32⟩
  | .hbm, ⟨36, _⟩ => ⟨S2x1024x1, .i32⟩
  | .hbm, ⟨37, _⟩ => ⟨S2x1024x1, .i1⟩
  | .hbm, ⟨38, _⟩ => ⟨S_, .i32⟩
  | .hbm, ⟨39, _⟩ => ⟨S2x1024x1, .i32⟩
  | .hbm, ⟨40, _⟩ => ⟨S2x1024x1, .i32⟩
  | .hbm, ⟨41, _⟩ => ⟨S2x1024x1, .i32⟩
  | .hbm, ⟨42, _⟩ => ⟨S2x1024x3, .f32⟩
  | .hbm, ⟨43, _⟩ => ⟨S2x64x16x3, .f32⟩
  | .hbm, ⟨44, _⟩ => ⟨S2x64x1x3, .f32⟩
  | .hbm, ⟨45, _⟩ => ⟨S2x64x16x3, .f32⟩
  | .hbm, ⟨46, _⟩ => ⟨S2x64x16x3, .f32⟩
  | .hbm, ⟨47, _⟩ => ⟨S2x64x16x259, .f32⟩
  | .hbm, ⟨48, _⟩ => ⟨S2x64x16x512, .f32⟩
  | .hbm, ⟨49, _⟩ => ⟨S1x1x1x512, .f32⟩
  | .hbm, ⟨50, _⟩ => ⟨S2x64x16x512, .f32⟩
  | .hbm, ⟨51, _⟩ => ⟨S2x64x16x512, .f32⟩
  | .hbm, ⟨52, _⟩ => ⟨S_, .f32⟩
  | .hbm, ⟨53, _⟩ => ⟨S2x64x16x512, .f32⟩
  | .hbm, ⟨54, _⟩ => ⟨S2x64x16x512, .f32⟩
  | .hbm, ⟨55, _⟩ => ⟨S_, .f32⟩
  | .hbm, ⟨56, _⟩ => ⟨S2x64x512, .f32⟩
  | _, _ => ⟨S2x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call2_cst : Ref sig .tc := ⟨.hbm, 52, rfl⟩
abbrev main_call2_v0 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Sample0.lean ====
abbrev S2x4096x3 : Shape := ⟨3, ![2, 4096, 3]⟩
abbrev S2x3x4096 : Shape := ⟨3, ![2, 3, 4096]⟩
abbrev S2x3x32x128 : Shape := ⟨4, ![2, 3, 32, 128]⟩
abbrev S2x1024x3 : Shape := ⟨3, ![2, 1024, 3]⟩
abbrev S1x3x32x128 : Shape := ⟨4, ![1, 3, 32, 128]⟩
abbrev S1x4096x3 : Shape := ⟨3, ![1, 4096, 3]⟩
abbrev S1x1024x3 : Shape := ⟨3, ![1, 1024, 3]⟩
abbrev S32x128 : Shape := ⟨2, ![32, 128]⟩
abbrev S1x1x3 : Shape := ⟨3, ![1, 1, 3]⟩
abbrev S1x3 : Shape := ⟨2, ![1, 3]⟩
abbrev S1x1x32x128 : Shape := ⟨4, ![1, 1, 32, 128]⟩
abbrev S1x1 : Shape := ⟨2, ![1, 1]⟩
abbrev S128 : Shape := ⟨1, ![128]⟩
abbrev S1x128 : Shape := ⟨2, ![1, 128]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x3, .f32⟩
  | .hbm, ⟨1, _⟩ => ⟨S2x3x4096, .f32⟩
  | .hbm, ⟨2, _⟩ => ⟨S2x3x32x128, .f32⟩
  | .hbm, ⟨3, _⟩ => ⟨S2x1024x3, .f32⟩
  | .local _ .vmem, ⟨0, _⟩ => ⟨S1x3x32x128, .f32⟩
  | .local _ .vmem, ⟨1, _⟩ => ⟨S1x3x32x128, .f32⟩
  | .local _ .vmem, ⟨2, _⟩ => ⟨S1x4096x3, .f32⟩
  | .local _ .vmem, ⟨3, _⟩ => ⟨S1x4096x3, .f32⟩
  | .local _ .vmem, ⟨4, _⟩ => ⟨S1x1024x3, .f32⟩
  | .local _ .vmem, ⟨5, _⟩ => ⟨S1x1024x3, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c1023_i32 : BitVec 32 := 1023#32
  let v20 : BitVec 32 := Scalar.addi c1_i32 c1023_i32
  let c1_i32_15 : BitVec 32 := 1#32
  ⟨c1_i32, v20, c1_i32_15⟩
def k0_off1 (k0_t1 : Fin k0_t1_loop.trips) : Fin 3 → Nat :=
  let c0_30 : Index := 0#32
  let c1_i32 : BitVec 32 := 1#32
  let c1_i32_15 : BitVec 32 := 1#32
  let arg4 : BitVec 32 := Scf.iv c1_i32 c1_i32_15 k0_t1
  let v67 : Index := Scalar.indexCast arg4
  let c0_31 : Index := 0#32
  ![0, v67.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefSample0Ideal.lean ====
abbrev S2x4096x3 : Shape := ⟨3, ![2, 4096, 3]⟩
abbrev S_ : Shape := ⟨0, ![]⟩
abbrev S2x1024 : Shape := ⟨2, ![2, 1024]⟩
abbrev S2x4096 : Shape := ⟨2, ![2, 4096]⟩
abbrev S2 : Shape := ⟨1, ![2]⟩
abbrev S2x1x1 : Shape := ⟨3, ![2, 1, 1]⟩
abbrev S2x1x3 : Shape := ⟨3, ![2, 1, 3]⟩
abbrev S2x1x4096 : Shape := ⟨3, ![2, 1, 4096]⟩
abbrev S2x1 : Shape := ⟨2, ![2, 1]⟩
abbrev S2x1024x1 : Shape := ⟨3, ![2, 1024, 1]⟩
abbrev S2x1024x3 : Shape := ⟨3, ![2, 1024, 3]⟩
abbrev S2x1024x1x3 : Shape := ⟨4, ![2, 1024, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S_, .i32⟩
  | .hbm, ⟨2, _⟩ => ⟨S2x1024, .i32⟩
  | .hbm, ⟨3, _⟩ => ⟨S_, .f32⟩
  | .hbm, ⟨4, _⟩ => ⟨S2x4096, .f32⟩
  | .hbm, ⟨5, _⟩ => ⟨S_, .i32⟩
  | .hbm, ⟨6, _⟩ => ⟨S2, .i32⟩
  | .hbm, ⟨7, _⟩ => ⟨S_, .i32⟩
  | .hbm, ⟨8, _⟩ => ⟨S_, .i32⟩
  | .hbm, ⟨9, _⟩ => ⟨S2x4096x3, .f32⟩
  | .hbm, ⟨10, _⟩ => ⟨S_, .i32⟩
  | .hbm, ⟨11, _⟩ => ⟨S_, .i32⟩
  | .hbm, ⟨12, _⟩ => ⟨S2x1024, .i32⟩
  | .hbm, ⟨13, _⟩ => ⟨S2x4096, .f32⟩
  | .hbm, ⟨14, _⟩ => ⟨S2, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2x1x1, .i32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S2x1x3, .f32⟩
  | .hbm, ⟨28, _⟩ => ⟨S2x4096x3, .f32⟩
  | .hbm, ⟨29, _⟩ => ⟨S2x4096x3, .f32⟩
  | .hbm, ⟨30, _⟩ => ⟨S2x4096x3, .f32⟩
  | .hbm, ⟨31, _⟩ => ⟨S_, .f32⟩
  | .hbm, ⟨32, _⟩ => ⟨S2x4096, .f32⟩
  | .hbm, ⟨33, _⟩ => ⟨S2x4096, .f32⟩
  | .hbm, ⟨34, _⟩ => ⟨S2x1x4096, .f32⟩
  | .hbm, ⟨35, _⟩ => ⟨S2x1x1, .f32⟩
  | .hbm, ⟨36, _⟩ => ⟨S2x1x1, .i32⟩
  | .hbm, ⟨37, _⟩ => ⟨S2, .i32⟩
  | .hbm, ⟨38, _⟩ => ⟨S2x1, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S2x1024, .i32⟩
  | .hbm, ⟨47, _⟩ => ⟨S_, .i32⟩
  | .hbm, ⟨48, _⟩ => ⟨S_, .i32⟩
  | .hbm, ⟨49, _⟩ => ⟨S2x1024x1, .i32⟩
  | .hbm, ⟨50, _⟩ => ⟨S_, .i32⟩
  | .hbm, ⟨51, _⟩ => ⟨S2x1024x1, .i32⟩
  | .hbm, ⟨52, _⟩ => ⟨S2x1024x1, .i1⟩
  | .hbm, ⟨53, _⟩ => ⟨S_, .i32⟩
  | .hbm, ⟨54, _⟩ => ⟨S2x1024x1, .i32⟩
  | .hbm, ⟨55, _⟩ => ⟨S2x1024x1, .i32⟩
  | .hbm, ⟨56, _⟩ => ⟨S2x1024x1, .i32⟩
  | .hbm, ⟨57, _⟩ => ⟨S2x1024x3, .f32⟩
  | .hbm, ⟨58, _⟩ => ⟨S2x1024x1x3, .f32⟩
  | .hbm, ⟨59, _⟩ => ⟨S2x1024x3, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v8 : Ref sig .tc := ⟨.hbm, 16, rfl⟩
abbrev main_while0b_c_8 : Ref sig .tc := ⟨.hbm, 17, rfl⟩
abbrev main_while0b_v8 : Ref sig .tc := ⟨.hbm, 18, rfl⟩
abbrev main_while0b_v9 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_call0_c_0 : Ref sig .tc := ⟨.hbm, 23, rfl⟩
abbrev main_while0b_call0_v2 : Ref sig .tc := ⟨.hbm, 24, rfl⟩
abbrev main_while0b_call0_v3 : Ref sig .tc := ⟨.hbm, 25, rfl⟩
abbrev main_while0b_call0_v4 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_cst_9 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_values : Ref sig .tc := ⟨.hbm, 35, rfl⟩
abbrev main_while0b_indices : Ref sig .tc := ⟨.hbm, 36, rfl⟩
abbrev main_while0b_v17 : Ref sig .tc := ⟨.hbm, 37, rfl⟩
abbrev main_while0b_v18 : Ref sig .tc := ⟨.hbm, 38, rfl⟩
abbrev main_while0b_c_10 : Ref sig .tc := ⟨.hbm, 39, rfl⟩
abbrev main_while0b_v19 : Ref sig .tc := ⟨.hbm, 40, rfl⟩
abbrev main_while0b_v20 : Ref sig .tc := ⟨.hbm, 41, rfl⟩
abbrev main_while0b_c_11 : Ref sig .tc := ⟨.hbm, 42, rfl⟩
abbrev main_while0b_v21 : Ref sig .tc := ⟨.hbm, 43, rfl⟩
abbrev main_while0b_v22 : Ref sig .tc := ⟨.hbm, 44, rfl⟩
abbrev main_while0b_c_12 : Ref sig .tc := ⟨.hbm, 45, rfl⟩
abbrev main_while0b_v23 : Ref sig .tc := ⟨.hbm, 46, rfl⟩
abbrev main_while0b_c_13 : Ref sig .tc := ⟨.hbm, 47, rfl⟩
abbrev main_while0b_v24 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩

abbrev nD : Nat := 1
abbrev τ : Topo := Topo.v7x

variable {F : FTy → Type} [FloatOps F]

abbrev main_while0_count : Scf.Loop 32 := ⟨0#32, 1023#32, 1#32⟩
-- ==== Sample1.lean ====
abbrev S2x1024x3 : Shape := ⟨3, ![2, 1024, 3]⟩
abbrev S2x3x1024 : Shape := ⟨3, ![2, 3, 1024]⟩
abbrev S2x3x8x128 : Shape := ⟨4, ![2, 3, 8, 128]⟩
abbrev S2x256x3 : Shape := ⟨3, ![2, 256, 3]⟩
abbrev S1x3x8x128 : Shape := ⟨4, ![1, 3, 8, 128]⟩
abbrev S1x1024x3 : Shape := ⟨3, ![1, 1024, 3]⟩
abbrev S1x256x3 : Shape := ⟨3, ![1, 256, 3]⟩
abbrev S8x128 : Shape := ⟨2, ![8, 128]⟩
abbrev S1x1x3 : Shape := ⟨3, ![1, 1, 3]⟩
abbrev S1x3 : Shape := ⟨2, ![1, 3]⟩
abbrev S1x1x8x128 : Shape := ⟨4, ![1, 1, 8, 128]⟩
abbrev S1x1 : Shape := ⟨2, ![1, 1]⟩
abbrev S128 : Shape := ⟨1, ![128]⟩
abbrev S1x128 : Shape := ⟨2, ![1, 128]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S2x1024x3, .f32⟩
  | .hbm, ⟨1, _⟩ => ⟨S2x3x1024, .f32⟩
  | .hbm, ⟨2, _⟩ => ⟨S2x3x8x128, .f32⟩
  | .hbm, ⟨3, _⟩ => ⟨S2x256x3, .f32⟩
  | .local _ .vmem, ⟨0, _⟩ => ⟨S1x3x8x128, .f32⟩
  | .local _ .vmem, ⟨1, _⟩ => ⟨S1x3x8x128, .f32⟩
  | .local _ .vmem, ⟨2, _⟩ => ⟨S1x1024x3, .f32⟩
  | .local _ .vmem, ⟨3, _⟩ => ⟨S1x1024x3, .f32⟩
  | .local _ .vmem, ⟨4, _⟩ => ⟨S1x256x3, .f32⟩
  | .local _ .vmem, ⟨5, _⟩ => ⟨S1x256x3, .f32⟩
  | _, _ => ⟨S2x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c255_i32 : BitVec 32 := 255#32
  let v20 : BitVec 32 := Scalar.addi c1_i32 c255_i32
  let c1_i32_15 : BitVec 32 := 1#32
  ⟨c1_i32, v20, c1_i32_15⟩
def k0_off1 (k0_t1 : Fin k0_t1_loop.trips) : Fin 3 → Nat :=
  let c0_30 : Index := 0#32
  let c1_i32 : BitVec 32 := 1#32
  let c1_i32_15 : BitVec 32 := 1#32
  let arg4 : BitVec 32 := Scf.iv c1_i32 c1_i32_15 k0_t1
  let v67 : Index := Scalar.indexCast arg4
  let c0_31 : Index := 0#32
  ![0, v67.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefSample1Ideal.lean ====
abbrev S2x1024x3 : Shape := ⟨3, ![2, 1024, 3]⟩
abbrev S_ : Shape := ⟨0, ![]⟩
abbrev S2x256 : Shape := ⟨2, ![2, 256]⟩
abbrev S2x1024 : Shape := ⟨2, ![2, 1024]⟩
abbrev S2 : Shape := ⟨1, ![2]⟩
abbrev S2x1x1 : Shape := ⟨3, ![2, 1, 1]⟩
abbrev S2x1x3 : Shape := ⟨3, ![2, 1, 3]⟩
abbrev S2x1x1024 : Shape := ⟨3, ![2, 1, 1024]⟩
abbrev S2x1 : Shape := ⟨2, ![2, 1]⟩
abbrev S2x256x1 : Shape := ⟨3, ![2, 256, 1]⟩
abbrev S2x256x3 : Shape := ⟨3, ![2, 256, 3]⟩
abbrev S2x256x1x3 : Shape := ⟨4, ![2, 256, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S2x1024x3, .f32⟩
  | .hbm, ⟨1, _⟩ => ⟨S_, .i32⟩
  | .hbm, ⟨2, _⟩ => ⟨S2x256, .i32⟩
  | .hbm, ⟨3, _⟩ => ⟨S_, .f32⟩
  | .hbm, ⟨4, _⟩ => ⟨S2x1024, .f32⟩
  | .hbm, ⟨5, _⟩ => ⟨S_, .i32⟩
  | .hbm, ⟨6, _⟩ => ⟨S2, .i32⟩
  | .hbm, ⟨7, _⟩ => ⟨S_, .i32⟩
  | .hbm, ⟨8, _⟩ => ⟨S_, .i32⟩
  | .hbm, ⟨9, _⟩ => ⟨S2x1024x3, .f32⟩
  | .hbm, ⟨10, _⟩ => ⟨S_, .i32⟩
  | .hbm, ⟨11, _⟩ => ⟨S_, .i32⟩
  | .hbm, ⟨12, _⟩ => ⟨S2x256, .i32⟩
  | .hbm, ⟨13, _⟩ => ⟨S2x1024, .f32⟩
  | .hbm, ⟨14, _⟩ => ⟨S2, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2x1x1, .i32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S2x1x3, .f32⟩
  | .hbm, ⟨28, _⟩ => ⟨S2x1024x3, .f32⟩
  | .hbm, ⟨29, _⟩ => ⟨S2x1024x3, .f32⟩
  | .hbm, ⟨30, _⟩ => ⟨S2x1024x3, .f32⟩
  | .hbm, ⟨31, _⟩ => ⟨S_, .f32⟩
  | .hbm, ⟨32, _⟩ => ⟨S2x1024, .f32⟩
  | .hbm, ⟨33, _⟩ => ⟨S2x1024, .f32⟩
  | .hbm, ⟨34, _⟩ => ⟨S2x1x1024, .f32⟩
  | .hbm, ⟨35, _⟩ => ⟨S2x1x1, .f32⟩
  | .hbm, ⟨36, _⟩ => ⟨S2x1x1, .i32⟩
  | .hbm, ⟨37, _⟩ => ⟨S2, .i32⟩
  | .hbm, ⟨38, _⟩ => ⟨S2x1, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S2x256, .i32⟩
  | .hbm, ⟨47, _⟩ => ⟨S_, .i32⟩
  | .hbm, ⟨48, _⟩ => ⟨S_, .i32⟩
  | .hbm, ⟨49, _⟩ => ⟨S2x256x1, .i32⟩
  | .hbm, ⟨50, _⟩ => ⟨S_, .i32⟩
  | .hbm, ⟨51, _⟩ => ⟨S2x256x1, .i32⟩
  | .hbm, ⟨52, _⟩ => ⟨S2x256x1, .i1⟩
  | .hbm, ⟨53, _⟩ => ⟨S_, .i32⟩
  | .hbm, ⟨54, _⟩ => ⟨S2x256x1, .i32⟩
  | .hbm, ⟨55, _⟩ => ⟨S2x256x1, .i32⟩
  | .hbm, ⟨56, _⟩ => ⟨S2x256x1, .i32⟩
  | .hbm, ⟨57, _⟩ => ⟨S2x256x3, .f32⟩
  | .hbm, ⟨58, _⟩ => ⟨S2x256x1x3, .f32⟩
  | .hbm, ⟨59, _⟩ => ⟨S2x256x3, .f32⟩
  | _, _ => ⟨S2x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v8 : Ref sig .tc := ⟨.hbm, 16, rfl⟩
abbrev main_while0b_c_8 : Ref sig .tc := ⟨.hbm, 17, rfl⟩
abbrev main_while0b_v8 : Ref sig .tc := ⟨.hbm, 18, rfl⟩
abbrev main_while0b_v9 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_call0_c_0 : Ref sig .tc := ⟨.hbm, 23, rfl⟩
abbrev main_while0b_call0_v2 : Ref sig .tc := ⟨.hbm, 24, rfl⟩
abbrev main_while0b_call0_v3 : Ref sig .tc := ⟨.hbm, 25, rfl⟩
abbrev main_while0b_call0_v4 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_cst_9 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_values : Ref sig .tc := ⟨.hbm, 35, rfl⟩
abbrev main_while0b_indices : Ref sig .tc := ⟨.hbm, 36, rfl⟩
abbrev main_while0b_v17 : Ref sig .tc := ⟨.hbm, 37, rfl⟩
abbrev main_while0b_v18 : Ref sig .tc := ⟨.hbm, 38, rfl⟩
abbrev main_while0b_c_10 : Ref sig .tc := ⟨.hbm, 39, rfl⟩
abbrev main_while0b_v19 : Ref sig .tc := ⟨.hbm, 40, rfl⟩
abbrev main_while0b_v20 : Ref sig .tc := ⟨.hbm, 41, rfl⟩
abbrev main_while0b_c_11 : Ref sig .tc := ⟨.hbm, 42, rfl⟩
abbrev main_while0b_v21 : Ref sig .tc := ⟨.hbm, 43, rfl⟩
abbrev main_while0b_v22 : Ref sig .tc := ⟨.hbm, 44, rfl⟩
abbrev main_while0b_c_12 : Ref sig .tc := ⟨.hbm, 45, rfl⟩
abbrev main_while0b_v23 : Ref sig .tc := ⟨.hbm, 46, rfl⟩
abbrev main_while0b_c_13 : Ref sig .tc := ⟨.hbm, 47, rfl⟩
abbrev main_while0b_v24 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩

abbrev nD : Nat := 1
abbrev τ : Topo := Topo.v7x

variable {F : FTy → Type} [FloatOps F]

abbrev main_while0_count : Scf.Loop 32 := ⟨0#32, 255#32, 1#32⟩
-- ==== Sample2.lean ====
abbrev S2x256x3 : Shape := ⟨3, ![2, 256, 3]⟩
abbrev S2x3x256 : Shape := ⟨3, ![2, 3, 256]⟩
abbrev S2x3x2x128 : Shape := ⟨4, ![2, 3, 2, 128]⟩
abbrev S2x64x3 : Shape := ⟨3, ![2, 64, 3]⟩
abbrev S1x3x2x128 : Shape := ⟨4, ![1, 3, 2, 128]⟩
abbrev S1x256x3 : Shape := ⟨3, ![1, 256, 3]⟩
abbrev S1x64x3 : Shape := ⟨3, ![1, 64, 3]⟩
abbrev S2x128 : Shape := ⟨2, ![2, 128]⟩
abbrev S1x1x3 : Shape := ⟨3, ![1, 1, 3]⟩
abbrev S1x3 : Shape := ⟨2, ![1, 3]⟩
abbrev S1x1x2x128 : Shape := ⟨4, ![1, 1, 2, 128]⟩
abbrev S1x1 : Shape := ⟨2, ![1, 1]⟩
abbrev S128 : Shape := ⟨1, ![128]⟩
abbrev S1x128 : Shape := ⟨2, ![1, 128]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S2x256x3, .f32⟩
  | .hbm, ⟨1, _⟩ => ⟨S2x3x256, .f32⟩
  | .hbm, ⟨2, _⟩ => ⟨S2x3x2x128, .f32⟩
  | .hbm, ⟨3, _⟩ => ⟨S2x64x3, .f32⟩
  | .local _ .vmem, ⟨0, _⟩ => ⟨S1x3x2x128, .f32⟩
  | .local _ .vmem, ⟨1, _⟩ => ⟨S1x3x2x128, .f32⟩
  | .local _ .vmem, ⟨2, _⟩ => ⟨S1x256x3, .f32⟩
  | .local _ .vmem, ⟨3, _⟩ => ⟨S1x256x3, .f32⟩
  | .local _ .vmem, ⟨4, _⟩ => ⟨S1x64x3, .f32⟩
  | .local _ .vmem, ⟨5, _⟩ => ⟨S1x64x3, .f32⟩
  | _, _ => ⟨S2x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c63_i32 : BitVec 32 := 63#32
  let v20 : BitVec 32 := Scalar.addi c1_i32 c63_i32
  let c1_i32_15 : BitVec 32 := 1#32
  ⟨c1_i32, v20, c1_i32_15⟩
def k0_off1 (k0_t1 : Fin k0_t1_loop.trips) : Fin 3 → Nat :=
  let c0_30 : Index := 0#32
  let c1_i32 : BitVec 32 := 1#32
  let c1_i32_15 : BitVec 32 := 1#32
  let arg4 : BitVec 32 := Scf.iv c1_i32 c1_i32_15 k0_t1
  let v67 : Index := Scalar.indexCast arg4
  let c0_31 : Index := 0#32
  ![0, v67.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefSample2Ideal.lean ====
abbrev S2x256x3 : Shape := ⟨3, ![2, 256, 3]⟩
abbrev S_ : Shape := ⟨0, ![]⟩
abbrev S2x64 : Shape := ⟨2, ![2, 64]⟩
abbrev S2x256 : Shape := ⟨2, ![2, 256]⟩
abbrev S2 : Shape := ⟨1, ![2]⟩
abbrev S2x1x1 : Shape := ⟨3, ![2, 1, 1]⟩
abbrev S2x1x3 : Shape := ⟨3, ![2, 1, 3]⟩
abbrev S2x1x256 : Shape := ⟨3, ![2, 1, 256]⟩
abbrev S2x1 : Shape := ⟨2, ![2, 1]⟩
abbrev S2x64x1 : Shape := ⟨3, ![2, 64, 1]⟩
abbrev S2x64x3 : Shape := ⟨3, ![2, 64, 3]⟩
abbrev S2x64x1x3 : Shape := ⟨4, ![2, 64, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S2x256x3, .f32⟩
  | .hbm, ⟨1, _⟩ => ⟨S_, .i32⟩
  | .hbm, ⟨2, _⟩ => ⟨S2x64, .i32⟩
  | .hbm, ⟨3, _⟩ => ⟨S_, .f32⟩
  | .hbm, ⟨4, _⟩ => ⟨S2x256, .f32⟩
  | .hbm, ⟨5, _⟩ => ⟨S_, .i32⟩
  | .hbm, ⟨6, _⟩ => ⟨S2, .i32⟩
  | .hbm, ⟨7, _⟩ => ⟨S_, .i32⟩
  | .hbm, ⟨8, _⟩ => ⟨S_, .i32⟩
  | .hbm, ⟨9, _⟩ => ⟨S2x256x3, .f32⟩
  | .hbm, ⟨10, _⟩ => ⟨S_, .i32⟩
  | .hbm, ⟨11, _⟩ => ⟨S_, .i32⟩
  | .hbm, ⟨12, _⟩ => ⟨S2x64, .i32⟩
  | .hbm, ⟨13, _⟩ => ⟨S2x256, .f32⟩
  | .hbm, ⟨14, _⟩ => ⟨S2, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2x1x1, .i32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S2x1x3, .f32⟩
  | .hbm, ⟨28, _⟩ => ⟨S2x256x3, .f32⟩
  | .hbm, ⟨29, _⟩ => ⟨S2x256x3, .f32⟩
  | .hbm, ⟨30, _⟩ => ⟨S2x256x3, .f32⟩
  | .hbm, ⟨31, _⟩ => ⟨S_, .f32⟩
  | .hbm, ⟨32, _⟩ => ⟨S2x256, .f32⟩
  | .hbm, ⟨33, _⟩ => ⟨S2x256, .f32⟩
  | .hbm, ⟨34, _⟩ => ⟨S2x1x256, .f32⟩
  | .hbm, ⟨35, _⟩ => ⟨S2x1x1, .f32⟩
  | .hbm, ⟨36, _⟩ => ⟨S2x1x1, .i32⟩
  | .hbm, ⟨37, _⟩ => ⟨S2, .i32⟩
  | .hbm, ⟨38, _⟩ => ⟨S2x1, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S2x64, .i32⟩
  | .hbm, ⟨47, _⟩ => ⟨S_, .i32⟩
  | .hbm, ⟨48, _⟩ => ⟨S_, .i32⟩
  | .hbm, ⟨49, _⟩ => ⟨S2x64x1, .i32⟩
  | .hbm, ⟨50, _⟩ => ⟨S_, .i32⟩
  | .hbm, ⟨51, _⟩ => ⟨S2x64x1, .i32⟩
  | .hbm, ⟨52, _⟩ => ⟨S2x64x1, .i1⟩
  | .hbm, ⟨53, _⟩ => ⟨S_, .i32⟩
  | .hbm, ⟨54, _⟩ => ⟨S2x64x1, .i32⟩
  | .hbm, ⟨55, _⟩ => ⟨S2x64x1, .i32⟩
  | .hbm, ⟨56, _⟩ => ⟨S2x64x1, .i32⟩
  | .hbm, ⟨57, _⟩ => ⟨S2x64x3, .f32⟩
  | .hbm, ⟨58, _⟩ => ⟨S2x64x1x3, .f32⟩
  | .hbm, ⟨59, _⟩ => ⟨S2x64x3, .f32⟩
  | _, _ => ⟨S2x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v8 : Ref sig .tc := ⟨.hbm, 16, rfl⟩
abbrev main_while0b_c_8 : Ref sig .tc := ⟨.hbm, 17, rfl⟩
abbrev main_while0b_v8 : Ref sig .tc := ⟨.hbm, 18, rfl⟩
abbrev main_while0b_v9 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_call0_c_0 : Ref sig .tc := ⟨.hbm, 23, rfl⟩
abbrev main_while0b_call0_v2 : Ref sig .tc := ⟨.hbm, 24, rfl⟩
abbrev main_while0b_call0_v3 : Ref sig .tc := ⟨.hbm, 25, rfl⟩
abbrev main_while0b_call0_v4 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_cst_9 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_values : Ref sig .tc := ⟨.hbm, 35, rfl⟩
abbrev main_while0b_indices : Ref sig .tc := ⟨.hbm, 36, rfl⟩
abbrev main_while0b_v17 : Ref sig .tc := ⟨.hbm, 37, rfl⟩
abbrev main_while0b_v18 : Ref sig .tc := ⟨.hbm, 38, rfl⟩
abbrev main_while0b_c_10 : Ref sig .tc := ⟨.hbm, 39, rfl⟩
abbrev main_while0b_v19 : Ref sig .tc := ⟨.hbm, 40, rfl⟩
abbrev main_while0b_v20 : Ref sig .tc := ⟨.hbm, 41, rfl⟩
abbrev main_while0b_c_11 : Ref sig .tc := ⟨.hbm, 42, rfl⟩
abbrev main_while0b_v21 : Ref sig .tc := ⟨.hbm, 43, rfl⟩
abbrev main_while0b_v22 : Ref sig .tc := ⟨.hbm, 44, rfl⟩
abbrev main_while0b_c_12 : Ref sig .tc := ⟨.hbm, 45, rfl⟩
abbrev main_while0b_v23 : Ref sig .tc := ⟨.hbm, 46, rfl⟩
abbrev main_while0b_c_13 : Ref sig .tc := ⟨.hbm, 47, rfl⟩
abbrev main_while0b_v24 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩

abbrev nD : Nat := 1
abbrev τ : Topo := Topo.v7x

variable {F : FTy → Type} [FloatOps F]

abbrev main_while0_count : Scf.Loop 32 := ⟨0#32, 63#32, 1#32⟩
-- ==== Linear.lean ====
abbrev S2x4096x16x4x4 : Shape := ⟨5, ![2, 4096, 16, 4, 4]⟩
abbrev S256x64 : Shape := ⟨2, ![256, 64]⟩
abbrev S64 : Shape := ⟨1, ![64]⟩
abbrev S8192x256 : Shape := ⟨2, ![8192, 256]⟩
abbrev S1x64 : Shape := ⟨2, ![1, 64]⟩
abbrev S8192x64 : Shape := ⟨2, ![8192, 64]⟩
abbrev S4096x256 : Shape := ⟨2, ![4096, 256]⟩
abbrev S4096x64 : Shape := ⟨2, ![4096, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x16x4x4, .f32⟩
  | .hbm, ⟨1, _⟩ => ⟨S256x64, .f32⟩
  | .hbm, ⟨2, _⟩ => ⟨S64, .f32⟩
  | .hbm, ⟨3, _⟩ => ⟨S8192x256, .f32⟩
  | .hbm, ⟨4, _⟩ => ⟨S1x64, .f32⟩
  | .hbm, ⟨5, _⟩ => ⟨S8192x64, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | _, _ => ⟨S2x4096x16x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLinearIdeal.lean ====
abbrev S2x4096x16x4x4 : Shape := ⟨5, ![2, 4096, 16, 4, 4]⟩
abbrev S256x64 : Shape := ⟨2, ![256, 64]⟩
abbrev S64 : Shape := ⟨1, ![64]⟩
abbrev S8192x256 : Shape := ⟨2, ![8192, 256]⟩
abbrev S8192x64 : Shape := ⟨2, ![8192, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x16x4x4, .f32⟩
  | .hbm, ⟨1, _⟩ => ⟨S256x64, .f32⟩
  | .hbm, ⟨2, _⟩ => ⟨S64, .f32⟩
  | .hbm, ⟨3, _⟩ => ⟨S8192x256, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | _, _ => ⟨S2x4096x16x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reads.lean ====
/-
The vector operations of the kernels' bodies read at an index, for arrays of any size: products of two matrices, a
leading axis of extent one dropped or added, a reduction along one axis of a matrix, and what it reduces to spread
over that axis again.
-/
module
public import Idealize.ShloMosaic.Lib.Pointwise
public import Idealize.ShloMosaic.Lib.Pointwise.IndexVar
public import Idealize.ShloMosaic.Lib.Pointwise.IndexBridge
public import Idealize.ShloMosaic.Lib.MatmulPlain
@[expose] public section
noncomputable section
namespace Cert.Reads
open Idealize.ShloMosaic

variable {M K N B : ℕ}

/-- A product of an `M × K` and a `K × N` matrix, contracted over the one's columns and the other's rows. -/
theorem product {φ₁ φ₂ : FTy} (D : DotDims ⟨2, ![M, K]⟩ ⟨2, ![K, N]⟩ ⟨2, ![M, N]⟩) (hD : D = DotDims.plain M K N)
    (a : FVec Ideal ⟨2, ![M, K]⟩ φ₁) (b : FVec Ideal ⟨2, ![K, N]⟩ φ₂) (i : Fin M) (j : Fin N) :
    matmul (F := Ideal) D none a b (constant ⟨2, ![M, N]⟩ .f32 0x00000000#32) (ix2 i j)
      = ∑ k, a (ix2 i k) * b (ix2 k j) := by
  subst hD
  have h := Ideal.matmul_plain_apply none a b (constant (F := Ideal) ⟨2, ![M, N]⟩ .f32 0x00000000#32) i j
  have z : constant (F := Ideal) ⟨2, ![M, N]⟩ .f32 0x00000000#32 (ix2 i j) = 0 := by pointwise
  simp only [← ix2_eq_valueIdx] at h
  rw [z, zero_add] at h
  exact h

/-- The leading axis of extent one dropped. -/
theorem drop {α : Type} (h : (⟨3, ![1, M, N]⟩ : Shape).ShapeCasts ⟨2, ![M, N]⟩) (x : (⟨3, ![1, M, N]⟩ : Shape).Idx → α)
    (i : Fin M) (j : Fin N) : shapeCast ⟨2, ![M, N]⟩ x h (ix2 i j) = x (ix3 0 i j) := by
  refine congrArg x (Shape.reshapeEquiv_eq_of_rowMajor _ ?_)
  rw [rowMajor_val3 _ _ _ rfl rfl, rowMajor_val2 _ _ rfl]
  simp

/-- A leading axis of extent one added. -/
theorem lift {α : Type} (h : (⟨2, ![M, N]⟩ : Shape).ShapeCasts ⟨3, ![1, M, N]⟩) (x : (⟨2, ![M, N]⟩ : Shape).Idx → α)
    (b : Fin 1) (i : Fin M) (j : Fin N) : shapeCast ⟨3, ![1, M, N]⟩ x h (ix3 b i j) = x (ix2 i j) := by
  refine congrArg x (Shape.reshapeEquiv_eq_of_rowMajor _ ?_)
  rw [rowMajor_val3 _ _ _ rfl rfl, rowMajor_val2 _ _ rfl]
  simp

/-- One value per row spread over the row's columns. -/
theorem rows {α : Type} (h : (⟨1, ![M]⟩ : Shape).ShapeCasts ⟨2, ![M, 1]⟩)
    (h' : (⟨2, ![M, 1]⟩ : Shape).Broadcasts ⟨2, ![M, N]⟩) (x : (⟨1, ![M]⟩ : Shape).Idx → α) (i : Fin M) (j : Fin N) :
    broadcastTo ⟨2, ![M, N]⟩ (shapeCast ⟨2, ![M, 1]⟩ x h) h' (ix2 i j) = x (ix1 i) := by
  pointwise
  refine congrArg x (Shape.reshapeEquiv_eq_of_rowMajor _ ?_)
  rw [rowMajor_val2 _ _ rfl, rowMajor_val1]
  by_cases e : M = 1
  · subst e
    simp
  · simp [e]

/-- One value per column spread over the column's rows. -/
theorem cols {α : Type} (h : (⟨1, ![N]⟩ : Shape).ShapeCasts ⟨2, ![1, N]⟩)
    (h' : (⟨2, ![1, N]⟩ : Shape).Broadcasts ⟨2, ![M, N]⟩) (x : (⟨1, ![N]⟩ : Shape).Idx → α) (i : Fin M) (j : Fin N) :
    broadcastTo ⟨2, ![M, N]⟩ (shapeCast ⟨2, ![1, N]⟩ x h) h' (ix2 i j) = x (ix1 j) := by
  pointwise
  refine congrArg x (Shape.reshapeEquiv_eq_of_rowMajor _ ?_)
  rw [rowMajor_val2 _ _ rfl, rowMajor_val1]
  by_cases e : N = 1
  · subst e
    simp
  · simp [e]

/-- A sum along the rows of a matrix. -/
theorem sum_row (h : (⟨2, ![M, N]⟩ : Shape).Reduces [1] ⟨1, ![M]⟩) (x : FVec Ideal ⟨2, ![M, N]⟩ .f32) (i : Fin M) :
    multiReduction .add [1] ⟨1, ![M]⟩ x 0x00000000#32 h (.inl rfl) rfl (ix1 i) = ∑ j, x (ix2 i j) := by
  pointwise

/-- A sum along the columns of a matrix. -/
theorem sum_col (h : (⟨2, ![M, N]⟩ : Shape).Reduces [0] ⟨1, ![N]⟩) (x : FVec Ideal ⟨2, ![M, N]⟩ .f32) (j : Fin N) :
    multiReduction .add [0] ⟨1, ![N]⟩ x 0x00000000#32 h (.inl rfl) rfl (ix1 j) = ∑ i, x (ix2 i j) := by
  pointwise

/-- The word of +∞ is the top of the extended reals. -/
theorem ofBits_top : Ideal.ofBits .f32 0x7F800000#32 = ⊤ := by simp [Ideal.ofBits, Ideal.ieee]

/-- The word of −∞ is their bottom. -/
theorem ofBits_bot : Ideal.ofBits .f32 0xFF800000#32 = ⊥ := by simp [Ideal.ofBits, Ideal.ieee]

/-- The largest value of each row of a matrix. -/
theorem max_row (h : (⟨2, ![M, N]⟩ : Shape).Reduces [1] ⟨1, ![M]⟩) (x : FVec Ideal ⟨2, ![M, N]⟩ .f32) (i : Fin M) :
    multiReduction .maximumf [1] ⟨1, ![M]⟩ x 0xFF800000#32 h (.inl rfl) rfl (ix1 i)
      = Finset.univ.fold max (⊥ : EReal) fun j => x (ix2 i j) := by
  pointwise
  rw [ofBits_bot]

/-- The least value of each row of a matrix. -/
theorem min_row (h : (⟨2, ![M, N]⟩ : Shape).Reduces [1] ⟨1, ![M]⟩) (x : FVec Ideal ⟨2, ![M, N]⟩ .f32) (i : Fin M) :
    multiReduction .minimumf [1] ⟨1, ![M]⟩ x 0x7F800000#32 h (.inl rfl) rfl (ix1 i)
      = Finset.univ.fold min (⊤ : EReal) fun j => x (ix2 i j) := by
  pointwise
  rw [ofBits_top]

/-- Columns cut out of a matrix. -/
theorem cut {α : Type} (o : ℕ) (h : (⟨2, ![M, N]⟩ : Shape).Slices ![0, o] ⟨2, ![M, K]⟩) (hk : o + K ≤ N)
    (x : (⟨2, ![M, N]⟩ : Shape).Idx → α) (i : Fin M) (j : Fin K) :
    extractStridedSlice ⟨2, ![M, K]⟩ ![0, o] x h (ix2 i j) = x (ix2 i ⟨o + j.1, by omega⟩) := by
  pointwise

/-- A matrix transposed. -/
theorem flip {α : Type} (h : (⟨2, ![M, N]⟩ : Shape).Transposes [1, 0] ⟨2, ![N, M]⟩)
    (x : (⟨2, ![M, N]⟩ : Shape).Idx → α) (i : Fin M) (j : Fin N) :
    transpose ⟨2, ![N, M]⟩ [1, 0] x h (ix2 j i) = x (ix2 i j) := by
  pointwise

/-- Two matrices side by side: the columns of the first, then those of the second. -/
theorem beside {α : Type} {d : ℕ} (h : Shape.Concatenates [⟨2, ![M, K]⟩, ⟨2, ![M, N]⟩] ⟨2, ![M, d]⟩ 1) (hd : d = K + N)
    (x : (⟨2, ![M, K]⟩ : Shape).Idx → α) (y : (⟨2, ![M, N]⟩ : Shape).Idx → α) (i : Fin M) (j : Fin d) :
    concatenate ⟨2, ![M, d]⟩ 1 [⟨⟨2, ![M, K]⟩, x⟩, ⟨⟨2, ![M, N]⟩, y⟩] h (ix2 i j)
      = if hj : j.1 < K then x (ix2 i ⟨j.1, hj⟩) else y (ix2 i ⟨j.1 - K, by omega⟩) := by
  pointwise

/-- A vector as the one row of a matrix. -/
theorem upright {α : Type} (h : (⟨1, ![N]⟩ : Shape).ShapeCasts ⟨2, ![1, N]⟩) (x : (⟨1, ![N]⟩ : Shape).Idx → α) (j : Fin N) :
    shapeCast ⟨2, ![1, N]⟩ x h (ix2 0 j) = x (ix1 j) := by
  refine congrArg x (Shape.reshapeEquiv_eq_of_rowMajor _ ?_)
  rw [rowMajor_val2 _ _ rfl, rowMajor_val1]
  simp

/-- The zero offsets. -/
theorem zero3 : (![0, 0, 0] : Fin 3 → ℕ) = fun _ => 0 := funext fun a => by fin_cases a <;> rfl

/-- The zero offsets. -/
theorem zero2 : (![0, 0] : Fin 2 → ℕ) = fun _ => 0 := funext fun a => by fin_cases a <;> rfl

end Cert.Reads
end
-- ==== Proof.Nearest.lean ====
/- The nearest entries of a row of extended reals, found in two ways: by raising a threshold k times
   to the least entry above it, and by sorting the row. -/
module

public import Idealize.ShloMosaic.Lib.SortFacts
public import Mathlib.Data.EReal.Operations
public import Mathlib.Data.Finset.Fold

@[expose] public section

noncomputable section

namespace Cert.Nearest

variable {N : ℕ}

/-- The least entry of `D` above `g`, and `⊤` where there is none. -/
def above (D : Fin N → EReal) (g : EReal) : EReal :=
  Finset.univ.fold min ⊤ fun j => if g < D j then D j else ⊤

/-- The threshold after `n` rounds: it starts below everything and is raised to the least entry above it. -/
def thr (D : Fin N → EReal) : ℕ → EReal
  | 0 => ⊥
  | n + 1 => above D (thr D n)

/-- A fold of `min` from `⊤` is the infimum. -/
theorem fold_min_eq_inf {ι : Type} (s : Finset ι) (f : ι → EReal) : s.fold min ⊤ f = s.inf f := rfl

/-- A fold of `max` from `⊥` is the supremum. -/
theorem fold_max_eq_sup {ι : Type} (s : Finset ι) (f : ι → EReal) : s.fold max ⊥ f = s.sup f := rfl

/-- The least distance above `g` is `v`, if `v` is above `g` and no distance lies between them. -/
theorem above_eq_of {D : Fin N → EReal} {g v : EReal} (hle : ∀ j, g < D j → v ≤ D j) (j : Fin N) (hj : D j = v) (hg : g < v) :
    above D g = v := by
  rw [above, fold_min_eq_inf]
  apply le_antisymm
  · refine (Finset.inf_le (Finset.mem_univ j)).trans ?_
    rw [hj, if_pos hg]
  · refine Finset.le_inf fun i _ => ?_
    split_ifs with h
    · exact hle i h
    · exact le_top

/-- The positions `p 0, p 1, …` list the row in increasing order, and its first `k + 1` entries are
    different and above `⊥`: what the claims assume of every row. -/
structure Sorted (D : Fin N → EReal) (k : ℕ) (p : Fin N → Fin N) : Prop where
  bij : Function.Bijective p
  mono : ∀ i j : Fin N, i ≤ j → D (p i) ≤ D (p j)
  lt : k < N
  strict : ∀ i : ℕ, ∀ h : i < k, D (p ⟨i, by omega⟩) < D (p ⟨i + 1, by omega⟩)
  bot : ∀ h : 0 < N, ⊥ < D (p ⟨0, h⟩)

variable {D : Fin N → EReal} {k : ℕ} {p : Fin N → Fin N}

/-- An entry above the one at place `i ≤ k` of the order is at a later place. -/
theorem Sorted.later (S : Sorted D k p) (i : ℕ) (hi : i < k) {v : EReal} (hv : v = D (p ⟨i, hi.trans S.lt⟩)) (j : Fin N) (hj : v < D j) :
    D (p ⟨i + 1, by have := S.lt; omega⟩) ≤ D j := by
  obtain ⟨t, rfl⟩ := S.bij.2 j
  by_contra hlt
  have : t < ⟨i + 1, by have := S.lt; omega⟩ := by
    by_contra hc
    exact hlt (S.mono _ _ (not_lt.1 hc))
  have hle : t ≤ ⟨i, hi.trans S.lt⟩ := by
    rw [Fin.lt_def] at this; rw [Fin.le_def]; exact Nat.lt_succ_iff.1 this
  exact absurd (S.mono _ _ hle) (not_le.2 (hv ▸ hj))

/-- After `m + 1 ≤ k + 1` rounds the threshold is the entry at place `m`. -/
theorem Sorted.thr_succ (S : Sorted D k p) : ∀ m : ℕ, ∀ h : m ≤ k, thr D (m + 1) = D (p ⟨m, lt_of_le_of_lt h S.lt⟩)
  | 0, _ => by
    have hN : 0 < N := lt_of_le_of_lt (Nat.zero_le _) S.lt
    refine above_eq_of (fun j _ => ?_) (p ⟨0, hN⟩) rfl (S.bot hN)
    obtain ⟨t, rfl⟩ := S.bij.2 j
    exact S.mono _ _ (by rw [Fin.le_def]; exact Nat.zero_le _)
  | m + 1, h => by
    have ih := S.thr_succ m (by omega)
    show above D (thr D (m + 1)) = _
    refine above_eq_of (fun j hj => S.later m (by omega) ih j hj) _ rfl ?_
    rw [ih]; exact S.strict m (by omega)

/-- The `k` first positions of the order: all different, and exactly those whose entry the threshold after
    `k` rounds reaches. -/
structure Lists (D : Fin N → EReal) (k : ℕ) (q : Fin k → Fin N) : Prop where
  inj : Function.Injective q
  mem : ∀ j, D j ≤ thr D k ↔ ∃ i, q i = j

/-- Points sorted strictly by distance list the nearest ones. -/
theorem Sorted.lists (S : Sorted D k p) (hk : 0 < k) : Lists D k fun i => p ⟨i.1, i.2.trans S.lt⟩ where
  inj i j h := by
    have := congrArg Fin.val (S.bij.1 h)
    exact Fin.ext this
  mem j := by
    obtain ⟨m, rfl⟩ : ∃ m, k = m + 1 := ⟨k - 1, by omega⟩
    rw [S.thr_succ m (by omega)]
    obtain ⟨t, rfl⟩ := S.bij.2 j
    constructor
    · intro h
      by_cases ht : t.1 < m + 1
      · exact ⟨⟨t.1, ht⟩, rfl⟩
      · exfalso
        have hs := S.strict m (by omega)
        have hm := S.mono ⟨m + 1, S.lt⟩ t (by rw [Fin.le_def]; exact not_lt.1 ht)
        exact absurd h (not_le.2 (hs.trans_le hm))
    · rintro ⟨i, hi⟩
      rw [← hi]
      exact S.mono _ _ (by rw [Fin.le_def]; exact Nat.lt_succ_iff.1 i.2)

/-! ## Sums and maxima over the reached entries -/

variable {q : Fin k → Fin N}

/-- A sum over the row of a function kept on the reached entries is the sum over the list. -/
theorem Lists.sum_eq (L : Lists D k q) (f : Fin N → EReal) :
    (∑ j, if D j ≤ thr D k then f j else 0) = ∑ i, f (q i) := by
  classical
  rw [← Finset.sum_filter, ← Finset.sum_image (s := Finset.univ) (g := q) (f := f) fun a _ b _ h => L.inj h]
  congr 1
  ext j
  simp [L.mem j]

/-- The maximum over the row of a function kept on the reached entries is the maximum over the list. -/
theorem Lists.max_eq (L : Lists D k q) (f : Fin N → EReal) :
    (Finset.univ.fold max ⊥ fun j => if D j ≤ thr D k then f j else ⊥) = Finset.univ.fold max ⊥ fun i => f (q i) := by
  rw [fold_max_eq_sup, fold_max_eq_sup]
  apply le_antisymm
  · refine Finset.sup_le fun j _ => ?_
    split_ifs with h
    · obtain ⟨i, rfl⟩ := (L.mem j).1 h
      exact Finset.le_sup (f := fun i => f (q i)) (Finset.mem_univ i)
    · exact bot_le
  · refine Finset.sup_le fun i _ => ?_
    refine le_trans ?_ (Finset.le_sup (Finset.mem_univ (q i)))
    rw [if_pos ((L.mem _).2 ⟨i, rfl⟩)]

end Cert.Nearest

end
-- ==== Proof.Attend.lean ====
/-
Attention of one query over its nearest points, as the two programs take it: over all points with the far ones masked
out, and over the list of the near ones.  The two agree where the largest near score is a number.
-/
module
public import proofs.«01_k».proof.Proof.Nearest
public import Idealize.ShloMosaic.PureOps.Ideal
@[expose] public section
noncomputable section
namespace Cert.Attend
open Idealize.ShloMosaic

/-- A number: neither −∞ nor +∞. -/
def Num (x : EReal) : Prop := ∃ r : ℝ, x = r

/-- A product of numbers is a number. -/
theorem Num.mul {x y : EReal} : Num x → Num y → Num (x * y) := by
  rintro ⟨a, rfl⟩ ⟨b, rfl⟩
  exact ⟨a * b, (EReal.coe_mul a b).symm⟩

/-- A sum of two numbers is a number. -/
theorem Num.add {x y : EReal} : Num x → Num y → Num (x + y) := by
  rintro ⟨a, rfl⟩ ⟨b, rfl⟩
  exact ⟨a + b, (EReal.coe_add a b).symm⟩

/-- A finite sum of numbers is a number. -/
theorem Num.sum {ι : Type} (s : Finset ι) {f : ι → EReal} (h : ∀ i, Num (f i)) : Num (∑ i ∈ s, f i) := by
  classical
  induction s using Finset.induction_on with
  | empty => exact ⟨0, rfl⟩
  | insert a s ha ih => rw [Finset.sum_insert ha]; exact (h a).add ih

/-- The values' weighted mean under the softmax of the scores of a list of points. -/
def listed {n : ℕ} (l v : Fin n → EReal) : EReal :=
  ∑ i, Ideal.div (Ideal.exp (l i - Finset.univ.fold max ⊥ l)) (∑ i, Ideal.exp (l i - Finset.univ.fold max ⊥ l)) * v i

/-- The same over all points, those farther than the `k` nearest masked out. -/
def masked {N : ℕ} (D : Fin N → EReal) (k : ℕ) (l v : Fin N → EReal) : EReal :=
  ∑ j, Ideal.div
      (if D j ≤ Nearest.thr D k then
        Ideal.exp ((if D j ≤ Nearest.thr D k then l j else ⊥)
          - Finset.univ.fold max ⊥ fun j => if D j ≤ Nearest.thr D k then l j else ⊥) else 0)
      (∑ j, if D j ≤ Nearest.thr D k then
        Ideal.exp ((if D j ≤ Nearest.thr D k then l j else ⊥)
          - Finset.univ.fold max ⊥ fun j => if D j ≤ Nearest.thr D k then l j else ⊥) else 0) * v j

/-- The largest of finitely many numbers is one of them, so its own weight is one and the weights' sum is not zero. -/
theorem weights_ne_zero {n : ℕ} (hn : 0 < n) (l : Fin n → EReal) (hl : ∀ i, Num (l i)) :
    (∑ i, Ideal.exp (l i - Finset.univ.fold max ⊥ l)) ≠ 0 := by
  have : Nonempty (Fin n) := ⟨⟨0, hn⟩⟩
  obtain ⟨i, -, hi⟩ := Finset.exists_max_image Finset.univ l Finset.univ_nonempty
  have e : Finset.univ.fold max ⊥ l = l i := by
    rw [Nearest.fold_max_eq_sup]
    exact le_antisymm (Finset.sup_le fun j _ => hi j (Finset.mem_univ j)) (Finset.le_sup (f := l) (Finset.mem_univ i))
  rw [e]
  have pos : ∀ j, 0 ≤ Ideal.exp (l j - l i) := by
    intro j
    obtain ⟨a, ha⟩ := hl j
    obtain ⟨b, hb⟩ := hl i
    rw [ha, hb, ← EReal.coe_sub]
    exact EReal.coe_nonneg.2 (Real.exp_pos _).le
  have one : Ideal.exp (l i - l i) = 1 := by
    obtain ⟨b, hb⟩ := hl i
    rw [hb, ← EReal.coe_sub, sub_self]
    show ((Real.exp 0 : ℝ) : EReal) = 1
    simp
  intro h
  have := Finset.single_le_sum (f := fun j => Ideal.exp (l j - l i)) (fun j _ => pos j) (Finset.mem_univ i)
  simp only [h, one] at this
  exact absurd this (by simp)

/-- Masking the far points out is attending to the list of the near ones. -/
theorem masked_eq {N k : ℕ} (hk : 0 < k) {D : Fin N → EReal} {q : Fin k → Fin N} (L : Nearest.Lists D k q)
    (l v : Fin N → EReal) (hl : ∀ i, Num (l (q i))) : masked D k l v = listed (fun i => l (q i)) fun i => v (q i) := by
  have m := L.max_eq l
  have s := L.sum_eq fun j => Ideal.exp (l j - Finset.univ.fold max ⊥ fun i => l (q i))
  have e : ∀ j, (if D j ≤ Nearest.thr D k then
        Ideal.exp ((if D j ≤ Nearest.thr D k then l j else ⊥)
          - Finset.univ.fold max ⊥ fun j => if D j ≤ Nearest.thr D k then l j else ⊥) else 0)
      = if D j ≤ Nearest.thr D k then Ideal.exp (l j - Finset.univ.fold max ⊥ fun i => l (q i)) else 0 := by
    intro j
    rw [m]
    split_ifs <;> rfl
  unfold masked listed
  simp only [e, s]
  have nz := weights_ne_zero hk (fun i => l (q i)) hl
  rw [← L.sum_eq fun j => Ideal.div (Ideal.exp (l j - Finset.univ.fold max ⊥ fun i => l (q i)))
    (∑ i, Ideal.exp (l (q i) - Finset.univ.fold max ⊥ fun i => l (q i))) * v j]
  refine Finset.sum_congr rfl fun j _ => ?_
  split_ifs
  · rfl
  · rw [show Ideal.div 0 (∑ i, Ideal.exp (l (q i) - Finset.univ.fold max ⊥ fun i => l (q i))) = 0 by
      rw [Ideal.div, if_neg nz, zero_mul], zero_mul]

end Cert.Attend
end
-- ==== Proof.Block.lean ====
/- One attention block over matrices of any size: squared distances, the rounds that find each row's k-th least, the two
   heads, and what the whole is at a point. -/
module

public import proofs.«01_k».proof.Proof.Reads
public import proofs.«01_k».proof.Proof.Attend

@[expose] public section

noncomputable section

namespace Cert.Block

open Idealize.ShloMosaic

/-- A matrix of single precision numbers, at the extended reals. -/
abbrev Mat (m n : ℕ) := FVec Ideal ⟨2, ![m, n]⟩ .f32

/-- The shape conditions of the distances of `R` query points from `N` points, and of the rounds over them. -/
structure Near (R N : ℕ) : Prop where
  q3 : (⟨3, ![1, R, 3]⟩ : Shape).ShapeCasts ⟨2, ![R, 3]⟩
  p3 : (⟨3, ![1, 3, N]⟩ : Shape).ShapeCasts ⟨2, ![3, N]⟩
  sq : (⟨2, ![R, 3]⟩ : Shape).Reduces [1] ⟨1, ![R]⟩
  sp : (⟨2, ![3, N]⟩ : Shape).Reduces [0] ⟨1, ![N]⟩
  col : (⟨1, ![R]⟩ : Shape).ShapeCasts ⟨2, ![R, 1]⟩
  row : (⟨1, ![N]⟩ : Shape).ShapeCasts ⟨2, ![1, N]⟩
  wide : (⟨2, ![R, 1]⟩ : Shape).Broadcasts ⟨2, ![R, N]⟩
  tall : (⟨2, ![1, N]⟩ : Shape).Broadcasts ⟨2, ![R, N]⟩
  red : (⟨2, ![R, N]⟩ : Shape).Reduces [1] ⟨1, ![R]⟩

/-- Those of one grid point's attention: `d` features in heads of `e`, and `w` columns of the joined projection. -/
structure Fits (R N d e w : ℕ) : Prop extends Near R N where
  hq : (⟨3, ![1, R, d]⟩ : Shape).ShapeCasts ⟨2, ![R, d]⟩
  hp : (⟨3, ![1, N, d]⟩ : Shape).ShapeCasts ⟨2, ![N, d]⟩
  ht : (⟨3, ![1, d, N]⟩ : Shape).ShapeCasts ⟨2, ![d, N]⟩
  out : (⟨2, ![R, d]⟩ : Shape).ShapeCasts ⟨3, ![1, R, d]⟩
  wq : (⟨2, ![d, w]⟩ : Shape).Slices ![0, 0] ⟨2, ![d, d]⟩
  flip : (⟨2, ![d, e]⟩ : Shape).Transposes [1, 0] ⟨2, ![e, d]⟩
  both : Shape.Concatenates [⟨2, ![R, e]⟩, ⟨2, ![R, e]⟩] ⟨2, ![R, d]⟩ 1
  thin : FTy.bits .bf16 < FTy.bits .f32

variable {R N d e w : ℕ}

/-- A product of two matrices whose entries were cut to half precision first. -/
def prod {m k n : ℕ} (a : Mat m k) (b : Mat k n) : Mat m n :=
  matmul (F := Ideal) (DotDims.plain m k n) none (truncf .bf16 a (by decide)) (truncf .bf16 b (by decide))
    (constant ⟨2, ![m, n]⟩ .f32 0x00000000#32)

/-- An entry of a product is a sum of products. -/
theorem prod_apply {m k n : ℕ} (a : Mat m k) (b : Mat k n) (i : Fin m) (j : Fin n) :
    prod a b (ix2 i j) = ∑ x, a (ix2 i x) * b (ix2 x j) := Reads.product _ rfl _ _ i j

/-- One value per query spread over all points. -/
def perRow (f : Near R N) (x : FVec Ideal ⟨1, ![R]⟩ .f32) : Mat R N :=
  broadcastTo ⟨2, ![R, N]⟩ (shapeCast ⟨2, ![R, 1]⟩ x f.col) f.wide

/-- An entry of a vector with one value for each row. -/
theorem perRow_apply (f : Near R N) (x : FVec Ideal ⟨1, ![R]⟩ .f32) (i : Fin R) (j : Fin N) :
    perRow f x (ix2 i j) = x (ix1 i) := Reads.rows _ _ x i j

/-- One value per point spread over all queries. -/
def perCol (f : Near R N) (x : FVec Ideal ⟨1, ![N]⟩ .f32) : Mat R N :=
  broadcastTo ⟨2, ![R, N]⟩ (shapeCast ⟨2, ![1, N]⟩ x f.row) f.tall

/-- An entry of a vector with one value for each column. -/
theorem perCol_apply (f : Near R N) (x : FVec Ideal ⟨1, ![N]⟩ .f32) (i : Fin R) (j : Fin N) :
    perCol f x (ix2 i j) = x (ix1 j) := Reads.cols _ _ x i j

/-- The sum of each row. -/
def rowSum {m n : ℕ} (h : (⟨2, ![m, n]⟩ : Shape).Reduces [1] ⟨1, ![m]⟩) (x : Mat m n) : FVec Ideal ⟨1, ![m]⟩ .f32 :=
  multiReduction .add [1] ⟨1, ![m]⟩ x 0x00000000#32 h (.inl rfl) rfl

/-- A row's sum. -/
theorem rowSum_apply {m n : ℕ} (h : (⟨2, ![m, n]⟩ : Shape).Reduces [1] ⟨1, ![m]⟩) (x : Mat m n) (i : Fin m) :
    rowSum h x (ix1 i) = ∑ j, x (ix2 i j) := Reads.sum_row h x i

/-- The sum of each column. -/
def colSum {m n : ℕ} (h : (⟨2, ![m, n]⟩ : Shape).Reduces [0] ⟨1, ![n]⟩) (x : Mat m n) : FVec Ideal ⟨1, ![n]⟩ .f32 :=
  multiReduction .add [0] ⟨1, ![n]⟩ x 0x00000000#32 h (.inl rfl) rfl

/-- A column's sum. -/
theorem colSum_apply {m n : ℕ} (h : (⟨2, ![m, n]⟩ : Shape).Reduces [0] ⟨1, ![n]⟩) (x : Mat m n) (j : Fin n) :
    colSum h x (ix1 j) = ∑ i, x (ix2 i j) := Reads.sum_col h x j

/-- The largest entry of each row. -/
def rowMax {m n : ℕ} (h : (⟨2, ![m, n]⟩ : Shape).Reduces [1] ⟨1, ![m]⟩) (x : Mat m n) : FVec Ideal ⟨1, ![m]⟩ .f32 :=
  multiReduction .maximumf [1] ⟨1, ![m]⟩ x 0xFF800000#32 h (.inl rfl) rfl

/-- A row's maximum. -/
theorem rowMax_apply {m n : ℕ} (h : (⟨2, ![m, n]⟩ : Shape).Reduces [1] ⟨1, ![m]⟩) (x : Mat m n) (i : Fin m) :
    rowMax h x (ix1 i) = Finset.univ.fold max (⊥ : EReal) fun j => x (ix2 i j) := Reads.max_row h x i

/-- Columns cut out of a matrix from `o` on. -/
def cols {m n : ℕ} (o e : ℕ) (h : (⟨2, ![m, n]⟩ : Shape).Slices ![0, o] ⟨2, ![m, e]⟩) (x : Mat m n) : Mat m e :=
  extractStridedSlice ⟨2, ![m, e]⟩ ![0, o] x h

/-- An entry of a matrix's columns from `o` on. -/
theorem cols_apply {m n : ℕ} (o e : ℕ) (h : (⟨2, ![m, n]⟩ : Shape).Slices ![0, o] ⟨2, ![m, e]⟩) (hk : o + e ≤ n)
    (x : Mat m n) (i : Fin m) (j : Fin e) : cols o e h x (ix2 i j) = x (ix2 i ⟨o + j.1, by omega⟩) :=
  Reads.cut o h hk x i j

/-- A matrix transposed. -/
def turned {m n : ℕ} (h : (⟨2, ![m, n]⟩ : Shape).Transposes [1, 0] ⟨2, ![n, m]⟩) (x : Mat m n) : Mat n m :=
  transpose ⟨2, ![n, m]⟩ [1, 0] x h

/-- An entry of the transposed matrix. -/
theorem turned_apply {m n : ℕ} (h : (⟨2, ![m, n]⟩ : Shape).Transposes [1, 0] ⟨2, ![n, m]⟩) (x : Mat m n)
    (i : Fin m) (j : Fin n) : turned h x (ix2 j i) = x (ix2 i j) := Reads.flip h x i j

/-- The matrix of an array whose leading axis has extent one. -/
def plane {m n : ℕ} (h : (⟨3, ![1, m, n]⟩ : Shape).ShapeCasts ⟨2, ![m, n]⟩) (x : FVec Ideal ⟨3, ![1, m, n]⟩ .f32) : Mat m n :=
  shapeCast ⟨2, ![m, n]⟩ x h

/-- An entry of the one plane of an array. -/
theorem plane_apply {m n : ℕ} (h : (⟨3, ![1, m, n]⟩ : Shape).ShapeCasts ⟨2, ![m, n]⟩) (x : FVec Ideal ⟨3, ![1, m, n]⟩ .f32)
    (i : Fin m) (j : Fin n) : plane h x (ix2 i j) = x (ix3 0 i j) := Reads.drop h x i j

/-- The same number everywhere. -/
abbrev fill (m n : ℕ) (x : Ideal .f32) : Mat m n := broadcast ⟨2, ![m, n]⟩ x

/-- The squared distance of two points as both programs take it: the squared lengths less twice the product. -/
def sqd (a b : Fin 3 → EReal) : EReal :=
  (∑ c, a c * a c) + (∑ c, b c * b c) - Ideal.ofBits .f32 0x40000000#32 * ∑ c, a c * b c

/-- The squared distances of the query points from all points. -/
def sqdist (f : Near R N) (q : FVec Ideal ⟨3, ![1, R, 3]⟩ .f32) (p : FVec Ideal ⟨3, ![1, 3, N]⟩ .f32) : Mat R N :=
  have a : Mat R 3 := plane f.q3 q
  have b : Mat 3 N := plane f.p3 p
  subf
    (addf (perRow f (rowSum f.sq (mulf a a)))
      (perCol f (colSum f.sp (mulf b b))))
    (mulf (fill R N (Scalar.ofBits .f32 0x40000000#32)) (prod a b))

/-- An entry of the distances is the squared distance of the query and the point. -/
theorem sqdist_apply (f : Near R N) (q : FVec Ideal ⟨3, ![1, R, 3]⟩ .f32) (p : FVec Ideal ⟨3, ![1, 3, N]⟩ .f32)
    (i : Fin R) (j : Fin N) : sqdist f q p (ix2 i j) = sqd (fun c => q (ix3 0 i c)) (fun c => p (ix3 0 c j)) := by
  have e : sqdist f q p (ix2 i j)
      = perRow f (rowSum f.sq (mulf (plane f.q3 q) (plane f.q3 q))) (ix2 i j)
        + perCol f (colSum f.sp (mulf (plane f.p3 p) (plane f.p3 p))) (ix2 i j)
        - Ideal.ofBits .f32 0x40000000#32 * prod (plane f.q3 q) (plane f.p3 p) (ix2 i j) := rfl
  rw [e, perRow_apply, perCol_apply, prod_apply, rowSum_apply, colSum_apply]
  have m : ∀ {m n : ℕ} (a : Mat m n) (x : Fin m) (y : Fin n), mulf a a (ix2 x y) = a (ix2 x y) * a (ix2 x y) := fun _ _ _ => rfl
  simp only [m, plane_apply]
  rfl

/-- One round: the least distance of each row above the bound of the round before. -/
def round (f : Near R N) (D : Mat R N) (g : Mat R 1) : Mat R 1 :=
  shapeCast ⟨2, ![R, 1]⟩
    (multiReduction .minimumf [1] ⟨1, ![R]⟩
      (select (cmpf .ogt D (broadcastTo ⟨2, ![R, N]⟩ g f.wide)) D (fill R N (Scalar.ofBits .f32 0x7F800000#32)))
      0x7F800000#32 f.red (.inl rfl) rfl) f.col

/-- The bound after so many rounds, from −∞. -/
def bound (f : Near R N) (D : Mat R N) : ℕ → Mat R 1
  | 0 => fill R 1 (Scalar.ofBits .f32 0xFF800000#32)
  | n + 1 => round f D (bound f D n)

/-- The bound after `n` rounds, at every column of a row, is that row's bound. -/
theorem bound_apply (f : Near R N) (D : Mat R N) (n : ℕ) (i : Fin R) (j : Fin N) :
    broadcastTo ⟨2, ![R, N]⟩ (bound f D n) f.wide (ix2 i j) = Nearest.thr (fun j => D (ix2 i j)) n := by
  induction n generalizing j with
  | zero => exact Reads.ofBits_bot
  | succ n ih =>
    unfold bound round
    rw [Reads.rows, Reads.min_row]
    have e : ∀ t : Fin N, select (cmpf .ogt D (broadcastTo ⟨2, ![R, N]⟩ (bound f D n) f.wide)) D
        (fill R N (Scalar.ofBits .f32 0x7F800000#32)) (ix2 i t) = if Nearest.thr (fun j => D (ix2 i j)) n < D (ix2 i t) then D (ix2 i t) else ⊤ := by
      intro t
      rw [← ih t]
      generalize bound f D n = g
      pointwise
      rw [Reads.ofBits_top]
    simp only [e]
    rfl

/-- The points no farther than the bound after `k` rounds. -/
def mask (f : Near R N) (D : Mat R N) (k : ℕ) : IVec ⟨2, ![R, N]⟩ 1 :=
  cmpf .ole D (broadcastTo ⟨2, ![R, N]⟩ (bound f D k) f.wide)

/-- A choice by the mask is a choice by whether the distance is within the bound. -/
theorem select_mask (f : Near R N) (D : Mat R N) (k : ℕ) (x y : Mat R N) (i : Fin R) (j : Fin N) :
    select (mask f D k) x y (ix2 i j) = if D (ix2 i j) ≤ Nearest.thr (fun j => D (ix2 i j)) k then x (ix2 i j) else y (ix2 i j) := by
  rw [← bound_apply f D k i j]
  unfold mask
  generalize broadcastTo ⟨2, ![R, N]⟩ (bound f D k) f.wide = g
  pointwise

/-- One head: `q` the queries' features, `w` the joined projection, the head's columns from `oq`, `ok` and `ov` on. -/
def head (f : Fits R N d e w) (oq ok ov : ℕ) (sq : (⟨2, ![R, d]⟩ : Shape).Slices ![0, oq] ⟨2, ![R, e]⟩)
    (sk : (⟨2, ![d, w]⟩ : Shape).Slices ![0, ok] ⟨2, ![d, e]⟩) (sv : (⟨2, ![d, w]⟩ : Shape).Slices ![0, ov] ⟨2, ![d, e]⟩)
    (s m : Ideal .f32) (M : IVec ⟨2, ![R, N]⟩ 1) (q : Mat R d) (h : Mat N d) (hT : Mat d N) (W : Mat d w) : Mat R e :=
  have lg : Mat R N := mulf (prod (cols oq e sq q) (prod (turned f.flip (cols ok e sk W)) hT)) (fill R N s)
  have ml : Mat R N := select M lg (fill R N m)
  have ex : Mat R N := select M (exp (subf ml (perRow f.toNear (rowMax f.red ml)))) (fill R N (Scalar.ofBits .f32 0x00000000#32))
  prod (divf ex (perRow f.toNear (rowSum f.red ex))) (prod h (cols ov e sv W))

/-- A column of a matrix by its number, zero where the matrix has no such column. -/
def column {m n : ℕ} (W : Fin m → Fin n → EReal) (c : ℕ) (x : Fin m) : EReal := if h : c < n then W x ⟨c, h⟩ else 0

/-- A column within the matrix is the matrix's own. -/
theorem column_eq {m n : ℕ} (W : Fin m → Fin n → EReal) {c : ℕ} (h : c < n) (x : Fin m) : column W c x = W x ⟨c, h⟩ := dif_pos h

/-- An entry of one head's result is the masked mean of the value rows. -/
theorem head_apply (f : Fits R N d e w) (oq ok ov : ℕ) (sq : (⟨2, ![R, d]⟩ : Shape).Slices ![0, oq] ⟨2, ![R, e]⟩)
    (sk : (⟨2, ![d, w]⟩ : Shape).Slices ![0, ok] ⟨2, ![d, e]⟩) (sv : (⟨2, ![d, w]⟩ : Shape).Slices ![0, ov] ⟨2, ![d, e]⟩)
    (hq : oq + e ≤ d) (hk : ok + e ≤ w) (hv : ov + e ≤ w)
    (s m : Ideal .f32) (hm : m = (⊥ : EReal)) (D : Mat R N) (k : ℕ) (q : Mat R d) (h : Mat N d) (hT : Mat d N) (W : Mat d w)
    (i : Fin R) (t : Fin e) :
    head f oq ok ov sq sk sv s m (mask f.toNear D k) q h hT W (ix2 i t)
      = Attend.masked (fun j => D (ix2 i j)) k
        (fun j => (∑ x : Fin e, q (ix2 i ⟨oq + x.1, by omega⟩) * ∑ y, column (fun y c => W (ix2 y c)) (ok + x.1) y * hT (ix2 y j)) * s)
        (fun j => ∑ y, h (ix2 j y) * column (fun y c => W (ix2 y c)) (ov + t.1) y) := by
  have div : ∀ (a b : Mat R N) (i : Fin R) (j : Fin N), divf a b (ix2 i j) = Ideal.div (a (ix2 i j)) (b (ix2 i j)) :=
    fun _ _ _ _ => rfl
  have sub : ∀ (a b : Mat R N) (i : Fin R) (j : Fin N), exp (subf a b) (ix2 i j) = Ideal.exp (a (ix2 i j) - b (ix2 i j)) :=
    fun _ _ _ _ => rfl
  have mul : ∀ (a : Mat R N) (i : Fin R) (j : Fin N), mulf a (fill R N s) (ix2 i j) = a (ix2 i j) * s := fun _ _ _ => rfl
  have fil : ∀ (a : Ideal .f32) (i : Fin R) (j : Fin N), fill R N a (ix2 i j) = a := fun _ _ _ => rfl
  have ck : ∀ (x : Fin e) (y : Fin d), column (fun y c => W (ix2 y c)) (ok + x.1) y = W (ix2 y ⟨ok + x.1, by omega⟩) :=
    fun x y => column_eq _ _ y
  have cv : ∀ y : Fin d, column (fun y c => W (ix2 y c)) (ov + t.1) y = W (ix2 y ⟨ov + t.1, by omega⟩) :=
    fun y => column_eq _ _ y
  have z : FloatOps.ofBits (F := Ideal) .f32 0x00000000#32 = (0 : EReal) := by
    simp [FloatOps.ofBits, Ideal.ofBits, Ideal.ieee]
  subst hm
  unfold head Attend.masked
  simp only [prod_apply, cols_apply _ _ _ hv, cols_apply _ _ _ hq, cols_apply _ _ _ hk, div, sub, mul, fil, select_mask,
    perRow_apply, rowSum_apply, rowMax_apply, turned_apply, ck, cv, z]

/-- The attention block of one grid point. -/
def block (f : Fits R N d e w) (sq₀ : (⟨2, ![R, d]⟩ : Shape).Slices ![0, 0] ⟨2, ![R, e]⟩)
    (sq₁ : (⟨2, ![R, d]⟩ : Shape).Slices ![0, e] ⟨2, ![R, e]⟩) (sk₀ : (⟨2, ![d, w]⟩ : Shape).Slices ![0, d] ⟨2, ![d, e]⟩)
    (sk₁ : (⟨2, ![d, w]⟩ : Shape).Slices ![0, d + e] ⟨2, ![d, e]⟩) (sv₀ : (⟨2, ![d, w]⟩ : Shape).Slices ![0, d + d] ⟨2, ![d, e]⟩)
    (sv₁ : (⟨2, ![d, w]⟩ : Shape).Slices ![0, d + d + e] ⟨2, ![d, e]⟩) (s m : Ideal .f32) (k : ℕ)
    (ht : FVec Ideal ⟨3, ![1, R, d]⟩ .f32) (hf : FVec Ideal ⟨3, ![1, N, d]⟩ .f32) (hT : FVec Ideal ⟨3, ![1, d, N]⟩ .f32)
    (cq : FVec Ideal ⟨3, ![1, R, 3]⟩ .f32) (cT : FVec Ideal ⟨3, ![1, 3, N]⟩ .f32) (W : Mat d w) (O : Mat d d) :
    FVec Ideal ⟨3, ![1, R, d]⟩ .f32 :=
  have M := mask f.toNear (sqdist f.toNear cq cT) k
  have q := prod (plane f.hq ht) (cols 0 d f.wq W)
  shapeCast ⟨3, ![1, R, d]⟩
    (addf (plane f.hq ht)
      (prod
        (concatenate ⟨2, ![R, d]⟩ 1
          [⟨⟨2, ![R, e]⟩, head f 0 d (d + d) sq₀ sk₀ sv₀ s m M q (plane f.hp hf) (plane f.ht hT) W⟩,
            ⟨⟨2, ![R, e]⟩, head f e (d + e) (d + d + e) sq₁ sk₁ sv₁ s m M q (plane f.hp hf) (plane f.ht hT) W⟩] f.both)
        O)) f.out

/-- The score of a query for a point in the head whose columns begin at `o`: `q` and `p` their features. -/
def score (d e : ℕ) {w : ℕ} (W : Fin d → Fin w → EReal) (o : ℕ) (q p : Fin d → EReal) : EReal :=
  ∑ x : Fin e, (∑ y, q y * column W (o + x.1) y) * ∑ y, p y * column W (d + o + x.1) y

/-- A point's value in column `t`. -/
def value (d : ℕ) {w : ℕ} (W : Fin d → Fin w → EReal) (t : ℕ) (p : Fin d → EReal) : EReal :=
  ∑ y, p y * column W (d + d + t) y

/-- Attention of query `i`, result column `j`: the features themselves, and through `O` the heads' means side by side.
    `H` the points' features, `C` their coordinates. -/
def attn {n : ℕ} (d e k : ℕ) {w : ℕ} (s : EReal) (H : Fin n → Fin d → EReal) (C : Fin n → Fin 3 → EReal)
    (W : Fin d → Fin w → EReal) (O : Fin d → Fin d → EReal) (i : Fin n) (j : Fin d) : EReal :=
  H i j + ∑ t : Fin d, Attend.masked (fun n => sqd (C i) (C n)) k (fun n => score d e W (t.1 / e * e) (H i) (H n) * s)
    (fun n => value d W t.1 (H n)) * O t j

/-- An entry of the kernel's block is the masked attention of its query. -/
theorem block_apply (f : Fits R N d e w) (sq₀ : (⟨2, ![R, d]⟩ : Shape).Slices ![0, 0] ⟨2, ![R, e]⟩)
    (sq₁ : (⟨2, ![R, d]⟩ : Shape).Slices ![0, e] ⟨2, ![R, e]⟩) (sk₀ : (⟨2, ![d, w]⟩ : Shape).Slices ![0, d] ⟨2, ![d, e]⟩)
    (sk₁ : (⟨2, ![d, w]⟩ : Shape).Slices ![0, d + e] ⟨2, ![d, e]⟩) (sv₀ : (⟨2, ![d, w]⟩ : Shape).Slices ![0, d + d] ⟨2, ![d, e]⟩)
    (sv₁ : (⟨2, ![d, w]⟩ : Shape).Slices ![0, d + d + e] ⟨2, ![d, e]⟩) (he : d = e + e) (hw : w = d + d + d)
    (s m : Ideal .f32) (hm : m = (⊥ : EReal)) (k : ℕ)
    (ht : FVec Ideal ⟨3, ![1, R, d]⟩ .f32) (hf : FVec Ideal ⟨3, ![1, N, d]⟩ .f32) (hT : FVec Ideal ⟨3, ![1, d, N]⟩ .f32)
    (cq : FVec Ideal ⟨3, ![1, R, 3]⟩ .f32) (cT : FVec Ideal ⟨3, ![1, 3, N]⟩ .f32) (W : Mat d w) (O : Mat d d)
    (H : Fin N → Fin d → EReal) (C : Fin N → Fin 3 → EReal) (at_ : Fin R → Fin N)
    (h0 : ∀ i y, ht (ix3 0 i y) = H (at_ i) y) (h1 : ∀ j y, hf (ix3 0 j y) = H j y) (h2 : ∀ j y, hT (ix3 0 y j) = H j y)
    (h3 : ∀ i c, cq (ix3 0 i c) = C (at_ i) c) (h4 : ∀ j c, cT (ix3 0 c j) = C j c)
    (b : Fin 1) (i : Fin R) (j : Fin d) :
    block f sq₀ sq₁ sk₀ sk₁ sv₀ sv₁ s m k ht hf hT cq cT W O (ix3 b i j)
      = attn d e k s H C (fun y c => W (ix2 y c)) (fun y c => O (ix2 y c)) (at_ i) j := by
  unfold block attn
  rw [Reads.lift]
  have add : ∀ (a b : Mat R d), addf a b (ix2 i j) = a (ix2 i j) + b (ix2 i j) := fun _ _ => rfl
  rw [add, plane_apply, prod_apply, h0]
  congr 1
  refine Finset.sum_congr rfl fun t _ => ?_
  congr 1
  rw [Reads.beside _ he]
  have q : ∀ c : Fin d, prod (plane f.hq ht) (cols 0 d f.wq W) (ix2 i c)
      = ∑ y, H (at_ i) y * column (fun y c => W (ix2 y c)) c.1 y := by
    intro c
    rw [prod_apply]
    refine Finset.sum_congr rfl fun y _ => ?_
    rw [plane_apply, h0, cols_apply _ _ _ (by omega), column_eq _ (by omega)]
    simp
  split_ifs with lt
  · rw [head_apply f _ _ _ _ _ _ (by omega) (by omega) (by omega) _ _ hm]
    simp only [q, sqdist_apply, plane_apply, h1, h2, h3, h4, score, value, Nat.div_eq_of_lt lt, zero_mul, add_zero, zero_add]
    simp only [mul_comm]
  · have t2 := t.2
    have one : t.1 / e = 1 := Nat.div_eq_of_lt_le (by omega) (by omega)
    rw [head_apply f _ _ _ _ _ _ (by omega) (by omega) (by omega) _ _ hm]
    simp only [q, sqdist_apply, plane_apply, h1, h2, h3, h4, score, value, one, one_mul, show d + d + e + (t.1 - e) = d + d + t.1 by omega]
    simp only [mul_comm]

end Cert.Block
end
-- ==== Proof.Pick.lean ====
/- The largest of a value over the nearest points, as the two programs take it: one point a round, found by comparing its
   distance with the round's bound, and over the list of the near points.  The two agree where the values are numbers. -/
module

public import proofs.«01_k».proof.Proof.Attend

@[expose] public section

noncomputable section

namespace Cert.Pick

open Idealize.ShloMosaic Cert.Attend

variable {N k : ℕ} {D : Fin N → EReal} {p : Fin N → Fin N}

/-- The negative of a number is a number. -/
theorem num_neg {x : EReal} : Num x → Num (-x) := by
  rintro ⟨a, rfl⟩
  exact ⟨-a, (EReal.coe_neg a).symm⟩

/-- A difference of numbers is a number. -/
theorem num_sub {x y : EReal} : Num x → Num y → Num (x - y) := by
  rintro ⟨a, rfl⟩ ⟨b, rfl⟩
  exact ⟨a - b, (EReal.coe_sub a b).symm⟩

/-- One where an entry is the given one, else zero. -/
def hot (x g : EReal) : EReal := if x = g then 1 else 0

/-- The largest value found in `n` rounds: a round adds up the values of the points at its bound, and what is left of
    the values when their leading part is taken away. -/
def tops (D v : Fin N → EReal) : ℕ → EReal
  | 0 => ⊥
  | n + 1 => max (tops D v n)
      ((∑ j, hot (D j) (Nearest.thr D (n + 1)) * v j) + ∑ j, hot (D j) (Nearest.thr D (n + 1)) * (v j - v j))

/-- The first `k` entries in order are different from every other entry. -/
theorem unique (S : Nearest.Sorted D k p) (m : ℕ) (hm : m < k) (t : Fin N) (h : D (p t) = D (p ⟨m, hm.trans S.lt⟩)) : t.1 = m := by
  rcases Nat.lt_trichotomy t.1 m with l | e | g
  · have s := S.strict t.1 (by omega)
    have o := S.mono ⟨t.1 + 1, by have := S.lt; omega⟩ ⟨m, hm.trans S.lt⟩ (by rw [Fin.le_def]; exact l)
    exact absurd h (s.trans_le o).ne
  · exact e
  · have s := S.strict m hm
    have o := S.mono ⟨m + 1, by have := S.lt; omega⟩ t (by rw [Fin.le_def]; exact g)
    exact absurd h (s.trans_le o).ne'

/-- A round's sum is the value of the point at its place of the order. -/
theorem round_eq (S : Nearest.Sorted D k p) (v : Fin N → EReal) (m : ℕ) (hm : m < k) :
    (∑ j, hot (D j) (Nearest.thr D (m + 1)) * v j) = v (p ⟨m, hm.trans S.lt⟩) := by
  rw [S.thr_succ m hm.le, Finset.sum_eq_single (p ⟨m, hm.trans S.lt⟩)]
  · rw [hot, if_pos rfl, one_mul]
  · intro j _ hj
    obtain ⟨t, rfl⟩ := S.bij.2 j
    rw [hot, if_neg, zero_mul]
    intro h
    exact hj (congrArg p (Fin.ext (unique S m hm t h)))
  · exact fun h => absurd (Finset.mem_univ _) h

/-- The rounds find the largest of the values of the `n` nearest. -/
theorem tops_eq (S : Nearest.Sorted D k p) (v : Fin N → EReal) (hv : ∀ j, Num (v j)) : ∀ n : ℕ, ∀ h : n ≤ k,
    tops D v n = Finset.univ.fold max ⊥ fun i : Fin n => v (p ⟨i.1, (i.2.trans_le h).trans S.lt⟩)
  | 0, _ => rfl
  | n + 1, h => by
    have z : ∀ j, v j - v j = 0 := fun j => by
      obtain ⟨r, hr⟩ := hv j
      rw [hr, ← EReal.coe_sub, sub_self]
      rfl
    rw [tops, tops_eq S v hv n (by omega), round_eq S v n (by omega)]
    simp only [z, mul_zero, Finset.sum_const_zero, add_zero]
    rw [Nearest.fold_max_eq_sup, Nearest.fold_max_eq_sup]
    apply le_antisymm
    · refine max_le (Finset.sup_le fun i _ => ?_) ?_
      · exact Finset.le_sup (f := fun i : Fin (n + 1) => v (p ⟨i.1, (i.2.trans_le h).trans S.lt⟩)) (Finset.mem_univ i.castSucc)
      · exact Finset.le_sup (f := fun i : Fin (n + 1) => v (p ⟨i.1, (i.2.trans_le h).trans S.lt⟩)) (Finset.mem_univ (Fin.last n))
    · refine Finset.sup_le fun i _ => ?_
      refine Fin.lastCases ?_ (fun i => ?_) i
      · exact le_max_right _ _
      · exact le_max_of_le_left
          (Finset.le_sup (f := fun i : Fin n => v (p ⟨i.1, (i.2.trans_le (by omega)).trans S.lt⟩)) (Finset.mem_univ i))

/-- A monotone function of the largest of finitely many is the largest of the function's values. -/
theorem max_map {n : ℕ} (hn : 0 < n) (x : Fin n → EReal) (φ : EReal → EReal) (hφ : Monotone φ) :
    φ (Finset.univ.fold max ⊥ x) = Finset.univ.fold max ⊥ fun i => φ (x i) := by
  have : Nonempty (Fin n) := ⟨⟨0, hn⟩⟩
  obtain ⟨i, -, hi⟩ := Finset.exists_max_image Finset.univ x Finset.univ_nonempty
  rw [Nearest.fold_max_eq_sup, Nearest.fold_max_eq_sup]
  have e : Finset.univ.sup x = x i :=
    le_antisymm (Finset.sup_le fun j _ => hi j (Finset.mem_univ j)) (Finset.le_sup (f := x) (Finset.mem_univ i))
  rw [e]
  exact le_antisymm (Finset.le_sup (f := fun i => φ (x i)) (Finset.mem_univ i))
    (Finset.sup_le fun j _ => hφ (hi j (Finset.mem_univ j)))

/-- A point's value: its features and its coordinates through their weights. -/
def val {d : ℕ} (WX : Fin d → EReal) (WC : Fin 3 → EReal) (h : Fin d → EReal) (c : Fin 3 → EReal) : EReal :=
  (∑ y, h y * WX y) + ∑ y, c y * WC y

/-- A number times a sum or a difference of numbers. -/
theorem sum_sub (c q w : Fin 3 → EReal) (hc : ∀ y, Num (c y)) (hq : ∀ y, Num (q y)) (hw : ∀ y, Num (w y)) :
    (∑ y, (c y - q y) * w y) = (∑ y, c y * w y) - ∑ y, q y * w y := by
  choose c' ec using hc
  choose q' eq using hq
  choose w' ew using hw
  simp only [ec, eq, ew, Fin.sum_univ_three, ← EReal.coe_sub, ← EReal.coe_mul, ← EReal.coe_add]
  congr 1
  ring

/-- A point's value less the query's part is the value of its features and its place seen from the query. -/
theorem val_sub {d : ℕ} (WX : Fin d → EReal) (WC : Fin 3 → EReal) (h : Fin d → EReal) (c q : Fin 3 → EReal)
    (nX : ∀ y, Num (WX y)) (nC : ∀ y, Num (WC y)) (nh : ∀ y, Num (h y)) (nc : ∀ y, Num (c y)) (nq : ∀ y, Num (q y)) :
    val WX WC h c - ∑ y, q y * WC y = (∑ y, h y * WX y) + ∑ y, (c y - q y) * WC y := by
  rw [sum_sub c q WC nc nq nC, val]
  obtain ⟨a, ha⟩ := Num.sum Finset.univ fun y => (nh y).mul (nX y)
  obtain ⟨b, hb⟩ := Num.sum Finset.univ fun y => (nc y).mul (nC y)
  obtain ⟨e, he⟩ := Num.sum Finset.univ fun y => (nq y).mul (nC y)
  rw [ha, hb, he, ← EReal.coe_add, ← EReal.coe_sub, ← EReal.coe_sub, ← EReal.coe_add]
  congr 1
  ring

/-- A pooled feature: the largest value of the nearest points of `q`, less the query's part, and the bias, cut off at zero. -/
def pool {d : ℕ} (n : ℕ) (H : Fin N → Fin d → EReal) (C : Fin N → Fin 3 → EReal) (dist : Fin N → EReal) (q : Fin 3 → EReal)
    (WX : Fin d → EReal) (WC : Fin 3 → EReal) (b : EReal) : EReal :=
  max (tops dist (fun j => val WX WC (H j) (C j)) n - (∑ y, q y * WC y) + b) 0

/-- The same over the list of the nearest points. -/
def listed {d n : ℕ} (H : Fin n → Fin d → EReal) (C : Fin n → Fin 3 → EReal) (q : Fin 3 → EReal) (WX : Fin d → EReal)
    (WC : Fin 3 → EReal) (b : EReal) : EReal :=
  Finset.univ.fold max ⊥ fun i => max (((∑ y, H i y * WX y) + ∑ y, (C i y - q y) * WC y) + b) 0

/-- The running maximum over the nearest points' rows is the maximum over the list of the relu of each affine layer. -/
theorem pool_eq {d : ℕ} (hk : 0 < k) (S : Nearest.Sorted D k p) (H : Fin N → Fin d → EReal) (C : Fin N → Fin 3 → EReal)
    (q : Fin 3 → EReal) (WX : Fin d → EReal) (WC : Fin 3 → EReal) (b : EReal) (nX : ∀ y, Num (WX y)) (nC : ∀ y, Num (WC y))
    (nh : ∀ j y, Num (H j y)) (nc : ∀ j y, Num (C j y)) (nq : ∀ y, Num (q y)) :
    pool k H C D q WX WC b
      = listed (fun i : Fin k => H (p ⟨i.1, i.2.trans S.lt⟩)) (fun i : Fin k => C (p ⟨i.1, i.2.trans S.lt⟩)) q WX WC b := by
  unfold pool listed
  rw [tops_eq S (fun j => val WX WC (H j) (C j)) (fun j => (Num.sum _ fun y => (nh j y).mul (nX y)).add (Num.sum _ fun y => (nc j y).mul (nC y))) k le_rfl]
  refine (max_map hk _ (fun x => max (x - (∑ y, q y * WC y) + b) 0) fun x y h =>
    max_le_max (add_le_add (EReal.sub_le_sub h le_rfl) le_rfl) le_rfl).trans ?_
  congr 1
  funext i
  rw [val_sub WX WC _ _ q nX nC (nh _) (nc _) nq]

end Cert.Pick

end
-- ==== Proof.Pool.lean ====
/- One block of pooled features over matrices of any size: the values of all points, the rounds that pick each query's
   nearest, and what the whole is at a point. -/
module

public import proofs.«01_k».proof.Proof.Block
public import proofs.«01_k».proof.Proof.Pick

@[expose] public section

noncomputable section

namespace Cert.Pool

open Idealize.ShloMosaic Cert.Block

/-- The shape conditions of one grid point: `R` queries, `N` points of `d` features, `o` result columns. -/
structure Fits (R N d o : ℕ) : Prop extends Near R N where
  hp : (⟨3, ![1, N, d]⟩ : Shape).ShapeCasts ⟨2, ![N, d]⟩
  cp : (⟨3, ![1, N, 3]⟩ : Shape).ShapeCasts ⟨2, ![N, 3]⟩
  wx : (⟨2, ![d, o]⟩ : Shape).ShapeCasts ⟨2, ![d, o]⟩
  wc : (⟨2, ![3, o]⟩ : Shape).ShapeCasts ⟨2, ![3, o]⟩
  bias : (⟨2, ![1, o]⟩ : Shape).ShapeCasts ⟨2, ![1, o]⟩
  each : (⟨2, ![1, o]⟩ : Shape).Broadcasts ⟨2, ![R, o]⟩
  out : (⟨2, ![R, o]⟩ : Shape).ShapeCasts ⟨3, ![1, R, o]⟩

variable {R N d o : ℕ}

/-- A matrix read again at its own shape. -/
def same {m n : ℕ} (h : (⟨2, ![m, n]⟩ : Shape).ShapeCasts ⟨2, ![m, n]⟩) (x : Mat m n) : Mat m n := shapeCast ⟨2, ![m, n]⟩ x h

/-- A cast to the same shape changes nothing. -/
theorem same_eq {m n : ℕ} (h : (⟨2, ![m, n]⟩ : Shape).ShapeCasts ⟨2, ![m, n]⟩) (x : Mat m n) : same h x = x := by
  funext i
  exact congrArg x (Shape.reshapeEquiv_eq_of_rowMajor _ rfl)

/-- One row spread over `n` rows. -/
def spread {n o : ℕ} (h : (⟨2, ![1, o]⟩ : Shape).ShapeCasts ⟨2, ![1, o]⟩) (e : (⟨2, ![1, o]⟩ : Shape).Broadcasts ⟨2, ![n, o]⟩)
    (x : Mat 1 o) : Mat n o := broadcastTo ⟨2, ![n, o]⟩ (same h x) e

/-- Every row of a row spread out is that row. -/
theorem spread_apply {n o : ℕ} (h : (⟨2, ![1, o]⟩ : Shape).ShapeCasts ⟨2, ![1, o]⟩)
    (e : (⟨2, ![1, o]⟩ : Shape).Broadcasts ⟨2, ![n, o]⟩) (x : Mat 1 o) (i : Fin n) (t : Fin o) :
    spread h e x (ix2 i t) = x (ix2 0 t) := by
  unfold spread
  rw [same_eq]
  pointwise
  by_cases e : o = 1
  · subst e
    rw [show t = 0 from Subsingleton.elim _ _]
    simp
  · simp [e]

/-- One where a distance is the query's bound after `n` rounds, else zero. -/
def hot (f : Near R N) (D : Mat R N) (n : ℕ) : Mat R N :=
  sitofp .f32 (extui 32 (cmpf .oeq D (broadcastTo ⟨2, ![R, N]⟩ (bound f D n) f.wide)) (by decide))

/-- An entry of the one-hot rows of round `n`. -/
theorem hot_apply (f : Near R N) (D : Mat R N) (n : ℕ) (i : Fin R) (j : Fin N) :
    hot f D n (ix2 i j) = Pick.hot (D (ix2 i j)) (Nearest.thr (fun j => D (ix2 i j)) n) := by
  rw [← bound_apply f D n i j]
  unfold hot Pick.hot
  generalize broadcastTo ⟨2, ![R, N]⟩ (bound f D n) f.wide = g
  show ((((BitVec.ofBool (decide ((D (ix2 i j) : EReal) = g (ix2 i j)))).setWidth 32).toInt : ℝ) : EReal) = _
  split_ifs with h
  · rw [decide_eq_true h]
    simp
  · rw [decide_eq_false h]
    simp

/-- The value of every point: its features and its coordinates through their weights. -/
def vals (f : Fits R N d o) (h : FVec Ideal ⟨3, ![1, N, d]⟩ .f32) (c : FVec Ideal ⟨3, ![1, N, 3]⟩ .f32) (wx : Mat d o) (wc : Mat 3 o) :
    Mat N o := addf (prod (plane f.hp h) (same f.wx wx)) (prod (plane f.cp c) (same f.wc wc))

/-- An entry of the points' values is the affine layer without its bias and without the query. -/
theorem vals_apply (f : Fits R N d o) (h : FVec Ideal ⟨3, ![1, N, d]⟩ .f32) (c : FVec Ideal ⟨3, ![1, N, 3]⟩ .f32) (wx : Mat d o)
    (wc : Mat 3 o) (j : Fin N) (t : Fin o) :
    vals f h c wx wc (ix2 j t)
      = Pick.val (fun y => wx (ix2 y t)) (fun y => wc (ix2 y t)) (fun y => h (ix3 0 j y)) fun y => c (ix3 0 j y) := by
  have add : ∀ a b : Mat N o, addf a b (ix2 j t) = a (ix2 j t) + b (ix2 j t) := fun _ _ => rfl
  unfold vals Pick.val
  rw [add, prod_apply, prod_apply, same_eq, same_eq]
  simp only [plane_apply]

/-- What a matrix loses when cut to half precision. -/
def rest (v : Mat N o) : Mat N o := subf v (extf .f32 (truncf .bf16 v (by decide)) (by decide))

/-- The largest values found in so many rounds, from `m`. -/
def best (f : Near R N) (m : Ideal .f32) (D : Mat R N) (v : Mat N o) : ℕ → Mat R o
  | 0 => fill R o m
  | n + 1 => maximumf (best f m D v n) (addf (prod (hot f D (n + 1)) v) (prod (hot f D (n + 1)) (rest v)))

/-- An entry of the running maximum is the maximum of the rounds' picked values. -/
theorem best_apply (f : Near R N) (m : Ideal .f32) (hm : m = (⊥ : EReal)) (D : Mat R N) (v : Mat N o) (n : ℕ) (i : Fin R) (t : Fin o) :
    best f m D v n (ix2 i t) = Pick.tops (fun j => D (ix2 i j)) (fun j => v (ix2 j t)) n := by
  induction n with
  | zero => exact hm
  | succ n ih =>
    have e : ∀ a b c : Mat R o, maximumf a (addf b c) (ix2 i t) = max (a (ix2 i t) : EReal) (b (ix2 i t) + c (ix2 i t)) := fun _ _ _ => rfl
    have r : ∀ j, rest v (ix2 j t) = v (ix2 j t) - v (ix2 j t) := fun _ => rfl
    unfold best Pick.tops
    rw [e, ih, prod_apply, prod_apply]
    simp only [hot_apply, r]

/-- The pooled features of one grid point. -/
def block (f : Fits R N d o) (m : Ideal .f32) (k : ℕ) (q : FVec Ideal ⟨3, ![1, R, 3]⟩ .f32) (c : FVec Ideal ⟨3, ![1, N, 3]⟩ .f32)
    (cT : FVec Ideal ⟨3, ![1, 3, N]⟩ .f32) (h : FVec Ideal ⟨3, ![1, N, d]⟩ .f32) (wx : Mat d o) (wc : Mat 3 o) (b : Mat 1 o) :
    FVec Ideal ⟨3, ![1, R, o]⟩ .f32 :=
  shapeCast ⟨3, ![1, R, o]⟩
    (maximumf
      (addf (subf (best f.toNear m (sqdist f.toNear q cT) (vals f h c wx wc) k) (prod (plane f.q3 q) (same f.wc wc))) (spread f.bias f.each b))
      (fill R o (Scalar.ofBits .f32 0x00000000#32))) f.out

/-- An entry of the kernel's block is the pooled feature of its query. -/
theorem block_apply (f : Fits R N d o) (m : Ideal .f32) (hm : m = (⊥ : EReal)) (k : ℕ) (q : FVec Ideal ⟨3, ![1, R, 3]⟩ .f32)
    (c : FVec Ideal ⟨3, ![1, N, 3]⟩ .f32) (cT : FVec Ideal ⟨3, ![1, 3, N]⟩ .f32) (h : FVec Ideal ⟨3, ![1, N, d]⟩ .f32) (wx : Mat d o)
    (wc : Mat 3 o) (b : Mat 1 o) (Q : Fin R → Fin 3 → EReal) (C : Fin N → Fin 3 → EReal) (H : Fin N → Fin d → EReal)
    (hq : ∀ i y, q (ix3 0 i y) = Q i y) (hc : ∀ j y, c (ix3 0 j y) = C j y) (hcT : ∀ j y, cT (ix3 0 y j) = C j y)
    (hh : ∀ j y, h (ix3 0 j y) = H j y) (z : Fin 1) (i : Fin R) (t : Fin o) :
    block f m k q c cT h wx wc b (ix3 z i t)
      = Pick.pool k H C (fun j => sqd (Q i) (C j)) (Q i) (fun y => wx (ix2 y t)) (fun y => wc (ix2 y t)) (b (ix2 0 t)) := by
  have e : ∀ a s u : Mat R o, maximumf (addf (subf a s) u) (fill R o (Scalar.ofBits .f32 0x00000000#32)) (ix2 i t)
      = max ((a (ix2 i t) : EReal) - s (ix2 i t) + u (ix2 i t)) (Ideal.ofBits .f32 0x00000000#32) := fun _ _ _ => rfl
  have zero : Ideal.ofBits .f32 0x00000000#32 = (0 : EReal) := by simp [Ideal.ofBits, Ideal.ieee]
  unfold block Pick.pool
  rw [Reads.lift, e, zero, best_apply _ _ hm, prod_apply, same_eq, spread_apply]
  simp only [vals_apply, sqdist_apply, plane_apply, hq, hc, hcT, hh]

end Cert.Pool

end
-- ==== Proof.Feature0.lean ====
/- The first pooling call (1024 queries, 4096 points of 64 channels, 128 result channels): its block as the generic one, and
   its run. -/
module

public import proofs.«01_k».proof.Proof.Pool
public import proofs.«01_k».proof.Proof.Gen.Features0Ideal.Value
public import Idealize.ShloMosaic.Lib.Pipeline.ValueKit

@[expose] public section

set_option maxRecDepth 16384

noncomputable section

namespace Cert.Feature0

open Cert.Features0Ideal Cert.Features0Ideal.Gen Cert.Features0Ideal.Value Idealize.ShloMosaic Idealize.ShloMosaic.TcCoe Idealize.SL.Sem

/-- The shape relations at this level's sizes. -/
theorem fits : Pool.Fits 256 4096 64 128 where
  q3 := shapeCasts_S1x256x3_S256x3
  p3 := shapeCasts_S1x3x4096_S3x4096
  sq := reduces_S256x3_S256
  sp := reduces_S3x4096_S4096
  col := shapeCasts_S256_S256x1
  row := shapeCasts_S4096_S1x4096
  wide := broadcasts_S256x1_S256x4096
  tall := broadcasts_S1x4096_S256x4096
  red := reduces_S256x4096_S256
  hp := shapeCasts_S1x4096x64_S4096x64
  cp := shapeCasts_S1x4096x3_S4096x3
  wx := shapeCasts_S64x128_S64x128
  wc := shapeCasts_S3x128_S3x128
  bias := shapeCasts_S1x128_S1x128
  each := broadcasts_S1x128_S256x128
  out := shapeCasts_S256x128_S1x256x128

/-- What the kernel stores is the generic block of its windows. -/
theorem out_eq (x0 : Vec Ideal S1x256x3 .f32)
    (x1 : Vec Ideal S1x4096x3 .f32)
    (x2 : Vec Ideal S1x3x4096 .f32)
    (x3 : Vec Ideal S1x4096x64 .f32)
    (x4 : Vec Ideal S64x128 .f32)
    (x5 : Vec Ideal S3x128 .f32)
    (x6 : Vec Ideal S1x128 .f32) :
    out0_7 x0 x1 x2 x3 x4 x5 x6
      = Pool.block fits (Named.named κ "mask" 0xF149F2CA#32) 16 x0 x1 x2 x3 x4 x5 x6 := by
  unfold_out out0_7
  rw [View.canon_unit_zero Reads.zero3]
  rw [show View.ld x0 r0_0 = x0 from View.ld_unit_zero Reads.zero3 _ _,
    show View.ld x2 r0_1 = x2 from View.ld_unit_zero Reads.zero3 _ _,
    show View.ld x3 r0_2 = x3 from View.ld_unit_zero Reads.zero3 _ _,
    show View.ld x4 r0_3 = x4 from View.ld_unit_zero Reads.zero2 _ _,
    show View.ld x1 r0_4 = x1 from View.ld_unit_zero Reads.zero3 _ _,
    show View.ld x5 r0_5 = x5 from View.ld_unit_zero Reads.zero2 _ _,
    show View.ld x6 r0_6 = x6 from View.ld_unit_zero Reads.zero2 _ _]
  rfl

variable (m : (ℓ : Loc nD τ sig) → Buf (Elt Ideal) ℓ)

/-- The pooled features of every query, as a function of the arguments. -/
def G (c : Dev nD) : Vec Ideal S2x1024x128 .f32 := fun i =>
  Pick.pool 16 (fun n y => m ((c : Thread nD τ).loc main_arg2) (ix3 (i 0) n y)) (fun n y => m ((c : Thread nD τ).loc main_arg1) (ix3 (i 0) n y))
    (fun n => Block.sqd (fun y => m ((c : Thread nD τ).loc main_arg0) (ix3 (i 0) (i 1) y)) fun y => m ((c : Thread nD τ).loc main_arg1) (ix3 (i 0) n y))
    (fun y => m ((c : Thread nD τ).loc main_arg0) (ix3 (i 0) (i 1) y)) (fun y : Fin 64 => m ((c : Thread nD τ).loc main_arg3) (ix2 ⟨y.1, by omega⟩ (i 2)))
    (fun y => m ((c : Thread nD τ).loc main_arg3) (ix2 ⟨64 + y.1, by omega⟩ (i 2))) (m ((c : Thread nD τ).loc main_arg4) (ix1 (i 2)))

/-- Of grid point `t`: the batch it works on. -/
def batch (t : Fin cfg0.N) : Fin 2 := ⟨t.1 / 4, by have := t.2; have : cfg0.N = 8 := rfl; omega⟩

/-- Of grid point `t`: the query its `i`-th row is. -/
def query (t : Fin cfg0.N) (i : Fin 256) : Fin 1024 := ⟨t.1 % 4 * 256 + i.1, by omega⟩

/-- Each window's block index at each grid point. -/
theorem index : ∀ t : Fin cfg0.N,
    (win0_0.index t (0 : Fin 3) = t.1 / 4 ∧ win0_0.index t (1 : Fin 3) = t.1 % 4 ∧ win0_0.index t (2 : Fin 3) = 0)
    ∧ (win0_1.index t (0 : Fin 3) = t.1 / 4 ∧ win0_1.index t (1 : Fin 3) = 0 ∧ win0_1.index t (2 : Fin 3) = 0)
    ∧ (win0_2.index t (0 : Fin 3) = t.1 / 4 ∧ win0_2.index t (1 : Fin 3) = 0 ∧ win0_2.index t (2 : Fin 3) = 0)
    ∧ (win0_3.index t (0 : Fin 3) = t.1 / 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 4 ∧ win0_7.index t (1 : Fin 3) = t.1 % 4 ∧ win0_7.index t (2 : Fin 3) = 0) :=
  (by decide +kernel : ∀ t : Fin grid0.N, _)

/-- The block read at a place is the array read at the block's place. -/
theorem reads (c : Dev nD) (t : Fin cfg0.N) :
    (∀ (i : Fin 256) (y : Fin 3), iblk m c 0 t (ix3 0 i y) = m ((c : Thread nD τ).loc main_arg0) (ix3 (batch t) (query t i) y))
    ∧ (∀ (i : Fin 4096) (y : Fin 3), iblk m c 1 t (ix3 0 i y) = m ((c : Thread nD τ).loc main_arg1) (ix3 (batch t) i y))
    ∧ (∀ (i : Fin 4096) (y : Fin 3), iblk m c 2 t (ix3 0 y i) = m ((c : Thread nD τ).loc main_arg1) (ix3 (batch t) i y))
    ∧ (∀ (i : Fin 4096) (y : Fin 64), iblk m c 3 t (ix3 0 i y) = m ((c : Thread nD τ).loc main_arg2) (ix3 (batch t) i y))
    ∧ (∀ (y : Fin 64) (x : Fin 128), iblk m c 4 t (ix2 y x) = m ((c : Thread nD τ).loc main_arg3) (ix2 ⟨y.1, by omega⟩ x))
    ∧ (∀ (y : Fin 3) (x : Fin 128), iblk m c 5 t (ix2 y x) = m ((c : Thread nD τ).loc main_arg3) (ix2 ⟨64 + y.1, by omega⟩ x))
    ∧ (∀ x : Fin 128, iblk m c 6 t (ix2 0 x) = m ((c : Thread nD τ).loc main_arg4) (ix1 x)) := by
  have e0 : V m c main_v0 = extractStridedSlice S64x128 ![0, 0] (m ((c : Thread nD τ).loc main_arg3)) slices_S67x128_S64x128_0_0 := rfl
  have e1 : V m c main_v1 = extractStridedSlice S3x128 ![64, 0] (m ((c : Thread nD τ).loc main_arg3)) slices_S67x128_S3x128_64_0 := rfl
  have e2 : V m c main_v2 = transpose S2x3x4096 [0, 2, 1] (m ((c : Thread nD τ).loc main_arg1)) transposes_S2x4096x3_S2x3x4096_0_2_1 := rfl
  have e3 : V m c main_v3 = shapeCast S1x128 (m ((c : Thread nD τ).loc main_arg4)) shapeCasts_S128_S1x128 := rfl
  refine ⟨fun i y => ?_, fun i y => ?_, fun i y => ?_, fun i y => ?_, fun y x => ?_, fun y x => ?_, fun x => ?_⟩
  · blk_ext [iblk, V, batch, query, index t]
  · blk_ext [iblk, V, batch, query, index t]
  · trans V m c main_v2 (ix3 (batch t) y i)
    · blk_ext [iblk, batch, query, index t]
    · rw [e2]
      pointwise
  · blk_ext [iblk, V, batch, query, index t]
  · trans V m c main_v0 (ix2 y x)
    · blk_ext [iblk, index t]
    · rw [e0]
      pointwise
  · trans V m c main_v1 (ix2 y x)
    · blk_ext [iblk, index t]
    · rw [e1]
      pointwise
  · trans V m c main_v3 (ix2 0 x)
    · blk_ext [iblk, index t]
    · rw [e3]
      exact Reads.upright _ _ x

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x256x128.Idx) :
    Pool.block fits (Named.named κ "mask" 0xF149F2CA#32) 16
      (iblk m c 0 t) (iblk m c 1 t) (iblk m c 2 t) (iblk m c 3 t) (iblk m c 4 t) (iblk m c 5 t) (iblk m c 6 t) y
      = G m c (((View.whole main_v4).slice (win0_7.rect t)).emb y) := by
  obtain ⟨r0, r1, r2, r3, r4, r5, r6⟩ := reads m c t
  obtain ⟨b, i, j, rfl⟩ : ∃ (b : Fin 1) (i : Fin 256) (j : Fin 128), y = ix3 b i j := ⟨y 0, y 1, y 2, eq_ix3 y⟩
  have e : ((View.whole main_v4).slice (win0_7.rect t)).emb (ix3 b i j) = ix3 (batch t) (query t i) j := by
    blk_ext [batch, query, index t]
  rw [e]
  refine (Pool.block_apply fits _ mask_bot 16 _ _ _ _ _ _ _
    (fun i y => m ((c : Thread nD τ).loc main_arg0) (ix3 (batch t) (query t i) y))
    (fun n y => m ((c : Thread nD τ).loc main_arg1) (ix3 (batch t) n y))
    (fun n y => m ((c : Thread nD τ).loc main_arg2) (ix3 (batch t) n y)) r0 r1 r2 r3 b i j).trans ?_
  simp only [r4, r5, r6]
  rfl

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Feature0

end
-- ==== Proof.HostReads.lean ====
/- The host operations of a reference read at one entry, at any extents: products with a matrix and between
   batches of rows, sums and maxima along the last axis, broadcasts, reshapes between joined and separate
   axes, and the gather of rows by their numbers. -/
module

public import proofs.«01_k».proof.Proof.Reads
public import Idealize.ShloMosaic.Lib.Pointwise
public import Idealize.ShloMosaic.Lib.Pointwise.IndexVar
public import Idealize.ShloMosaic.Lib.IdealHost

@[expose] public section

noncomputable section

namespace Cert.HostReads

open Idealize.ShloMosaic

variable {B N M K C H E : ℕ}

/-- Every row of a batch times one matrix. -/
theorem times (wf) (a : FVec Ideal ⟨3, ![B, N, K]⟩ .f32) (b : FVec Ideal ⟨2, ![K, M]⟩ .f32) (x : Fin B) (i : Fin N) (j : Fin M) :
    Host.dotGeneral (F := Ideal) (⟨[2], [0], [0, 1], [1], [], [], wf⟩ : DotDims ⟨3, ![B, N, K]⟩ ⟨2, ![K, M]⟩ ⟨3, ![B, N, M]⟩)
      none a b (ix3 x i j) = ∑ k, a (ix3 x i k) * b (ix2 k j) := by
  simp only [Host.dotGeneral, Ideal.dotGeneral_def]
  rw [Ideal.matmul_apply₁ _ rfl rfl, zero_add]
  refine Finset.sum_congr rfl fun k _ => ?_
  congr 1
  · refine congrArg a (funext fun z => Fin.ext ?_)
    match z with
    | ⟨0, _⟩ => rfl
    | ⟨1, _⟩ => rfl
    | ⟨2, _⟩ => rfl
  · refine congrArg b (funext fun z => Fin.ext ?_)
    match z with
    | ⟨0, _⟩ => rfl
    | ⟨1, _⟩ => rfl

/-- The rows of one batch against those of another. -/
theorem against (wf) (a : FVec Ideal ⟨3, ![B, N, K]⟩ .f32) (b : FVec Ideal ⟨3, ![B, M, K]⟩ .f32) (x : Fin B) (i : Fin N)
    (j : Fin M) :
    Host.dotGeneral (F := Ideal) (⟨[2], [2], [1], [1], [0], [0], wf⟩ : DotDims ⟨3, ![B, N, K]⟩ ⟨3, ![B, M, K]⟩ ⟨3, ![B, N, M]⟩)
      none a b (ix3 x i j) = ∑ k, a (ix3 x i k) * b (ix3 x j k) := by
  simp only [Host.dotGeneral, Ideal.dotGeneral_def]
  rw [Ideal.matmul_apply₁ _ rfl rfl, zero_add]
  refine Finset.sum_congr rfl fun k _ => ?_
  congr 1
  · refine congrArg a (funext fun z => Fin.ext ?_)
    match z with
    | ⟨0, _⟩ => rfl
    | ⟨1, _⟩ => rfl
    | ⟨2, _⟩ => rfl
  · refine congrArg b (funext fun z => Fin.ext ?_)
    match z with
    | ⟨0, _⟩ => rfl
    | ⟨1, _⟩ => rfl
    | ⟨2, _⟩ => rfl

/-- Each query's head against the same head of every listed neighbour. -/
theorem heads (wf) (a : FVec Ideal ⟨4, ![B, N, H, E]⟩ .f32) (b : FVec Ideal ⟨5, ![B, N, K, H, E]⟩ .f32) (x : Fin B) (i : Fin N)
    (h : Fin H) (j : Fin K) :
    Host.dotGeneral (F := Ideal) (⟨[3], [4], [], [2], [0, 1, 2], [0, 1, 3], wf⟩ :
        DotDims ⟨4, ![B, N, H, E]⟩ ⟨5, ![B, N, K, H, E]⟩ ⟨4, ![B, N, H, K]⟩) none a b (ix4 x i h j)
      = ∑ k, a (ix4 x i h k) * b (ix5 x i j h k) := by
  simp only [Host.dotGeneral, Ideal.dotGeneral_def]
  rw [Ideal.matmul_apply₁ _ rfl rfl, zero_add]
  refine Finset.sum_congr rfl fun k _ => ?_
  congr 1
  · refine congrArg a (funext fun z => Fin.ext ?_)
    match z with
    | ⟨0, _⟩ => rfl
    | ⟨1, _⟩ => rfl
    | ⟨2, _⟩ => rfl
    | ⟨3, _⟩ => rfl
  · refine congrArg b (funext fun z => Fin.ext ?_)
    match z with
    | ⟨0, _⟩ => rfl
    | ⟨1, _⟩ => rfl
    | ⟨2, _⟩ => rfl
    | ⟨3, _⟩ => rfl
    | ⟨4, _⟩ => rfl

/-- The listed neighbours' values of a head, weighted. -/
theorem weighted (wf) (a : FVec Ideal ⟨4, ![B, N, H, K]⟩ .f32) (b : FVec Ideal ⟨5, ![B, N, K, H, E]⟩ .f32) (x : Fin B)
    (i : Fin N) (h : Fin H) (j : Fin E) :
    Host.dotGeneral (F := Ideal) (⟨[3], [2], [], [4], [0, 1, 2], [0, 1, 3], wf⟩ :
        DotDims ⟨4, ![B, N, H, K]⟩ ⟨5, ![B, N, K, H, E]⟩ ⟨4, ![B, N, H, E]⟩) none a b (ix4 x i h j)
      = ∑ k, a (ix4 x i h k) * b (ix5 x i k h j) := by
  simp only [Host.dotGeneral, Ideal.dotGeneral_def]
  rw [Ideal.matmul_apply₁ _ rfl rfl, zero_add]
  refine Finset.sum_congr rfl fun k _ => ?_
  congr 1
  · refine congrArg a (funext fun z => Fin.ext ?_)
    match z with
    | ⟨0, _⟩ => rfl
    | ⟨1, _⟩ => rfl
    | ⟨2, _⟩ => rfl
    | ⟨3, _⟩ => rfl
  · refine congrArg b (funext fun z => Fin.ext ?_)
    match z with
    | ⟨0, _⟩ => rfl
    | ⟨1, _⟩ => rfl
    | ⟨2, _⟩ => rfl
    | ⟨3, _⟩ => rfl
    | ⟨4, _⟩ => rfl

/-- The sum of each row of a batch. -/
theorem sum3 (h hu) (a : FVec Ideal ⟨3, ![B, N, C]⟩ .f32) (x : Fin B) (i : Fin N) :
    Host.reduceAdd a (constant (F := Ideal) ⟨0, ![]⟩ .f32 0x00000000#32) (t := ⟨2, ![B, N]⟩) (axes := [2]) h hu (ix2 x i)
      = ∑ k, a (ix3 x i k) := by
  pointwise

/-- The sum along the last of four axes. -/
theorem sum4 (h hu) (a : FVec Ideal ⟨4, ![B, N, H, K]⟩ .f32) (x : Fin B) (i : Fin N) (j : Fin H) :
    Host.reduceAdd a (constant (F := Ideal) ⟨0, ![]⟩ .f32 0x00000000#32) (t := ⟨3, ![B, N, H]⟩) (axes := [3]) h hu (ix3 x i j)
      = ∑ k, a (ix4 x i j k) := by
  pointwise

/-- The largest entry along the last of four axes. -/
theorem max4 (h hu) (a : FVec Ideal ⟨4, ![B, N, H, K]⟩ .f32) (x : Fin B) (i : Fin N) (j : Fin H) :
    Host.reduce (FloatOps.maximumf (F := Ideal)) a (constant (F := Ideal) ⟨0, ![]⟩ .f32 0xFF800000#32) (t := ⟨3, ![B, N, H]⟩)
        (axes := [3]) h hu (ix3 x i j)
      = Finset.univ.fold max (⊥ : EReal) fun k => a (ix4 x i j k) := by
  pointwise
  rw [Reads.ofBits_bot]

/-- A coordinate read as zero where its axis has extent one is the coordinate itself. -/
theorem unit_val {n : ℕ} (x : Fin n) : x.val = if n = 1 then 0 else x.val := by
  split_ifs with h
  · omega
  · rfl

/-- One number per row as a column. -/
theorem column {α : Type} (h) (a : (⟨2, ![B, N]⟩ : Shape).Idx → α) (x : Fin B) (i : Fin N) (j : Fin 1) :
    broadcastInDim ⟨3, ![B, N, 1]⟩ ![0, 1] h a (ix3 x i j) = a (ix2 x i) := by
  refine broadcastInDim_apply _ h a _ _ fun z => ?_
  match z with
  | ⟨0, _⟩ => exact unit_val x
  | ⟨1, _⟩ => exact unit_val i

/-- One number per row laid out as a row. -/
theorem row {α : Type} (h) (a : (⟨2, ![B, N]⟩ : Shape).Idx → α) (x : Fin B) (i : Fin N) (j : Fin 1) :
    broadcastInDim ⟨3, ![B, 1, N]⟩ ![0, 2] h a (ix3 x j i) = a (ix2 x i) := by
  refine broadcastInDim_apply _ h a _ _ fun z => ?_
  match z with
  | ⟨0, _⟩ => exact unit_val x
  | ⟨1, _⟩ => exact unit_val i

/-- A column repeated along its row. -/
theorem along {α : Type} (h) (a : (⟨3, ![B, N, 1]⟩ : Shape).Idx → α) (x : Fin B) (i : Fin N) (j : Fin M) :
    broadcastInDim ⟨3, ![B, N, M]⟩ ![0, 1, 2] h a (ix3 x i j) = a (ix3 x i 0) := by
  refine broadcastInDim_apply _ h a _ _ fun z => ?_
  match z with
  | ⟨0, _⟩ => exact unit_val x
  | ⟨1, _⟩ => exact unit_val i
  | ⟨2, _⟩ => rfl

/-- A row repeated down its column. -/
theorem down {α : Type} (h) (a : (⟨3, ![B, 1, M]⟩ : Shape).Idx → α) (x : Fin B) (i : Fin N) (j : Fin M) :
    broadcastInDim ⟨3, ![B, N, M]⟩ ![0, 1, 2] h a (ix3 x i j) = a (ix3 x 0 j) := by
  refine broadcastInDim_apply _ h a _ _ fun z => ?_
  match z with
  | ⟨0, _⟩ => exact unit_val x
  | ⟨1, _⟩ => rfl
  | ⟨2, _⟩ => exact unit_val j

/-- One number per head and query as an axis of extent one. -/
theorem column4 {α : Type} (h) (a : (⟨3, ![B, N, H]⟩ : Shape).Idx → α) (x : Fin B) (i : Fin N) (y : Fin H) (j : Fin 1) :
    broadcastInDim ⟨4, ![B, N, H, 1]⟩ ![0, 1, 2] h a (ix4 x i y j) = a (ix3 x i y) := by
  refine broadcastInDim_apply _ h a _ _ fun z => ?_
  match z with
  | ⟨0, _⟩ => exact unit_val x
  | ⟨1, _⟩ => exact unit_val i
  | ⟨2, _⟩ => exact unit_val y

/-- That axis repeated. -/
theorem along4 {α : Type} (h) (a : (⟨4, ![B, N, H, 1]⟩ : Shape).Idx → α) (x : Fin B) (i : Fin N) (y : Fin H) (j : Fin M) :
    broadcastInDim ⟨4, ![B, N, H, M]⟩ ![0, 1, 2, 3] h a (ix4 x i y j) = a (ix4 x i y 0) := by
  refine broadcastInDim_apply _ h a _ _ fun z => ?_
  match z with
  | ⟨0, _⟩ => exact unit_val x
  | ⟨1, _⟩ => exact unit_val i
  | ⟨2, _⟩ => exact unit_val y
  | ⟨3, _⟩ => rfl

/-- A row of columns cut into heads. -/
theorem split {α : Type} (h : (⟨3, ![B, N, C]⟩ : Shape).ShapeCasts ⟨4, ![B, N, H, E]⟩) (a : (⟨3, ![B, N, C]⟩ : Shape).Idx → α)
    (hC : C = H * E) (x : Fin B) (i : Fin N) (y : Fin H) (j : Fin E) (c : Fin C) (hc : c.1 = y.1 * E + j.1) :
    shapeCast ⟨4, ![B, N, H, E]⟩ a h (ix4 x i y j) = a (ix3 x i c) := by
  refine congrArg a (Shape.reshapeEquiv_eq_of_rowMajor _ ?_)
  rw [rowMajor_val3 _ _ _ rfl rfl, rowMajor_val4 _ _ _ _ rfl rfl rfl]
  subst hC
  simp [hc]
  ring

/-- The heads joined to a row. -/
theorem join {α : Type} (h : (⟨4, ![B, N, H, E]⟩ : Shape).ShapeCasts ⟨3, ![B, N, C]⟩) (a : (⟨4, ![B, N, H, E]⟩ : Shape).Idx → α)
    (hC : C = H * E) (x : Fin B) (i : Fin N) (y : Fin H) (j : Fin E) (c : Fin C) (hc : c.1 = y.1 * E + j.1) :
    shapeCast ⟨3, ![B, N, C]⟩ a h (ix3 x i c) = a (ix4 x i y j) := by
  refine congrArg a (Shape.reshapeEquiv_eq_of_rowMajor _ ?_)
  rw [rowMajor_val3 _ _ _ rfl rfl, rowMajor_val4 _ _ _ _ rfl rfl rfl]
  subst hC
  simp [hc]
  ring

/-- The listed neighbours' rows cut into heads. -/
theorem split5 {α : Type} (h : (⟨4, ![B, N, K, C]⟩ : Shape).ShapeCasts ⟨5, ![B, N, K, H, E]⟩)
    (a : (⟨4, ![B, N, K, C]⟩ : Shape).Idx → α) (hC : C = H * E) (x : Fin B) (i : Fin N) (k : Fin K) (y : Fin H) (j : Fin E)
    (c : Fin C) (hc : c.1 = y.1 * E + j.1) : shapeCast ⟨5, ![B, N, K, H, E]⟩ a h (ix5 x i k y j) = a (ix4 x i k c) := by
  refine congrArg a (Shape.reshapeEquiv_eq_of_rowMajor _ ?_)
  rw [rowMajor_val5 _ _ _ _ _ rfl rfl rfl rfl, rowMajor_val4 _ _ _ _ rfl rfl rfl]
  subst hC
  simp [hc]
  ring

/-- A list per row as one long list. -/
theorem flat {α : Type} (h : (⟨3, ![B, N, K]⟩ : Shape).ShapeCasts ⟨3, ![B, M, 1]⟩) (a : (⟨3, ![B, N, K]⟩ : Shape).Idx → α)
    (hM : M = N * K) (x : Fin B) (i : Fin N) (k : Fin K) (o : Fin 1) (m : Fin M) (hm : m.1 = i.1 * K + k.1) :
    shapeCast ⟨3, ![B, M, 1]⟩ a h (ix3 x m o) = a (ix3 x i k) := by
  refine congrArg a (Shape.reshapeEquiv_eq_of_rowMajor _ ?_)
  rw [rowMajor_val3 _ _ _ rfl rfl, rowMajor_val3 _ _ _ rfl rfl]
  subst hM
  simp [hm]
  ring

/-- The rows of one long list as a list per row. -/
theorem unflat {α : Type} (h : (⟨3, ![B, M, C]⟩ : Shape).ShapeCasts ⟨4, ![B, N, K, C]⟩) (a : (⟨3, ![B, M, C]⟩ : Shape).Idx → α)
    (hM : M = N * K) (x : Fin B) (i : Fin N) (k : Fin K) (c : Fin C) (m : Fin M) (hm : m.1 = i.1 * K + k.1) :
    shapeCast ⟨4, ![B, N, K, C]⟩ a h (ix4 x i k c) = a (ix3 x m c) := by
  refine congrArg a (Shape.reshapeEquiv_eq_of_rowMajor _ ?_)
  rw [rowMajor_val3 _ _ _ rfl rfl, rowMajor_val4 _ _ _ _ rfl rfl rfl]
  subst hM
  simp [hm]
  ring

/-- A block of columns. -/
theorem columns {α : Type} (o : ℕ) (h : (⟨3, ![B, N, M]⟩ : Shape).Slices ![0, 0, o] ⟨3, ![B, N, C]⟩)
    (a : (⟨3, ![B, N, M]⟩ : Shape).Idx → α) (x : Fin B) (i : Fin N) (c : Fin C) (m : Fin M) (hm : m.1 = o + c.1) :
    extractStridedSlice ⟨3, ![B, N, C]⟩ ![0, 0, o] a h (ix3 x i c) = a (ix3 x i m) := by
  unfold extractStridedSlice
  refine congrArg a (funext fun z => Fin.ext ?_)
  match z with
  | ⟨0, _⟩ => exact Nat.zero_add _
  | ⟨1, _⟩ => exact Nat.zero_add _
  | ⟨2, _⟩ => exact hm.symm

/-- The rows of a batch a list of row numbers names, the numbers read as they stand where they are in range. -/
theorem gathered {α : Type} (wf) (a : (⟨3, ![B, N, C]⟩ : Shape).Idx → α) (idx : IVec ⟨3, ![B, M, 1]⟩ 32)
    (x : Fin B) (m : Fin M) (c : Fin C) (p : Fin N) (hp : (idx (ix3 x m 0)).toInt.toNat = p.1) :
    Host.gather (⟨[2], [1], [0], [0], [1], 2, ![1, 1, C], wf⟩ : GatherDims ⟨3, ![B, N, C]⟩ ⟨3, ![B, M, 1]⟩ ⟨3, ![B, M, C]⟩) a idx
      (ix3 x m c) = a (ix3 x p c) := by
  refine congrArg a (funext fun z => Fin.ext ?_)
  match z with
  | ⟨0, _⟩ => exact (Nat.zero_add _).trans (Nat.add_zero _)
  | ⟨1, _⟩ =>
    have e : (GatherDims.siIdx (⟨[2], [1], [0], [0], [1], 2, ![1, 1, C], wf⟩ :
        GatherDims ⟨3, ![B, N, C]⟩ ⟨3, ![B, M, 1]⟩ ⟨3, ![B, M, C]⟩) (ix3 x m c) ⟨0, Nat.one_pos⟩) = ix3 x m 0 := by
      funext b
      match b with
      | ⟨0, _⟩ => rfl
      | ⟨1, _⟩ => rfl
      | ⟨2, _⟩ => rfl
    have := p.2
    show min (idx _).toInt.toNat (N - 1) + 0 + 0 = p.1
    refine (congrArg (fun y => min (idx y).toInt.toNat (N - 1) + 0 + 0) e).trans ?_
    rw [hp]
    show min p.1 (N - 1) + 0 + 0 = p.1
    omega
  | ⟨2, _⟩ => exact Nat.zero_add _

/-- A row number that is not negative is kept by the step that turns negative numbers to the end of the list. -/
theorem kept {s : Shape} (z a x : IVec s 32) (i : s.Idx) (hz : z i = 0#32) (p : ℕ) (hp : p < 2147483648) (hx : x i = BitVec.ofNat 32 p) :
    (select (cmpi .slt x z) a x i).toInt.toNat = p := by
  have e : (BitVec.ofNat 32 p).toInt = p := by
    rw [BitVec.toInt_eq_toNat_of_lt] <;> simp [BitVec.toNat_ofNat] <;> omega
  have n : select (cmpi .slt x z) a x i = x i := by
    show Scalar.select (IntOp.cmpi .slt (x i) (z i)) (a i) (x i) = x i
    rw [hz, hx]
    have : IntOp.cmpi .slt (BitVec.ofNat 32 p) 0#32 = 0#1 := by
      simp only [IntOp.cmpi, BitVec.slt, e]
      rw [decide_eq_false (by simp)]
      rfl
    rw [this]
    rfl
  rw [n, hx, e]
  rfl

end Cert.HostReads

end
-- ==== Proof.TopK.lean ====
/- The host's top-k of the rows of a rank-three array of extended reals, read at one entry, and what it
   says of the negated rows when the entries it lists are different. -/
module

public import proofs.«01_k».proof.Proof.Nearest
public import Idealize.ShloMosaic.Lib.Pointwise

@[expose] public section

noncomputable section

namespace Cert.Nearest

open Idealize.ShloMosaic

variable {B R N K : ℕ}

/-- The positions of row `(b, r)` in the order the top-k lists them. -/
def order (x : FVec Ideal ⟨3, ![B, R, N]⟩ .f32) (b : Fin B) (r : Fin R) : Fin N → Fin N :=
  sortedFrom fun i j => FloatOps.cmpfTotal (F := Ideal) (φ := .f32) .gt (x (ix3 b r i)) (x (ix3 b r j)) == 1#1

/-- An index with its last coordinate replaced. -/
theorem along_ix3 (b : Fin B) (r : Fin R) (j : Fin N) (i : Fin N) :
    Shape.Idx.along (s := ⟨3, ![B, R, N]⟩) (ix3 b r j) 2 i = ix3 b r i := by
  funext a
  fin_cases a <;> rfl

/-- The comparison by greater is one where the second argument is less. -/
theorem gt_eq_one (x y : EReal) : FloatOps.cmpfTotal (F := Ideal) (φ := .f32) .gt x y = 1#1 ↔ y < x := by
  show Ideal.cmp .ogt x y = 1#1 ↔ _
  simp [Ideal.cmp, BitVec.ofBool]
  by_cases h : y < x <;> simp [h]

/-- A later position of the order holds no greater entry. -/
theorem order_antitone (x : FVec Ideal ⟨3, ![B, R, N]⟩ .f32) (b : Fin B) (r : Fin R) (i j : Fin N) (h : i ≤ j) :
    (x (ix3 b r (order x b r j)) : EReal) ≤ x (ix3 b r (order x b r i)) := by
  rcases h.eq_or_lt with rfl | h
  · exact le_rfl
  have hni := sortedFrom_noInversion
    (fun i j => FloatOps.cmpfTotal (F := Ideal) (φ := .f32) .gt (x (ix3 b r i)) (x (ix3 b r j)) == 1#1)
    (fun i j => FloatOps.cmpfTotal (F := Ideal) (φ := .f32) .gt (x (ix3 b r i)) (x (ix3 b r j)) == 1#1)
    (fun a c hac => by
      rw [beq_iff_eq, gt_eq_one] at hac
      rw [beq_eq_false_iff_ne, ne_eq, gt_eq_one]; exact not_lt.2 hac.le)
    (fun a c hac => hac)
    (fun a c d h1 h2 => by
      rw [beq_eq_false_iff_ne, ne_eq, gt_eq_one] at *
      exact not_lt.2 ((not_lt.1 h1).trans (not_lt.1 h2)))
    i j h
  rw [beq_eq_false_iff_ne, ne_eq, gt_eq_one] at hni
  exact not_lt.1 hni

/-- The order of a row is a permutation. -/
theorem order_bijective (x : FVec Ideal ⟨3, ![B, R, N]⟩ .f32) (b : Fin B) (r : Fin R) : Function.Bijective (order x b r) :=
  ⟨sortedFrom_injective _, sortedFrom_surjective _⟩

/-- An entry of the leading part of an array, cut along its last axis. -/
theorem cut_apply {α : Type} (y : Shape.Idx ⟨3, ![B, R, N]⟩ → α) (h : Shape.Slices ⟨3, ![B, R, N]⟩ (fun _ => 0) ⟨3, ![B, R, K]⟩)
    (b : Fin B) (r : Fin R) (i : Fin K) (hK : K ≤ N) :
    extractStridedSlice (s := ⟨3, ![B, R, N]⟩) ⟨3, ![B, R, K]⟩ (fun _ => 0) y h (ix3 b r i) = y (ix3 b r (i.castLE hK)) := by
  unfold extractStridedSlice
  congr 1
  funext a
  fin_cases a <;> apply Fin.ext <;> exact Nat.zero_add _

/-- The order as the sort of the fibre through an entry of the row. -/
theorem order_eq (x : FVec Ideal ⟨3, ![B, R, N]⟩ .f32) (b : Fin B) (r : Fin R) (j : Fin N) :
    (sortedFrom fun k k' : Fin N => FloatOps.cmpfTotal (F := Ideal) (φ := .f32) .gt
      (x (Shape.Idx.along (s := ⟨3, ![B, R, N]⟩) (ix3 b r j) 2 k))
      (x (Shape.Idx.along (s := ⟨3, ![B, R, N]⟩) (ix3 b r j) 2 k')) == 1#1) = order x b r := by
  unfold order
  congr 1
  funext k k'
  rw [show Shape.Idx.along (s := ⟨3, ![B, R, N]⟩) (ix3 b r j) 2 k = ix3 b r k from along_ix3 b r j k,
    show Shape.Idx.along (s := ⟨3, ![B, R, N]⟩) (ix3 b r j) 2 k' = ix3 b r k' from along_ix3 b r j k']

/-- Both results of the top-k at one entry: the entry at that place of the order, and its position. -/
theorem topK_apply (x : FVec Ideal ⟨3, ![B, R, N]⟩ .f32) (h : Shape.Slices ⟨3, ![B, R, N]⟩ (fun _ => 0) ⟨3, ![B, R, K]⟩)
    (b : Fin B) (r : Fin R) (i : Fin K) (hK : K ≤ N) :
    (Host.topK ⟨3, ![B, R, K]⟩ 2 (FloatOps.cmpfTotal .gt) x h).1 (ix3 b r i) = x (ix3 b r (order x b r (i.castLE hK)))
    ∧ (Host.topK ⟨3, ![B, R, K]⟩ 2 (FloatOps.cmpfTotal .gt) x h).2 (ix3 b r i)
      = BitVec.ofNat 32 (order x b r (i.castLE hK)).val := by
  have h3 : (2 : ℕ) < (⟨3, ![B, R, N]⟩ : Shape).rank := show (2 : ℕ) < 3 by decide
  unfold Host.topK Host.sort2
  simp only [dif_pos h3]
  constructor
  · refine (cut_apply _ h b r i hK).trans ?_
    exact (congrArg x (along_ix3 b r _ _)).trans (congrArg (fun σ => x (ix3 b r (σ (i.castLE hK)))) (order_eq x b r _))
  · refine (cut_apply _ h b r i hK).trans ?_
    exact (congrArg (fun j : Shape.Idx ⟨3, ![B, R, N]⟩ => BitVec.ofNat 32 (j 2).val) (along_ix3 b r _ _)).trans
      (congrArg (fun σ : Fin N → Fin N => BitVec.ofNat 32 (σ (i.castLE hK)).val) (order_eq x b r _))

/-- Where the first `k + 1` values listed of the negated row are different and below `⊤`, the order sorts the row. -/
theorem sorted_of_topK {k : ℕ} (x : FVec Ideal ⟨3, ![B, R, N]⟩ .f32) (b : Fin B) (r : Fin R) (D : Fin N → EReal)
    (hD : ∀ j, x (ix3 b r j) = -D j) (hk : k < N)
    (hs : ∀ i : Fin k, (x (ix3 b r (order x b r ⟨i.1 + 1, by omega⟩)) : EReal) < x (ix3 b r (order x b r ⟨i.1, by omega⟩)))
    (h0 : (x (ix3 b r (order x b r ⟨0, by omega⟩)) : EReal) < ⊤) : Sorted D k (order x b r) where
  bij := order_bijective x b r
  mono i j h := by
    have := order_antitone x b r i j h
    rw [hD, hD] at this
    exact EReal.neg_le_neg_iff.1 this
  lt := hk
  strict i h := by
    have := hs ⟨i, h⟩
    rw [hD, hD] at this
    exact EReal.neg_lt_neg_iff.1 this
  bot h := by
    rw [hD] at h0
    have : -D (order x b r ⟨0, h⟩) < -⊥ := by rw [EReal.neg_bot]; exact h0
    exact EReal.neg_lt_neg_iff.1 this

end Cert.Nearest

end
-- ==== Proof.RefBlock.lean ====
/- The reference's attention at any extents, and its value at one entry: the features, and through the output
   projection every head's mean over the neighbours the top-k lists.
   `B` batches of `N` points of `d` channels in two heads of `e`; `w` columns of the joined projection; `k` neighbours,
   `M = N · k` of them in one list. -/
module

public import proofs.«01_k».proof.Proof.HostReads
public import proofs.«01_k».proof.Proof.TopK
public import proofs.«01_k».proof.Proof.Block

@[expose] public section

noncomputable section

namespace Cert.RefBlock

open Idealize.ShloMosaic

/-- The shape of a single number. -/
abbrev One : Shape := ⟨0, ![]⟩

/-- The shape relations the distances of `R` queries from `N` points take. -/
structure Pairs (B R N : ℕ) : Prop where
  sumq : (⟨3, ![B, R, 3]⟩ : Shape).ReducesTo [2] ⟨2, ![B, R]⟩
  sum : (⟨3, ![B, N, 3]⟩ : Shape).ReducesTo [2] ⟨2, ![B, N]⟩
  one : 0 < One.numel
  col : (⟨2, ![B, R]⟩ : Shape).BroadcastsInDim ⟨3, ![B, R, 1]⟩ ![0, 1]
  row : (⟨2, ![B, N]⟩ : Shape).BroadcastsInDim ⟨3, ![B, 1, N]⟩ ![0, 2]
  along : (⟨3, ![B, R, 1]⟩ : Shape).BroadcastsInDim ⟨3, ![B, R, N]⟩ ![0, 1, 2]
  down : (⟨3, ![B, 1, N]⟩ : Shape).BroadcastsInDim ⟨3, ![B, R, N]⟩ ![0, 1, 2]
  all : One.BroadcastsInDim ⟨3, ![B, R, N]⟩ ![]
  dot : DotDims.WF ⟨3, ![B, R, 3]⟩ ⟨3, ![B, N, 3]⟩ ⟨3, ![B, R, N]⟩ [2] [2] [1] [1] [0] [0]

variable {B R N d e w k M : ℕ}

/-- The squared distances of every query of a batch from every point. -/
def dist (f : Pairs B R N) (Q : FVec Ideal ⟨3, ![B, R, 3]⟩ .f32) (C : FVec Ideal ⟨3, ![B, N, 3]⟩ .f32) :
    FVec Ideal ⟨3, ![B, R, N]⟩ .f32 :=
  subf
    (addf
      (broadcastInDim _ ![0, 1, 2] f.along (broadcastInDim ⟨3, ![B, R, 1]⟩ ![0, 1] f.col
        (Host.reduceAdd (mulf Q Q) (constant One .f32 0x00000000#32) f.sumq f.one)))
      (broadcastInDim _ ![0, 1, 2] f.down (broadcastInDim ⟨3, ![B, 1, N]⟩ ![0, 2] f.row
        (Host.reduceAdd (mulf C C) (constant One .f32 0x00000000#32) f.sum f.one))))
    (mulf (broadcastInDim _ ![] f.all (constant One .f32 0x40000000#32))
      (Host.dotGeneral ⟨[2], [2], [1], [1], [0], [0], f.dot⟩ none Q C))

/-- An entry of the distances is the squared distance of the query and the point. -/
theorem dist_apply (f : Pairs B R N) (Q : FVec Ideal ⟨3, ![B, R, 3]⟩ .f32) (C : FVec Ideal ⟨3, ![B, N, 3]⟩ .f32) (b : Fin B)
    (i : Fin R) (j : Fin N) : dist f Q C (ix3 b i j) = Block.sqd (fun x => Q (ix3 b i x)) (fun x => C (ix3 b j x)) := by
  have sub : ∀ (a b' : FVec Ideal ⟨3, ![B, R, N]⟩ .f32), subf a b' (ix3 b i j) = a (ix3 b i j) - b' (ix3 b i j) := fun _ _ => rfl
  have add : ∀ (a b' : FVec Ideal ⟨3, ![B, R, N]⟩ .f32), addf a b' (ix3 b i j) = a (ix3 b i j) + b' (ix3 b i j) := fun _ _ => rfl
  have mul : ∀ (a b' : FVec Ideal ⟨3, ![B, R, N]⟩ .f32), mulf a b' (ix3 b i j) = a (ix3 b i j) * b' (ix3 b i j) := fun _ _ => rfl
  have sq : ∀ {n : ℕ} (A : FVec Ideal ⟨3, ![B, n, 3]⟩ .f32) (i : Fin n) (x : Fin 3),
    mulf A A (ix3 b i x) = A (ix3 b i x) * A (ix3 b i x) := fun _ _ _ => rfl
  unfold dist Block.sqd
  rw [sub, add, mul, HostReads.along, HostReads.down, HostReads.column, HostReads.row, HostReads.sum3, HostReads.sum3,
    HostReads.against]
  simp only [sq]
  rfl

/-- The distances negated, the least of them the largest. -/
def near (f : Pairs B R N) (Q : FVec Ideal ⟨3, ![B, R, 3]⟩ .f32) (C : FVec Ideal ⟨3, ![B, N, 3]⟩ .f32) :
    FVec Ideal ⟨3, ![B, R, N]⟩ .f32 := Host.negf (dist f Q C)

/-- What the list is chosen by: the squared distance of the query and the point, negated. -/
theorem near_apply (f : Pairs B R N) (Q : FVec Ideal ⟨3, ![B, R, 3]⟩ .f32) (C : FVec Ideal ⟨3, ![B, N, 3]⟩ .f32) (b : Fin B)
    (i : Fin R) (j : Fin N) : near f Q C (ix3 b i j) = -Block.sqd (fun x => Q (ix3 b i x)) (fun x => C (ix3 b j x)) := by
  rw [← dist_apply f]
  rfl

/-- The shape relations of the list of the `k` nearest of every query, `M = R · k` numbers. -/
structure Lists (B R N k M : ℕ) : Prop extends Pairs B R N where
  top : (⟨3, ![B, R, N]⟩ : Shape).Slices (fun _ => 0) ⟨3, ![B, R, k]⟩
  flat : (⟨3, ![B, R, k]⟩ : Shape).ShapeCasts ⟨3, ![B, M, 1]⟩
  each : One.BroadcastsInDim ⟨3, ![B, M, 1]⟩ ![]

/-- The neighbours' numbers in one list, a negative one counted from the end. -/
def numbers (f : Lists B R N k M) (n : BitVec 32) (Q : FVec Ideal ⟨3, ![B, R, 3]⟩ .f32) (C : FVec Ideal ⟨3, ![B, N, 3]⟩ .f32) :
    IVec ⟨3, ![B, M, 1]⟩ 32 :=
  have x : IVec ⟨3, ![B, M, 1]⟩ 32 :=
    shapeCast _ (Host.topK ⟨3, ![B, R, k]⟩ 2 (FloatOps.cmpfTotal .gt) (near f.toPairs Q C) f.top).2 f.flat
  select (cmpi .slt x (broadcastInDim _ ![] f.each (constantI One 32 0#32)))
    (addi x (broadcastInDim _ ![] f.each (constantI One 32 n))) x

/-- The neighbours' rows of `a`, in a list per query. -/
def rows {c : ℕ} (f : Lists B R N k M) (n : BitVec 32) (Q : FVec Ideal ⟨3, ![B, R, 3]⟩ .f32) (C : FVec Ideal ⟨3, ![B, N, 3]⟩ .f32)
    (wf : GatherDims.WF ⟨3, ![B, N, c]⟩ ⟨3, ![B, M, 1]⟩ ⟨3, ![B, M, c]⟩ [2] [1] [0] [1] [0] 2 ![1, 1, c])
    (per : (⟨3, ![B, M, c]⟩ : Shape).ShapeCasts ⟨4, ![B, R, k, c]⟩) (a : FVec Ideal ⟨3, ![B, N, c]⟩ .f32) :
    FVec Ideal ⟨4, ![B, R, k, c]⟩ .f32 :=
  shapeCast ⟨4, ![B, R, k, c]⟩
    (Host.gather (⟨[2], [1], [0], [0], [1], 2, ![1, 1, c], wf⟩ : GatherDims ⟨3, ![B, N, c]⟩ ⟨3, ![B, M, 1]⟩ ⟨3, ![B, M, c]⟩)
      a (numbers f n Q C)) per

/-- A gathered row is the listed point's row. -/
theorem rows_apply {c : ℕ} (f : Lists B R N k M) (n : BitVec 32) (Q : FVec Ideal ⟨3, ![B, R, 3]⟩ .f32)
    (C : FVec Ideal ⟨3, ![B, N, 3]⟩ .f32) (wf per) (a : FVec Ideal ⟨3, ![B, N, c]⟩ .f32) (hk : k ≤ N) (hN : N < 2147483648)
    (hM : M = R * k) (b : Fin B) (i : Fin R) (p : Fin k) (x : Fin c) :
    rows f n Q C wf per a (ix4 b i p x) = a (ix3 b (Nearest.order (near f.toPairs Q C) b i (p.castLE hk)) x) := by
  have hm : i.1 * k + p.1 < M := by
    have := Nat.mul_le_mul_right k (show i.1 + 1 ≤ R from i.2)
    have := p.2
    rw [hM]
    linarith [Nat.succ_mul i.1 k]
  unfold rows
  rw [HostReads.unflat _ _ hM _ _ _ _ ⟨i.1 * k + p.1, hm⟩ rfl]
  refine HostReads.gathered _ _ _ _ _ _ _ ?_
  unfold numbers
  refine HostReads.kept _ _ _ _ rfl _ ((Nearest.order (near f.toPairs Q C) b i (p.castLE hk)).2.trans hN) ?_
  rw [HostReads.flat _ _ hM b i p 0 ⟨i.1 * k + p.1, hm⟩ rfl]
  exact (Nearest.topK_apply _ f.top b i p hk).2

/-- The shape relations of the rest. -/
structure Fits (B N d e w k M : ℕ) : Prop extends Lists B N N k M where
  proj : DotDims.WF ⟨3, ![B, N, d]⟩ ⟨2, ![d, w]⟩ ⟨3, ![B, N, w]⟩ [2] [0] [0, 1] [1] [] []
  sq : (⟨3, ![B, N, w]⟩ : Shape).Slices ![0, 0, 0] ⟨3, ![B, N, d]⟩
  sk : (⟨3, ![B, N, w]⟩ : Shape).Slices ![0, 0, d] ⟨3, ![B, N, d]⟩
  sv : (⟨3, ![B, N, w]⟩ : Shape).Slices ![0, 0, d + d] ⟨3, ![B, N, d]⟩
  cut : (⟨3, ![B, N, d]⟩ : Shape).ShapeCasts ⟨4, ![B, N, 2, e]⟩
  rows : GatherDims.WF ⟨3, ![B, N, d]⟩ ⟨3, ![B, M, 1]⟩ ⟨3, ![B, M, d]⟩ [2] [1] [0] [1] [0] 2 ![1, 1, d]
  per : (⟨3, ![B, M, d]⟩ : Shape).ShapeCasts ⟨4, ![B, N, k, d]⟩
  cut5 : (⟨4, ![B, N, k, d]⟩ : Shape).ShapeCasts ⟨5, ![B, N, k, 2, e]⟩
  logit : DotDims.WF ⟨4, ![B, N, 2, e]⟩ ⟨5, ![B, N, k, 2, e]⟩ ⟨4, ![B, N, 2, k]⟩ [3] [4] [] [2] [0, 1, 2] [0, 1, 3]
  all4 : One.BroadcastsInDim ⟨4, ![B, N, 2, k]⟩ ![]
  red : (⟨4, ![B, N, 2, k]⟩ : Shape).ReducesTo [3] ⟨3, ![B, N, 2]⟩
  all3 : One.BroadcastsInDim ⟨3, ![B, N, 2]⟩ ![]
  col4 : (⟨3, ![B, N, 2]⟩ : Shape).BroadcastsInDim ⟨4, ![B, N, 2, 1]⟩ ![0, 1, 2]
  along4 : (⟨4, ![B, N, 2, 1]⟩ : Shape).BroadcastsInDim ⟨4, ![B, N, 2, k]⟩ ![0, 1, 2, 3]
  mean : DotDims.WF ⟨4, ![B, N, 2, k]⟩ ⟨5, ![B, N, k, 2, e]⟩ ⟨4, ![B, N, 2, e]⟩ [3] [2] [] [4] [0, 1, 2] [0, 1, 3]
  join : (⟨4, ![B, N, 2, e]⟩ : Shape).ShapeCasts ⟨3, ![B, N, d]⟩
  out : DotDims.WF ⟨3, ![B, N, d]⟩ ⟨2, ![d, d]⟩ ⟨3, ![B, N, d]⟩ [2] [0] [0, 1] [1] [] []

/-- The neighbours' rows of `a`, cut into heads. -/
def listed (f : Fits B N d e w k M) (n : BitVec 32) (C : FVec Ideal ⟨3, ![B, N, 3]⟩ .f32) (a : FVec Ideal ⟨3, ![B, N, d]⟩ .f32) :
    FVec Ideal ⟨5, ![B, N, k, 2, e]⟩ .f32 := shapeCast _ (rows f.toLists n C C f.rows f.per a) f.cut5

/-- A gathered row, split into its heads. -/
theorem listed_apply (f : Fits B N d e w k M) (n : BitVec 32) (C : FVec Ideal ⟨3, ![B, N, 3]⟩ .f32)
    (a : FVec Ideal ⟨3, ![B, N, d]⟩ .f32) (hk : k ≤ N) (hN : N < 2147483648) (hM : M = N * k) (hd : d = 2 * e)
    (b : Fin B) (i : Fin N) (p : Fin k) (y : Fin 2) (x : Fin e) (c : Fin d) (hc : c.1 = y.1 * e + x.1) :
    listed f n C a (ix5 b i p y x) = a (ix3 b (Nearest.order (near f.toPairs C C) b i (p.castLE hk)) c) := by
  unfold listed
  rw [HostReads.split5 _ _ hd _ _ _ _ _ c hc, rows_apply f.toLists n C C _ _ a hk hN hM]

/-- The scaled scores of every query and head against its listed neighbours; `r` the word of the channels in a head. -/
def logits (f : Fits B N d e w k M) (r : BitVec 32) (q : FVec Ideal ⟨4, ![B, N, 2, e]⟩ .f32)
    (K : FVec Ideal ⟨5, ![B, N, k, 2, e]⟩ .f32) : FVec Ideal ⟨4, ![B, N, 2, k]⟩ .f32 :=
  Host.divf (Host.dotGeneral ⟨[3], [4], [], [2], [0, 1, 2], [0, 1, 3], f.logit⟩ none q K)
    (broadcastInDim _ ![] f.all4 (Host.sqrt (constant One .f32 r)))

/-- A logit is the product of the query's and the key's channels over the root. -/
theorem logits_apply (f : Fits B N d e w k M) (r : BitVec 32) (q : FVec Ideal ⟨4, ![B, N, 2, e]⟩ .f32)
    (K : FVec Ideal ⟨5, ![B, N, k, 2, e]⟩ .f32) (b : Fin B) (i : Fin N) (y : Fin 2) (p : Fin k) :
    logits f r q K (ix4 b i y p)
      = Ideal.div (∑ x, q (ix4 b i y x) * K (ix5 b i p y x)) (Ideal.sqrt (Ideal.ofBits .f32 r)) := by
  rw [← HostReads.heads f.logit]
  rfl

/-- The exponentials of the scores less the largest of their head. -/
def powers (f : Fits B N d e w k M) (lg : FVec Ideal ⟨4, ![B, N, 2, k]⟩ .f32) : FVec Ideal ⟨4, ![B, N, 2, k]⟩ .f32 :=
  Host.exp (subf lg (broadcastInDim _ ![0, 1, 2, 3] f.along4 (broadcastInDim ⟨4, ![B, N, 2, 1]⟩ ![0, 1, 2] f.col4
    (maximumf (broadcastInDim _ ![] f.all3 (constant One .f32 0xFF800000#32))
      (Host.reduce FloatOps.maximumf lg (constant One .f32 0xFF800000#32) f.red f.one)))))

/-- A power is the exponential of the logit less the row's maximum. -/
theorem powers_apply (f : Fits B N d e w k M) (lg : FVec Ideal ⟨4, ![B, N, 2, k]⟩ .f32) (b : Fin B) (i : Fin N) (y : Fin 2)
    (p : Fin k) :
    powers f lg (ix4 b i y p)
      = Ideal.exp (lg (ix4 b i y p) - Finset.univ.fold max (⊥ : EReal) fun p => lg (ix4 b i y p)) := by
  have sub : ∀ (a b' : FVec Ideal ⟨4, ![B, N, 2, k]⟩ .f32),
    Host.exp (subf a b') (ix4 b i y p) = Ideal.exp (a (ix4 b i y p) - b' (ix4 b i y p)) := fun _ _ => rfl
  have mx : ∀ a : FVec Ideal ⟨3, ![B, N, 2]⟩ .f32,
      maximumf (broadcastInDim _ ![] f.all3 (constant One .f32 0xFF800000#32)) a (ix3 b i y) = a (ix3 b i y) := fun a => by
    show max (Ideal.ofBits .f32 0xFF800000#32) (a (ix3 b i y)) = _
    rw [Reads.ofBits_bot]
    exact max_eq_right bot_le
  unfold powers
  rw [sub, HostReads.along4, HostReads.column4]
  exact congrArg (fun m => Ideal.exp (lg (ix4 b i y p) - m)) ((mx _).trans (HostReads.max4 f.red f.one lg b i y))

/-- The weights of the listed neighbours, their sum one, applied to the values `V`. -/
def means (f : Fits B N d e w k M) (lg : FVec Ideal ⟨4, ![B, N, 2, k]⟩ .f32) (V : FVec Ideal ⟨5, ![B, N, k, 2, e]⟩ .f32) :
    FVec Ideal ⟨4, ![B, N, 2, e]⟩ .f32 :=
  Host.dotGeneral ⟨[3], [2], [], [4], [0, 1, 2], [0, 1, 3], f.mean⟩ none
    (Host.divf (powers f lg) (broadcastInDim _ ![0, 1, 2, 3] f.along4 (broadcastInDim ⟨4, ![B, N, 2, 1]⟩ ![0, 1, 2] f.col4
      (Host.reduceAdd (powers f lg) (constant One .f32 0x00000000#32) f.red f.one)))) V

/-- An entry of the means is the list's values weighted by their share of the powers. -/
theorem means_apply (f : Fits B N d e w k M) (lg : FVec Ideal ⟨4, ![B, N, 2, k]⟩ .f32) (V : FVec Ideal ⟨5, ![B, N, k, 2, e]⟩ .f32)
    (b : Fin B) (i : Fin N) (y : Fin 2) (x : Fin e) :
    means f lg V (ix4 b i y x) = Attend.listed (fun p => lg (ix4 b i y p)) fun p => V (ix5 b i p y x) := by
  have div : ∀ (a b' : FVec Ideal ⟨4, ![B, N, 2, k]⟩ .f32) (p : Fin k),
    Host.divf a b' (ix4 b i y p) = Ideal.div (a (ix4 b i y p)) (b' (ix4 b i y p)) := fun _ _ _ => rfl
  unfold means Attend.listed
  rw [HostReads.weighted]
  refine Finset.sum_congr rfl fun p _ => ?_
  rw [div, HostReads.along4, HostReads.column4, HostReads.sum4]
  simp only [powers_apply]

/-- The reference's attention; `n` the word of the number of points, `r` that of the channels in a head. -/
def term (f : Fits B N d e w k M) (n r : BitVec 32) (H : FVec Ideal ⟨3, ![B, N, d]⟩ .f32) (C : FVec Ideal ⟨3, ![B, N, 3]⟩ .f32)
    (W : FVec Ideal ⟨2, ![d, w]⟩ .f32) (O : FVec Ideal ⟨2, ![d, d]⟩ .f32) : FVec Ideal ⟨3, ![B, N, d]⟩ .f32 :=
  have P : FVec Ideal ⟨3, ![B, N, w]⟩ .f32 := Host.dotGeneral ⟨[2], [0], [0, 1], [1], [], [], f.proj⟩ none H W
  addf H (Host.dotGeneral ⟨[2], [0], [0, 1], [1], [], [], f.out⟩ none
    (shapeCast ⟨3, ![B, N, d]⟩
      (means f
        (logits f r (shapeCast _ (extractStridedSlice ⟨3, ![B, N, d]⟩ ![0, 0, 0] P f.sq) f.cut)
          (listed f n C (extractStridedSlice ⟨3, ![B, N, d]⟩ ![0, 0, d] P f.sk)))
        (listed f n C (extractStridedSlice ⟨3, ![B, N, d]⟩ ![0, 0, d + d] P f.sv))) f.join) O)

/-- An entry of the reference's result is the attention over the list, with the residual. -/
theorem term_apply (f : Fits B N d e w k M) (n r : BitVec 32) (H : FVec Ideal ⟨3, ![B, N, d]⟩ .f32)
    (C : FVec Ideal ⟨3, ![B, N, 3]⟩ .f32) (W : FVec Ideal ⟨2, ![d, w]⟩ .f32) (O : FVec Ideal ⟨2, ![d, d]⟩ .f32)
    (hk : k ≤ N) (hN : N < 2147483648) (hM : M = N * k) (hd : d = 2 * e) (hw : w = d + d + d) (b : Fin B) (i : Fin N) (j : Fin d) :
    term f n r H C W O (ix3 b i j)
      = H (ix3 b i j) + ∑ t : Fin d,
        Attend.listed
          (fun p : Fin k => Ideal.div
            (Block.score d e (fun y c => W (ix2 y c)) (t.1 / e * e) (fun y => H (ix3 b i y))
              fun y => H (ix3 b (Nearest.order (near f.toPairs C C) b i (p.castLE hk)) y))
            (Ideal.sqrt (Ideal.ofBits .f32 r)))
          (fun p : Fin k => Block.value d (fun y c => W (ix2 y c)) t.1
            fun y => H (ix3 b (Nearest.order (near f.toPairs C C) b i (p.castLE hk)) y))
        * O (ix2 t j) := by
  have he : 0 < e := by have := j.2; omega
  unfold term
  have add : ∀ (a b' : FVec Ideal ⟨3, ![B, N, d]⟩ .f32), addf a b' (ix3 b i j) = a (ix3 b i j) + b' (ix3 b i j) := fun _ _ => rfl
  rw [add, HostReads.times]
  congr 1
  refine Finset.sum_congr rfl fun t _ => ?_
  congr 1
  have ht : t.1 / e < 2 := (Nat.div_lt_iff_lt_mul he).2 (hd ▸ t.2)
  have hx : t.1 % e < e := Nat.mod_lt _ he
  have tt : t.1 = t.1 / e * e + t.1 % e := (Nat.div_add_mod' _ _).symm
  have le : ∀ x : Fin e, t.1 / e * e + x.1 < d := fun x => by
    have := Nat.mul_le_mul_right e (Nat.le_of_lt_succ ht)
    have := x.2
    omega
  have P : ∀ (n : Fin N) (c : Fin w), Host.dotGeneral (F := Ideal) (⟨[2], [0], [0, 1], [1], [], [], f.proj⟩ :
      DotDims ⟨3, ![B, N, d]⟩ ⟨2, ![d, w]⟩ ⟨3, ![B, N, w]⟩) none H W (ix3 b n c)
      = ∑ y, H (ix3 b n y) * Block.column (fun y c => W (ix2 y c)) c.1 y := fun n c => by
    rw [HostReads.times]
    exact Finset.sum_congr rfl fun y _ => congrArg _ (Block.column_eq (fun y c => W (ix2 y c)) c.2 y).symm
  have t2 := t.2
  rw [HostReads.join f.join _ hd b i ⟨t.1 / e, ht⟩ ⟨t.1 % e, hx⟩ t tt, means_apply]
  unfold Block.score Block.value
  congr 1
  · funext p
    rw [logits_apply]
    congr 1
    refine Finset.sum_congr rfl fun x _ => ?_
    have lx := le x
    rw [listed_apply f n C _ hk hN hM hd b i p _ x ⟨_, le x⟩ rfl, HostReads.split _ _ hd _ _ _ _ ⟨_, le x⟩ rfl, Nat.add_assoc]
    exact congrArg₂ (· * ·)
      ((HostReads.columns 0 f.sq _ b i _ ⟨t.1 / e * e + x.1, by omega⟩ (Nat.zero_add _).symm).trans (P _ _))
      ((HostReads.columns d f.sk _ b _ _ ⟨d + (t.1 / e * e + x.1), by omega⟩ rfl).trans (P _ _))
  · funext p
    rw [listed_apply f n C _ hk hN hM hd b i p _ _ t tt]
    exact (HostReads.columns (d + d) f.sv _ b _ _ ⟨d + d + t.1, by omega⟩ rfl).trans (P _ _)

/-- Where the neighbours are told apart and the scores are numbers, the kernel's attention is the reference's:
    dividing a score by the root is multiplying it by `s`. -/
theorem attn_eq (f : Fits B N d e w k M) (n r : BitVec 32) (H : FVec Ideal ⟨3, ![B, N, d]⟩ .f32)
    (C : FVec Ideal ⟨3, ![B, N, 3]⟩ .f32) (W : FVec Ideal ⟨2, ![d, w]⟩ .f32) (O : FVec Ideal ⟨2, ![d, d]⟩ .f32)
    (h0 : 0 < k) (hk : k ≤ N) (hN : N < 2147483648) (hM : M = N * k) (hd : d = 2 * e) (hw : w = d + d + d) (s : EReal)
    (hr : Ideal.sqrt (Ideal.ofBits .f32 r) ≠ 0) (hs : s = (Ideal.sqrt (Ideal.ofBits .f32 r))⁻¹) (ns : Attend.Num s)
    (b : Fin B) (i : Fin N) (j : Fin d)
    (S : Nearest.Sorted (fun n => Block.sqd (fun x => C (ix3 b i x)) fun x => C (ix3 b n x)) k (Nearest.order (near f.toPairs C C) b i))
    (nH : ∀ n y, Attend.Num (H (ix3 b n y))) (nW : ∀ y c, Attend.Num (W (ix2 y c))) :
    Block.attn d e k s (fun n y => H (ix3 b n y)) (fun n x => C (ix3 b n x)) (fun y c => W (ix2 y c)) (fun y c => O (ix2 y c)) i j
      = term f n r H C W O (ix3 b i j) := by
  rw [term_apply f n r H C W O hk hN hM hd hw]
  unfold Block.attn
  congr 1
  refine Finset.sum_congr rfl fun t _ => ?_
  congr 1
  have nc : ∀ (c : ℕ) (y : Fin d), Attend.Num (Block.column (fun y c => W (ix2 y c)) c y) := fun c y => by
    unfold Block.column
    split_ifs
    · exact nW _ _
    · exact ⟨0, rfl⟩
  have nl : ∀ n, Attend.Num (Block.score d e (fun y c => W (ix2 y c)) (t.1 / e * e) (fun y => H (ix3 b i y)) (fun y => H (ix3 b n y)) * s) :=
    fun n => (Attend.Num.sum _ fun x => (Attend.Num.sum _ fun y => (nH _ _).mul (nc _ _)).mul
      (Attend.Num.sum _ fun y => (nH _ _).mul (nc _ _))).mul ns
  rw [Attend.masked_eq h0 (S.lists h0) _ _ fun p => nl _]
  congr 1
  funext p
  rw [Ideal.div, if_neg hr, hs]
  rfl

end Cert.RefBlock

end
-- ==== Proof.RefPool.lean ====
/- The pooled features of the reference at any extents: the listed nearest points, their features and their places seen
   from the query side by side, through the weights, and the largest over the list. -/
module

public import proofs.«01_k».proof.Proof.RefBlock
public import proofs.«01_k».proof.Proof.Pick

@[expose] public section

noncomputable section

namespace Cert.RefPool

open Idealize.ShloMosaic Cert.RefBlock

variable {B R N d o w k M : ℕ}

/-! ## The operations of the result read at an entry -/

/-- Every listed row times one matrix. -/
theorem times (wf) (a : FVec Ideal ⟨4, ![B, R, k, w]⟩ .f32) (b : FVec Ideal ⟨2, ![w, o]⟩ .f32) (x : Fin B) (i : Fin R) (p : Fin k)
    (j : Fin o) :
    Host.dotGeneral (F := Ideal) (⟨[3], [0], [0, 1, 2], [1], [], [], wf⟩ :
        DotDims ⟨4, ![B, R, k, w]⟩ ⟨2, ![w, o]⟩ ⟨4, ![B, R, k, o]⟩) none a b (ix4 x i p j)
      = ∑ y, a (ix4 x i p y) * b (ix2 y j) := by
  simp only [Host.dotGeneral, Ideal.dotGeneral_def]
  rw [Ideal.matmul_apply₁ _ rfl rfl, zero_add]
  refine Finset.sum_congr rfl fun k _ => ?_
  congr 1
  · refine congrArg a (funext fun z => Fin.ext ?_)
    match z with
    | ⟨0, _⟩ => rfl
    | ⟨1, _⟩ => rfl
    | ⟨2, _⟩ => rfl
    | ⟨3, _⟩ => rfl
  · refine congrArg b (funext fun z => Fin.ext ?_)
    match z with
    | ⟨0, _⟩ => rfl
    | ⟨1, _⟩ => rfl

/-- One vector per query given an axis of extent one for its list. -/
theorem query {α : Type} {c : ℕ} (h) (a : (⟨3, ![B, R, c]⟩ : Shape).Idx → α) (x : Fin B) (i : Fin R) (p : Fin 1) (y : Fin c) :
    broadcastInDim ⟨4, ![B, R, 1, c]⟩ ![0, 1, 3] h a (ix4 x i p y) = a (ix3 x i y) := by
  refine broadcastInDim_apply _ h a _ _ fun z => ?_
  match z with
  | ⟨0, _⟩ => exact HostReads.unit_val x
  | ⟨1, _⟩ => exact HostReads.unit_val i
  | ⟨2, _⟩ => exact HostReads.unit_val y

/-- That vector repeated along the list. -/
theorem listwise {α : Type} {c : ℕ} (h) (a : (⟨4, ![B, R, 1, c]⟩ : Shape).Idx → α) (x : Fin B) (i : Fin R) (p : Fin k) (y : Fin c) :
    broadcastInDim ⟨4, ![B, R, k, c]⟩ ![0, 1, 2, 3] h a (ix4 x i p y) = a (ix4 x i 0 y) := by
  refine broadcastInDim_apply _ h a _ _ fun z => ?_
  match z with
  | ⟨0, _⟩ => exact HostReads.unit_val x
  | ⟨1, _⟩ => exact HostReads.unit_val i
  | ⟨2, _⟩ => rfl
  | ⟨3, _⟩ => exact HostReads.unit_val y

/-- A vector with three axes of extent one before it. -/
theorem lifted {α : Type} (h) (a : (⟨1, ![o]⟩ : Shape).Idx → α) (x y z : Fin 1) (t : Fin o) :
    broadcastInDim ⟨4, ![1, 1, 1, o]⟩ ![3] h a (ix4 x y z t) = a (ix1 t) := by
  refine broadcastInDim_apply _ h a _ _ fun z => ?_
  match z with
  | ⟨0, _⟩ => exact HostReads.unit_val t

/-- Those axes repeated. -/
theorem everywhere {α : Type} (h) (a : (⟨4, ![1, 1, 1, o]⟩ : Shape).Idx → α) (x : Fin B) (i : Fin R) (p : Fin k) (t : Fin o) :
    broadcastInDim ⟨4, ![B, R, k, o]⟩ ![0, 1, 2, 3] h a (ix4 x i p t) = a (ix4 0 0 0 t) := by
  refine broadcastInDim_apply _ h a _ _ fun z => ?_
  match z with
  | ⟨0, _⟩ => rfl
  | ⟨1, _⟩ => rfl
  | ⟨2, _⟩ => rfl
  | ⟨3, _⟩ => exact HostReads.unit_val t

/-- The largest entry along the third of four axes. -/
theorem largest (h hu) (a : FVec Ideal ⟨4, ![B, R, k, o]⟩ .f32) (x : Fin B) (i : Fin R) (t : Fin o) :
    Host.reduce (FloatOps.maximumf (F := Ideal)) a (constant (F := Ideal) ⟨0, ![]⟩ .f32 0xFF800000#32) (t := ⟨3, ![B, R, o]⟩)
        (axes := [2]) h hu (ix3 x i t)
      = Finset.univ.fold max (⊥ : EReal) fun p => a (ix4 x i p t) := by
  pointwise
  rw [Reads.ofBits_bot]

/-- Two arrays side by side along the last of four axes. -/
theorem beside {α : Type} {c : ℕ} (h : Shape.Concatenates [⟨4, ![B, R, k, d]⟩, ⟨4, ![B, R, k, c]⟩] ⟨4, ![B, R, k, w]⟩ 3) (hw : w = d + c)
    (a : (⟨4, ![B, R, k, d]⟩ : Shape).Idx → α) (b : (⟨4, ![B, R, k, c]⟩ : Shape).Idx → α) (x : Fin B) (i : Fin R) (p : Fin k) (y : Fin w) :
    concatenate ⟨4, ![B, R, k, w]⟩ 3 [⟨⟨4, ![B, R, k, d]⟩, a⟩, ⟨⟨4, ![B, R, k, c]⟩, b⟩] h (ix4 x i p y)
      = if hj : y.1 < d then a (ix4 x i p ⟨y.1, hj⟩) else b (ix4 x i p ⟨y.1 - d, by omega⟩) := by
  pointwise

/-! ## The result -/

/-- The shape relations of the whole: `d` features and three coordinates make `w`, the result has `o` columns. -/
structure Fits (B R N d o w k M : ℕ) : Prop extends Lists B R N k M where
  rowsH : GatherDims.WF ⟨3, ![B, N, d]⟩ ⟨3, ![B, M, 1]⟩ ⟨3, ![B, M, d]⟩ [2] [1] [0] [1] [0] 2 ![1, 1, d]
  rowsC : GatherDims.WF ⟨3, ![B, N, 3]⟩ ⟨3, ![B, M, 1]⟩ ⟨3, ![B, M, 3]⟩ [2] [1] [0] [1] [0] 2 ![1, 1, 3]
  perH : (⟨3, ![B, M, d]⟩ : Shape).ShapeCasts ⟨4, ![B, R, k, d]⟩
  perC : (⟨3, ![B, M, 3]⟩ : Shape).ShapeCasts ⟨4, ![B, R, k, 3]⟩
  query : (⟨3, ![B, R, 3]⟩ : Shape).BroadcastsInDim ⟨4, ![B, R, 1, 3]⟩ ![0, 1, 3]
  listwise : (⟨4, ![B, R, 1, 3]⟩ : Shape).BroadcastsInDim ⟨4, ![B, R, k, 3]⟩ ![0, 1, 2, 3]
  both : Shape.Concatenates [⟨4, ![B, R, k, d]⟩, ⟨4, ![B, R, k, 3]⟩] ⟨4, ![B, R, k, w]⟩ 3
  times : DotDims.WF ⟨4, ![B, R, k, w]⟩ ⟨2, ![w, o]⟩ ⟨4, ![B, R, k, o]⟩ [3] [0] [0, 1, 2] [1] [] []
  lifted : (⟨1, ![o]⟩ : Shape).BroadcastsInDim ⟨4, ![1, 1, 1, o]⟩ ![3]
  everywhere : (⟨4, ![1, 1, 1, o]⟩ : Shape).BroadcastsInDim ⟨4, ![B, R, k, o]⟩ ![0, 1, 2, 3]
  all4 : One.BroadcastsInDim ⟨4, ![B, R, k, o]⟩ ![]
  largest : (⟨4, ![B, R, k, o]⟩ : Shape).ReducesTo [2] ⟨3, ![B, R, o]⟩

/-- The listed points' features and their places seen from the query. -/
def seen (f : Fits B R N d o w k M) (n : BitVec 32) (Q : FVec Ideal ⟨3, ![B, R, 3]⟩ .f32) (C : FVec Ideal ⟨3, ![B, N, 3]⟩ .f32)
    (H : FVec Ideal ⟨3, ![B, N, d]⟩ .f32) : FVec Ideal ⟨4, ![B, R, k, w]⟩ .f32 :=
  concatenate ⟨4, ![B, R, k, w]⟩ 3
    [⟨⟨4, ![B, R, k, d]⟩, rows f.toLists n Q C f.rowsH f.perH H⟩,
      ⟨⟨4, ![B, R, k, 3]⟩, subf (rows f.toLists n Q C f.rowsC f.perC C)
        (broadcastInDim _ ![0, 1, 2, 3] f.listwise (broadcastInDim ⟨4, ![B, R, 1, 3]⟩ ![0, 1, 3] f.query Q))⟩] f.both

/-- The reference's pooled features; `n` the word of the number of points. -/
def term (f : Fits B R N d o w k M) (n : BitVec 32) (Q : FVec Ideal ⟨3, ![B, R, 3]⟩ .f32) (C : FVec Ideal ⟨3, ![B, N, 3]⟩ .f32)
    (H : FVec Ideal ⟨3, ![B, N, d]⟩ .f32) (W : FVec Ideal ⟨2, ![w, o]⟩ .f32) (b : FVec Ideal ⟨1, ![o]⟩ .f32) :
    FVec Ideal ⟨3, ![B, R, o]⟩ .f32 :=
  Host.reduce FloatOps.maximumf
    (maximumf
      (addf (Host.dotGeneral ⟨[3], [0], [0, 1, 2], [1], [], [], f.times⟩ none (seen f n Q C H) W)
        (broadcastInDim _ ![0, 1, 2, 3] f.everywhere (broadcastInDim ⟨4, ![1, 1, 1, o]⟩ ![3] f.lifted b)))
      (broadcastInDim _ ![] f.all4 (constant One .f32 0x00000000#32)))
    (constant One .f32 0xFF800000#32) f.largest f.one

/-- An entry of the reference's result is the maximum over the list of the relu of the affine layer. -/
theorem term_apply (f : Fits B R N d o w k M) (n : BitVec 32) (Q : FVec Ideal ⟨3, ![B, R, 3]⟩ .f32)
    (C : FVec Ideal ⟨3, ![B, N, 3]⟩ .f32) (H : FVec Ideal ⟨3, ![B, N, d]⟩ .f32) (W : FVec Ideal ⟨2, ![w, o]⟩ .f32)
    (b : FVec Ideal ⟨1, ![o]⟩ .f32) (hk : k ≤ N) (hN : N < 2147483648) (hM : M = R * k) (hw : w = d + 3) (x : Fin B) (i : Fin R) (t : Fin o) :
    term f n Q C H W b (ix3 x i t)
      = Pick.listed (fun (p : Fin k) y => H (ix3 x (Nearest.order (near f.toPairs Q C) x i (p.castLE hk)) y))
        (fun (p : Fin k) y => C (ix3 x (Nearest.order (near f.toPairs Q C) x i (p.castLE hk)) y)) (fun y => Q (ix3 x i y))
        (fun y => W (ix2 ⟨y.1, by omega⟩ t)) (fun y => W (ix2 ⟨d + y.1, by omega⟩ t)) (b (ix1 t)) := by
  unfold term Pick.listed
  rw [largest f.largest f.one]
  congr 1
  funext p
  have e : ∀ a s u : FVec Ideal ⟨4, ![B, R, k, o]⟩ .f32, maximumf (addf a s) u (ix4 x i p t)
    = max ((a (ix4 x i p t) : EReal) + s (ix4 x i p t)) (u (ix4 x i p t)) := fun _ _ _ => rfl
  have zero : broadcastInDim _ ![] f.all4 (constant (F := Ideal) One .f32 0x00000000#32) (ix4 x i p t) = (0 : EReal) := by
    show Ideal.ofBits .f32 0x00000000#32 = (0 : EReal)
    simp [Ideal.ofBits, Ideal.ieee]
  rw [e, zero, times f.times, everywhere f.everywhere, lifted f.lifted]
  congr 2
  subst hw
  rw [Fin.sum_univ_add]
  congr 1
  · refine Finset.sum_congr rfl fun y _ => ?_
    congr 1
    unfold seen
    rw [beside f.both rfl, dif_pos (by simp), rows_apply f.toLists n Q C _ _ H hk hN hM]
    rfl
  · refine Finset.sum_congr rfl fun y _ => ?_
    congr 1
    have s : ∀ a b' : FVec Ideal ⟨4, ![B, R, k, 3]⟩ .f32, ∀ j, subf a b' j = a j - b' j := fun _ _ _ => rfl
    unfold seen
    rw [beside f.both rfl, dif_neg (by simp), s, rows_apply f.toLists n Q C _ _ C hk hN hM, listwise f.listwise, query f.query]
    simp

/-- Where the neighbours are told apart and the arrays are numbers, the kernel's pooled features are the reference's. -/
theorem pool_eq (f : Fits B R N d o w k M) (n : BitVec 32) (Q : FVec Ideal ⟨3, ![B, R, 3]⟩ .f32)
    (C : FVec Ideal ⟨3, ![B, N, 3]⟩ .f32) (H : FVec Ideal ⟨3, ![B, N, d]⟩ .f32) (W : FVec Ideal ⟨2, ![w, o]⟩ .f32)
    (b : FVec Ideal ⟨1, ![o]⟩ .f32) (h0 : 0 < k) (hk : k ≤ N) (hN : N < 2147483648) (hM : M = R * k) (hw : w = d + 3)
    (x : Fin B) (i : Fin R) (t : Fin o)
    (S : Nearest.Sorted (fun n => Block.sqd (fun y => Q (ix3 x i y)) fun y => C (ix3 x n y)) k (Nearest.order (near f.toPairs Q C) x i))
    (nQ : ∀ j, Attend.Num (Q j)) (nC : ∀ j, Attend.Num (C j)) (nH : ∀ j, Attend.Num (H j)) (nW : ∀ j, Attend.Num (W j)) :
    Pick.pool k (fun n y => H (ix3 x n y)) (fun n y => C (ix3 x n y))
      (fun n => Block.sqd (fun y => Q (ix3 x i y)) fun y => C (ix3 x n y)) (fun y => Q (ix3 x i y))
      (fun y => W (ix2 ⟨y.1, by omega⟩ t)) (fun y => W (ix2 ⟨d + y.1, by omega⟩ t)) (b (ix1 t))
      = term f n Q C H W b (ix3 x i t) := by
  rw [term_apply f n Q C H W b hk hN hM hw]
  exact Pick.pool_eq h0 S _ _ _ _ _ _ (fun _ => nW _) (fun _ => nW _) (fun _ _ => nH _) (fun _ _ => nC _) fun _ => nQ _

end Cert.RefPool

end
-- ==== Proof.Apart.lean ====
/- The precondition of an attention call at any extents, and what it says: the features and the joined projection are
   finite, and the top-k's order sorts every row of distances, the `k + 1` nearest different. -/
module

public import proofs.«01_k».proof.Proof.RefBlock
public import Idealize.ShloMosaic.Lib.ReduceAll

@[expose] public section

noncomputable section

namespace Cert.Apart

open Idealize.ShloMosaic Cert.RefBlock

/-- Every entry of an array of truth values holds. -/
def all {s : Shape} {axes : List (Fin s.rank)} (h : s.ReducesTo axes One) (one : 0 < One.numel) (x : IVec s 1) : IVec One 1 :=
  Host.reduce IntOp.andi x (constantI One 1 1#1) h one

/-- If the conjunction of all entries is one, every entry is one. -/
theorem all_apply {s : Shape} {axes : List (Fin s.rank)} (h : s.ReducesTo axes One) (one : 0 < One.numel) (x : IVec s 1)
    (e : all h one x ix0 = 1#1) (i : s.Idx) : x i = 1#1 := by
  have : Subsingleton One.Idx := ⟨fun a b => funext fun z => z.elim0⟩
  exact Host.reduce_andi_all x _ h one ix0 e i

/-- The entries of an array are below the word `0x7F800000`, +∞. -/
def below {s : Shape} (h : One.BroadcastsInDim s ![]) (x : FVec Ideal s .f32) : IVec s 1 :=
  cmpf .olt x (broadcastInDim s ![] h (constant One .f32 0x7F800000#32))

/-- An ordered comparison that is one means less. -/
theorem olt {s : Shape} (x y : FVec Ideal s .f32) (i : s.Idx) (e : cmpf .olt x y i = 1#1) : (x i : EReal) < y i := by
  have : Ideal.cmp .olt (x i) (y i) = 1#1 := e
  by_contra h
  simp [Ideal.cmp, h] at this

/-- Where `below` is one, the entry is less than infinity. -/
theorem below_apply {s : Shape} (h : One.BroadcastsInDim s ![]) (x : FVec Ideal s .f32) (i : s.Idx) (e : below h x i = 1#1) :
    (x i : EReal) < ⊤ := by
  have := olt _ _ i e
  rw [show broadcastInDim s ![] h (constant (F := Ideal) One .f32 0x7F800000#32) i = (⊤ : EReal) from Reads.ofBits_top] at this
  exact this

/-- Every entry of an array is finite. -/
def finite {s : Shape} {axes : List (Fin s.rank)} (h : s.ReducesTo axes One) (one : 0 < One.numel) (b : One.BroadcastsInDim s ![])
    (x : FVec Ideal s .f32) : IVec One 1 := all h one (below b (Host.absf x))

/-- If the finiteness test is one, every entry is a number. -/
theorem finite_apply {s : Shape} {axes : List (Fin s.rank)} (h : s.ReducesTo axes One) (one : 0 < One.numel)
    (b : One.BroadcastsInDim s ![]) (x : FVec Ideal s .f32) (e : finite h one b x ix0 = 1#1) (i : s.Idx) : Attend.Num (x i) := by
  have : max (x i : EReal) (-x i) < ⊤ := below_apply b _ i (all_apply h one _ e i)
  rw [max_lt_iff] at this
  generalize (x i : EReal) = y at this ⊢
  induction y using EReal.rec with
  | bot => simp at this
  | top => simp at this
  | coe r => exact ⟨r, rfl⟩

variable {B R N k K : ℕ}

/-- The shape relations of the neighbours' comparison; `K = k + 1`. -/
structure Told (B R N k K : ℕ) : Prop extends Pairs B R N where
  top : (⟨3, ![B, R, N]⟩ : Shape).Slices (fun _ => 0) ⟨3, ![B, R, K]⟩
  late : (⟨3, ![B, R, K]⟩ : Shape).Slices ![0, 0, 1] ⟨3, ![B, R, k]⟩
  early : (⟨3, ![B, R, K]⟩ : Shape).Slices ![0, 0, 0] ⟨3, ![B, R, k]⟩
  red : (⟨3, ![B, R, k]⟩ : Shape).ReducesTo [0, 1, 2] One
  redK : (⟨3, ![B, R, K]⟩ : Shape).ReducesTo [0, 1, 2] One
  each : One.BroadcastsInDim ⟨3, ![B, R, K]⟩ ![]

/-- The nearest of every row are different, and none is at distance −∞. -/
def told (f : Told B R N k K) (Q : FVec Ideal ⟨3, ![B, R, 3]⟩ .f32) (C : FVec Ideal ⟨3, ![B, N, 3]⟩ .f32) : IVec One 1 :=
  have v : FVec Ideal ⟨3, ![B, R, K]⟩ .f32 := (Host.topK ⟨3, ![B, R, K]⟩ 2 (FloatOps.cmpfTotal .gt) (near f.toPairs Q C) f.top).1
  andi
    (all f.red f.one (cmpf .olt (extractStridedSlice ⟨3, ![B, R, k]⟩ ![0, 0, 1] v f.late)
      (extractStridedSlice ⟨3, ![B, R, k]⟩ ![0, 0, 0] v f.early)))
    (all f.redK f.one (below f.each v))

/-- Both sides of a conjunction that is one are one. -/
theorem both {x y : IVec One 1} (h : andi x y ix0 = 1#1) : x ix0 = 1#1 ∧ y ix0 = 1#1 := by
  have h : x ix0 &&& y ix0 = 1#1 := h
  generalize x ix0 = a at h ⊢
  generalize y ix0 = b at h ⊢
  revert a b
  decide

/-- If the test on the neighbours is one, every query's distances are sorted strictly by the listed points up to place `k`. -/
theorem told_apply (f : Told B R N k K) (Q : FVec Ideal ⟨3, ![B, R, 3]⟩ .f32) (C : FVec Ideal ⟨3, ![B, N, 3]⟩ .f32) (hK : K = k + 1) (hN : K ≤ N)
    (e : told f Q C ix0 = 1#1) (b : Fin B) (i : Fin R) :
    Nearest.Sorted (fun n => Block.sqd (fun x => Q (ix3 b i x)) fun x => C (ix3 b n x)) k (Nearest.order (near f.toPairs Q C) b i) := by
  obtain ⟨e1, e2⟩ := both e
  refine Nearest.sorted_of_topK _ b i _ (near_apply _ _ _ _ _) (by omega) (fun p => ?_) ?_
  · have := olt _ _ (ix3 b i p) (all_apply f.red f.one _ e1 (ix3 b i p))
    rw [HostReads.columns 1 f.late _ _ _ _ ⟨p.1 + 1, by omega⟩ (Nat.add_comm _ _),
      HostReads.columns 0 f.early _ _ _ _ ⟨p.1, by omega⟩ (Nat.zero_add _).symm,
      (Nearest.topK_apply _ f.top b i _ hN).1, (Nearest.topK_apply _ f.top b i _ hN).1] at this
    exact this
  · have := below_apply f.each _ _ (all_apply f.redK f.one _ e2 (ix3 b i ⟨0, by omega⟩))
    rw [(Nearest.topK_apply _ f.top b i _ hN).1] at this
    exact this

end Cert.Apart

end
-- ==== Proof.RefFeature0.lean ====
/- The first pooling call against its mathematics: the reference's result as the generic term, the precondition as the
   generic one, and the claims of the call. -/
module

public import proofs.«01_k».proof.Proof.Feature0
public import proofs.«01_k».proof.Proof.RefPool
public import proofs.«01_k».proof.Proof.Apart
public import proofs.«01_k».proof.Proof.Gen.RefFeatures0Ideal.Run
public import proofs.«01_k».proof.Proof.Gen.RefFeatures0Ideal.Read
public import proofs.«01_k».proof.Proof.Gen.Pre_near0
public import proofs.«01_k».proof.Defs

@[expose] public section

set_option maxRecDepth 16384

noncomputable section

namespace Cert.RefFeature0

open Cert.RefFeatures0Ideal Cert.RefFeatures0Ideal.Gen Cert.RefFeatures0Ideal.Value Idealize.ShloMosaic Idealize.ShloMosaic.TcCoe Idealize.SL.Sem

/-- The shape relations at this level's sizes. -/
theorem fits : RefPool.Fits 2 1024 4096 64 128 67 16 16384 where
  sumq := reducesTo_S2x1024x3_S2x1024_d2
  sum := reducesTo_S2x4096x3_S2x4096_d2
  one := h_S_
  col := bcast_S2x1024_S2x1024x1_0_1
  row := bcast_S2x4096_S2x1x4096_0_2
  along := bcast_S2x1024x1_S2x1024x4096_0_1_2
  down := bcast_S2x1x4096_S2x1024x4096_0_1_2
  all := bcast_S_S2x1024x4096
  dot := dot_S2x1024x3_S2x4096x3_S2x1024x4096_2_2_1_1_0_0_wf
  top := sliceFits_S2x1024x4096_S2x1024x16
  flat := shapeCasts_S2x1024x16_S2x16384x1
  each := bcast_S_S2x16384x1
  rowsH := gather_S2x4096x64_S2x16384x1_S2x16384x64_2_1_0_0_1_2_1164_wf
  rowsC := gather_S2x4096x3_S2x16384x1_S2x16384x3_2_1_0_0_1_2_113_wf
  perH := shapeCasts_S2x16384x64_S2x1024x16x64
  perC := shapeCasts_S2x16384x3_S2x1024x16x3
  query := bcast_S2x1024x3_S2x1024x1x3_0_1_3
  listwise := bcast_S2x1024x1x3_S2x1024x16x3_0_1_2_3
  both := concatenates_S2x1024x16x64_S2x1024x16x3_S2x1024x16x67_d3
  times := dot_S2x1024x16x67_S67x128_S2x1024x16x128_3_0_012_1_n_n_wf
  lifted := bcast_S128_S1x1x1x128_3
  everywhere := bcast_S1x1x1x128_S2x1024x16x128_0_1_2_3
  all4 := bcast_S_S2x1024x16x128
  largest := reducesTo_S2x1024x16x128_S2x1024x128_d2

/-- The reference's result is the generic term. -/
theorem result (m : (ℓ : Loc nD τ sig) → Buf (Elt Ideal) ℓ) (c : Dev nD) :
    res_main_v29 m c = RefPool.term fits 4096#32 (m ((c : Thread nD τ).loc main_arg0)) (m ((c : Thread nD τ).loc main_arg1)) (m ((c : Thread nD τ).loc main_arg2))
      (m ((c : Thread nD τ).loc main_arg3)) (m ((c : Thread nD τ).loc main_arg4)) := by
  rw [Read.val_main_v29_eq]
  rfl

/-- Those of the precondition. -/
theorem told : Apart.Told 2 1024 4096 16 17 where
  toPairs := fits.toPairs
  top := Cert.Pre_near0.Gen.sliceFits_S2x1024x4096_S2x1024x17
  late := Cert.Pre_near0.Gen.slices_S2x1024x17_S2x1024x16_0_0_1
  early := Cert.Pre_near0.Gen.slices_S2x1024x17_S2x1024x16_0_0_0
  red := Cert.Pre_near0.Gen.reducesTo_S2x1024x16_S_d0_1_2
  redK := Cert.Pre_near0.Gen.reducesTo_S2x1024x17_S_d0_1_2
  each := Cert.Pre_near0.Gen.bcast_S_S2x1024x17

/-- The precondition is the generic one. -/
theorem pre (Q : Vec Ideal S2x1024x3 .f32) (C : Vec Ideal S2x4096x3 .f32) (H : Vec Ideal S2x4096x64 .f32)
    (W : Vec Ideal S67x128 .f32) (b : Vec Ideal S128 .f32) :
    Cert.Pre_near0.fn (F := Ideal) Q C H W b
      = andi (andi (andi (andi
          (Apart.finite Cert.Pre_near0.Gen.reducesTo_S2x1024x3_S_d0_1_2 h_S_ Cert.Pre_near0.Gen.bcast_S_S2x1024x3 Q)
          (Apart.finite Cert.Pre_near0.Gen.reducesTo_S2x4096x3_S_d0_1_2 h_S_ Cert.Pre_near0.Gen.bcast_S_S2x4096x3 C))
          (Apart.finite Cert.Pre_near0.Gen.reducesTo_S2x4096x64_S_d0_1_2 h_S_ Cert.Pre_near0.Gen.bcast_S_S2x4096x64 H))
          (Apart.finite Cert.Pre_near0.Gen.reducesTo_S67x128_S_d0_1 h_S_ Cert.Pre_near0.Gen.bcast_S_S67x128 W))
        (Apart.told told Q C) := rfl

/-- Under the precondition the kernel's pooled features are the reference's term. -/
theorem value (Q : Vec Ideal S2x1024x3 .f32) (C : Vec Ideal S2x4096x3 .f32) (H : Vec Ideal S2x4096x64 .f32)
    (W : Vec Ideal S67x128 .f32) (b : Vec Ideal S128 .f32)
    (h : Cert.Pre_near0.fn (F := Ideal) Q C H W b = fun _ => 1#1) (i : S2x1024x128.Idx) :
    Pick.pool 16 (fun n y => H (ix3 (i 0) n y)) (fun n y => C (ix3 (i 0) n y))
      (fun n => Block.sqd (fun y => Q (ix3 (i 0) (i 1) y)) fun y => C (ix3 (i 0) n y)) (fun y => Q (ix3 (i 0) (i 1) y))
      (fun y : Fin 64 => W (ix2 ⟨y.1, by omega⟩ (i 2))) (fun y => W (ix2 ⟨64 + y.1, by omega⟩ (i 2))) (b (ix1 (i 2)))
      = RefPool.term fits 4096#32 Q C H W b i := by
  rw [pre] at h
  obtain ⟨h, hN⟩ := Apart.both (congrFun h ix0)
  obtain ⟨h, hW⟩ := Apart.both h
  obtain ⟨h, hH⟩ := Apart.both h
  obtain ⟨hQ, hC⟩ := Apart.both h
  rw [show RefPool.term fits 4096#32 Q C H W b i = RefPool.term fits 4096#32 Q C H W b (ix3 (i 0) (i 1) (i 2))
    from congrArg _ (eq_ix3 i)]
  exact RefPool.pool_eq fits _ Q C H W b (by decide) (by decide) (by decide) rfl rfl _ _ _
    (Apart.told_apply told Q C rfl (by decide) hN _ _) (Apart.finite_apply _ _ _ Q hQ) (Apart.finite_apply _ _ _ C hC)
    (Apart.finite_apply _ _ _ H hH) (Apart.finite_apply _ _ _ W hW)

end Cert.RefFeature0

namespace Cert.Feature0

open Idealize.ShloMosaic Idealize.ShloMosaic.TcCoe Idealize.SL.Sem

/-- The reference runs and leaves its arguments. -/
theorem frame : quiescent_RefFeatures0Ideal := fun m g _ =>
  (θ_run Cert.RefFeatures0Ideal.defs _ _).mono (fun r h => ⟨fun c => (h c).2, sem_eq_zero_of_no_sems (by decide) r.2⟩)
    (Cert.RefFeatures0Ideal.Value.run (F := Ideal) m g)

/-- The mask constant's word is named. -/
theorem preserves : preserves_Features0_Features0Ideal :=
  IdealRules.named_const.statement Cert.Features0Ideal.κ "mask" .f32 0xF149F2CA#32 ⊥ rfl

/-- The kernel's result is the reference's. -/
theorem algebraic : algebraic_Features0Ideal_RefFeatures0Ideal_pre_near0 := by
  intro m g m' g' hp ha
  refine ⟨fun c => G m c, run m g, ?_⟩
  refine (θ_run _ _ _).mono (fun r h c => ⟨(h c).1.trans ?_, (h c).2⟩) (Cert.RefFeatures0Ideal.Value.run m' g')
  rw [Cert.RefFeature0.result, (ha c).1, (ha c).2.1, (ha c).2.2.1, (ha c).2.2.2.1, (ha c).2.2.2.2]
  exact funext fun i => (Cert.RefFeature0.value _ _ _ _ _ (hp c) i).symm

end Cert.Feature0

end
-- ==== Proof.Feature1.lean ====
/- The second pooling call (256 queries, 1024 points of 128 channels, 256 result channels): its block as the generic one, and
   its run. -/
module

public import proofs.«01_k».proof.Proof.Pool
public import proofs.«01_k».proof.Proof.Gen.Features1Ideal.Value
public import Idealize.ShloMosaic.Lib.Pipeline.ValueKit

@[expose] public section

set_option maxRecDepth 16384

noncomputable section

namespace Cert.Feature1

open Cert.Features1Ideal Cert.Features1Ideal.Gen Cert.Features1Ideal.Value Idealize.ShloMosaic Idealize.ShloMosaic.TcCoe Idealize.SL.Sem

/-- The shape relations at this level's sizes. -/
theorem fits : Pool.Fits 256 1024 128 256 where
  q3 := shapeCasts_S1x256x3_S256x3
  p3 := shapeCasts_S1x3x1024_S3x1024
  sq := reduces_S256x3_S256
  sp := reduces_S3x1024_S1024
  col := shapeCasts_S256_S256x1
  row := shapeCasts_S1024_S1x1024
  wide := broadcasts_S256x1_S256x1024
  tall := broadcasts_S1x1024_S256x1024
  red := reduces_S256x1024_S256
  hp := shapeCasts_S1x1024x128_S1024x128
  cp := shapeCasts_S1x1024x3_S1024x3
  wx := shapeCasts_S128x256_S128x256
  wc := shapeCasts_S3x256_S3x256
  bias := shapeCasts_S1x256_S1x256
  each := broadcasts_S1x256_S256x256
  out := shapeCasts_S256x256_S1x256x256

/-- What the kernel stores is the generic block of its windows. -/
theorem out_eq (x0 : Vec Ideal S1x256x3 .f32)
    (x1 : Vec Ideal S1x1024x3 .f32)
    (x2 : Vec Ideal S1x3x1024 .f32)
    (x3 : Vec Ideal S1x1024x128 .f32)
    (x4 : Vec Ideal S128x256 .f32)
    (x5 : Vec Ideal S3x256 .f32)
    (x6 : Vec Ideal S1x256 .f32) :
    out0_7 x0 x1 x2 x3 x4 x5 x6
      = Pool.block fits (Named.named κ "mask" 0xF149F2CA#32) 16 x0 x1 x2 x3 x4 x5 x6 := by
  unfold_out out0_7
  rw [View.canon_unit_zero Reads.zero3]
  rw [show View.ld x0 r0_0 = x0 from View.ld_unit_zero Reads.zero3 _ _,
    show View.ld x2 r0_1 = x2 from View.ld_unit_zero Reads.zero3 _ _,
    show View.ld x3 r0_2 = x3 from View.ld_unit_zero Reads.zero3 _ _,
    show View.ld x4 r0_3 = x4 from View.ld_unit_zero Reads.zero2 _ _,
    show View.ld x1 r0_4 = x1 from View.ld_unit_zero Reads.zero3 _ _,
    show View.ld x5 r0_5 = x5 from View.ld_unit_zero Reads.zero2 _ _,
    show View.ld x6 r0_6 = x6 from View.ld_unit_zero Reads.zero2 _ _]
  rfl

variable (m : (ℓ : Loc nD τ sig) → Buf (Elt Ideal) ℓ)

/-- The pooled features of every query, as a function of the arguments. -/
def G (c : Dev nD) : Vec Ideal S2x256x256 .f32 := fun i =>
  Pick.pool 16 (fun n y => m ((c : Thread nD τ).loc main_arg2) (ix3 (i 0) n y)) (fun n y => m ((c : Thread nD τ).loc main_arg1) (ix3 (i 0) n y))
    (fun n => Block.sqd (fun y => m ((c : Thread nD τ).loc main_arg0) (ix3 (i 0) (i 1) y)) fun y => m ((c : Thread nD τ).loc main_arg1) (ix3 (i 0) n y))
    (fun y => m ((c : Thread nD τ).loc main_arg0) (ix3 (i 0) (i 1) y)) (fun y : Fin 128 => m ((c : Thread nD τ).loc main_arg3) (ix2 ⟨y.1, by omega⟩ (i 2)))
    (fun y => m ((c : Thread nD τ).loc main_arg3) (ix2 ⟨128 + y.1, by omega⟩ (i 2))) (m ((c : Thread nD τ).loc main_arg4) (ix1 (i 2)))

/-- Of grid point `t`: the batch it works on. -/
def batch (t : Fin cfg0.N) : Fin 2 := ⟨t.1 / 1, by have := t.2; have : cfg0.N = 2 := rfl; omega⟩

/-- Of grid point `t`: the query its `i`-th row is. -/
def query (t : Fin cfg0.N) (i : Fin 256) : Fin 256 := ⟨t.1 % 1 * 256 + i.1, by omega⟩

/-- Each window's block index at each grid point. -/
theorem index : ∀ t : Fin cfg0.N,
    (win0_0.index t (0 : Fin 3) = t.1 / 1 ∧ win0_0.index t (1 : Fin 3) = t.1 % 1 ∧ win0_0.index t (2 : Fin 3) = 0)
    ∧ (win0_1.index t (0 : Fin 3) = t.1 / 1 ∧ win0_1.index t (1 : Fin 3) = 0 ∧ win0_1.index t (2 : Fin 3) = 0)
    ∧ (win0_2.index t (0 : Fin 3) = t.1 / 1 ∧ win0_2.index t (1 : Fin 3) = 0 ∧ win0_2.index t (2 : Fin 3) = 0)
    ∧ (win0_3.index t (0 : Fin 3) = t.1 / 1 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 1 ∧ win0_7.index t (1 : Fin 3) = t.1 % 1 ∧ win0_7.index t (2 : Fin 3) = 0) :=
  (by decide +kernel : ∀ t : Fin grid0.N, _)

/-- The block read at a place is the array read at the block's place. -/
theorem reads (c : Dev nD) (t : Fin cfg0.N) :
    (∀ (i : Fin 256) (y : Fin 3), iblk m c 0 t (ix3 0 i y) = m ((c : Thread nD τ).loc main_arg0) (ix3 (batch t) (query t i) y))
    ∧ (∀ (i : Fin 1024) (y : Fin 3), iblk m c 1 t (ix3 0 i y) = m ((c : Thread nD τ).loc main_arg1) (ix3 (batch t) i y))
    ∧ (∀ (i : Fin 1024) (y : Fin 3), iblk m c 2 t (ix3 0 y i) = m ((c : Thread nD τ).loc main_arg1) (ix3 (batch t) i y))
    ∧ (∀ (i : Fin 1024) (y : Fin 128), iblk m c 3 t (ix3 0 i y) = m ((c : Thread nD τ).loc main_arg2) (ix3 (batch t) i y))
    ∧ (∀ (y : Fin 128) (x : Fin 256), iblk m c 4 t (ix2 y x) = m ((c : Thread nD τ).loc main_arg3) (ix2 ⟨y.1, by omega⟩ x))
    ∧ (∀ (y : Fin 3) (x : Fin 256), iblk m c 5 t (ix2 y x) = m ((c : Thread nD τ).loc main_arg3) (ix2 ⟨128 + y.1, by omega⟩ x))
    ∧ (∀ x : Fin 256, iblk m c 6 t (ix2 0 x) = m ((c : Thread nD τ).loc main_arg4) (ix1 x)) := by
  have e0 : V m c main_v0 = extractStridedSlice S128x256 ![0, 0] (m ((c : Thread nD τ).loc main_arg3)) slices_S131x256_S128x256_0_0 := rfl
  have e1 : V m c main_v1 = extractStridedSlice S3x256 ![128, 0] (m ((c : Thread nD τ).loc main_arg3)) slices_S131x256_S3x256_128_0 := rfl
  have e2 : V m c main_v2 = transpose S2x3x1024 [0, 2, 1] (m ((c : Thread nD τ).loc main_arg1)) transposes_S2x1024x3_S2x3x1024_0_2_1 := rfl
  have e3 : V m c main_v3 = shapeCast S1x256 (m ((c : Thread nD τ).loc main_arg4)) shapeCasts_S256_S1x256 := rfl
  refine ⟨fun i y => ?_, fun i y => ?_, fun i y => ?_, fun i y => ?_, fun y x => ?_, fun y x => ?_, fun x => ?_⟩
  · blk_ext [iblk, V, batch, query, index t]
  · blk_ext [iblk, V, batch, query, index t]
  · trans V m c main_v2 (ix3 (batch t) y i)
    · blk_ext [iblk, batch, query, index t]
    · rw [e2]
      pointwise
  · blk_ext [iblk, V, batch, query, index t]
  · trans V m c main_v0 (ix2 y x)
    · blk_ext [iblk, index t]
    · rw [e0]
      pointwise
  · trans V m c main_v1 (ix2 y x)
    · blk_ext [iblk, index t]
    · rw [e1]
      pointwise
  · trans V m c main_v3 (ix2 0 x)
    · blk_ext [iblk, index t]
    · rw [e3]
      exact Reads.upright _ _ x

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x256x256.Idx) :
    Pool.block fits (Named.named κ "mask" 0xF149F2CA#32) 16
      (iblk m c 0 t) (iblk m c 1 t) (iblk m c 2 t) (iblk m c 3 t) (iblk m c 4 t) (iblk m c 5 t) (iblk m c 6 t) y
      = G m c (((View.whole main_v4).slice (win0_7.rect t)).emb y) := by
  obtain ⟨r0, r1, r2, r3, r4, r5, r6⟩ := reads m c t
  obtain ⟨b, i, j, rfl⟩ : ∃ (b : Fin 1) (i : Fin 256) (j : Fin 256), y = ix3 b i j := ⟨y 0, y 1, y 2, eq_ix3 y⟩
  have e : ((View.whole main_v4).slice (win0_7.rect t)).emb (ix3 b i j) = ix3 (batch t) (query t i) j := by
    blk_ext [batch, query, index t]
  rw [e]
  refine (Pool.block_apply fits _ mask_bot 16 _ _ _ _ _ _ _
    (fun i y => m ((c : Thread nD τ).loc main_arg0) (ix3 (batch t) (query t i) y))
    (fun n y => m ((c : Thread nD τ).loc main_arg1) (ix3 (batch t) n y))
    (fun n y => m ((c : Thread nD τ).loc main_arg2) (ix3 (batch t) n y)) r0 r1 r2 r3 b i j).trans ?_
  simp only [r4, r5, r6]
  rfl

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Feature1

end
-- ==== Proof.RefFeature1.lean ====
/- The second pooling call against its mathematics: the reference's result as the generic term, the precondition as the
   generic one, and the claims of the call. -/
module

public import proofs.«01_k».proof.Proof.Feature1
public import proofs.«01_k».proof.Proof.RefPool
public import proofs.«01_k».proof.Proof.Apart
public import proofs.«01_k».proof.Proof.Gen.RefFeatures1Ideal.Run
public import proofs.«01_k».proof.Proof.Gen.RefFeatures1Ideal.Read
public import proofs.«01_k».proof.Proof.Gen.Pre_near1
public import proofs.«01_k».proof.Defs

@[expose] public section

set_option maxRecDepth 16384

noncomputable section

namespace Cert.RefFeature1

open Cert.RefFeatures1Ideal Cert.RefFeatures1Ideal.Gen Cert.RefFeatures1Ideal.Value Idealize.ShloMosaic Idealize.ShloMosaic.TcCoe Idealize.SL.Sem

/-- The shape relations at this level's sizes. -/
theorem fits : RefPool.Fits 2 256 1024 128 256 131 16 4096 where
  sumq := reducesTo_S2x256x3_S2x256_d2
  sum := reducesTo_S2x1024x3_S2x1024_d2
  one := h_S_
  col := bcast_S2x256_S2x256x1_0_1
  row := bcast_S2x1024_S2x1x1024_0_2
  along := bcast_S2x256x1_S2x256x1024_0_1_2
  down := bcast_S2x1x1024_S2x256x1024_0_1_2
  all := bcast_S_S2x256x1024
  dot := dot_S2x256x3_S2x1024x3_S2x256x1024_2_2_1_1_0_0_wf
  top := sliceFits_S2x256x1024_S2x256x16
  flat := shapeCasts_S2x256x16_S2x4096x1
  each := bcast_S_S2x4096x1
  rowsH := gather_S2x1024x128_S2x4096x1_S2x4096x128_2_1_0_0_1_2_11128_wf
  rowsC := gather_S2x1024x3_S2x4096x1_S2x4096x3_2_1_0_0_1_2_113_wf
  perH := shapeCasts_S2x4096x128_S2x256x16x128
  perC := shapeCasts_S2x4096x3_S2x256x16x3
  query := bcast_S2x256x3_S2x256x1x3_0_1_3
  listwise := bcast_S2x256x1x3_S2x256x16x3_0_1_2_3
  both := concatenates_S2x256x16x128_S2x256x16x3_S2x256x16x131_d3
  times := dot_S2x256x16x131_S131x256_S2x256x16x256_3_0_012_1_n_n_wf
  lifted := bcast_S256_S1x1x1x256_3
  everywhere := bcast_S1x1x1x256_S2x256x16x256_0_1_2_3
  all4 := bcast_S_S2x256x16x256
  largest := reducesTo_S2x256x16x256_S2x256x256_d2

/-- The reference's result is the generic term. -/
theorem result (m : (ℓ : Loc nD τ sig) → Buf (Elt Ideal) ℓ) (c : Dev nD) :
    res_main_v29 m c = RefPool.term fits 1024#32 (m ((c : Thread nD τ).loc main_arg0)) (m ((c : Thread nD τ).loc main_arg1)) (m ((c : Thread nD τ).loc main_arg2))
      (m ((c : Thread nD τ).loc main_arg3)) (m ((c : Thread nD τ).loc main_arg4)) := by
  rw [Read.val_main_v29_eq]
  rfl

/-- Those of the precondition. -/
theorem told : Apart.Told 2 256 1024 16 17 where
  toPairs := fits.toPairs
  top := Cert.Pre_near1.Gen.sliceFits_S2x256x1024_S2x256x17
  late := Cert.Pre_near1.Gen.slices_S2x256x17_S2x256x16_0_0_1
  early := Cert.Pre_near1.Gen.slices_S2x256x17_S2x256x16_0_0_0
  red := Cert.Pre_near1.Gen.reducesTo_S2x256x16_S_d0_1_2
  redK := Cert.Pre_near1.Gen.reducesTo_S2x256x17_S_d0_1_2
  each := Cert.Pre_near1.Gen.bcast_S_S2x256x17

/-- The precondition is the generic one. -/
theorem pre (Q : Vec Ideal S2x256x3 .f32) (C : Vec Ideal S2x1024x3 .f32) (H : Vec Ideal S2x1024x128 .f32)
    (W : Vec Ideal S131x256 .f32) (b : Vec Ideal S256 .f32) :
    Cert.Pre_near1.fn (F := Ideal) Q C H W b
      = andi (andi (andi (andi
          (Apart.finite Cert.Pre_near1.Gen.reducesTo_S2x256x3_S_d0_1_2 h_S_ Cert.Pre_near1.Gen.bcast_S_S2x256x3 Q)
          (Apart.finite Cert.Pre_near1.Gen.reducesTo_S2x1024x3_S_d0_1_2 h_S_ Cert.Pre_near1.Gen.bcast_S_S2x1024x3 C))
          (Apart.finite Cert.Pre_near1.Gen.reducesTo_S2x1024x128_S_d0_1_2 h_S_ Cert.Pre_near1.Gen.bcast_S_S2x1024x128 H))
          (Apart.finite Cert.Pre_near1.Gen.reducesTo_S131x256_S_d0_1 h_S_ Cert.Pre_near1.Gen.bcast_S_S131x256 W))
        (Apart.told told Q C) := rfl

/-- Under the precondition the kernel's pooled features are the reference's term. -/
theorem value (Q : Vec Ideal S2x256x3 .f32) (C : Vec Ideal S2x1024x3 .f32) (H : Vec Ideal S2x1024x128 .f32)
    (W : Vec Ideal S131x256 .f32) (b : Vec Ideal S256 .f32)
    (h : Cert.Pre_near1.fn (F := Ideal) Q C H W b = fun _ => 1#1) (i : S2x256x256.Idx) :
    Pick.pool 16 (fun n y => H (ix3 (i 0) n y)) (fun n y => C (ix3 (i 0) n y))
      (fun n => Block.sqd (fun y => Q (ix3 (i 0) (i 1) y)) fun y => C (ix3 (i 0) n y)) (fun y => Q (ix3 (i 0) (i 1) y))
      (fun y : Fin 128 => W (ix2 ⟨y.1, by omega⟩ (i 2))) (fun y => W (ix2 ⟨128 + y.1, by omega⟩ (i 2))) (b (ix1 (i 2)))
      = RefPool.term fits 1024#32 Q C H W b i := by
  rw [pre] at h
  obtain ⟨h, hN⟩ := Apart.both (congrFun h ix0)
  obtain ⟨h, hW⟩ := Apart.both h
  obtain ⟨h, hH⟩ := Apart.both h
  obtain ⟨hQ, hC⟩ := Apart.both h
  rw [show RefPool.term fits 1024#32 Q C H W b i = RefPool.term fits 1024#32 Q C H W b (ix3 (i 0) (i 1) (i 2))
    from congrArg _ (eq_ix3 i)]
  exact RefPool.pool_eq fits _ Q C H W b (by decide) (by decide) (by decide) rfl rfl _ _ _
    (Apart.told_apply told Q C rfl (by decide) hN _ _) (Apart.finite_apply _ _ _ Q hQ) (Apart.finite_apply _ _ _ C hC)
    (Apart.finite_apply _ _ _ H hH) (Apart.finite_apply _ _ _ W hW)

end Cert.RefFeature1

namespace Cert.Feature1

open Idealize.ShloMosaic Idealize.ShloMosaic.TcCoe Idealize.SL.Sem

/-- The reference runs and leaves its arguments. -/
theorem frame : quiescent_RefFeatures1Ideal := fun m g _ =>
  (θ_run Cert.RefFeatures1Ideal.defs _ _).mono (fun r h => ⟨fun c => (h c).2, sem_eq_zero_of_no_sems (by decide) r.2⟩)
    (Cert.RefFeatures1Ideal.Value.run (F := Ideal) m g)

/-- The mask constant's word is named. -/
theorem preserves : preserves_Features1_Features1Ideal :=
  IdealRules.named_const.statement Cert.Features1Ideal.κ "mask" .f32 0xF149F2CA#32 ⊥ rfl

/-- The kernel's result is the reference's. -/
theorem algebraic : algebraic_Features1Ideal_RefFeatures1Ideal_pre_near1 := by
  intro m g m' g' hp ha
  refine ⟨fun c => G m c, run m g, ?_⟩
  refine (θ_run _ _ _).mono (fun r h c => ⟨(h c).1.trans ?_, (h c).2⟩) (Cert.RefFeatures1Ideal.Value.run m' g')
  rw [Cert.RefFeature1.result, (ha c).1, (ha c).2.1, (ha c).2.2.1, (ha c).2.2.2.1, (ha c).2.2.2.2]
  exact funext fun i => (Cert.RefFeature1.value _ _ _ _ _ (hp c) i).symm

end Cert.Feature1

end
-- ==== Proof.Feature2.lean ====
/- The last pooling call (64 queries, 256 points of 256 channels, 512 result channels): its block as the generic one, and
   its run. -/
module

public import proofs.«01_k».proof.Proof.Pool
public import proofs.«01_k».proof.Proof.Gen.Features2Ideal.Value
public import Idealize.ShloMosaic.Lib.Pipeline.ValueKit

@[expose] public section

set_option maxRecDepth 16384

noncomputable section

namespace Cert.Feature2

open Cert.Features2Ideal Cert.Features2Ideal.Gen Cert.Features2Ideal.Value Idealize.ShloMosaic Idealize.ShloMosaic.TcCoe Idealize.SL.Sem

/-- The shape relations at this level's sizes. -/
theorem fits : Pool.Fits 64 256 256 512 where
  q3 := shapeCasts_S1x64x3_S64x3
  p3 := shapeCasts_S1x3x256_S3x256
  sq := reduces_S64x3_S64
  sp := reduces_S3x256_S256
  col := shapeCasts_S64_S64x1
  row := shapeCasts_S256_S1x256
  wide := broadcasts_S64x1_S64x256
  tall := broadcasts_S1x256_S64x256
  red := reduces_S64x256_S64
  hp := shapeCasts_S1x256x256_S256x256
  cp := shapeCasts_S1x256x3_S256x3
  wx := shapeCasts_S256x512_S256x512
  wc := shapeCasts_S3x512_S3x512
  bias := shapeCasts_S1x512_S1x512
  each := broadcasts_S1x512_S64x512
  out := shapeCasts_S64x512_S1x64x512

/-- What the kernel stores is the generic block of its windows. -/
theorem out_eq (x0 : Vec Ideal S1x64x3 .f32)
    (x1 : Vec Ideal S1x256x3 .f32)
    (x2 : Vec Ideal S1x3x256 .f32)
    (x3 : Vec Ideal S1x256x256 .f32)
    (x4 : Vec Ideal S256x512 .f32)
    (x5 : Vec Ideal S3x512 .f32)
    (x6 : Vec Ideal S1x512 .f32) :
    out0_7 x0 x1 x2 x3 x4 x5 x6
      = Pool.block fits (Named.named κ "mask" 0xF149F2CA#32) 16 x0 x1 x2 x3 x4 x5 x6 := by
  unfold_out out0_7
  rw [View.canon_unit_zero Reads.zero3]
  rw [show View.ld x0 r0_0 = x0 from View.ld_unit_zero Reads.zero3 _ _,
    show View.ld x2 r0_1 = x2 from View.ld_unit_zero Reads.zero3 _ _,
    show View.ld x3 r0_2 = x3 from View.ld_unit_zero Reads.zero3 _ _,
    show View.ld x4 r0_3 = x4 from View.ld_unit_zero Reads.zero2 _ _,
    show View.ld x1 r0_4 = x1 from View.ld_unit_zero Reads.zero3 _ _,
    show View.ld x5 r0_5 = x5 from View.ld_unit_zero Reads.zero2 _ _,
    show View.ld x6 r0_6 = x6 from View.ld_unit_zero Reads.zero2 _ _]
  rfl

variable (m : (ℓ : Loc nD τ sig) → Buf (Elt Ideal) ℓ)

/-- The pooled features of every query, as a function of the arguments. -/
def G (c : Dev nD) : Vec Ideal S2x64x512 .f32 := fun i =>
  Pick.pool 16 (fun n y => m ((c : Thread nD τ).loc main_arg2) (ix3 (i 0) n y)) (fun n y => m ((c : Thread nD τ).loc main_arg1) (ix3 (i 0) n y))
    (fun n => Block.sqd (fun y => m ((c : Thread nD τ).loc main_arg0) (ix3 (i 0) (i 1) y)) fun y => m ((c : Thread nD τ).loc main_arg1) (ix3 (i 0) n y))
    (fun y => m ((c : Thread nD τ).loc main_arg0) (ix3 (i 0) (i 1) y)) (fun y : Fin 256 => m ((c : Thread nD τ).loc main_arg3) (ix2 ⟨y.1, by omega⟩ (i 2)))
    (fun y => m ((c : Thread nD τ).loc main_arg3) (ix2 ⟨256 + y.1, by omega⟩ (i 2))) (m ((c : Thread nD τ).loc main_arg4) (ix1 (i 2)))

/-- Of grid point `t`: the batch it works on. -/
def batch (t : Fin cfg0.N) : Fin 2 := ⟨t.1 / 1, by have := t.2; have : cfg0.N = 2 := rfl; omega⟩

/-- Of grid point `t`: the query its `i`-th row is. -/
def query (t : Fin cfg0.N) (i : Fin 64) : Fin 64 := ⟨t.1 % 1 * 64 + i.1, by omega⟩

/-- Each window's block index at each grid point. -/
theorem index : ∀ t : Fin cfg0.N,
    (win0_0.index t (0 : Fin 3) = t.1 / 1 ∧ win0_0.index t (1 : Fin 3) = t.1 % 1 ∧ win0_0.index t (2 : Fin 3) = 0)
    ∧ (win0_1.index t (0 : Fin 3) = t.1 / 1 ∧ win0_1.index t (1 : Fin 3) = 0 ∧ win0_1.index t (2 : Fin 3) = 0)
    ∧ (win0_2.index t (0 : Fin 3) = t.1 / 1 ∧ win0_2.index t (1 : Fin 3) = 0 ∧ win0_2.index t (2 : Fin 3) = 0)
    ∧ (win0_3.index t (0 : Fin 3) = t.1 / 1 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 1 ∧ win0_7.index t (1 : Fin 3) = t.1 % 1 ∧ win0_7.index t (2 : Fin 3) = 0) :=
  (by decide +kernel : ∀ t : Fin grid0.N, _)

/-- The block read at a place is the array read at the block's place. -/
theorem reads (c : Dev nD) (t : Fin cfg0.N) :
    (∀ (i : Fin 64) (y : Fin 3), iblk m c 0 t (ix3 0 i y) = m ((c : Thread nD τ).loc main_arg0) (ix3 (batch t) (query t i) y))
    ∧ (∀ (i : Fin 256) (y : Fin 3), iblk m c 1 t (ix3 0 i y) = m ((c : Thread nD τ).loc main_arg1) (ix3 (batch t) i y))
    ∧ (∀ (i : Fin 256) (y : Fin 3), iblk m c 2 t (ix3 0 y i) = m ((c : Thread nD τ).loc main_arg1) (ix3 (batch t) i y))
    ∧ (∀ (i : Fin 256) (y : Fin 256), iblk m c 3 t (ix3 0 i y) = m ((c : Thread nD τ).loc main_arg2) (ix3 (batch t) i y))
    ∧ (∀ (y : Fin 256) (x : Fin 512), iblk m c 4 t (ix2 y x) = m ((c : Thread nD τ).loc main_arg3) (ix2 ⟨y.1, by omega⟩ x))
    ∧ (∀ (y : Fin 3) (x : Fin 512), iblk m c 5 t (ix2 y x) = m ((c : Thread nD τ).loc main_arg3) (ix2 ⟨256 + y.1, by omega⟩ x))
    ∧ (∀ x : Fin 512, iblk m c 6 t (ix2 0 x) = m ((c : Thread nD τ).loc main_arg4) (ix1 x)) := by
  have e0 : V m c main_v0 = extractStridedSlice S256x512 ![0, 0] (m ((c : Thread nD τ).loc main_arg3)) slices_S259x512_S256x512_0_0 := rfl
  have e1 : V m c main_v1 = extractStridedSlice S3x512 ![256, 0] (m ((c : Thread nD τ).loc main_arg3)) slices_S259x512_S3x512_256_0 := rfl
  have e2 : V m c main_v2 = transpose S2x3x256 [0, 2, 1] (m ((c : Thread nD τ).loc main_arg1)) transposes_S2x256x3_S2x3x256_0_2_1 := rfl
  have e3 : V m c main_v3 = shapeCast S1x512 (m ((c : Thread nD τ).loc main_arg4)) shapeCasts_S512_S1x512 := rfl
  refine ⟨fun i y => ?_, fun i y => ?_, fun i y => ?_, fun i y => ?_, fun y x => ?_, fun y x => ?_, fun x => ?_⟩
  · blk_ext [iblk, V, batch, query, index t]
  · blk_ext [iblk, V, batch, query, index t]
  · trans V m c main_v2 (ix3 (batch t) y i)
    · blk_ext [iblk, batch, query, index t]
    · rw [e2]
      pointwise
  · blk_ext [iblk, V, batch, query, index t]
  · trans V m c main_v0 (ix2 y x)
    · blk_ext [iblk, index t]
    · rw [e0]
      pointwise
  · trans V m c main_v1 (ix2 y x)
    · blk_ext [iblk, index t]
    · rw [e1]
      pointwise
  · trans V m c main_v3 (ix2 0 x)
    · blk_ext [iblk, index t]
    · rw [e3]
      exact Reads.upright _ _ x

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x64x512.Idx) :
    Pool.block fits (Named.named κ "mask" 0xF149F2CA#32) 16
      (iblk m c 0 t) (iblk m c 1 t) (iblk m c 2 t) (iblk m c 3 t) (iblk m c 4 t) (iblk m c 5 t) (iblk m c 6 t) y
      = G m c (((View.whole main_v4).slice (win0_7.rect t)).emb y) := by
  obtain ⟨r0, r1, r2, r3, r4, r5, r6⟩ := reads m c t
  obtain ⟨b, i, j, rfl⟩ : ∃ (b : Fin 1) (i : Fin 64) (j : Fin 512), y = ix3 b i j := ⟨y 0, y 1, y 2, eq_ix3 y⟩
  have e : ((View.whole main_v4).slice (win0_7.rect t)).emb (ix3 b i j) = ix3 (batch t) (query t i) j := by
    blk_ext [batch, query, index t]
  rw [e]
  refine (Pool.block_apply fits _ mask_bot 16 _ _ _ _ _ _ _
    (fun i y => m ((c : Thread nD τ).loc main_arg0) (ix3 (batch t) (query t i) y))
    (fun n y => m ((c : Thread nD τ).loc main_arg1) (ix3 (batch t) n y))
    (fun n y => m ((c : Thread nD τ).loc main_arg2) (ix3 (batch t) n y)) r0 r1 r2 r3 b i j).trans ?_
  simp only [r4, r5, r6]
  rfl

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Feature2

end
-- ==== Proof.RefFeature2.lean ====
/- The last pooling call against its mathematics: the reference's result as the generic term, the precondition as the
   generic one, and the claims of the call. -/
module

public import proofs.«01_k».proof.Proof.Feature2
public import proofs.«01_k».proof.Proof.RefPool
public import proofs.«01_k».proof.Proof.Apart
public import proofs.«01_k».proof.Proof.Gen.RefFeatures2Ideal.Run
public import proofs.«01_k».proof.Proof.Gen.RefFeatures2Ideal.Read
public import proofs.«01_k».proof.Proof.Gen.Pre_near2
public import proofs.«01_k».proof.Defs

@[expose] public section

set_option maxRecDepth 16384

noncomputable section

namespace Cert.RefFeature2

open Cert.RefFeatures2Ideal Cert.RefFeatures2Ideal.Gen Cert.RefFeatures2Ideal.Value Idealize.ShloMosaic Idealize.ShloMosaic.TcCoe Idealize.SL.Sem

/-- The shape relations at this level's sizes. -/
theorem fits : RefPool.Fits 2 64 256 256 512 259 16 1024 where
  sumq := reducesTo_S2x64x3_S2x64_d2
  sum := reducesTo_S2x256x3_S2x256_d2
  one := h_S_
  col := bcast_S2x64_S2x64x1_0_1
  row := bcast_S2x256_S2x1x256_0_2
  along := bcast_S2x64x1_S2x64x256_0_1_2
  down := bcast_S2x1x256_S2x64x256_0_1_2
  all := bcast_S_S2x64x256
  dot := dot_S2x64x3_S2x256x3_S2x64x256_2_2_1_1_0_0_wf
  top := sliceFits_S2x64x256_S2x64x16
  flat := shapeCasts_S2x64x16_S2x1024x1
  each := bcast_S_S2x1024x1
  rowsH := gather_S2x256x256_S2x1024x1_S2x1024x256_2_1_0_0_1_2_11256_wf
  rowsC := gather_S2x256x3_S2x1024x1_S2x1024x3_2_1_0_0_1_2_113_wf
  perH := shapeCasts_S2x1024x256_S2x64x16x256
  perC := shapeCasts_S2x1024x3_S2x64x16x3
  query := bcast_S2x64x3_S2x64x1x3_0_1_3
  listwise := bcast_S2x64x1x3_S2x64x16x3_0_1_2_3
  both := concatenates_S2x64x16x256_S2x64x16x3_S2x64x16x259_d3
  times := dot_S2x64x16x259_S259x512_S2x64x16x512_3_0_012_1_n_n_wf
  lifted := bcast_S512_S1x1x1x512_3
  everywhere := bcast_S1x1x1x512_S2x64x16x512_0_1_2_3
  all4 := bcast_S_S2x64x16x512
  largest := reducesTo_S2x64x16x512_S2x64x512_d2

/-- The reference's result is the generic term. -/
theorem result (m : (ℓ : Loc nD τ sig) → Buf (Elt Ideal) ℓ) (c : Dev nD) :
    res_main_v29 m c = RefPool.term fits 256#32 (m ((c : Thread nD τ).loc main_arg0)) (m ((c : Thread nD τ).loc main_arg1)) (m ((c : Thread nD τ).loc main_arg2))
      (m ((c : Thread nD τ).loc main_arg3)) (m ((c : Thread nD τ).loc main_arg4)) := by
  rw [Read.val_main_v29_eq]
  rfl

/-- Those of the precondition. -/
theorem told : Apart.Told 2 64 256 16 17 where
  toPairs := fits.toPairs
  top := Cert.Pre_near2.Gen.sliceFits_S2x64x256_S2x64x17
  late := Cert.Pre_near2.Gen.slices_S2x64x17_S2x64x16_0_0_1
  early := Cert.Pre_near2.Gen.slices_S2x64x17_S2x64x16_0_0_0
  red := Cert.Pre_near2.Gen.reducesTo_S2x64x16_S_d0_1_2
  redK := Cert.Pre_near2.Gen.reducesTo_S2x64x17_S_d0_1_2
  each := Cert.Pre_near2.Gen.bcast_S_S2x64x17

/-- The precondition is the generic one. -/
theorem pre (Q : Vec Ideal S2x64x3 .f32) (C : Vec Ideal S2x256x3 .f32) (H : Vec Ideal S2x256x256 .f32)
    (W : Vec Ideal S259x512 .f32) (b : Vec Ideal S512 .f32) :
    Cert.Pre_near2.fn (F := Ideal) Q C H W b
      = andi (andi (andi (andi
          (Apart.finite Cert.Pre_near2.Gen.reducesTo_S2x64x3_S_d0_1_2 h_S_ Cert.Pre_near2.Gen.bcast_S_S2x64x3 Q)
          (Apart.finite Cert.Pre_near2.Gen.reducesTo_S2x256x3_S_d0_1_2 h_S_ Cert.Pre_near2.Gen.bcast_S_S2x256x3 C))
          (Apart.finite Cert.Pre_near2.Gen.reducesTo_S2x256x256_S_d0_1_2 h_S_ Cert.Pre_near2.Gen.bcast_S_S2x256x256 H))
          (Apart.finite Cert.Pre_near2.Gen.reducesTo_S259x512_S_d0_1 h_S_ Cert.Pre_near2.Gen.bcast_S_S259x512 W))
        (Apart.told told Q C) := rfl

/-- Under the precondition the kernel's pooled features are the reference's term. -/
theorem value (Q : Vec Ideal S2x64x3 .f32) (C : Vec Ideal S2x256x3 .f32) (H : Vec Ideal S2x256x256 .f32)
    (W : Vec Ideal S259x512 .f32) (b : Vec Ideal S512 .f32)
    (h : Cert.Pre_near2.fn (F := Ideal) Q C H W b = fun _ => 1#1) (i : S2x64x512.Idx) :
    Pick.pool 16 (fun n y => H (ix3 (i 0) n y)) (fun n y => C (ix3 (i 0) n y))
      (fun n => Block.sqd (fun y => Q (ix3 (i 0) (i 1) y)) fun y => C (ix3 (i 0) n y)) (fun y => Q (ix3 (i 0) (i 1) y))
      (fun y : Fin 256 => W (ix2 ⟨y.1, by omega⟩ (i 2))) (fun y => W (ix2 ⟨256 + y.1, by omega⟩ (i 2))) (b (ix1 (i 2)))
      = RefPool.term fits 256#32 Q C H W b i := by
  rw [pre] at h
  obtain ⟨h, hN⟩ := Apart.both (congrFun h ix0)
  obtain ⟨h, hW⟩ := Apart.both h
  obtain ⟨h, hH⟩ := Apart.both h
  obtain ⟨hQ, hC⟩ := Apart.both h
  rw [show RefPool.term fits 256#32 Q C H W b i = RefPool.term fits 256#32 Q C H W b (ix3 (i 0) (i 1) (i 2))
    from congrArg _ (eq_ix3 i)]
  exact RefPool.pool_eq fits _ Q C H W b (by decide) (by decide) (by decide) rfl rfl _ _ _
    (Apart.told_apply told Q C rfl (by decide) hN _ _) (Apart.finite_apply _ _ _ Q hQ) (Apart.finite_apply _ _ _ C hC)
    (Apart.finite_apply _ _ _ H hH) (Apart.finite_apply _ _ _ W hW)

end Cert.RefFeature2

namespace Cert.Feature2

open Idealize.ShloMosaic Idealize.ShloMosaic.TcCoe Idealize.SL.Sem

/-- The reference runs and leaves its arguments. -/
theorem frame : quiescent_RefFeatures2Ideal := fun m g _ =>
  (θ_run Cert.RefFeatures2Ideal.defs _ _).mono (fun r h => ⟨fun c => (h c).2, sem_eq_zero_of_no_sems (by decide) r.2⟩)
    (Cert.RefFeatures2Ideal.Value.run (F := Ideal) m g)

/-- The mask constant's word is named. -/
theorem preserves : preserves_Features2_Features2Ideal :=
  IdealRules.named_const.statement Cert.Features2Ideal.κ "mask" .f32 0xF149F2CA#32 ⊥ rfl

/-- The kernel's result is the reference's. -/
theorem algebraic : algebraic_Features2Ideal_RefFeatures2Ideal_pre_near2 := by
  intro m g m' g' hp ha
  refine ⟨fun c => G m c, run m g, ?_⟩
  refine (θ_run _ _ _).mono (fun r h c => ⟨(h c).1.trans ?_, (h c).2⟩) (Cert.RefFeatures2Ideal.Value.run m' g')
  rw [Cert.RefFeature2.result, (ha c).1, (ha c).2.1, (ha c).2.2.1, (ha c).2.2.2.1, (ha c).2.2.2.2]
  exact funext fun i => (Cert.RefFeature2.value _ _ _ _ _ (hp c) i).symm

end Cert.Feature2

end
-- ==== Proof.Level0.lean ====
/- The first attention call (4096 points of 64 channels, 20 neighbours): its block as the generic one, and its run. -/
module

public import proofs.«01_k».proof.Proof.Block
public import proofs.«01_k».proof.Proof.Gen.Attention0Ideal.Value
public import Idealize.ShloMosaic.Lib.Pipeline.ValueKit

@[expose] public section

set_option maxRecDepth 16384

noncomputable section

namespace Cert.Level0

open Cert.Attention0Ideal Cert.Attention0Ideal.Gen Cert.Attention0Ideal.Value Idealize.ShloMosaic Idealize.ShloMosaic.TcCoe Idealize.SL.Sem

/-- The shape relations at this level's sizes. -/
theorem fits : Block.Fits 512 4096 64 32 192 where
  q3 := shapeCasts_S1x512x3_S512x3
  p3 := shapeCasts_S1x3x4096_S3x4096
  sq := reduces_S512x3_S512
  sp := reduces_S3x4096_S4096
  col := shapeCasts_S512_S512x1
  row := shapeCasts_S4096_S1x4096
  wide := broadcasts_S512x1_S512x4096
  tall := broadcasts_S1x4096_S512x4096
  red := reduces_S512x4096_S512
  hq := shapeCasts_S1x512x64_S512x64
  hp := shapeCasts_S1x4096x64_S4096x64
  ht := shapeCasts_S1x64x4096_S64x4096
  out := shapeCasts_S512x64_S1x512x64
  wq := slices_S64x192_o0_0_S64x64
  flip := transposes_S64x32_p1_0_S32x64
  both := concatenates_S512x32_S512x32_S512x64_d1
  thin := bitsLt_bf16_f32

/-- What the kernel stores is the generic block of its windows. -/
theorem out_eq (x0 : Vec Ideal S1x512x64 .f32) (x1 : Vec Ideal S1x4096x64 .f32) (x2 : Vec Ideal S1x64x4096 .f32)
    (x3 : Vec Ideal S1x512x3 .f32) (x4 : Vec Ideal S1x3x4096 .f32) (x5 : Vec Ideal S64x192 .f32) (x6 : Vec Ideal S64x64 .f32) :
    out0_7 x0 x1 x2 x3 x4 x5 x6 = Block.block fits slices_S512x64_o0_0_S512x32 slices_S512x64_o0_32_S512x32
      slices_S64x192_o0_64_S64x32 slices_S64x192_o0_96_S64x32 slices_S64x192_o0_128_S64x32
      slices_S64x192_o0_160_S64x32 (Named.named κ "scale" 0x3E3504F3#32) (Named.named κ "mask" 0xF149F2CA#32) 20
      x0 x1 x2 x3 x4 x5 x6 := by
  unfold_out out0_7
  rw [View.canon_unit_zero Reads.zero3]
  rw [show View.ld x3 r0_0 = x3 from View.ld_unit_zero Reads.zero3 _ _,
    show View.ld x4 r0_1 = x4 from View.ld_unit_zero Reads.zero3 _ _,
    show View.ld x0 r0_2 = x0 from View.ld_unit_zero Reads.zero3 _ _,
    show View.ld x1 r0_3 = x1 from View.ld_unit_zero Reads.zero3 _ _,
    show View.ld x2 r0_4 = x2 from View.ld_unit_zero Reads.zero3 _ _,
    show View.ld x5 r0_5 = x5 from View.ld_unit_zero Reads.zero2 _ _,
    show View.ld x6 r0_6 = x6 from View.ld_unit_zero Reads.zero2 _ _]
  rfl

variable (m : (ℓ : Loc nD τ sig) → Buf (Elt Ideal) ℓ)

/-- Attention of every point, as a function of the arguments. -/
def G (c : Dev nD) : Vec Ideal S2x4096x64 .f32 := fun i =>
  Block.attn 64 32 20 (Named.named κ "scale" 0x3E3504F3#32 : Ideal .f32)
    (fun n y => m ((c : Thread nD τ).loc main_arg0) (ix3 (i 0) n y)) (fun n x => m ((c : Thread nD τ).loc main_arg1) (ix3 (i 0) n x))
    (fun y x => m ((c : Thread nD τ).loc main_arg2) (ix2 y x)) (fun y x => m ((c : Thread nD τ).loc main_arg3) (ix2 y x)) (i 1) (i 2)

/-- Of grid point `t`: the batch it works on. -/
def batch (t : Fin cfg0.N) : Fin 2 := ⟨t.1 / 8, by have := t.2; have : cfg0.N = 16 := rfl; omega⟩

/-- Of grid point `t`: the point its `i`-th query is. -/
def query (t : Fin cfg0.N) (i : Fin 512) : Fin 4096 := ⟨t.1 % 8 * 512 + i.1, by omega⟩

/-- Each window's block index at each grid point. -/
theorem index : ∀ t : Fin cfg0.N,
    (win0_0.index t (0 : Fin 3) = t.1 / 8 ∧ win0_0.index t (1 : Fin 3) = t.1 % 8 ∧ win0_0.index t (2 : Fin 3) = 0)
    ∧ (win0_1.index t (0 : Fin 3) = t.1 / 8 ∧ win0_1.index t (1 : Fin 3) = 0 ∧ win0_1.index t (2 : Fin 3) = 0)
    ∧ (win0_2.index t (0 : Fin 3) = t.1 / 8 ∧ win0_2.index t (1 : Fin 3) = 0 ∧ win0_2.index t (2 : Fin 3) = 0)
    ∧ (win0_3.index t (0 : Fin 3) = t.1 / 8 ∧ win0_3.index t (1 : Fin 3) = t.1 % 8 ∧ win0_3.index t (2 : Fin 3) = 0)
    ∧ (win0_4.index t (0 : Fin 3) = t.1 / 8 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 8 ∧ win0_7.index t (1 : Fin 3) = t.1 % 8 ∧ win0_7.index t (2 : Fin 3) = 0) :=
  (by decide +kernel : ∀ t : Fin grid0.N, _)

/-- The block read at a place is the array read at the block's place. -/
theorem reads (c : Dev nD) (t : Fin cfg0.N) :
    (∀ (i : Fin 512) (y : Fin 64), iblk m c 0 t (ix3 0 i y) = m ((c : Thread nD τ).loc main_arg0) (ix3 (batch t) (query t i) y))
    ∧ (∀ (i : Fin 4096) (y : Fin 64), iblk m c 1 t (ix3 0 i y) = m ((c : Thread nD τ).loc main_arg0) (ix3 (batch t) i y))
    ∧ (∀ (i : Fin 4096) (y : Fin 64), iblk m c 2 t (ix3 0 y i) = m ((c : Thread nD τ).loc main_arg0) (ix3 (batch t) i y))
    ∧ (∀ (i : Fin 512) (y : Fin 3), iblk m c 3 t (ix3 0 i y) = m ((c : Thread nD τ).loc main_arg1) (ix3 (batch t) (query t i) y))
    ∧ (∀ (i : Fin 4096) (y : Fin 3), iblk m c 4 t (ix3 0 y i) = m ((c : Thread nD τ).loc main_arg1) (ix3 (batch t) i y))
    ∧ iblk m c 5 t = m ((c : Thread nD τ).loc main_arg2)
    ∧ iblk m c 6 t = m ((c : Thread nD τ).loc main_arg3) := by
  have e0 : V m c main_v0 = transpose S2x64x4096 [0, 2, 1] (m ((c : Thread nD τ).loc main_arg0))
    transposes_S2x4096x64_S2x64x4096_0_2_1 := rfl
  have e1 : V m c main_v1 = transpose S2x3x4096 [0, 2, 1] (m ((c : Thread nD τ).loc main_arg1))
    transposes_S2x4096x3_S2x3x4096_0_2_1 := rfl
  refine ⟨fun i y => ?_, fun i y => ?_, fun i y => ?_, fun i y => ?_, fun i y => ?_, funext fun z => ?_, funext fun z => ?_⟩
  · blk_ext [iblk, V, batch, query, index t]
  · blk_ext [iblk, V, batch, query, index t]
  · trans V m c main_v0 (ix3 (batch t) y i)
    · blk_ext [iblk, batch, query, index t]
    · rw [e0]
      pointwise
  · blk_ext [iblk, V, batch, query, index t]
  · trans V m c main_v1 (ix3 (batch t) y i)
    · blk_ext [iblk, batch, query, index t]
    · rw [e1]
      pointwise
  · blk_ext [iblk, V, batch, query, index t]
  · blk_ext [iblk, V, batch, query, index t]

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x512x64.Idx) :
    Block.block fits slices_S512x64_o0_0_S512x32 slices_S512x64_o0_32_S512x32
      slices_S64x192_o0_64_S64x32 slices_S64x192_o0_96_S64x32 slices_S64x192_o0_128_S64x32
      slices_S64x192_o0_160_S64x32 (Named.named κ "scale" 0x3E3504F3#32) (Named.named κ "mask" 0xF149F2CA#32) 20
      (iblk m c 0 t) (iblk m c 1 t) (iblk m c 2 t) (iblk m c 3 t) (iblk m c 4 t) (iblk m c 5 t) (iblk m c 6 t) y
      = G m c (((View.whole main_v2).slice (win0_7.rect t)).emb y) := by
  obtain ⟨r0, r1, r2, r3, r4, r5, r6⟩ := reads m c t
  obtain ⟨b, i, j, rfl⟩ : ∃ (b : Fin 1) (i : Fin 512) (j : Fin 64), y = ix3 b i j := ⟨y 0, y 1, y 2, eq_ix3 y⟩
  have e : ((View.whole main_v2).slice (win0_7.rect t)).emb (ix3 b i j) = ix3 (batch t) (query t i) j := by
    blk_ext [batch, query, index t]
  rw [e, r5, r6]
  exact Block.block_apply fits _ _ _ _ _ _ rfl rfl _ _ mask_bot 20 _ _ _ _ _ _ _
    (fun n y => m ((c : Thread nD τ).loc main_arg0) (ix3 (batch t) n y))
    (fun n y => m ((c : Thread nD τ).loc main_arg1) (ix3 (batch t) n y)) (query t) r0 r1 r2 r3 r4 b i j

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Level0

end
-- ==== Proof.Ref0.lean ====
/- The first attention call against its reference: the reference's result as the generic term, the precondition read, and
   the claim that the two programs leave the same result. -/
module

public import proofs.«01_k».proof.Defs
public import proofs.«01_k».proof.Proof.Apart
public import proofs.«01_k».proof.Proof.Level0
public import proofs.«01_k».proof.Proof.Gen.RefAttention0Ideal.Read
public import proofs.«01_k».proof.Proof.Gen.RefAttention0Ideal.Run
public import proofs.«01_k».proof.Proof.Gen.Pre_apart0

@[expose] public section

set_option maxRecDepth 16384

noncomputable section

namespace Cert.Ref0

open Cert.RefAttention0Ideal Cert.RefAttention0Ideal.Gen Cert.RefAttention0Ideal.Value Idealize.ShloMosaic Idealize.ShloMosaic.TcCoe

/-- The shape relations of the reference at this level's sizes. -/
theorem fits : RefBlock.Fits 2 4096 64 32 192 20 81920 where
  sumq := reducesTo_S2x4096x3_S2x4096_d2
  sum := reducesTo_S2x4096x3_S2x4096_d2
  one := h_S_
  col := bcast_S2x4096_S2x4096x1_0_1
  row := bcast_S2x4096_S2x1x4096_0_2
  along := bcast_S2x4096x1_S2x4096x4096_0_1_2
  down := bcast_S2x1x4096_S2x4096x4096_0_1_2
  all := bcast_S_S2x4096x4096
  dot := dot_S2x4096x3_S2x4096x3_S2x4096x4096_2_2_1_1_0_0_wf
  proj := dot_S2x4096x64_S64x192_S2x4096x192_2_0_01_1_n_n_wf
  sq := slices_S2x4096x192_S2x4096x64_0_0_0
  sk := slices_S2x4096x192_S2x4096x64_0_0_64
  sv := slices_S2x4096x192_S2x4096x64_0_0_128
  top := sliceFits_S2x4096x4096_S2x4096x20
  cut := shapeCasts_S2x4096x64_S2x4096x2x32
  flat := shapeCasts_S2x4096x20_S2x81920x1
  each := bcast_S_S2x81920x1
  rows := gather_S2x4096x64_S2x81920x1_S2x81920x64_2_1_0_0_1_2_1164_wf
  per := shapeCasts_S2x81920x64_S2x4096x20x64
  cut5 := shapeCasts_S2x4096x20x64_S2x4096x20x2x32
  logit := dot_S2x4096x2x32_S2x4096x20x2x32_S2x4096x2x20_3_4_n_2_012_013_wf
  all4 := bcast_S_S2x4096x2x20
  red := reducesTo_S2x4096x2x20_S2x4096x2_d3
  all3 := bcast_S_S2x4096x2
  col4 := bcast_S2x4096x2_S2x4096x2x1_0_1_2
  along4 := bcast_S2x4096x2x1_S2x4096x2x20_0_1_2_3
  mean := dot_S2x4096x2x20_S2x4096x20x2x32_S2x4096x2x32_3_2_n_4_012_013_wf
  join := shapeCasts_S2x4096x2x32_S2x4096x64
  out := dot_S2x4096x64_S64x64_S2x4096x64_2_0_01_1_n_n_wf

/-- The reference's result is the generic term. -/
theorem result (m : (ℓ : Loc nD τ sig) → Buf (Elt Ideal) ℓ) (c : Dev nD) :
    res_main_v45 m c = RefBlock.term fits 4096#32 0x42000000#32 (m ((c : Thread nD τ).loc main_arg0)) (m ((c : Thread nD τ).loc main_arg1))
      (m ((c : Thread nD τ).loc main_arg2)) (m ((c : Thread nD τ).loc main_arg3)) := by
  rw [Read.val_main_v45_eq]
  rfl

/-- Those of the precondition. -/
theorem told : Apart.Told 2 4096 4096 20 21 where
  toPairs := fits.toPairs
  top := Cert.Pre_apart0.Gen.sliceFits_S2x4096x4096_S2x4096x21
  late := Cert.Pre_apart0.Gen.slices_S2x4096x21_S2x4096x20_0_0_1
  early := Cert.Pre_apart0.Gen.slices_S2x4096x21_S2x4096x20_0_0_0
  red := Cert.Pre_apart0.Gen.reducesTo_S2x4096x20_S_d0_1_2
  redK := Cert.Pre_apart0.Gen.reducesTo_S2x4096x21_S_d0_1_2
  each := Cert.Pre_apart0.Gen.bcast_S_S2x4096x21

/-- The precondition is the generic one. -/
theorem pre (H : Vec Ideal S2x4096x64 .f32) (C : Vec Ideal S2x4096x3 .f32) (W : Vec Ideal S64x192 .f32) (O : Vec Ideal S64x64 .f32) :
    Cert.Pre_apart0.fn (F := Ideal) H C W O
      = andi (andi
          (Apart.finite Cert.Pre_apart0.Gen.reducesTo_S2x4096x64_S_d0_1_2 h_S_ Cert.Pre_apart0.Gen.bcast_S_S2x4096x64 H)
          (Apart.finite Cert.Pre_apart0.Gen.reducesTo_S64x192_S_d0_1 h_S_ Cert.Pre_apart0.Gen.bcast_S_S64x192 W))
        (Apart.told told C C) := rfl

/-- The root of the number of channels in a head. -/
theorem root : Ideal.sqrt (Ideal.ofBits .f32 0x42000000#32) = ((Real.sqrt 32 : ℝ) : EReal) := by
  have : Ideal.ofBits .f32 0x42000000#32 = ((32 : ℝ) : EReal) := by
    simp [Ideal.ofBits, Ideal.ieee]
    rw [← EReal.coe_mul]
    norm_num
  rw [this]
  exact if_neg (by norm_num)

/-- The kernel's scale is its inverse. -/
theorem scale : ((Named.named Cert.Attention0Ideal.κ "scale" 0x3E3504F3#32 : Ideal .f32) : EReal) = (((Real.sqrt 32)⁻¹ : ℝ) : EReal) := rfl

/-- Under the precondition the kernel's attention is the reference's term. -/
theorem value (H : Vec Ideal S2x4096x64 .f32) (C : Vec Ideal S2x4096x3 .f32) (W : Vec Ideal S64x192 .f32) (O : Vec Ideal S64x64 .f32)
    (h : Cert.Pre_apart0.fn (F := Ideal) H C W O = fun _ => 1#1) (i : S2x4096x64.Idx) :
    Block.attn 64 32 20 (Named.named Cert.Attention0Ideal.κ "scale" 0x3E3504F3#32 : Ideal .f32) (fun n y => H (ix3 (i 0) n y)) (fun n x => C (ix3 (i 0) n x))
      (fun y x => W (ix2 y x)) (fun y x => O (ix2 y x)) (i 1) (i 2)
      = RefBlock.term fits 4096#32 0x42000000#32 H C W O i := by
  rw [pre] at h
  obtain ⟨h, hC⟩ := Apart.both (congrFun h ix0)
  obtain ⟨hH, hW⟩ := Apart.both h
  rw [show RefBlock.term fits 4096#32 0x42000000#32 H C W O i = RefBlock.term fits 4096#32 0x42000000#32 H C W O (ix3 (i 0) (i 1) (i 2))
    from congrArg _ (eq_ix3 i)]
  exact RefBlock.attn_eq fits _ _ H C W O (by decide) (by decide) (by decide) rfl rfl rfl _
    (by rw [root]; exact (EReal.coe_pos.mpr (Real.sqrt_pos.mpr (by norm_num))).ne')
    (by rw [scale, root]; exact (EReal.coe_inv _)) ⟨_, scale⟩ _ _ _
    (Apart.told_apply told C C rfl (by decide) hC _ _) (fun n y => Apart.finite_apply _ _ _ H hH _)
    (fun y x => Apart.finite_apply _ _ _ W hW _)

end Cert.Ref0

namespace Cert.Level0

open Idealize.ShloMosaic Idealize.ShloMosaic.TcCoe Idealize.SL.Sem

/-- The reference runs and leaves its arguments. -/
theorem frame : quiescent_RefAttention0Ideal := fun m g _ =>
  (θ_run Cert.RefAttention0Ideal.defs _ _).mono (fun r h => ⟨fun c => (h c).2, sem_eq_zero_of_no_sems (by decide) r.2⟩)
    (Cert.RefAttention0Ideal.Value.run (F := Ideal) m g)

/-- The two constants' words are named. -/
theorem preserves : preserves_Attention0_Attention0Ideal :=
  ⟨IdealRules.named_const.statement Cert.Attention0Ideal.κ "scale" .f32 0x3E3504F3#32 (((Real.sqrt 32)⁻¹ : ℝ) : EReal) rfl,
    IdealRules.named_const.statement Cert.Attention0Ideal.κ "mask" .f32 0xF149F2CA#32 ⊥ rfl⟩

/-- The kernel's result is the reference's. -/
theorem algebraic : algebraic_Attention0Ideal_RefAttention0Ideal_pre_apart0 := by
  intro m g m' g' hp ha
  refine ⟨fun c => G m c, run m g, ?_⟩
  refine (θ_run _ _ _).mono (fun r h c => ⟨(h c).1.trans ?_, (h c).2⟩) (Cert.RefAttention0Ideal.Value.run m' g')
  rw [Cert.Ref0.result, (ha c).1, (ha c).2.1, (ha c).2.2.1, (ha c).2.2.2]
  exact funext fun i => (Cert.Ref0.value _ _ _ _ (hp c) i).symm

end Cert.Level0

end
-- ==== Proof.Level1.lean ====
/- The second attention call (1024 points of 128 channels, 20 neighbours): its block as the generic one, and its run. -/
module

public import proofs.«01_k».proof.Proof.Block
public import proofs.«01_k».proof.Proof.Gen.Attention1Ideal.Value
public import Idealize.ShloMosaic.Lib.Pipeline.ValueKit

@[expose] public section

set_option maxRecDepth 16384

noncomputable section

namespace Cert.Level1

open Cert.Attention1Ideal Cert.Attention1Ideal.Gen Cert.Attention1Ideal.Value Idealize.ShloMosaic Idealize.ShloMosaic.TcCoe Idealize.SL.Sem

/-- The shape relations at this level's sizes. -/
theorem fits : Block.Fits 512 1024 128 64 384 where
  q3 := shapeCasts_S1x512x3_S512x3
  p3 := shapeCasts_S1x3x1024_S3x1024
  sq := reduces_S512x3_S512
  sp := reduces_S3x1024_S1024
  col := shapeCasts_S512_S512x1
  row := shapeCasts_S1024_S1x1024
  wide := broadcasts_S512x1_S512x1024
  tall := broadcasts_S1x1024_S512x1024
  red := reduces_S512x1024_S512
  hq := shapeCasts_S1x512x128_S512x128
  hp := shapeCasts_S1x1024x128_S1024x128
  ht := shapeCasts_S1x128x1024_S128x1024
  out := shapeCasts_S512x128_S1x512x128
  wq := slices_S128x384_o0_0_S128x128
  flip := transposes_S128x64_p1_0_S64x128
  both := concatenates_S512x64_S512x64_S512x128_d1
  thin := bitsLt_bf16_f32

/-- What the kernel stores is the generic block of its windows. -/
theorem out_eq (x0 : Vec Ideal S1x512x128 .f32) (x1 : Vec Ideal S1x1024x128 .f32) (x2 : Vec Ideal S1x128x1024 .f32)
    (x3 : Vec Ideal S1x512x3 .f32) (x4 : Vec Ideal S1x3x1024 .f32) (x5 : Vec Ideal S128x384 .f32) (x6 : Vec Ideal S128x128 .f32) :
    out0_7 x0 x1 x2 x3 x4 x5 x6 = Block.block fits slices_S512x128_o0_0_S512x64 slices_S512x128_o0_64_S512x64
      slices_S128x384_o0_128_S128x64 slices_S128x384_o0_192_S128x64 slices_S128x384_o0_256_S128x64
      slices_S128x384_o0_320_S128x64 (Scalar.ofBits .f32 0x3E000000#32) (Named.named κ "mask" 0xF149F2CA#32) 20
      x0 x1 x2 x3 x4 x5 x6 := by
  unfold_out out0_7
  rw [View.canon_unit_zero Reads.zero3]
  rw [show View.ld x3 r0_0 = x3 from View.ld_unit_zero Reads.zero3 _ _,
    show View.ld x4 r0_1 = x4 from View.ld_unit_zero Reads.zero3 _ _,
    show View.ld x0 r0_2 = x0 from View.ld_unit_zero Reads.zero3 _ _,
    show View.ld x1 r0_3 = x1 from View.ld_unit_zero Reads.zero3 _ _,
    show View.ld x2 r0_4 = x2 from View.ld_unit_zero Reads.zero3 _ _,
    show View.ld x5 r0_5 = x5 from View.ld_unit_zero Reads.zero2 _ _,
    show View.ld x6 r0_6 = x6 from View.ld_unit_zero Reads.zero2 _ _]
  rfl

variable (m : (ℓ : Loc nD τ sig) → Buf (Elt Ideal) ℓ)

/-- Attention of every point, as a function of the arguments. -/
def G (c : Dev nD) : Vec Ideal S2x1024x128 .f32 := fun i =>
  Block.attn 128 64 20 (Scalar.ofBits (F := Ideal) .f32 0x3E000000#32)
    (fun n y => m ((c : Thread nD τ).loc main_arg0) (ix3 (i 0) n y)) (fun n x => m ((c : Thread nD τ).loc main_arg1) (ix3 (i 0) n x))
    (fun y x => m ((c : Thread nD τ).loc main_arg2) (ix2 y x)) (fun y x => m ((c : Thread nD τ).loc main_arg3) (ix2 y x)) (i 1) (i 2)

/-- Of grid point `t`: the batch it works on. -/
def batch (t : Fin cfg0.N) : Fin 2 := ⟨t.1 / 2, by have := t.2; have : cfg0.N = 4 := rfl; omega⟩

/-- Of grid point `t`: the point its `i`-th query is. -/
def query (t : Fin cfg0.N) (i : Fin 512) : Fin 1024 := ⟨t.1 % 2 * 512 + i.1, by omega⟩

/-- Each window's block index at each grid point. -/
theorem index : ∀ t : Fin cfg0.N,
    (win0_0.index t (0 : Fin 3) = t.1 / 2 ∧ win0_0.index t (1 : Fin 3) = t.1 % 2 ∧ win0_0.index t (2 : Fin 3) = 0)
    ∧ (win0_1.index t (0 : Fin 3) = t.1 / 2 ∧ win0_1.index t (1 : Fin 3) = 0 ∧ win0_1.index t (2 : Fin 3) = 0)
    ∧ (win0_2.index t (0 : Fin 3) = t.1 / 2 ∧ win0_2.index t (1 : Fin 3) = 0 ∧ win0_2.index t (2 : Fin 3) = 0)
    ∧ (win0_3.index t (0 : Fin 3) = t.1 / 2 ∧ win0_3.index t (1 : Fin 3) = t.1 % 2 ∧ win0_3.index t (2 : Fin 3) = 0)
    ∧ (win0_4.index t (0 : Fin 3) = t.1 / 2 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 2 ∧ win0_7.index t (1 : Fin 3) = t.1 % 2 ∧ win0_7.index t (2 : Fin 3) = 0) :=
  (by decide +kernel : ∀ t : Fin grid0.N, _)

/-- The block read at a place is the array read at the block's place. -/
theorem reads (c : Dev nD) (t : Fin cfg0.N) :
    (∀ (i : Fin 512) (y : Fin 128), iblk m c 0 t (ix3 0 i y) = m ((c : Thread nD τ).loc main_arg0) (ix3 (batch t) (query t i) y))
    ∧ (∀ (i : Fin 1024) (y : Fin 128), iblk m c 1 t (ix3 0 i y) = m ((c : Thread nD τ).loc main_arg0) (ix3 (batch t) i y))
    ∧ (∀ (i : Fin 1024) (y : Fin 128), iblk m c 2 t (ix3 0 y i) = m ((c : Thread nD τ).loc main_arg0) (ix3 (batch t) i y))
    ∧ (∀ (i : Fin 512) (y : Fin 3), iblk m c 3 t (ix3 0 i y) = m ((c : Thread nD τ).loc main_arg1) (ix3 (batch t) (query t i) y))
    ∧ (∀ (i : Fin 1024) (y : Fin 3), iblk m c 4 t (ix3 0 y i) = m ((c : Thread nD τ).loc main_arg1) (ix3 (batch t) i y))
    ∧ iblk m c 5 t = m ((c : Thread nD τ).loc main_arg2)
    ∧ iblk m c 6 t = m ((c : Thread nD τ).loc main_arg3) := by
  have e0 : V m c main_v0 = transpose S2x128x1024 [0, 2, 1] (m ((c : Thread nD τ).loc main_arg0))
    transposes_S2x1024x128_S2x128x1024_0_2_1 := rfl
  have e1 : V m c main_v1 = transpose S2x3x1024 [0, 2, 1] (m ((c : Thread nD τ).loc main_arg1))
    transposes_S2x1024x3_S2x3x1024_0_2_1 := rfl
  refine ⟨fun i y => ?_, fun i y => ?_, fun i y => ?_, fun i y => ?_, fun i y => ?_, funext fun z => ?_, funext fun z => ?_⟩
  · blk_ext [iblk, V, batch, query, index t]
  · blk_ext [iblk, V, batch, query, index t]
  · trans V m c main_v0 (ix3 (batch t) y i)
    · blk_ext [iblk, batch, query, index t]
    · rw [e0]
      pointwise
  · blk_ext [iblk, V, batch, query, index t]
  · trans V m c main_v1 (ix3 (batch t) y i)
    · blk_ext [iblk, batch, query, index t]
    · rw [e1]
      pointwise
  · blk_ext [iblk, V, batch, query, index t]
  · blk_ext [iblk, V, batch, query, index t]

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x512x128.Idx) :
    Block.block fits slices_S512x128_o0_0_S512x64 slices_S512x128_o0_64_S512x64
      slices_S128x384_o0_128_S128x64 slices_S128x384_o0_192_S128x64 slices_S128x384_o0_256_S128x64
      slices_S128x384_o0_320_S128x64 (Scalar.ofBits .f32 0x3E000000#32) (Named.named κ "mask" 0xF149F2CA#32) 20
      (iblk m c 0 t) (iblk m c 1 t) (iblk m c 2 t) (iblk m c 3 t) (iblk m c 4 t) (iblk m c 5 t) (iblk m c 6 t) y
      = G m c (((View.whole main_v2).slice (win0_7.rect t)).emb y) := by
  obtain ⟨r0, r1, r2, r3, r4, r5, r6⟩ := reads m c t
  obtain ⟨b, i, j, rfl⟩ : ∃ (b : Fin 1) (i : Fin 512) (j : Fin 128), y = ix3 b i j := ⟨y 0, y 1, y 2, eq_ix3 y⟩
  have e : ((View.whole main_v2).slice (win0_7.rect t)).emb (ix3 b i j) = ix3 (batch t) (query t i) j := by
    blk_ext [batch, query, index t]
  rw [e, r5, r6]
  exact Block.block_apply fits _ _ _ _ _ _ rfl rfl _ _ mask_bot 20 _ _ _ _ _ _ _
    (fun n y => m ((c : Thread nD τ).loc main_arg0) (ix3 (batch t) n y))
    (fun n y => m ((c : Thread nD τ).loc main_arg1) (ix3 (batch t) n y)) (query t) r0 r1 r2 r3 r4 b i j

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Level1

end
-- ==== Proof.Ref1.lean ====
/- The second attention call against its reference: the reference's result as the generic term, the precondition read, and
   the claim that the two programs leave the same result. -/
module

public import proofs.«01_k».proof.Defs
public import proofs.«01_k».proof.Proof.Apart
public import proofs.«01_k».proof.Proof.Level1
public import proofs.«01_k».proof.Proof.Gen.RefAttention1Ideal.Read
public import proofs.«01_k».proof.Proof.Gen.RefAttention1Ideal.Run
public import proofs.«01_k».proof.Proof.Gen.Pre_apart1

@[expose] public section

set_option maxRecDepth 16384

noncomputable section

namespace Cert.Ref1

open Cert.RefAttention1Ideal Cert.RefAttention1Ideal.Gen Cert.RefAttention1Ideal.Value Idealize.ShloMosaic Idealize.ShloMosaic.TcCoe

/-- The shape relations of the reference at this level's sizes. -/
theorem fits : RefBlock.Fits 2 1024 128 64 384 20 20480 where
  sumq := reducesTo_S2x1024x3_S2x1024_d2
  sum := reducesTo_S2x1024x3_S2x1024_d2
  one := h_S_
  col := bcast_S2x1024_S2x1024x1_0_1
  row := bcast_S2x1024_S2x1x1024_0_2
  along := bcast_S2x1024x1_S2x1024x1024_0_1_2
  down := bcast_S2x1x1024_S2x1024x1024_0_1_2
  all := bcast_S_S2x1024x1024
  dot := dot_S2x1024x3_S2x1024x3_S2x1024x1024_2_2_1_1_0_0_wf
  proj := dot_S2x1024x128_S128x384_S2x1024x384_2_0_01_1_n_n_wf
  sq := slices_S2x1024x384_S2x1024x128_0_0_0
  sk := slices_S2x1024x384_S2x1024x128_0_0_128
  sv := slices_S2x1024x384_S2x1024x128_0_0_256
  top := sliceFits_S2x1024x1024_S2x1024x20
  cut := shapeCasts_S2x1024x128_S2x1024x2x64
  flat := shapeCasts_S2x1024x20_S2x20480x1
  each := bcast_S_S2x20480x1
  rows := gather_S2x1024x128_S2x20480x1_S2x20480x128_2_1_0_0_1_2_11128_wf
  per := shapeCasts_S2x20480x128_S2x1024x20x128
  cut5 := shapeCasts_S2x1024x20x128_S2x1024x20x2x64
  logit := dot_S2x1024x2x64_S2x1024x20x2x64_S2x1024x2x20_3_4_n_2_012_013_wf
  all4 := bcast_S_S2x1024x2x20
  red := reducesTo_S2x1024x2x20_S2x1024x2_d3
  all3 := bcast_S_S2x1024x2
  col4 := bcast_S2x1024x2_S2x1024x2x1_0_1_2
  along4 := bcast_S2x1024x2x1_S2x1024x2x20_0_1_2_3
  mean := dot_S2x1024x2x20_S2x1024x20x2x64_S2x1024x2x64_3_2_n_4_012_013_wf
  join := shapeCasts_S2x1024x2x64_S2x1024x128
  out := dot_S2x1024x128_S128x128_S2x1024x128_2_0_01_1_n_n_wf

/-- The reference's result is the generic term. -/
theorem result (m : (ℓ : Loc nD τ sig) → Buf (Elt Ideal) ℓ) (c : Dev nD) :
    res_main_v45 m c = RefBlock.term fits 1024#32 0x42800000#32 (m ((c : Thread nD τ).loc main_arg0)) (m ((c : Thread nD τ).loc main_arg1))
      (m ((c : Thread nD τ).loc main_arg2)) (m ((c : Thread nD τ).loc main_arg3)) := by
  rw [Read.val_main_v45_eq]
  rfl

/-- Those of the precondition. -/
theorem told : Apart.Told 2 1024 1024 20 21 where
  toPairs := fits.toPairs
  top := Cert.Pre_apart1.Gen.sliceFits_S2x1024x1024_S2x1024x21
  late := Cert.Pre_apart1.Gen.slices_S2x1024x21_S2x1024x20_0_0_1
  early := Cert.Pre_apart1.Gen.slices_S2x1024x21_S2x1024x20_0_0_0
  red := Cert.Pre_apart1.Gen.reducesTo_S2x1024x20_S_d0_1_2
  redK := Cert.Pre_apart1.Gen.reducesTo_S2x1024x21_S_d0_1_2
  each := Cert.Pre_apart1.Gen.bcast_S_S2x1024x21

/-- The precondition is the generic one. -/
theorem pre (H : Vec Ideal S2x1024x128 .f32) (C : Vec Ideal S2x1024x3 .f32) (W : Vec Ideal S128x384 .f32) (O : Vec Ideal S128x128 .f32) :
    Cert.Pre_apart1.fn (F := Ideal) H C W O
      = andi (andi
          (Apart.finite Cert.Pre_apart1.Gen.reducesTo_S2x1024x128_S_d0_1_2 h_S_ Cert.Pre_apart1.Gen.bcast_S_S2x1024x128 H)
          (Apart.finite Cert.Pre_apart1.Gen.reducesTo_S128x384_S_d0_1 h_S_ Cert.Pre_apart1.Gen.bcast_S_S128x384 W))
        (Apart.told told C C) := rfl

/-- The root of the number of channels in a head. -/
theorem root : Ideal.sqrt (Ideal.ofBits .f32 0x42800000#32) = ((Real.sqrt 64 : ℝ) : EReal) := by
  have : Ideal.ofBits .f32 0x42800000#32 = ((64 : ℝ) : EReal) := by
    simp [Ideal.ofBits, Ideal.ieee]
    rw [← EReal.coe_mul]
    norm_num
  rw [this]
  exact if_neg (by norm_num)

/-- The kernel's scale is its inverse. -/
theorem scale : (Scalar.ofBits (F := Ideal) .f32 0x3E000000#32 : EReal) = (((Real.sqrt 64)⁻¹ : ℝ) : EReal) := by
  show Ideal.ofBits .f32 0x3E000000#32 = _
  rw [show (Real.sqrt 64) = 8 by rw [show (64 : ℝ) = 8 ^ 2 by norm_num, Real.sqrt_sq (by norm_num)]]
  simp [Ideal.ofBits, Ideal.ieee]
  rw [← EReal.coe_mul]
  norm_num

/-- Under the precondition the kernel's attention is the reference's term. -/
theorem value (H : Vec Ideal S2x1024x128 .f32) (C : Vec Ideal S2x1024x3 .f32) (W : Vec Ideal S128x384 .f32) (O : Vec Ideal S128x128 .f32)
    (h : Cert.Pre_apart1.fn (F := Ideal) H C W O = fun _ => 1#1) (i : S2x1024x128.Idx) :
    Block.attn 128 64 20 (Scalar.ofBits (F := Ideal) .f32 0x3E000000#32) (fun n y => H (ix3 (i 0) n y)) (fun n x => C (ix3 (i 0) n x))
      (fun y x => W (ix2 y x)) (fun y x => O (ix2 y x)) (i 1) (i 2)
      = RefBlock.term fits 1024#32 0x42800000#32 H C W O i := by
  rw [pre] at h
  obtain ⟨h, hC⟩ := Apart.both (congrFun h ix0)
  obtain ⟨hH, hW⟩ := Apart.both h
  rw [show RefBlock.term fits 1024#32 0x42800000#32 H C W O i = RefBlock.term fits 1024#32 0x42800000#32 H C W O (ix3 (i 0) (i 1) (i 2))
    from congrArg _ (eq_ix3 i)]
  exact RefBlock.attn_eq fits _ _ H C W O (by decide) (by decide) (by decide) rfl rfl rfl _
    (by rw [root]; exact (EReal.coe_pos.mpr (Real.sqrt_pos.mpr (by norm_num))).ne')
    (by rw [scale, root]; exact (EReal.coe_inv _)) ⟨_, scale⟩ _ _ _
    (Apart.told_apply told C C rfl (by decide) hC _ _) (fun n y => Apart.finite_apply _ _ _ H hH _)
    (fun y x => Apart.finite_apply _ _ _ W hW _)

end Cert.Ref1

namespace Cert.Level1

open Idealize.ShloMosaic Idealize.ShloMosaic.TcCoe Idealize.SL.Sem

/-- The reference runs and leaves its arguments. -/
theorem frame : quiescent_RefAttention1Ideal := fun m g _ =>
  (θ_run Cert.RefAttention1Ideal.defs _ _).mono (fun r h => ⟨fun c => (h c).2, sem_eq_zero_of_no_sems (by decide) r.2⟩)
    (Cert.RefAttention1Ideal.Value.run (F := Ideal) m g)

/-- The mask's word is named −∞. -/
theorem preserves : preserves_Attention1_Attention1Ideal :=
  IdealRules.named_const.statement Cert.Attention1Ideal.κ "mask" .f32 0xF149F2CA#32 ⊥ rfl

/-- The kernel's result is the reference's. -/
theorem algebraic : algebraic_Attention1Ideal_RefAttention1Ideal_pre_apart1 := by
  intro m g m' g' hp ha
  refine ⟨fun c => G m c, run m g, ?_⟩
  refine (θ_run _ _ _).mono (fun r h c => ⟨(h c).1.trans ?_, (h c).2⟩) (Cert.RefAttention1Ideal.Value.run m' g')
  rw [Cert.Ref1.result, (ha c).1, (ha c).2.1, (ha c).2.2.1, (ha c).2.2.2]
  exact funext fun i => (Cert.Ref1.value _ _ _ _ (hp c) i).symm

end Cert.Level1

end
-- ==== Proof.Level2.lean ====
/- The third attention call (256 points of 256 channels, 20 neighbours): its block as the generic one, and its run. -/
module

public import proofs.«01_k».proof.Proof.Block
public import proofs.«01_k».proof.Proof.Gen.Attention2Ideal.Value
public import Idealize.ShloMosaic.Lib.Pipeline.ValueKit

@[expose] public section

set_option maxRecDepth 16384

noncomputable section

namespace Cert.Level2

open Cert.Attention2Ideal Cert.Attention2Ideal.Gen Cert.Attention2Ideal.Value Idealize.ShloMosaic Idealize.ShloMosaic.TcCoe Idealize.SL.Sem

/-- The shape relations at this level's sizes. -/
theorem fits : Block.Fits 256 256 256 128 768 where
  q3 := shapeCasts_S1x256x3_S256x3
  p3 := shapeCasts_S1x3x256_S3x256
  sq := reduces_S256x3_S256
  sp := reduces_S3x256_S256
  col := shapeCasts_S256_S256x1
  row := shapeCasts_S256_S1x256
  wide := broadcasts_S256x1_S256x256
  tall := broadcasts_S1x256_S256x256
  red := reduces_S256x256_S256
  hq := shapeCasts_S1x256x256_S256x256
  hp := shapeCasts_S1x256x256_S256x256
  ht := shapeCasts_S1x256x256_S256x256
  out := shapeCasts_S256x256_S1x256x256
  wq := slices_S256x768_o0_0_S256x256
  flip := transposes_S256x128_p1_0_S128x256
  both := concatenates_S256x128_S256x128_S256x256_d1
  thin := bitsLt_bf16_f32

/-- What the kernel stores is the generic block of its windows. -/
theorem out_eq (x0 : Vec Ideal S1x256x256 .f32) (x1 : Vec Ideal S1x256x256 .f32) (x2 : Vec Ideal S1x256x256 .f32)
    (x3 : Vec Ideal S1x256x3 .f32) (x4 : Vec Ideal S1x3x256 .f32) (x5 : Vec Ideal S256x768 .f32) (x6 : Vec Ideal S256x256 .f32) :
    out0_7 x0 x1 x2 x3 x4 x5 x6 = Block.block fits slices_S256x256_o0_0_S256x128 slices_S256x256_o0_128_S256x128
      slices_S256x768_o0_256_S256x128 slices_S256x768_o0_384_S256x128 slices_S256x768_o0_512_S256x128
      slices_S256x768_o0_640_S256x128 (Named.named κ "scale" 0x3DB504F3#32) (Named.named κ "mask" 0xF149F2CA#32) 20
      x0 x1 x2 x3 x4 x5 x6 := by
  unfold_out out0_7
  rw [View.canon_unit_zero Reads.zero3]
  rw [show View.ld x3 r0_0 = x3 from View.ld_unit_zero Reads.zero3 _ _,
    show View.ld x4 r0_1 = x4 from View.ld_unit_zero Reads.zero3 _ _,
    show View.ld x0 r0_2 = x0 from View.ld_unit_zero Reads.zero3 _ _,
    show View.ld x1 r0_2 = x1 from View.ld_unit_zero Reads.zero3 _ _,
    show View.ld x2 r0_2 = x2 from View.ld_unit_zero Reads.zero3 _ _,
    show View.ld x5 r0_3 = x5 from View.ld_unit_zero Reads.zero2 _ _,
    show View.ld x6 r0_4 = x6 from View.ld_unit_zero Reads.zero2 _ _]
  rfl

variable (m : (ℓ : Loc nD τ sig) → Buf (Elt Ideal) ℓ)

/-- Attention of every point, as a function of the arguments. -/
def G (c : Dev nD) : Vec Ideal S2x256x256 .f32 := fun i =>
  Block.attn 256 128 20 (Named.named κ "scale" 0x3DB504F3#32 : Ideal .f32)
    (fun n y => m ((c : Thread nD τ).loc main_arg0) (ix3 (i 0) n y)) (fun n x => m ((c : Thread nD τ).loc main_arg1) (ix3 (i 0) n x))
    (fun y x => m ((c : Thread nD τ).loc main_arg2) (ix2 y x)) (fun y x => m ((c : Thread nD τ).loc main_arg3) (ix2 y x)) (i 1) (i 2)

/-- Of grid point `t`: the batch it works on. -/
def batch (t : Fin cfg0.N) : Fin 2 := ⟨t.1 / 1, by have := t.2; have : cfg0.N = 2 := rfl; omega⟩

/-- Of grid point `t`: the point its `i`-th query is. -/
def query (t : Fin cfg0.N) (i : Fin 256) : Fin 256 := ⟨t.1 % 1 * 256 + i.1, by omega⟩

/-- Each window's block index at each grid point. -/
theorem index : ∀ t : Fin cfg0.N,
    (win0_0.index t (0 : Fin 3) = t.1 / 1 ∧ win0_0.index t (1 : Fin 3) = t.1 % 1 ∧ win0_0.index t (2 : Fin 3) = 0)
    ∧ (win0_1.index t (0 : Fin 3) = t.1 / 1 ∧ win0_1.index t (1 : Fin 3) = 0 ∧ win0_1.index t (2 : Fin 3) = 0)
    ∧ (win0_2.index t (0 : Fin 3) = t.1 / 1 ∧ win0_2.index t (1 : Fin 3) = 0 ∧ win0_2.index t (2 : Fin 3) = 0)
    ∧ (win0_3.index t (0 : Fin 3) = t.1 / 1 ∧ win0_3.index t (1 : Fin 3) = t.1 % 1 ∧ win0_3.index t (2 : Fin 3) = 0)
    ∧ (win0_4.index t (0 : Fin 3) = t.1 / 1 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 1 ∧ win0_7.index t (1 : Fin 3) = t.1 % 1 ∧ win0_7.index t (2 : Fin 3) = 0) :=
  (by decide +kernel : ∀ t : Fin grid0.N, _)

/-- The block read at a place is the array read at the block's place. -/
theorem reads (c : Dev nD) (t : Fin cfg0.N) :
    (∀ (i : Fin 256) (y : Fin 256), iblk m c 0 t (ix3 0 i y) = m ((c : Thread nD τ).loc main_arg0) (ix3 (batch t) (query t i) y))
    ∧ (∀ (i : Fin 256) (y : Fin 256), iblk m c 1 t (ix3 0 i y) = m ((c : Thread nD τ).loc main_arg0) (ix3 (batch t) i y))
    ∧ (∀ (i : Fin 256) (y : Fin 256), iblk m c 2 t (ix3 0 y i) = m ((c : Thread nD τ).loc main_arg0) (ix3 (batch t) i y))
    ∧ (∀ (i : Fin 256) (y : Fin 3), iblk m c 3 t (ix3 0 i y) = m ((c : Thread nD τ).loc main_arg1) (ix3 (batch t) (query t i) y))
    ∧ (∀ (i : Fin 256) (y : Fin 3), iblk m c 4 t (ix3 0 y i) = m ((c : Thread nD τ).loc main_arg1) (ix3 (batch t) i y))
    ∧ iblk m c 5 t = m ((c : Thread nD τ).loc main_arg2)
    ∧ iblk m c 6 t = m ((c : Thread nD τ).loc main_arg3) := by
  have e0 : V m c main_v0 = transpose S2x256x256 [0, 2, 1] (m ((c : Thread nD τ).loc main_arg0))
    transposes_S2x256x256_S2x256x256_0_2_1 := rfl
  have e1 : V m c main_v1 = transpose S2x3x256 [0, 2, 1] (m ((c : Thread nD τ).loc main_arg1))
    transposes_S2x256x3_S2x3x256_0_2_1 := rfl
  refine ⟨fun i y => ?_, fun i y => ?_, fun i y => ?_, fun i y => ?_, fun i y => ?_, funext fun z => ?_, funext fun z => ?_⟩
  · blk_ext [iblk, V, batch, query, index t]
  · blk_ext [iblk, V, batch, query, index t]
  · trans V m c main_v0 (ix3 (batch t) y i)
    · blk_ext [iblk, batch, query, index t]
    · rw [e0]
      pointwise
  · blk_ext [iblk, V, batch, query, index t]
  · trans V m c main_v1 (ix3 (batch t) y i)
    · blk_ext [iblk, batch, query, index t]
    · rw [e1]
      pointwise
  · blk_ext [iblk, V, batch, query, index t]
  · blk_ext [iblk, V, batch, query, index t]

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x256x256.Idx) :
    Block.block fits slices_S256x256_o0_0_S256x128 slices_S256x256_o0_128_S256x128
      slices_S256x768_o0_256_S256x128 slices_S256x768_o0_384_S256x128 slices_S256x768_o0_512_S256x128
      slices_S256x768_o0_640_S256x128 (Named.named κ "scale" 0x3DB504F3#32) (Named.named κ "mask" 0xF149F2CA#32) 20
      (iblk m c 0 t) (iblk m c 1 t) (iblk m c 2 t) (iblk m c 3 t) (iblk m c 4 t) (iblk m c 5 t) (iblk m c 6 t) y
      = G m c (((View.whole main_v2).slice (win0_7.rect t)).emb y) := by
  obtain ⟨r0, r1, r2, r3, r4, r5, r6⟩ := reads m c t
  obtain ⟨b, i, j, rfl⟩ : ∃ (b : Fin 1) (i : Fin 256) (j : Fin 256), y = ix3 b i j := ⟨y 0, y 1, y 2, eq_ix3 y⟩
  have e : ((View.whole main_v2).slice (win0_7.rect t)).emb (ix3 b i j) = ix3 (batch t) (query t i) j := by
    blk_ext [batch, query, index t]
  rw [e, r5, r6]
  exact Block.block_apply fits _ _ _ _ _ _ rfl rfl _ _ mask_bot 20 _ _ _ _ _ _ _
    (fun n y => m ((c : Thread nD τ).loc main_arg0) (ix3 (batch t) n y))
    (fun n y => m ((c : Thread nD τ).loc main_arg1) (ix3 (batch t) n y)) (query t) r0 r1 r2 r3 r4 b i j

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Level2

end
-- ==== Proof.Ref2.lean ====
/- The third attention call against its reference: the reference's result as the generic term, the precondition read, and
   the claim that the two programs leave the same result. -/
module

public import proofs.«01_k».proof.Defs
public import proofs.«01_k».proof.Proof.Apart
public import proofs.«01_k».proof.Proof.Level2
public import proofs.«01_k».proof.Proof.Gen.RefAttention2Ideal.Read
public import proofs.«01_k».proof.Proof.Gen.RefAttention2Ideal.Run
public import proofs.«01_k».proof.Proof.Gen.Pre_apart2

@[expose] public section

set_option maxRecDepth 16384

noncomputable section

namespace Cert.Ref2

open Cert.RefAttention2Ideal Cert.RefAttention2Ideal.Gen Cert.RefAttention2Ideal.Value Idealize.ShloMosaic Idealize.ShloMosaic.TcCoe

/-- The shape relations of the reference at this level's sizes. -/
theorem fits : RefBlock.Fits 2 256 256 128 768 20 5120 where
  sumq := reducesTo_S2x256x3_S2x256_d2
  sum := reducesTo_S2x256x3_S2x256_d2
  one := h_S_
  col := bcast_S2x256_S2x256x1_0_1
  row := bcast_S2x256_S2x1x256_0_2
  along := bcast_S2x256x1_S2x256x256_0_1_2
  down := bcast_S2x1x256_S2x256x256_0_1_2
  all := bcast_S_S2x256x256
  dot := dot_S2x256x3_S2x256x3_S2x256x256_2_2_1_1_0_0_wf
  proj := dot_S2x256x256_S256x768_S2x256x768_2_0_01_1_n_n_wf
  sq := slices_S2x256x768_S2x256x256_0_0_0
  sk := slices_S2x256x768_S2x256x256_0_0_256
  sv := slices_S2x256x768_S2x256x256_0_0_512
  top := sliceFits_S2x256x256_S2x256x20
  cut := shapeCasts_S2x256x256_S2x256x2x128
  flat := shapeCasts_S2x256x20_S2x5120x1
  each := bcast_S_S2x5120x1
  rows := gather_S2x256x256_S2x5120x1_S2x5120x256_2_1_0_0_1_2_11256_wf
  per := shapeCasts_S2x5120x256_S2x256x20x256
  cut5 := shapeCasts_S2x256x20x256_S2x256x20x2x128
  logit := dot_S2x256x2x128_S2x256x20x2x128_S2x256x2x20_3_4_n_2_012_013_wf
  all4 := bcast_S_S2x256x2x20
  red := reducesTo_S2x256x2x20_S2x256x2_d3
  all3 := bcast_S_S2x256x2
  col4 := bcast_S2x256x2_S2x256x2x1_0_1_2
  along4 := bcast_S2x256x2x1_S2x256x2x20_0_1_2_3
  mean := dot_S2x256x2x20_S2x256x20x2x128_S2x256x2x128_3_2_n_4_012_013_wf
  join := shapeCasts_S2x256x2x128_S2x256x256
  out := dot_S2x256x256_S256x256_S2x256x256_2_0_01_1_n_n_wf

/-- The reference's result is the generic term. -/
theorem result (m : (ℓ : Loc nD τ sig) → Buf (Elt Ideal) ℓ) (c : Dev nD) :
    res_main_v45 m c = RefBlock.term fits 256#32 0x43000000#32 (m ((c : Thread nD τ).loc main_arg0)) (m ((c : Thread nD τ).loc main_arg1))
      (m ((c : Thread nD τ).loc main_arg2)) (m ((c : Thread nD τ).loc main_arg3)) := by
  rw [Read.val_main_v45_eq]
  rfl

/-- Those of the precondition. -/
theorem told : Apart.Told 2 256 256 20 21 where
  toPairs := fits.toPairs
  top := Cert.Pre_apart2.Gen.sliceFits_S2x256x256_S2x256x21
  late := Cert.Pre_apart2.Gen.slices_S2x256x21_S2x256x20_0_0_1
  early := Cert.Pre_apart2.Gen.slices_S2x256x21_S2x256x20_0_0_0
  red := Cert.Pre_apart2.Gen.reducesTo_S2x256x20_S_d0_1_2
  redK := Cert.Pre_apart2.Gen.reducesTo_S2x256x21_S_d0_1_2
  each := Cert.Pre_apart2.Gen.bcast_S_S2x256x21

/-- The precondition is the generic one. -/
theorem pre (H : Vec Ideal S2x256x256 .f32) (C : Vec Ideal S2x256x3 .f32) (W : Vec Ideal S256x768 .f32) (O : Vec Ideal S256x256 .f32) :
    Cert.Pre_apart2.fn (F := Ideal) H C W O
      = andi (andi
          (Apart.finite Cert.Pre_apart2.Gen.reducesTo_S2x256x256_S_d0_1_2 h_S_ Cert.Pre_apart2.Gen.bcast_S_S2x256x256 H)
          (Apart.finite Cert.Pre_apart2.Gen.reducesTo_S256x768_S_d0_1 h_S_ Cert.Pre_apart2.Gen.bcast_S_S256x768 W))
        (Apart.told told C C) := rfl

/-- The root of the number of channels in a head. -/
theorem root : Ideal.sqrt (Ideal.ofBits .f32 0x43000000#32) = ((Real.sqrt 128 : ℝ) : EReal) := by
  have : Ideal.ofBits .f32 0x43000000#32 = ((128 : ℝ) : EReal) := by
    simp [Ideal.ofBits, Ideal.ieee]
    rw [← EReal.coe_mul]
    norm_num
  rw [this]
  exact if_neg (by norm_num)

/-- The kernel's scale is its inverse. -/
theorem scale : ((Named.named Cert.Attention2Ideal.κ "scale" 0x3DB504F3#32 : Ideal .f32) : EReal) = (((Real.sqrt 128)⁻¹ : ℝ) : EReal) := rfl

/-- Under the precondition the kernel's attention is the reference's term. -/
theorem value (H : Vec Ideal S2x256x256 .f32) (C : Vec Ideal S2x256x3 .f32) (W : Vec Ideal S256x768 .f32) (O : Vec Ideal S256x256 .f32)
    (h : Cert.Pre_apart2.fn (F := Ideal) H C W O = fun _ => 1#1) (i : S2x256x256.Idx) :
    Block.attn 256 128 20 (Named.named Cert.Attention2Ideal.κ "scale" 0x3DB504F3#32 : Ideal .f32) (fun n y => H (ix3 (i 0) n y)) (fun n x => C (ix3 (i 0) n x))
      (fun y x => W (ix2 y x)) (fun y x => O (ix2 y x)) (i 1) (i 2)
      = RefBlock.term fits 256#32 0x43000000#32 H C W O i := by
  rw [pre] at h
  obtain ⟨h, hC⟩ := Apart.both (congrFun h ix0)
  obtain ⟨hH, hW⟩ := Apart.both h
  rw [show RefBlock.term fits 256#32 0x43000000#32 H C W O i = RefBlock.term fits 256#32 0x43000000#32 H C W O (ix3 (i 0) (i 1) (i 2))
    from congrArg _ (eq_ix3 i)]
  exact RefBlock.attn_eq fits _ _ H C W O (by decide) (by decide) (by decide) rfl rfl rfl _
    (by rw [root]; exact (EReal.coe_pos.mpr (Real.sqrt_pos.mpr (by norm_num))).ne')
    (by rw [scale, root]; exact (EReal.coe_inv _)) ⟨_, scale⟩ _ _ _
    (Apart.told_apply told C C rfl (by decide) hC _ _) (fun n y => Apart.finite_apply _ _ _ H hH _)
    (fun y x => Apart.finite_apply _ _ _ W hW _)

end Cert.Ref2

namespace Cert.Level2

open Idealize.ShloMosaic Idealize.ShloMosaic.TcCoe Idealize.SL.Sem

/-- The reference runs and leaves its arguments. -/
theorem frame : quiescent_RefAttention2Ideal := fun m g _ =>
  (θ_run Cert.RefAttention2Ideal.defs _ _).mono (fun r h => ⟨fun c => (h c).2, sem_eq_zero_of_no_sems (by decide) r.2⟩)
    (Cert.RefAttention2Ideal.Value.run (F := Ideal) m g)

/-- The two constants' words are named. -/
theorem preserves : preserves_Attention2_Attention2Ideal :=
  ⟨IdealRules.named_const.statement Cert.Attention2Ideal.κ "scale" .f32 0x3DB504F3#32 (((Real.sqrt 128)⁻¹ : ℝ) : EReal) rfl,
    IdealRules.named_const.statement Cert.Attention2Ideal.κ "mask" .f32 0xF149F2CA#32 ⊥ rfl⟩

/-- The kernel's result is the reference's. -/
theorem algebraic : algebraic_Attention2Ideal_RefAttention2Ideal_pre_apart2 := by
  intro m g m' g' hp ha
  refine ⟨fun c => G m c, run m g, ?_⟩
  refine (θ_run _ _ _).mono (fun r h c => ⟨(h c).1.trans ?_, (h c).2⟩) (Cert.RefAttention2Ideal.Value.run m' g')
  rw [Cert.Ref2.result, (ha c).1, (ha c).2.1, (ha c).2.2.1, (ha c).2.2.2]
  exact funext fun i => (Cert.Ref2.value _ _ _ _ (hp c) i).symm

end Cert.Level2

end
-- ==== Proof.Level3.lean ====
/- The last attention call (64 points of 512 channels, 8 neighbours): its block as the generic one, and its run. -/
module

public import proofs.«01_k».proof.Proof.Block
public import proofs.«01_k».proof.Proof.Gen.Attention3Ideal.Value
public import Idealize.ShloMosaic.Lib.Pipeline.ValueKit

@[expose] public section

set_option maxRecDepth 16384

noncomputable section

namespace Cert.Level3

open Cert.Attention3Ideal Cert.Attention3Ideal.Gen Cert.Attention3Ideal.Value Idealize.ShloMosaic Idealize.ShloMosaic.TcCoe Idealize.SL.Sem

/-- The shape relations at this level's sizes. -/
theorem fits : Block.Fits 64 64 512 256 1536 where
  q3 := shapeCasts_S1x64x3_S64x3
  p3 := shapeCasts_S1x3x64_S3x64
  sq := reduces_S64x3_S64
  sp := reduces_S3x64_S64
  col := shapeCasts_S64_S64x1
  row := shapeCasts_S64_S1x64
  wide := broadcasts_S64x1_S64x64
  tall := broadcasts_S1x64_S64x64
  red := reduces_S64x64_S64
  hq := shapeCasts_S1x64x512_S64x512
  hp := shapeCasts_S1x64x512_S64x512
  ht := shapeCasts_S1x512x64_S512x64
  out := shapeCasts_S64x512_S1x64x512
  wq := slices_S512x1536_o0_0_S512x512
  flip := transposes_S512x256_p1_0_S256x512
  both := concatenates_S64x256_S64x256_S64x512_d1
  thin := bitsLt_bf16_f32

/-- What the kernel stores is the generic block of its windows. -/
theorem out_eq (x0 : Vec Ideal S1x64x512 .f32) (x1 : Vec Ideal S1x64x512 .f32) (x2 : Vec Ideal S1x512x64 .f32)
    (x3 : Vec Ideal S1x64x3 .f32) (x4 : Vec Ideal S1x3x64 .f32) (x5 : Vec Ideal S512x1536 .f32) (x6 : Vec Ideal S512x512 .f32) :
    out0_7 x0 x1 x2 x3 x4 x5 x6 = Block.block fits slices_S64x512_o0_0_S64x256 slices_S64x512_o0_256_S64x256
      slices_S512x1536_o0_512_S512x256 slices_S512x1536_o0_768_S512x256 slices_S512x1536_o0_1024_S512x256
      slices_S512x1536_o0_1280_S512x256 (Scalar.ofBits .f32 0x3D800000#32) (Named.named κ "mask" 0xF149F2CA#32) 8
      x0 x1 x2 x3 x4 x5 x6 := by
  unfold_out out0_7
  rw [View.canon_unit_zero Reads.zero3]
  rw [show View.ld x3 r0_0 = x3 from View.ld_unit_zero Reads.zero3 _ _,
    show View.ld x4 r0_1 = x4 from View.ld_unit_zero Reads.zero3 _ _,
    show View.ld x0 r0_2 = x0 from View.ld_unit_zero Reads.zero3 _ _,
    show View.ld x1 r0_2 = x1 from View.ld_unit_zero Reads.zero3 _ _,
    show View.ld x2 r0_3 = x2 from View.ld_unit_zero Reads.zero3 _ _,
    show View.ld x5 r0_4 = x5 from View.ld_unit_zero Reads.zero2 _ _,
    show View.ld x6 r0_5 = x6 from View.ld_unit_zero Reads.zero2 _ _]
  rfl

variable (m : (ℓ : Loc nD τ sig) → Buf (Elt Ideal) ℓ)

/-- Attention of every point, as a function of the arguments. -/
def G (c : Dev nD) : Vec Ideal S2x64x512 .f32 := fun i =>
  Block.attn 512 256 8 (Scalar.ofBits (F := Ideal) .f32 0x3D800000#32)
    (fun n y => m ((c : Thread nD τ).loc main_arg0) (ix3 (i 0) n y)) (fun n x => m ((c : Thread nD τ).loc main_arg1) (ix3 (i 0) n x))
    (fun y x => m ((c : Thread nD τ).loc main_arg2) (ix2 y x)) (fun y x => m ((c : Thread nD τ).loc main_arg3) (ix2 y x)) (i 1) (i 2)

/-- Of grid point `t`: the batch it works on. -/
def batch (t : Fin cfg0.N) : Fin 2 := ⟨t.1 / 1, by have := t.2; have : cfg0.N = 2 := rfl; omega⟩

/-- Of grid point `t`: the point its `i`-th query is. -/
def query (t : Fin cfg0.N) (i : Fin 64) : Fin 64 := ⟨t.1 % 1 * 64 + i.1, by omega⟩

/-- Each window's block index at each grid point. -/
theorem index : ∀ t : Fin cfg0.N,
    (win0_0.index t (0 : Fin 3) = t.1 / 1 ∧ win0_0.index t (1 : Fin 3) = t.1 % 1 ∧ win0_0.index t (2 : Fin 3) = 0)
    ∧ (win0_1.index t (0 : Fin 3) = t.1 / 1 ∧ win0_1.index t (1 : Fin 3) = 0 ∧ win0_1.index t (2 : Fin 3) = 0)
    ∧ (win0_2.index t (0 : Fin 3) = t.1 / 1 ∧ win0_2.index t (1 : Fin 3) = 0 ∧ win0_2.index t (2 : Fin 3) = 0)
    ∧ (win0_3.index t (0 : Fin 3) = t.1 / 1 ∧ win0_3.index t (1 : Fin 3) = t.1 % 1 ∧ win0_3.index t (2 : Fin 3) = 0)
    ∧ (win0_4.index t (0 : Fin 3) = t.1 / 1 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.1 / 1 ∧ win0_7.index t (1 : Fin 3) = t.1 % 1 ∧ win0_7.index t (2 : Fin 3) = 0) :=
  (by decide +kernel : ∀ t : Fin grid0.N, _)

/-- The block read at a place is the array read at the block's place. -/
theorem reads (c : Dev nD) (t : Fin cfg0.N) :
    (∀ (i : Fin 64) (y : Fin 512), iblk m c 0 t (ix3 0 i y) = m ((c : Thread nD τ).loc main_arg0) (ix3 (batch t) (query t i) y))
    ∧ (∀ (i : Fin 64) (y : Fin 512), iblk m c 1 t (ix3 0 i y) = m ((c : Thread nD τ).loc main_arg0) (ix3 (batch t) i y))
    ∧ (∀ (i : Fin 64) (y : Fin 512), iblk m c 2 t (ix3 0 y i) = m ((c : Thread nD τ).loc main_arg0) (ix3 (batch t) i y))
    ∧ (∀ (i : Fin 64) (y : Fin 3), iblk m c 3 t (ix3 0 i y) = m ((c : Thread nD τ).loc main_arg1) (ix3 (batch t) (query t i) y))
    ∧ (∀ (i : Fin 64) (y : Fin 3), iblk m c 4 t (ix3 0 y i) = m ((c : Thread nD τ).loc main_arg1) (ix3 (batch t) i y))
    ∧ iblk m c 5 t = m ((c : Thread nD τ).loc main_arg2)
    ∧ iblk m c 6 t = m ((c : Thread nD τ).loc main_arg3) := by
  have e0 : V m c main_v0 = transpose S2x512x64 [0, 2, 1] (m ((c : Thread nD τ).loc main_arg0))
    transposes_S2x64x512_S2x512x64_0_2_1 := rfl
  have e1 : V m c main_v1 = transpose S2x3x64 [0, 2, 1] (m ((c : Thread nD τ).loc main_arg1))
    transposes_S2x64x3_S2x3x64_0_2_1 := rfl
  refine ⟨fun i y => ?_, fun i y => ?_, fun i y => ?_, fun i y => ?_, fun i y => ?_, funext fun z => ?_, funext fun z => ?_⟩
  · blk_ext [iblk, V, batch, query, index t]
  · blk_ext [iblk, V, batch, query, index t]
  · trans V m c main_v0 (ix3 (batch t) y i)
    · blk_ext [iblk, batch, query, index t]
    · rw [e0]
      pointwise
  · blk_ext [iblk, V, batch, query, index t]
  · trans V m c main_v1 (ix3 (batch t) y i)
    · blk_ext [iblk, batch, query, index t]
    · rw [e1]
      pointwise
  · blk_ext [iblk, V, batch, query, index t]
  · blk_ext [iblk, V, batch, query, index t]

/-- The named mask value is −∞. -/
theorem mask_bot : (Named.named κ "mask" 0xF149F2CA#32 : Ideal .f32) = (⊥ : EReal) := rfl

/-- What a grid point computes is its block of `G`. -/
theorem point (c : Dev nD) (t : Fin cfg0.N) (y : S1x64x512.Idx) :
    Block.block fits slices_S64x512_o0_0_S64x256 slices_S64x512_o0_256_S64x256
      slices_S512x1536_o0_512_S512x256 slices_S512x1536_o0_768_S512x256 slices_S512x1536_o0_1024_S512x256
      slices_S512x1536_o0_1280_S512x256 (Scalar.ofBits .f32 0x3D800000#32) (Named.named κ "mask" 0xF149F2CA#32) 8
      (iblk m c 0 t) (iblk m c 1 t) (iblk m c 2 t) (iblk m c 3 t) (iblk m c 4 t) (iblk m c 5 t) (iblk m c 6 t) y
      = G m c (((View.whole main_v2).slice (win0_7.rect t)).emb y) := by
  obtain ⟨r0, r1, r2, r3, r4, r5, r6⟩ := reads m c t
  obtain ⟨b, i, j, rfl⟩ : ∃ (b : Fin 1) (i : Fin 64) (j : Fin 512), y = ix3 b i j := ⟨y 0, y 1, y 2, eq_ix3 y⟩
  have e : ((View.whole main_v2).slice (win0_7.rect t)).emb (ix3 b i j) = ix3 (batch t) (query t i) j := by
    blk_ext [batch, query, index t]
  rw [e, r5, r6]
  exact Block.block_apply fits _ _ _ _ _ _ rfl rfl _ _ mask_bot 8 _ _ _ _ _ _ _
    (fun n y => m ((c : Thread nD τ).loc main_arg0) (ix3 (batch t) n y))
    (fun n y => m ((c : Thread nD τ).loc main_arg1) (ix3 (batch t) n y)) (query t) r0 r1 r2 r3 r4 b i j

/-- The result array after the run. -/
theorem final (c : Dev nD) : (dats m 0 c).arrAt 7 cfg0.N = G m c := by
  refine (dats m 0 c).arrAt_eq_of_covers 7 _ (by decide +kernel) fun t hf y => ?_
  blk_simp
  rw [after0_7, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Level3

end
-- ==== Proof.Ref3.lean ====
/- The last attention call against its reference: the reference's result as the generic term, the precondition read, and
   the claim that the two programs leave the same result. -/
module

public import proofs.«01_k».proof.Defs
public import proofs.«01_k».proof.Proof.Apart
public import proofs.«01_k».proof.Proof.Level3
public import proofs.«01_k».proof.Proof.Gen.RefAttention3Ideal.Read
public import proofs.«01_k».proof.Proof.Gen.RefAttention3Ideal.Run
public import proofs.«01_k».proof.Proof.Gen.Pre_apart3

@[expose] public section

set_option maxRecDepth 16384

noncomputable section

namespace Cert.Ref3

open Cert.RefAttention3Ideal Cert.RefAttention3Ideal.Gen Cert.RefAttention3Ideal.Value Idealize.ShloMosaic Idealize.ShloMosaic.TcCoe

/-- The shape relations of the reference at this level's sizes. -/
theorem fits : RefBlock.Fits 2 64 512 256 1536 8 512 where
  sumq := reducesTo_S2x64x3_S2x64_d2
  sum := reducesTo_S2x64x3_S2x64_d2
  one := h_S_
  col := bcast_S2x64_S2x64x1_0_1
  row := bcast_S2x64_S2x1x64_0_2
  along := bcast_S2x64x1_S2x64x64_0_1_2
  down := bcast_S2x1x64_S2x64x64_0_1_2
  all := bcast_S_S2x64x64
  dot := dot_S2x64x3_S2x64x3_S2x64x64_2_2_1_1_0_0_wf
  proj := dot_S2x64x512_S512x1536_S2x64x1536_2_0_01_1_n_n_wf
  sq := slices_S2x64x1536_S2x64x512_0_0_0
  sk := slices_S2x64x1536_S2x64x512_0_0_512
  sv := slices_S2x64x1536_S2x64x512_0_0_1024
  top := sliceFits_S2x64x64_S2x64x8
  cut := shapeCasts_S2x64x512_S2x64x2x256
  flat := shapeCasts_S2x64x8_S2x512x1
  each := bcast_S_S2x512x1
  rows := gather_S2x64x512_S2x512x1_S2x512x512_2_1_0_0_1_2_11512_wf
  per := shapeCasts_S2x512x512_S2x64x8x512
  cut5 := shapeCasts_S2x64x8x512_S2x64x8x2x256
  logit := dot_S2x64x2x256_S2x64x8x2x256_S2x64x2x8_3_4_n_2_012_013_wf
  all4 := bcast_S_S2x64x2x8
  red := reducesTo_S2x64x2x8_S2x64x2_d3
  all3 := bcast_S_S2x64x2
  col4 := bcast_S2x64x2_S2x64x2x1_0_1_2
  along4 := bcast_S2x64x2x1_S2x64x2x8_0_1_2_3
  mean := dot_S2x64x2x8_S2x64x8x2x256_S2x64x2x256_3_2_n_4_012_013_wf
  join := shapeCasts_S2x64x2x256_S2x64x512
  out := dot_S2x64x512_S512x512_S2x64x512_2_0_01_1_n_n_wf

/-- The reference's result is the generic term. -/
theorem result (m : (ℓ : Loc nD τ sig) → Buf (Elt Ideal) ℓ) (c : Dev nD) :
    res_main_v45 m c = RefBlock.term fits 64#32 0x43800000#32 (m ((c : Thread nD τ).loc main_arg0)) (m ((c : Thread nD τ).loc main_arg1))
      (m ((c : Thread nD τ).loc main_arg2)) (m ((c : Thread nD τ).loc main_arg3)) := by
  rw [Read.val_main_v45_eq]
  rfl

/-- Those of the precondition. -/
theorem told : Apart.Told 2 64 64 8 9 where
  toPairs := fits.toPairs
  top := Cert.Pre_apart3.Gen.sliceFits_S2x64x64_S2x64x9
  late := Cert.Pre_apart3.Gen.slices_S2x64x9_S2x64x8_0_0_1
  early := Cert.Pre_apart3.Gen.slices_S2x64x9_S2x64x8_0_0_0
  red := Cert.Pre_apart3.Gen.reducesTo_S2x64x8_S_d0_1_2
  redK := Cert.Pre_apart3.Gen.reducesTo_S2x64x9_S_d0_1_2
  each := Cert.Pre_apart3.Gen.bcast_S_S2x64x9

/-- The precondition is the generic one. -/
theorem pre (H : Vec Ideal S2x64x512 .f32) (C : Vec Ideal S2x64x3 .f32) (W : Vec Ideal S512x1536 .f32) (O : Vec Ideal S512x512 .f32) :
    Cert.Pre_apart3.fn (F := Ideal) H C W O
      = andi (andi
          (Apart.finite Cert.Pre_apart3.Gen.reducesTo_S2x64x512_S_d0_1_2 h_S_ Cert.Pre_apart3.Gen.bcast_S_S2x64x512 H)
          (Apart.finite Cert.Pre_apart3.Gen.reducesTo_S512x1536_S_d0_1 h_S_ Cert.Pre_apart3.Gen.bcast_S_S512x1536 W))
        (Apart.told told C C) := rfl

/-- The root of the number of channels in a head. -/
theorem root : Ideal.sqrt (Ideal.ofBits .f32 0x43800000#32) = ((Real.sqrt 256 : ℝ) : EReal) := by
  have : Ideal.ofBits .f32 0x43800000#32 = ((256 : ℝ) : EReal) := by
    simp [Ideal.ofBits, Ideal.ieee]
    rw [← EReal.coe_mul]
    norm_num
  rw [this]
  exact if_neg (by norm_num)

/-- The kernel's scale is its inverse. -/
theorem scale : (Scalar.ofBits (F := Ideal) .f32 0x3D800000#32 : EReal) = (((Real.sqrt 256)⁻¹ : ℝ) : EReal) := by
  show Ideal.ofBits .f32 0x3D800000#32 = _
  rw [show (Real.sqrt 256) = 16 by rw [show (256 : ℝ) = 16 ^ 2 by norm_num, Real.sqrt_sq (by norm_num)]]
  simp [Ideal.ofBits, Ideal.ieee]
  rw [← EReal.coe_mul]
  norm_num

/-- Under the precondition the kernel's attention is the reference's term. -/
theorem value (H : Vec Ideal S2x64x512 .f32) (C : Vec Ideal S2x64x3 .f32) (W : Vec Ideal S512x1536 .f32) (O : Vec Ideal S512x512 .f32)
    (h : Cert.Pre_apart3.fn (F := Ideal) H C W O = fun _ => 1#1) (i : S2x64x512.Idx) :
    Block.attn 512 256 8 (Scalar.ofBits (F := Ideal) .f32 0x3D800000#32) (fun n y => H (ix3 (i 0) n y)) (fun n x => C (ix3 (i 0) n x))
      (fun y x => W (ix2 y x)) (fun y x => O (ix2 y x)) (i 1) (i 2)
      = RefBlock.term fits 64#32 0x43800000#32 H C W O i := by
  rw [pre] at h
  obtain ⟨h, hC⟩ := Apart.both (congrFun h ix0)
  obtain ⟨hH, hW⟩ := Apart.both h
  rw [show RefBlock.term fits 64#32 0x43800000#32 H C W O i = RefBlock.term fits 64#32 0x43800000#32 H C W O (ix3 (i 0) (i 1) (i 2))
    from congrArg _ (eq_ix3 i)]
  exact RefBlock.attn_eq fits _ _ H C W O (by decide) (by decide) (by decide) rfl rfl rfl _
    (by rw [root]; exact (EReal.coe_pos.mpr (Real.sqrt_pos.mpr (by norm_num))).ne')
    (by rw [scale, root]; exact (EReal.coe_inv _)) ⟨_, scale⟩ _ _ _
    (Apart.told_apply told C C rfl (by decide) hC _ _) (fun n y => Apart.finite_apply _ _ _ H hH _)
    (fun y x => Apart.finite_apply _ _ _ W hW _)

end Cert.Ref3

namespace Cert.Level3

open Idealize.ShloMosaic Idealize.ShloMosaic.TcCoe Idealize.SL.Sem

/-- The reference runs and leaves its arguments. -/
theorem frame : quiescent_RefAttention3Ideal := fun m g _ =>
  (θ_run Cert.RefAttention3Ideal.defs _ _).mono (fun r h => ⟨fun c => (h c).2, sem_eq_zero_of_no_sems (by decide) r.2⟩)
    (Cert.RefAttention3Ideal.Value.run (F := Ideal) m g)

/-- The mask's word is named −∞. -/
theorem preserves : preserves_Attention3_Attention3Ideal :=
  IdealRules.named_const.statement Cert.Attention3Ideal.κ "mask" .f32 0xF149F2CA#32 ⊥ rfl

/-- The kernel's result is the reference's. -/
theorem algebraic : algebraic_Attention3Ideal_RefAttention3Ideal_pre_apart3 := by
  intro m g m' g' hp ha
  refine ⟨fun c => G m c, run m g, ?_⟩
  refine (θ_run _ _ _).mono (fun r h c => ⟨(h c).1.trans ?_, (h c).2⟩) (Cert.RefAttention3Ideal.Value.run m' g')
  rw [Cert.Ref3.result, (ha c).1, (ha c).2.1, (ha c).2.2.1, (ha c).2.2.2]
  exact funext fun i => (Cert.Ref3.value _ _ _ _ (hp c) i).symm

end Cert.Level3

end
-- ==== Proof.Line.lean ====
/- The matrix product with a bias (8192 rows of 256 channels, 64 result channels): the kernel's run, the reference's result,
   and the claims of the call. -/
module

public import proofs.«01_k».proof.Proof.Pool
public import proofs.«01_k».proof.Proof.Gen.LinearIdeal.Value
public import proofs.«01_k».proof.Proof.Gen.RefLinearIdeal.Run
public import proofs.«01_k».proof.Proof.Gen.RefLinearIdeal.Read
public import proofs.«01_k».proof.Defs
public import Idealize.ShloMosaic.Lib.Pipeline.ValueKit

@[expose] public section

set_option maxRecDepth 16384

noncomputable section

namespace Cert.Line

open Cert.LinearIdeal Cert.LinearIdeal.Gen Cert.LinearIdeal.Value Idealize.ShloMosaic Idealize.ShloMosaic.TcCoe Idealize.SL.Sem

/-- What the kernel stores: its rows times the matrix, and the bias. -/
theorem out_eq (x0 : Vec Ideal S4096x256 .f32) (x1 : Vec Ideal S256x64 .f32) (x2 : Vec Ideal S1x64 .f32) :
    out0_3 x0 x1 x2 = addf (Block.prod (Pool.same shapeCasts_S4096x256_S4096x256 x0) x1)
      (Pool.spread shapeCasts_S1x64_S1x64 broadcasts_S1x64_S4096x64 x2) := by
  unfold out0_3
  rw [View.canon_unit_zero Reads.zero2]
  rw [show View.ld x0 r0_0 = x0 from View.ld_unit_zero Reads.zero2 _ _,
    show View.ld x1 r0_1 = x1 from View.ld_unit_zero Reads.zero2 _ _,
    show View.ld x2 r0_2 = x2 from View.ld_unit_zero Reads.zero2 _ _]
  rfl

variable (m : (ℓ : Loc nD τ sig) → Buf (Elt Ideal) ℓ)

/-- The rows the product is taken of: the argument read as a matrix. -/
def flat (x : Vec Ideal S2x4096x16x4x4 .f32) : Vec Ideal S8192x256 .f32 := shapeCast S8192x256 x shapeCasts_S2x4096x16x4x4_S8192x256

/-- The rows' products with the matrix, and the bias, as a function of the arguments. -/
def G (c : Dev nD) : Vec Ideal S8192x64 .f32 := fun i =>
  ((∑ y, flat (m ((c : Thread nD τ).loc main_arg0)) (ix2 (i 0) y) * m ((c : Thread nD τ).loc main_arg1) (ix2 y (i 1)) : EReal))
    + m ((c : Thread nD τ).loc main_arg2) (ix1 (i 1))

/-- Of grid point `t`: the row its `i`-th row is. -/
def row (t : Fin cfg0.N) (i : Fin 4096) : Fin 8192 := ⟨t.1 * 4096 + i.1, by have := t.2; have : cfg0.N = 2 := rfl; omega⟩

/-- Each window's block index at each grid point. -/
theorem index : ∀ t : Fin cfg0.N,
    (win0_0.index t (0 : Fin 2) = t.1 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.1 ∧ win0_3.index t (1 : Fin 2) = 0) :=
  (by decide +kernel : ∀ t : Fin grid0.N, _)

/-- The block read at a place is the array read at the block's place. -/
theorem reads (c : Dev nD) (t : Fin cfg0.N) :
    (∀ (i : Fin 4096) (y : Fin 256), iblk m c 0 t (ix2 i y) = flat (m ((c : Thread nD τ).loc main_arg0)) (ix2 (row t i) y))
    ∧ iblk m c 1 t = m ((c : Thread nD τ).loc main_arg1)
    ∧ (∀ x : Fin 64, iblk m c 2 t (ix2 0 x) = m ((c : Thread nD τ).loc main_arg2) (ix1 x)) := by
  have e0 : V m c main_v0 = flat (m ((c : Thread nD τ).loc main_arg0)) := rfl
  have e1 : V m c main_v1 = shapeCast S1x64 (m ((c : Thread nD τ).loc main_arg2)) shapeCasts_S64_S1x64 := rfl
  refine ⟨fun i y => ?_, funext fun z => ?_, fun x => ?_⟩
  · trans V m c main_v0 (ix2 (row t i) y)
    · blk_ext [iblk, row, index t]
    · rw [e0]
  · blk_ext [iblk, V, index t]
  · trans V m c main_v1 (ix2 0 x)
    · blk_ext [iblk, index t]
    · rw [e1]
      exact Reads.upright _ _ x

/-- What a grid point computes is its block of `G`. -/
theorem point (c : Dev nD) (t : Fin cfg0.N) (y : S4096x64.Idx) :
    addf (Block.prod (Pool.same shapeCasts_S4096x256_S4096x256 (iblk m c 0 t)) (iblk m c 1 t))
      (Pool.spread shapeCasts_S1x64_S1x64 broadcasts_S1x64_S4096x64 (iblk m c 2 t)) y
      = G m c (((View.whole main_v2).slice (win0_3.rect t)).emb y) := by
  obtain ⟨r0, r1, r2⟩ := reads m c t
  obtain ⟨i, j, rfl⟩ : ∃ (i : Fin 4096) (j : Fin 64), y = ix2 i j := ⟨y 0, y 1, eq_ix2 y⟩
  have e : ((View.whole main_v2).slice (win0_3.rect t)).emb (ix2 i j) = ix2 (row t i) j := by
    blk_ext [row, index t]
  have add : ∀ a b : Block.Mat 4096 64, addf a b (ix2 i j) = a (ix2 i j) + b (ix2 i j) := fun _ _ => rfl
  rw [e, r1, add, Block.prod_apply, Pool.same_eq, Pool.spread_apply, r2]
  simp only [r0]
  rfl

/-- The result array after the run. -/
theorem final (c : Dev nD) : (dats m 0 c).arrAt 3 cfg0.N = G m c := by
  refine (dats m 0 c).arrAt_eq_of_covers 3 _ (by decide +kernel) fun t hf y => ?_
  blk_simp
  rw [after0_3, out_eq]
  frame_out
  exact point m c t y

/-- The kernel's run, its result at `G`. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-- The reference's result at an entry. -/
theorem value (x : Vec Ideal S2x4096x16x4x4 .f32) (w : Vec Ideal S256x64 .f32) (b : Vec Ideal S64 .f32) (i : S8192x64.Idx) :
    Cert.RefLinearIdeal.Read.val_main_v4 (F := Ideal) x w b i
      = ((∑ y, flat x (ix2 (i 0) y) * w (ix2 y (i 1)) : EReal)) + b (ix1 (i 1)) := by
  rw [Cert.RefLinearIdeal.Read.val_main_v4_apply, Cert.RefLinearIdeal.Read.val_main_v1_apply,
    Cert.RefLinearIdeal.Read.val_main_v3_apply, Cert.RefLinearIdeal.Read.val_main_v2_apply]
  refine congrArg₂ (· + ·) (Finset.sum_congr rfl fun y _ => congrArg₂ (· * ·) ?_ (congrArg w ?_)) (congrArg b ?_)
  · exact congrArg (flat x) (eq_ix2 _)
  · exact eq_ix2 _
  · exact eq_ix1 _

/-- The reference runs and leaves its arguments. -/
theorem frame : quiescent_RefLinearIdeal := fun m g _ =>
  (θ_run Cert.RefLinearIdeal.defs _ _).mono (fun r h => ⟨fun c => (h c).2, sem_eq_zero_of_no_sems (by decide) r.2⟩)
    (Cert.RefLinearIdeal.Value.run (F := Ideal) m g)

/-- No operation is replaced. -/
theorem preserves : preserves_Linear_LinearIdeal := trivial

/-- The kernel's result is the reference's. -/
theorem algebraic : algebraic_LinearIdeal_RefLinearIdeal := by
  intro m g m' g' _ ha
  refine ⟨fun c => G m c, run m g, ?_⟩
  refine (θ_run _ _ _).mono (fun r h c => ⟨(h c).1.trans ?_, (h c).2⟩) (Cert.RefLinearIdeal.Value.run m' g')
  rw [(ha c).1, (ha c).2.1, (ha c).2.2]
  exact funext fun i => value _ _ _ i

end Cert.Line

end
-- ==== Proof.Far.lean ====
/- Farthest point sampling over the extended reals: every point keeps its squared distance to the nearest point taken so
   far, and the next one taken is the first of those with the greatest. -/
module

public import proofs.«01_k».proof.Proof.TopK

@[expose] public section

noncomputable section

namespace Cert.Far

open Idealize.ShloMosaic

variable {N : ℕ}

/-- Position `p` is the first one of a greatest entry. -/
def Top (D : Fin N → EReal) (p : Fin N) : Prop := (∀ n, D n ≤ D p) ∧ ∀ n, D n = D p → p ≤ n

/-- There is only one such position. -/
theorem Top.unique {D : Fin N → EReal} {p q : Fin N} (hp : Top D p) (hq : Top D q) : p = q :=
  le_antisymm (hp.2 q (le_antisymm (hp.1 q) (hq.1 p))) (hq.2 p (le_antisymm (hq.1 p) (hp.1 q)))

/-- There is one. -/
theorem exists_top [NeZero N] (D : Fin N → EReal) : ∃ p, Top D p := by
  obtain ⟨q, -, hq⟩ := Finset.exists_max_image Finset.univ D ⟨0, Finset.mem_univ _⟩
  have ne : (Finset.univ.filter fun n => D n = D q).Nonempty := ⟨q, by simp⟩
  have mem := Finset.min'_mem _ ne
  have e : D (Finset.min' _ ne) = D q := (Finset.mem_filter.1 mem).2
  refine ⟨Finset.min' _ ne, fun n => ?_, fun n hn => ?_⟩
  · rw [e]
    exact hq n (Finset.mem_univ n)
  · rw [e] at hn
    exact Finset.min'_le _ _ (by simp [hn])

/-- The squared distance of two points. -/
def gap (a b : Fin 3 → EReal) : EReal := ∑ y, (a y - b y) * (a y - b y)

/-- The squared distances to the points taken so far after another one is taken. -/
def nearer (C : Fin N → Fin 3 → EReal) (D : Fin N → EReal) (p : Fin N) (n : Fin N) : EReal := min (D n) (gap (C n) (C p))

/-- After `k` rounds: every point's least squared distance to the points taken before the last, and the last point
    taken. -/
def state [NeZero N] (far : EReal) (C : Fin N → Fin 3 → EReal) : ℕ → (Fin N → EReal) × Fin N
  | 0 => (fun _ => far, 0)
  | k + 1 =>
    (nearer C (state far C k).1 (state far C k).2, (exists_top (nearer C (state far C k).1 (state far C k).2)).choose)

/-- The point taken in a round is the first farthest one. -/
theorem state_top [NeZero N] (far : EReal) (C : Fin N → Fin 3 → EReal) (k : ℕ) :
    Top (state far C (k + 1)).1 (state far C (k + 1)).2 :=
  (exists_top (nearer C (state far C k).1 (state far C k).2)).choose_spec

/-- The squared distances after a round. -/
theorem state_succ [NeZero N] (far : EReal) (C : Fin N → Fin 3 → EReal) (k : ℕ) :
    (state far C (k + 1)).1 = nearer C (state far C k).1 (state far C k).2 := rfl

/-- A stable sort by decreasing entries puts the first greatest one first. -/
theorem head_stableSort (D : Fin N → EReal) (before : Fin N → Fin N → Bool) (hb : ∀ a b, before a b = true ↔ D b < D a) :
    ∀ l : List (Fin N), l ≠ [] → l.Pairwise (· < ·) →
      ∃ p t, stableSort before l = p :: t ∧ ∀ n ∈ l, D n ≤ D p ∧ (D n = D p → p ≤ n)
  | [], h, _ => absurd rfl h
  | [a], _, _ => ⟨a, [], rfl, fun n hn => by rw [List.mem_singleton.1 hn]; exact ⟨le_rfl, fun _ => le_rfl⟩⟩
  | a :: b :: l, _, hl => by
    obtain ⟨q, t, e, hq⟩ := head_stableSort D before hb (b :: l) (List.cons_ne_nil _ _) (List.pairwise_cons.1 hl).2
    unfold stableSort
    rw [e]
    unfold insertBefore
    by_cases h : before q a = true
    · rw [if_pos h]
      refine ⟨q, _, rfl, fun n hn => ?_⟩
      rcases List.mem_cons.1 hn with rfl | hn
      · exact ⟨((hb _ _).1 h).le, fun e => absurd ((hb _ _).1 h) (by rw [e]; exact lt_irrefl _)⟩
      · exact hq n hn
    · rw [if_neg h]
      have le : D q ≤ D a := not_lt.1 fun g => h ((hb _ _).2 g)
      refine ⟨a, _, rfl, fun n hn => ?_⟩
      rcases List.mem_cons.1 hn with rfl | hn
      · exact ⟨le_rfl, fun _ => le_rfl⟩
      · exact ⟨(hq n hn).1.trans le, fun _ => ((List.pairwise_cons.1 hl).1 n hn).le⟩

/-- The first position the top-k lists is the first one of a greatest entry. -/
theorem order_top {B R : ℕ} (x : FVec Ideal ⟨3, ![B, R, N]⟩ .f32) (b : Fin B) (r : Fin R) (h : 0 < N) :
    Top (fun n => x (ix3 b r n)) (Nearest.order x b r ⟨0, h⟩) := by
  have ne : List.finRange N ≠ [] := fun e => by
    have := congrArg List.length e
    rw [List.length_finRange] at this
    simp at this
    omega
  obtain ⟨p, t, e, hp⟩ := head_stableSort (fun n => x (ix3 b r n))
    (fun i j => FloatOps.cmpfTotal (F := Ideal) (φ := .f32) .gt (x (ix3 b r i)) (x (ix3 b r j)) == 1#1)
    (fun i j => by rw [beq_iff_eq, Nearest.gt_eq_one]) (List.finRange N) ne (List.pairwise_lt_finRange N)
  have first : Nearest.order x b r ⟨0, h⟩ = p := by
    unfold Nearest.order sortedFrom
    rw [List.get_of_eq (show sortPositions N _ = p :: t from e)]
    rfl
  rw [first]
  exact ⟨fun n => (hp n (List.mem_finRange n)).1, fun n => (hp n (List.mem_finRange n)).2⟩

end Cert.Far

end
-- ==== Proof.RefFar.lean ====
/- One step of the reference's farthest point sampling at any extents, and what its steps leave: `B` batches of `N` points,
   `M` of them taken. -/
module

public import proofs.«01_k».proof.Proof.Far
public import proofs.«01_k».proof.Proof.HostReads

@[expose] public section

noncomputable section

namespace Cert.RefFar

open Idealize.ShloMosaic Cert.Far

/-- The shape of a single number. -/
abbrev One : Shape := ⟨0, ![]⟩

/-- The shape relations of the step and of the rows taken at the end. -/
structure Fits (B N M : ℕ) : Prop where
  cell : (⟨1, ![B]⟩ : Shape).BroadcastsInDim ⟨3, ![B, 1, 1]⟩ ![0]
  cells : One.BroadcastsInDim ⟨3, ![B, 1, 1]⟩ ![]
  pick : GatherDims.WF ⟨3, ![B, N, 3]⟩ ⟨3, ![B, 1, 1]⟩ ⟨3, ![B, 1, 3]⟩ [2] [1] [0] [1] [0] 2 ![1, 1, 3]
  down : (⟨3, ![B, 1, 3]⟩ : Shape).BroadcastsInDim ⟨3, ![B, N, 3]⟩ ![0, 1, 2]
  sum : (⟨3, ![B, N, 3]⟩ : Shape).ReducesTo [2] ⟨2, ![B, N]⟩
  one : 0 < One.numel
  row : (⟨2, ![B, N]⟩ : Shape).BroadcastsInDim ⟨3, ![B, 1, N]⟩ ![0, 2]
  top : (⟨3, ![B, 1, N]⟩ : Shape).Slices (fun _ => 0) ⟨3, ![B, 1, 1]⟩
  flat : (⟨3, ![B, 1, 1]⟩ : Shape).ShapeCasts ⟨1, ![B]⟩
  column : (⟨1, ![B]⟩ : Shape).BroadcastsInDim ⟨2, ![B, 1]⟩ ![0]
  update : (⟨2, ![B, M]⟩ : Shape).Slices (fun _ => 0) ⟨2, ![B, 1]⟩
  list : (⟨2, ![B, M]⟩ : Shape).BroadcastsInDim ⟨3, ![B, M, 1]⟩ ![0, 1]
  lists : One.BroadcastsInDim ⟨3, ![B, M, 1]⟩ ![]
  rows : GatherDims.WF ⟨3, ![B, N, 3]⟩ ⟨3, ![B, M, 1]⟩ ⟨3, ![B, M, 3]⟩ [2] [1] [0] [1] [0] 2 ![1, 1, 3]
  split : (⟨3, ![B, M, 3]⟩ : Shape).ShapeCasts ⟨4, ![B, M, 1, 3]⟩
  join : (⟨4, ![B, M, 1, 3]⟩ : Shape).ShapeCasts ⟨3, ![B, M, 3]⟩

variable {B N M : ℕ}

/-- One number per batch as a batch of single entries. -/
def cell (f : Fits B N M) {α : Type} (x : (⟨1, ![B]⟩ : Shape).Idx → α) : (⟨3, ![B, 1, 1]⟩ : Shape).Idx → α :=
  broadcastInDim ⟨3, ![B, 1, 1]⟩ ![0] f.cell x

/-- Its entries. -/
theorem cell_apply (f : Fits B N M) {α : Type} (x : (⟨1, ![B]⟩ : Shape).Idx → α) (b : Fin B) : cell f x (ix3 b 0 0) = x (ix1 b) := by
  refine broadcastInDim_apply _ f.cell x _ _ fun z => ?_
  match z with
  | ⟨0, _⟩ => exact HostReads.unit_val b

/-- The coordinates of the point named in every batch, `w` the word added to a negative number. -/
def named (f : Fits B N M) (w : BitVec 32) (C : FVec Ideal ⟨3, ![B, N, 3]⟩ .f32) (last : IVec ⟨1, ![B]⟩ 32) :
    FVec Ideal ⟨3, ![B, 1, 3]⟩ .f32 :=
  Host.gather ⟨[2], [1], [0], [0], [1], 2, ![1, 1, 3], f.pick⟩ C
    (select (cmpi .slt (cell f last) (broadcastInDim ⟨3, ![B, 1, 1]⟩ ![] f.cells (constantI One 32 0#32)))
      (addi (cell f last) (broadcastInDim ⟨3, ![B, 1, 1]⟩ ![] f.cells (constantI One 32 w))) (cell f last))

/-- They are that point's. -/
theorem named_apply (f : Fits B N M) (w : BitVec 32) (small : N < 2147483648) (C : FVec Ideal ⟨3, ![B, N, 3]⟩ .f32)
    (last : IVec ⟨1, ![B]⟩ 32) (b : Fin B) (p : Fin N) (hp : last (ix1 b) = BitVec.ofNat 32 p.1) (y : Fin 3) :
    named f w C last (ix3 b 0 y) = C (ix3 b p y) :=
  HostReads.gathered f.pick C _ b 0 y p
    (HostReads.kept _ _ _ (ix3 b 0 0) rfl p.1 (by have := p.2; omega) ((cell_apply f last b).trans hp))

/-- The squared distances after the point named is taken. -/
def renew (f : Fits B N M) (w : BitVec 32) (C : FVec Ideal ⟨3, ![B, N, 3]⟩ .f32) (D : FVec Ideal ⟨2, ![B, N]⟩ .f32)
    (last : IVec ⟨1, ![B]⟩ 32) : FVec Ideal ⟨2, ![B, N]⟩ .f32 :=
  minimumf D (Host.reduceAdd
    (mulf (subf C (broadcastInDim ⟨3, ![B, N, 3]⟩ ![0, 1, 2] f.down (named f w C last)))
      (subf C (broadcastInDim ⟨3, ![B, N, 3]⟩ ![0, 1, 2] f.down (named f w C last))))
    (constant One .f32 0x00000000#32) f.sum f.one)

/-- An entry of them. -/
theorem renew_apply (f : Fits B N M) (w : BitVec 32) (small : N < 2147483648) (C : FVec Ideal ⟨3, ![B, N, 3]⟩ .f32)
    (D : FVec Ideal ⟨2, ![B, N]⟩ .f32) (last : IVec ⟨1, ![B]⟩ 32) (b : Fin B) (p : Fin N)
    (hp : last (ix1 b) = BitVec.ofNat 32 p.1) (n : Fin N) :
    renew f w C D last (ix2 b n) = nearer (fun n y => C (ix3 b n y)) (fun n => D (ix2 b n)) p n := by
  have e : ∀ E : FVec Ideal ⟨2, ![B, N]⟩ .f32, minimumf D E (ix2 b n) = min (D (ix2 b n) : EReal) (E (ix2 b n)) := fun _ => rfl
  have sq : ∀ (E : FVec Ideal ⟨3, ![B, N, 3]⟩ .f32) (y : Fin 3),
    mulf (subf C E) (subf C E) (ix3 b n y) = (C (ix3 b n y) - E (ix3 b n y)) * (C (ix3 b n y) - E (ix3 b n y)) := fun _ _ => rfl
  have spread : ∀ y, broadcastInDim ⟨3, ![B, N, 3]⟩ ![0, 1, 2] f.down (named f w C last) (ix3 b n y) = C (ix3 b p y) := fun y =>
    (HostReads.down f.down (named f w C last) b n y).trans (named_apply f w small C last b p hp y)
  unfold renew nearer gap
  rw [e, HostReads.sum3]
  refine congrArg (min _) (Finset.sum_congr rfl fun y _ => ?_)
  rw [sq, spread]

/-- The squared distances, a row per batch. -/
def wide (f : Fits B N M) (D : FVec Ideal ⟨2, ![B, N]⟩ .f32) : FVec Ideal ⟨3, ![B, 1, N]⟩ .f32 :=
  broadcastInDim ⟨3, ![B, 1, N]⟩ ![0, 2] f.row D

/-- Their entries. -/
theorem wide_apply (f : Fits B N M) (D : FVec Ideal ⟨2, ![B, N]⟩ .f32) (b : Fin B) (n : Fin N) : wide f D (ix3 b 0 n) = D (ix2 b n) :=
  HostReads.row f.row D b n 0

/-- The position of every row's first greatest entry. -/
def tops (f : Fits B N M) (D : FVec Ideal ⟨3, ![B, 1, N]⟩ .f32) : IVec ⟨3, ![B, 1, 1]⟩ 32 :=
  (Host.topK ⟨3, ![B, 1, 1]⟩ 2 (FloatOps.cmpfTotal .gt) D f.top).2

/-- It is that position. -/
theorem tops_apply (f : Fits B N M) (D : FVec Ideal ⟨3, ![B, 1, N]⟩ .f32) (b : Fin B) (p : Fin N) (hp : Top (fun n => D (ix3 b 0 n)) p) :
    tops f D (ix3 b 0 0) = BitVec.ofNat 32 p.1 := by
  have pos : 0 < N := Nat.lt_of_le_of_lt (Nat.zero_le _) p.2
  rw [Top.unique hp (order_top D b 0 pos)]
  exact (Nearest.topK_apply D f.top b 0 0 pos).2

/-- The first farthest point of every batch. -/
def next (f : Fits B N M) (D : FVec Ideal ⟨2, ![B, N]⟩ .f32) : IVec ⟨1, ![B]⟩ 32 := shapeCast ⟨1, ![B]⟩ (tops f (wide f D)) f.flat

/-- It is the position of the first greatest entry. -/
theorem next_apply (f : Fits B N M) (D : FVec Ideal ⟨2, ![B, N]⟩ .f32) (b : Fin B) (p : Fin N) (hp : Top (fun n => D (ix2 b n)) p) :
    next f D (ix1 b) = BitVec.ofNat 32 p.1 := by
  have cast : next f D (ix1 b) = tops f (wide f D) (ix3 b 0 0) := by
    refine congrArg (tops f (wide f D)) (Shape.reshapeEquiv_eq_of_rowMajor _ ?_)
    rw [rowMajor_val3 _ _ _ rfl rfl, rowMajor_val1]
    simp
  rw [cast]
  exact tops_apply f _ b p (by simp only [wide_apply]; exact hp)

/-- The list of points taken with entry `i` written, `w` the word added to a negative `i`. -/
def put (f : Fits B N M) (w : BitVec 32) (i : IVec One 32) (list : IVec ⟨2, ![B, M]⟩ 32) (last : IVec ⟨1, ![B]⟩ 32) : IVec ⟨2, ![B, M]⟩ 32 :=
  Host.dynamicUpdateSlice list (broadcastInDim ⟨2, ![B, 1]⟩ ![0] f.column last)
    (fun k => (((![constantI One 32 0#32, select (cmpi .slt i (constantI One 32 0#32)) (addi (id i) (constantI One 32 w)) i] :
      Fin 2 → IVec One 32)) k (Shape.Idx.first f.one)).toInt) f.update

/-- Its entries. -/
theorem put_apply (f : Fits B N M) (w : BitVec 32) (small : M < 2147483648) (i : IVec One 32) (list : IVec ⟨2, ![B, M]⟩ 32)
    (last : IVec ⟨1, ![B]⟩ 32) (q : Fin M) (hi : ∀ z, i z = BitVec.ofNat 32 q.1) (b : Fin B) (j : Fin M) :
    put f w i list last (ix2 b j) = if j = q then last (ix1 b) else list (ix2 b j) := by
  have word : (BitVec.ofNat 32 q.1).toInt = q.1 := by
    have := q.2
    rw [BitVec.toInt_ofNat']
    simp only [Int.bmod]
    omega
  have start : (select (cmpi .slt i (constantI One 32 0#32)) (addi (id i) (constantI One 32 w)) i (Shape.Idx.first f.one)).toInt = q.1 := by
    have e : select (cmpi .slt i (constantI One 32 0#32)) (addi (id i) (constantI One 32 w)) i (Shape.Idx.first f.one)
        = i (Shape.Idx.first f.one) := by
      show Scalar.select (IntOp.cmpi .slt (i _) 0#32) _ (i _) = i _
      rw [hi]
      have : IntOp.cmpi .slt (BitVec.ofNat 32 q.1) 0#32 = 0#1 := by
        simp only [IntOp.cmpi, BitVec.slt, word]
        rw [decide_eq_false (by simp)]
        rfl
      rw [this]
      rfl
    rw [e, hi, word]
  have at0 : Host.clampedStart ⟨2, ![B, M]⟩ ⟨2, ![B, 1]⟩ f.update.1
      (fun k => (((![constantI One 32 0#32, select (cmpi .slt i (constantI One 32 0#32)) (addi (id i) (constantI One 32 w)) i] :
        Fin 2 → IVec One 32)) k (Shape.Idx.first f.one)).toInt) 0 = 0 :=
    Host.clampedStart_of_le _ _ _ 0 rfl (by show 0 + B ≤ B; omega)
  have at1 : Host.clampedStart ⟨2, ![B, M]⟩ ⟨2, ![B, 1]⟩ f.update.1
      (fun k => (((![constantI One 32 0#32, select (cmpi .slt i (constantI One 32 0#32)) (addi (id i) (constantI One 32 w)) i] :
        Fin 2 → IVec One 32)) k (Shape.Idx.first f.one)).toInt) 1 = q.1 :=
    Host.clampedStart_of_le _ _ _ q.1 start (by have := q.2; show q.1 + 1 ≤ M; omega)
  unfold put
  rw [Host.dynamicUpdateSlice_apply]
  by_cases h : j = q
  · rw [if_pos h, dif_pos (by
      intro a
      match a with
      | ⟨0, _⟩ => rw [show (⟨0, _⟩ : Fin 2) = 0 from rfl, at0]; exact ⟨Nat.zero_le _, by have := b.2; show b.1 < 0 + B; omega⟩
      | ⟨1, _⟩ => rw [show (⟨1, _⟩ : Fin 2) = 1 from rfl, at1]; exact ⟨by subst h; exact Nat.le_refl j.1, by subst h; exact Nat.lt_succ_self j.1⟩)]
    refine broadcastInDim_apply _ f.column last _ _ fun z => ?_
    match z with
    | ⟨0, _⟩ =>
      refine (HostReads.unit_val b).trans ?_
      refine congrArg (fun v => if B = 1 then 0 else v) ?_
      exact (congrArg (b.1 - ·) at0).symm
  · rw [if_neg h, dif_neg (by
      intro g
      have g := g 1
      rw [at1] at g
      have : q.1 ≤ j.1 ∧ j.1 < q.1 + 1 := g
      exact h (Fin.ext (by omega)))]

/-- What is carried before step `k`: the number of the next entry, the list of points taken, the squared distances and the
    last point. -/
structure Holds [NeZero N] (far : EReal) (C : FVec Ideal ⟨3, ![B, N, 3]⟩ .f32) (k : ℕ) (i : IVec One 32) (list : IVec ⟨2, ![B, M]⟩ 32)
    (D : FVec Ideal ⟨2, ![B, N]⟩ .f32) (last : IVec ⟨1, ![B]⟩ 32) : Prop where
  count : ∀ z, i z = BitVec.ofNat 32 (k + 1)
  list : ∀ b (j : Fin M), j.1 ≤ k → list (ix2 b j) = BitVec.ofNat 32 (state far (fun n y => C (ix3 b n y)) j.1).2.1
  dist : ∀ b n, D (ix2 b n) = (state far (fun n y => C (ix3 b n y)) k).1 n
  last : ∀ b, last (ix1 b) = BitVec.ofNat 32 (state far (fun n y => C (ix3 b n y)) k).2.1

/-- It holds before the first step. -/
theorem Holds.start [NeZero N] {far : EReal} {C : FVec Ideal ⟨3, ![B, N, 3]⟩ .f32} {i : IVec One 32} {l : IVec ⟨2, ![B, M]⟩ 32}
    {D : FVec Ideal ⟨2, ![B, N]⟩ .f32} {last : IVec ⟨1, ![B]⟩ 32} (hi : ∀ z, i z = 1#32) (hl : ∀ z, l z = 0#32) (hD : ∀ z, D z = far)
    (hlast : ∀ z, last z = 0#32) : Holds far C 0 i l D last :=
  ⟨hi, fun b j hj => by
    rw [hl, Nat.le_zero.1 hj]
    rfl, fun _ _ => hD _, fun _ => hlast _⟩

/-- A step takes it on. -/
theorem Holds.step [NeZero N] {far : EReal} {C : FVec Ideal ⟨3, ![B, N, 3]⟩ .f32} {k : ℕ} {i : IVec One 32} {l : IVec ⟨2, ![B, M]⟩ 32}
    {D : FVec Ideal ⟨2, ![B, N]⟩ .f32} {last : IVec ⟨1, ![B]⟩ 32} (h : Holds far C k i l D last) (f : Fits B N M) (w w' : BitVec 32)
    (hN : N < 2147483648) (hM : M < 2147483648) (hk : k + 1 < M) :
    Holds far C (k + 1) (addi i (constantI One 32 1#32)) (put f w' i l (next f (renew f w C D last))) (renew f w C D last)
      (next f (renew f w C D last)) := by
  have hD : ∀ b n, renew f w C D last (ix2 b n) = (state far (fun n y => C (ix3 b n y)) (k + 1)).1 n := fun b n => by
    rw [renew_apply f w hN C D last b _ (h.last b), state_succ]
    simp only [h.dist]
  have hn : ∀ b, next f (renew f w C D last) (ix1 b) = BitVec.ofNat 32 (state far (fun n y => C (ix3 b n y)) (k + 1)).2.1 := fun b =>
    next_apply f _ b _ (by simp only [hD]; exact state_top far _ k)
  refine ⟨fun z => ?_, fun b j hj => ?_, hD, hn⟩
  · show i z + 1#32 = _
    rw [h.count, BitVec.ofNat_add (k + 1) 1]
  · rw [put_apply f w' hM i l _ ⟨k + 1, hk⟩ h.count]
    by_cases e : j = ⟨k + 1, hk⟩
    · rw [if_pos e, hn, e]
    · rw [if_neg e]
      exact h.list b j (by
        have : j.1 ≠ k + 1 := fun g => e (Fin.ext g)
        omega)

/-- The rows of the points listed. -/
def taken (f : Fits B N M) (w : BitVec 32) (C : FVec Ideal ⟨3, ![B, N, 3]⟩ .f32) (l : IVec ⟨2, ![B, M]⟩ 32) : FVec Ideal ⟨3, ![B, M, 3]⟩ .f32 :=
  shapeCast ⟨3, ![B, M, 3]⟩ (shapeCast ⟨4, ![B, M, 1, 3]⟩
    (Host.gather ⟨[2], [1], [0], [0], [1], 2, ![1, 1, 3], f.rows⟩ C
      (select (cmpi .slt (broadcastInDim ⟨3, ![B, M, 1]⟩ ![0, 1] f.list l) (broadcastInDim ⟨3, ![B, M, 1]⟩ ![] f.lists (constantI One 32 0#32)))
        (addi (broadcastInDim ⟨3, ![B, M, 1]⟩ ![0, 1] f.list l) (broadcastInDim ⟨3, ![B, M, 1]⟩ ![] f.lists (constantI One 32 w)))
        (broadcastInDim ⟨3, ![B, M, 1]⟩ ![0, 1] f.list l))) f.split) f.join

/-- Each of them. -/
theorem taken_apply (f : Fits B N M) (w : BitVec 32) (small : N < 2147483648) (C : FVec Ideal ⟨3, ![B, N, 3]⟩ .f32)
    (l : IVec ⟨2, ![B, M]⟩ 32) (b : Fin B) (j : Fin M) (p : Fin N) (hp : l (ix2 b j) = BitVec.ofNat 32 p.1) (y : Fin 3) :
    taken f w C l (ix3 b j y) = C (ix3 b p y) := by
  unfold taken
  rw [HostReads.join f.join _ (by simp) b j 0 y y (by simp), HostReads.split f.split _ (by simp) b j 0 y y (by simp)]
  exact HostReads.gathered f.rows C _ b j y p
    (HostReads.kept _ _ _ (ix3 b j 0) rfl p.1 (by have := p.2; omega) ((HostReads.column f.list l b j 0).trans hp))

end Cert.RefFar

end
-- ==== Proof.Lanes.lean ====
/- One round of farthest point sampling over points laid out in rows of 128 lanes, read at its entries. -/
module

public import proofs.«01_k».proof.Proof.Far
public import proofs.«01_k».proof.Proof.Reads

@[expose] public section

noncomputable section

namespace Cert.Lanes

open Idealize.ShloMosaic Cert.Far

/-- A value for every lane of `s` rows. -/
abbrev Sheet (s : ℕ) := FVec Ideal ⟨2, ![s, 128]⟩ .f32

/-- One value. -/
abbrev Cell := FVec Ideal ⟨2, ![1, 1]⟩ .f32

/-- The shape relations of the round. -/
structure Fits (s : ℕ) : Prop where
  lane : (⟨2, ![s, 128]⟩ : Shape).Iotas .tc 32 [1]
  line : (⟨2, ![s, 128]⟩ : Shape).Iotas .tc 32 [0]
  wide : (⟨2, ![1, 1]⟩ : Shape).Broadcasts ⟨2, ![s, 128]⟩
  down : (⟨2, ![s, 128]⟩ : Shape).Reduces [0] ⟨1, ![128]⟩
  row : (⟨1, ![128]⟩ : Shape).ShapeCasts ⟨2, ![1, 128]⟩
  across : (⟨2, ![1, 128]⟩ : Shape).Reduces [1] ⟨1, ![1]⟩
  one : (⟨1, ![1]⟩ : Shape).ShapeCasts ⟨2, ![1, 1]⟩
  corner : (⟨2, ![s, 128]⟩ : Shape).Slices ![0, 0] ⟨2, ![1, 1]⟩
  plane : (⟨4, ![1, 1, s, 128]⟩ : Shape).ShapeCasts ⟨2, ![s, 128]⟩
  three : Shape.Concatenates [⟨2, ![1, 1]⟩, ⟨2, ![1, 1]⟩, ⟨2, ![1, 1]⟩] ⟨2, ![1, 3]⟩ 1
  up : (⟨2, ![1, 3]⟩ : Shape).ShapeCasts ⟨3, ![1, 1, 3]⟩

variable {s N : ℕ}

/-- The point in lane `l` of row `r`. -/
def place (hN : N = s * 128) (r : Fin s) (l : Fin 128) : Fin N := ⟨r.1 * 128 + l.1, by omega⟩

/-- Every point has its row and lane. -/
theorem exists_place (hN : N = s * 128) (n : Fin N) : ∃ r l, place hN r l = n :=
  ⟨⟨n.1 / 128, by omega⟩, ⟨n.1 % 128, by omega⟩, Fin.ext (by show n.1 / 128 * 128 + n.1 % 128 = n.1; omega)⟩

/-- Different lanes hold different points. -/
theorem place_inj (hN : N = s * 128) {r r' : Fin s} {l l' : Fin 128} (h : place hN r l = place hN r' l') : r = r' ∧ l = l' := by
  have e : r.1 * 128 + l.1 = r'.1 * 128 + l'.1 := congrArg Fin.val h
  exact ⟨Fin.ext (by omega), Fin.ext (by omega)⟩

/-- The points' numbers. -/
def number (f : Fits s) : IVec ⟨2, ![s, 128]⟩ 32 :=
  addi (muli (iota .tc ⟨2, ![s, 128]⟩ 32 [0] f.line) (broadcast ⟨2, ![s, 128]⟩ 128#32)) (iota .tc ⟨2, ![s, 128]⟩ 32 [1] f.lane)

/-- The number in a lane. -/
theorem number_apply (f : Fits s) (hN : N = s * 128) (r : Fin s) (l : Fin 128) :
    number f (ix2 r l) = BitVec.ofNat 32 (place hN r l).1 := by
  unfold number place
  pointwise
  unfold IntOp.addi IntOp.muli
  rw [BitVec.ofNat_add, BitVec.ofNat_mul]

/-- One value in all lanes. -/
def spread (f : Fits s) {α : Type} (x : (⟨2, ![1, 1]⟩ : Shape).Idx → α) : (⟨2, ![s, 128]⟩ : Shape).Idx → α :=
  broadcastTo ⟨2, ![s, 128]⟩ x f.wide

/-- Every lane holds it. -/
theorem spread_apply (f : Fits s) {α : Type} (x : (⟨2, ![1, 1]⟩ : Shape).Idx → α) (r : Fin s) (l : Fin 128) :
    spread f x (ix2 r l) = x (ix2 0 0) := by
  unfold spread
  pointwise

/-- The one value of a single entry. -/
def single (f : Fits s) {α : Type} (x : (⟨1, ![1]⟩ : Shape).Idx → α) : (⟨2, ![1, 1]⟩ : Shape).Idx → α := shapeCast ⟨2, ![1, 1]⟩ x f.one

/-- It is that entry. -/
theorem single_apply (f : Fits s) {α : Type} (x : (⟨1, ![1]⟩ : Shape).Idx → α) : single f x (ix2 0 0) = x (ix1 0) :=
  Reads.upright f.one x 0

/-- A row of lanes as a sheet of one row. -/
def level (f : Fits s) {α : Type} (x : (⟨1, ![128]⟩ : Shape).Idx → α) : (⟨2, ![1, 128]⟩ : Shape).Idx → α := shapeCast ⟨2, ![1, 128]⟩ x f.row

/-- Its entries. -/
theorem level_apply (f : Fits s) {α : Type} (x : (⟨1, ![128]⟩ : Shape).Idx → α) (l : Fin 128) : level f x (ix2 0 l) = x (ix1 l) :=
  Reads.upright f.row x l

/-- The greatest value. -/
def largest (f : Fits s) (D : Sheet s) : Cell :=
  single f (multiReduction .maximumf [1] ⟨1, ![1]⟩
    (level f (multiReduction .maximumf [0] ⟨1, ![128]⟩ D 0xFF800000#32 f.down (.inl rfl) rfl)) 0xFF800000#32 f.across (.inl rfl) rfl)

/-- It is at least every value and one of them. -/
theorem largest_apply (f : Fits s) (D : Sheet s) :
    largest f D (ix2 0 0) = Finset.univ.sup fun l => Finset.univ.sup fun r => (D (ix2 r l) : EReal) := by
  have h : ∀ (l : Fin 128), multiReduction .maximumf [0] ⟨1, ![128]⟩ D 0xFF800000#32 f.down (.inl rfl) rfl (ix1 l)
      = Finset.univ.fold max (⊥ : EReal) fun r => D (ix2 r l) := fun l => by
    pointwise
    rw [Reads.ofBits_bot]
  unfold largest
  rw [single_apply, Reads.max_row, Nearest.fold_max_eq_sup]
  simp only [level_apply, h, Nearest.fold_max_eq_sup]

/-- A lane holds the greatest value exactly where no lane holds a greater one. -/
theorem largest_eq (f : Fits s) (D : Sheet s) (r : Fin s) (l : Fin 128) :
    (D (ix2 r l) : EReal) = largest f D (ix2 0 0) ↔ ∀ r' l', (D (ix2 r' l') : EReal) ≤ D (ix2 r l) := by
  rw [largest_apply]
  constructor
  · intro h r' l'
    rw [h]
    exact (Finset.le_sup (f := fun r => (D (ix2 r l') : EReal)) (Finset.mem_univ r')).trans
      (Finset.le_sup (f := fun l => Finset.univ.sup fun r => (D (ix2 r l) : EReal)) (Finset.mem_univ l'))
  · intro h
    refine le_antisymm ?_ (Finset.sup_le fun l' _ => Finset.sup_le fun r' _ => h r' l')
    exact (Finset.le_sup (f := fun r => (D (ix2 r l) : EReal)) (Finset.mem_univ r)).trans
      (Finset.le_sup (f := fun l => Finset.univ.sup fun r => (D (ix2 r l) : EReal)) (Finset.mem_univ l))

/-- The least of a family of words, as signed numbers, from the greatest one on. -/
theorem fold_minsi {ι : Type} [DecidableEq ι] (u : Finset ι) (g : ι → BitVec 32) :
    (∀ j ∈ u, (u.fold IntOp.minsi 2147483647#32 g).toInt ≤ (g j).toInt)
    ∧ (u.fold IntOp.minsi 2147483647#32 g = 2147483647#32 ∨ ∃ j ∈ u, u.fold IntOp.minsi 2147483647#32 g = g j) := by
  induction u using Finset.induction_on with
  | empty => exact ⟨fun j hj => absurd hj (Finset.notMem_empty j), .inl rfl⟩
  | insert a u ha ih =>
    obtain ⟨h1, h2⟩ := ih
    rw [Finset.fold_insert ha]
    generalize u.fold IntOp.minsi 2147483647#32 g = w at *
    unfold IntOp.minsi
    by_cases h : (g a).slt w = true
    · rw [if_pos h]
      have lt : (g a).toInt < w.toInt := by simpa [BitVec.slt] using h
      refine ⟨fun j hj => ?_, .inr ⟨a, Finset.mem_insert_self _ _, rfl⟩⟩
      rcases Finset.mem_insert.1 hj with rfl | hj
      · exact le_rfl
      · exact lt.le.trans (h1 j hj)
    · rw [if_neg h]
      have le : w.toInt ≤ (g a).toInt := by simpa [BitVec.slt] using h
      refine ⟨fun j hj => ?_, ?_⟩
      · rcases Finset.mem_insert.1 hj with rfl | hj
        · exact le
        · exact h1 j hj
      · rcases h2 with h2 | ⟨j, hj, h2⟩
        · exact .inl h2
        · exact .inr ⟨j, Finset.mem_insert_of_mem hj, h2⟩

/-- The least word. -/
def least (f : Fits s) (x : IVec ⟨2, ![s, 128]⟩ 32) : IVec ⟨2, ![1, 1]⟩ 32 :=
  single f (multiReductionI .minsi [1] ⟨1, ![1]⟩
    (level f (multiReductionI .minsi [0] ⟨1, ![128]⟩ x 2147483647#32 f.down rfl)) 2147483647#32 f.across rfl)

/-- It is at most every word, and one of them or the greatest of all. -/
theorem least_apply (f : Fits s) (x : IVec ⟨2, ![s, 128]⟩ 32) :
    (∀ r l, (least f x (ix2 0 0)).toInt ≤ (x (ix2 r l)).toInt)
    ∧ (least f x (ix2 0 0) = 2147483647#32 ∨ ∃ r l, least f x (ix2 0 0) = x (ix2 r l)) := by
  have h : ∀ (l : Fin 128), multiReductionI .minsi [0] ⟨1, ![128]⟩ x 2147483647#32 f.down rfl (ix1 l)
      = Finset.univ.fold IntOp.minsi 2147483647#32 fun r => x (ix2 r l) := fun l => by
    pointwise
  have h' : ∀ y : IVec ⟨2, ![1, 128]⟩ 32, multiReductionI .minsi [1] ⟨1, ![1]⟩ y 2147483647#32 f.across rfl (ix1 0)
      = Finset.univ.fold IntOp.minsi 2147483647#32 fun l => y (ix2 0 l) := fun y => by
    pointwise
  unfold least
  rw [single_apply, h']
  simp only [level_apply, h]
  obtain ⟨a, b⟩ := fold_minsi Finset.univ fun l : Fin 128 => Finset.univ.fold IntOp.minsi 2147483647#32 fun r => x (ix2 r l)
  refine ⟨fun r l => (a l (Finset.mem_univ l)).trans ((fold_minsi Finset.univ fun r => x (ix2 r l)).1 r (Finset.mem_univ r)), ?_⟩
  rcases b with b | ⟨l, -, b⟩
  · exact .inl b
  · rw [b]
    rcases (fold_minsi Finset.univ fun r => x (ix2 r l)).2 with c | ⟨r, -, c⟩
    · exact .inl c
    · exact .inr ⟨r, l, c⟩

/-- Where the first farthest point is. -/
def hit (f : Fits s) (D : Sheet s) : IVec ⟨2, ![s, 128]⟩ 1 :=
  cmpi .eq (number f)
    (spread f (least f (select (cmpf .oeq D (spread f (largest f D))) (number f) (broadcast ⟨2, ![s, 128]⟩ 2147483647#32))))

/-- The least number of a greatest value is the first farthest point's. -/
theorem least_number (f : Fits s) (hN : N = s * 128) (small : N < 2147483647) (D : Sheet s) (E : Fin N → EReal)
    (hD : ∀ r l, D (ix2 r l) = E (place hN r l)) (p : Fin N) (hp : Top E p) :
    least f (select (cmpf .oeq D (spread f (largest f D))) (number f) (broadcast ⟨2, ![s, 128]⟩ 2147483647#32)) (ix2 0 0)
      = BitVec.ofNat 32 p.1 := by
  have toInt : ∀ n : Fin N, (BitVec.ofNat 32 n.1).toInt = n.1 := fun n => by
    have := n.2
    rw [BitVec.toInt_ofNat']
    simp only [Int.bmod]
    omega
  have val : ∀ r l, select (cmpf .oeq D (spread f (largest f D))) (number f) (broadcast ⟨2, ![s, 128]⟩ 2147483647#32) (ix2 r l)
      = if (∀ n, E n ≤ E (place hN r l)) then BitVec.ofNat 32 (place hN r l).1 else 2147483647#32 := fun r l => by
    have e : select (cmpf .oeq D (spread f (largest f D))) (number f) (broadcast ⟨2, ![s, 128]⟩ 2147483647#32) (ix2 r l)
        = if (BitVec.ofBool (decide ((D (ix2 r l) : EReal) = spread f (largest f D) (ix2 r l)))) = 1#1 then number f (ix2 r l)
          else 2147483647#32 := rfl
    rw [e, spread_apply, number_apply f hN]
    have i : ((D (ix2 r l) : EReal) = largest f D (ix2 0 0)) ↔ ∀ n, E n ≤ E (place hN r l) := by
      rw [largest_eq]
      simp only [hD]
      refine ⟨fun h n => ?_, fun h r' l' => h _⟩
      obtain ⟨r', l', rfl⟩ := exists_place hN n
      exact h r' l'
    by_cases h : ∀ n, E n ≤ E (place hN r l)
    · rw [if_pos h, decide_eq_true (i.2 h)]
      rfl
    · rw [if_neg h, decide_eq_false fun g => h (i.1 g)]
      rfl
  obtain ⟨a, b⟩ := least_apply f (select (cmpf .oeq D (spread f (largest f D))) (number f) (broadcast ⟨2, ![s, 128]⟩ 2147483647#32))
  obtain ⟨r, l, e⟩ := exists_place hN p
  have le := a r l
  rw [val, if_pos (by rw [e]; exact hp.1), e, toInt] at le
  have no : least f (select (cmpf .oeq D (spread f (largest f D))) (number f) (broadcast ⟨2, ![s, 128]⟩ 2147483647#32)) (ix2 0 0)
      ≠ 2147483647#32 := fun h => by
    rw [h] at le
    have : (2147483647#32 : BitVec 32).toInt = 2147483647 := by decide
    have := p.2
    omega
  rcases b with b | ⟨r', l', b⟩
  · exact absurd b no
  · rw [val] at b
    by_cases h : ∀ n, E n ≤ E (place hN r' l')
    · rw [if_pos h] at b
      rw [b, toInt] at le
      have : p ≤ place hN r' l' := hp.2 _ (le_antisymm (hp.1 _) (h p))
      have : p = place hN r' l' := le_antisymm this (by exact_mod_cast le)
      rw [b, ← this]
    · rw [if_neg h] at b
      exact absurd b no

/-- The lane of the first farthest point is the one marked. -/
theorem hit_apply (f : Fits s) (hN : N = s * 128) (small : N < 2147483647) (D : Sheet s) (E : Fin N → EReal)
    (hD : ∀ r l, D (ix2 r l) = E (place hN r l)) (p : Fin N) (hp : Top E p) (r : Fin s) (l : Fin 128) :
    hit f D (ix2 r l) = if place hN r l = p then 1#1 else 0#1 := by
  have e : hit f D (ix2 r l) = BitVec.ofBool (number f (ix2 r l)
      == spread f (least f (select (cmpf .oeq D (spread f (largest f D))) (number f) (broadcast ⟨2, ![s, 128]⟩ 2147483647#32))) (ix2 r l)) := rfl
  rw [e, spread_apply, number_apply f hN, least_number f hN small D E hD p hp]
  by_cases h : place hN r l = p
  · rw [if_pos h, h]
    simp
  · rw [if_neg h]
    have ne : BitVec.ofNat 32 (place hN r l).1 ≠ BitVec.ofNat 32 p.1 := fun g => h (Fin.ext (by
      have := congrArg BitVec.toNat g
      simp only [BitVec.toNat_ofNat] at this
      have := (place hN r l).2
      have := p.2
      omega))
    rw [beq_eq_false_iff_ne.2 ne]
    rfl

/-- The value in the marked lane, as a sum. -/
def pick (f : Fits s) (h : IVec ⟨2, ![s, 128]⟩ 1) (X : Sheet s) : Cell :=
  single f (multiReduction .add [1] ⟨1, ![1]⟩
    (level f (multiReduction .add [0] ⟨1, ![128]⟩ (select h X (broadcast ⟨2, ![s, 128]⟩ (Scalar.ofBits .f32 0x00000000#32))) 0x00000000#32 f.down (.inl rfl) rfl))
    0x00000000#32 f.across (.inl rfl) rfl)

/-- It is the value of the marked point. -/
theorem pick_apply (f : Fits s) (hN : N = s * 128) (h : IVec ⟨2, ![s, 128]⟩ 1) (X : Sheet s) (E : Fin N → EReal)
    (hX : ∀ r l, X (ix2 r l) = E (place hN r l)) (p : Fin N)
    (hh : ∀ r l, h (ix2 r l) = if place hN r l = p then 1#1 else 0#1) : pick f h X (ix2 0 0) = E p := by
  have val : ∀ r l, (select h X (broadcast ⟨2, ![s, 128]⟩ (Scalar.ofBits (F := Ideal) .f32 0x00000000#32)) (ix2 r l) : EReal)
      = if place hN r l = p then E p else 0 := fun r l => by
    have e : (select h X (broadcast ⟨2, ![s, 128]⟩ (Scalar.ofBits (F := Ideal) .f32 0x00000000#32)) (ix2 r l) : EReal)
        = if h (ix2 r l) = 1#1 then X (ix2 r l) else Ideal.ofBits .f32 0x00000000#32 := rfl
    have zero : Ideal.ofBits .f32 0x00000000#32 = (0 : EReal) := by simp [Ideal.ofBits, Ideal.ieee]
    rw [e, hh, zero]
    by_cases g : place hN r l = p
    · rw [if_pos g, if_pos g, if_pos rfl, hX, g]
    · rw [if_neg g, if_neg g, if_neg (by decide)]
  have sum : ∀ l, multiReduction .add [0] ⟨1, ![128]⟩ (select h X (broadcast ⟨2, ![s, 128]⟩ (Scalar.ofBits (F := Ideal) .f32 0x00000000#32)))
      0x00000000#32 f.down (.inl rfl) rfl (ix1 l) = ∑ r, if place hN r l = p then E p else 0 := fun l =>
    (Reads.sum_col f.down _ l).trans (Finset.sum_congr rfl fun r _ => val r l)
  unfold pick
  rw [single_apply, Reads.sum_row]
  simp only [level_apply, sum]
  obtain ⟨r, l, rfl⟩ := exists_place hN p
  rw [Finset.sum_eq_single l, Finset.sum_eq_single r]
  · rw [if_pos rfl]
  · exact fun r' _ hr => if_neg fun g => hr (place_inj hN g).1
  · exact fun g => absurd (Finset.mem_univ _) g
  · exact fun l' _ hl => Finset.sum_eq_zero fun r' _ => if_neg fun g => hl (place_inj hN g).2
  · exact fun g => absurd (Finset.mem_univ _) g

/-- The squared distances after another point is taken. -/
def nearer (f : Fits s) (X Y Z D : Sheet s) (a b c : Cell) : Sheet s :=
  minimumf D (addf (addf (mulf (subf X (spread f a)) (subf X (spread f a))) (mulf (subf Y (spread f b)) (subf Y (spread f b))))
    (mulf (subf Z (spread f c)) (subf Z (spread f c))))

/-- What a round leaves: the squared distances and the coordinates of the point taken next. -/
def round (f : Fits s) (X Y Z : Sheet s) (v : Sheet s × Cell × Cell × Cell) : Sheet s × Cell × Cell × Cell :=
  have D : Sheet s := nearer f X Y Z v.1 v.2.1 v.2.2.1 v.2.2.2
  (D, pick f (hit f D) X, pick f (hit f D) Y, pick f (hit f D) Z)

/-- The lanes hold the squared distances `S.1`, and the cells the coordinates of point `S.2`. -/
structure Holds (hN : N = s * 128) (C : Fin N → Fin 3 → EReal) (v : Sheet s × Cell × Cell × Cell) (S : (Fin N → EReal) × Fin N) : Prop where
  dist : ∀ r l, v.1 (ix2 r l) = S.1 (place hN r l)
  x : v.2.1 (ix2 0 0) = C S.2 0
  y : v.2.2.1 (ix2 0 0) = C S.2 1
  z : v.2.2.2 (ix2 0 0) = C S.2 2

/-- A round takes the lanes to the next state. -/
theorem Holds.round [NeZero N] {hN : N = s * 128} {far : EReal} {C : Fin N → Fin 3 → EReal} {v : Sheet s × Cell × Cell × Cell} {k : ℕ}
    (h : Holds hN C v (state far C k)) (f : Fits s) (small : N < 2147483647) (X Y Z : Sheet s)
    (hX : ∀ r l, X (ix2 r l) = C (place hN r l) 0) (hY : ∀ r l, Y (ix2 r l) = C (place hN r l) 1)
    (hZ : ∀ r l, Z (ix2 r l) = C (place hN r l) 2) : Holds hN C (round f X Y Z v) (state far C (k + 1)) := by
  have hD : ∀ r l, nearer f X Y Z v.1 v.2.1 v.2.2.1 v.2.2.2 (ix2 r l) = (state far C (k + 1)).1 (place hN r l) := fun r l => by
    have e : nearer f X Y Z v.1 v.2.1 v.2.2.1 v.2.2.2 (ix2 r l)
        = min (v.1 (ix2 r l) : EReal) ((X (ix2 r l) - spread f v.2.1 (ix2 r l)) * (X (ix2 r l) - spread f v.2.1 (ix2 r l))
          + (Y (ix2 r l) - spread f v.2.2.1 (ix2 r l)) * (Y (ix2 r l) - spread f v.2.2.1 (ix2 r l))
          + (Z (ix2 r l) - spread f v.2.2.2 (ix2 r l)) * (Z (ix2 r l) - spread f v.2.2.2 (ix2 r l))) := rfl
    rw [e, spread_apply, spread_apply, spread_apply, h.x, h.y, h.z, hX, hY, hZ, h.dist, state_succ]
    unfold Far.nearer gap
    rw [Fin.sum_univ_three]
  have hh := hit_apply f hN small _ _ hD _ (state_top far C k)
  exact ⟨hD, pick_apply f hN _ X (fun n => C n 0) hX _ hh, pick_apply f hN _ Y (fun n => C n 1) hY _ hh,
    pick_apply f hN _ Z (fun n => C n 2) hZ _ hh⟩

end Cert.Lanes

end
-- ==== Proof.Rounds.lean ====
/- The rounds of a farthest point sampling kernel: the first point's row is stored, then each round stores the row of the
   point it takes. -/
module

public import proofs.«01_k».proof.Proof.Lanes
public import Idealize.ShloMosaic.Lib.WritesUnit
public import Idealize.ShloMosaic.Lib.Pipeline.ValueKit

@[expose] public section

noncomputable section

namespace Cert.Rounds

open Idealize.ShloMosaic Cert.Far Cert.Lanes

variable {s N M : ℕ}

/-- A plane of coordinates as rows of lanes. -/
def plane (f : Fits s) (x : FVec Ideal ⟨4, ![1, 1, s, 128]⟩ .f32) : Sheet s := shapeCast ⟨2, ![s, 128]⟩ x f.plane

/-- Its entries. -/
theorem plane_apply (f : Fits s) (x : FVec Ideal ⟨4, ![1, 1, s, 128]⟩ .f32) (r : Fin s) (l : Fin 128) :
    plane f x (ix2 r l) = x (ix4 0 0 r l) := by
  refine congrArg x (Shape.reshapeEquiv_eq_of_rowMajor _ ?_)
  rw [rowMajor_val2 _ _ rfl, rowMajor_val4 _ _ _ _ rfl rfl rfl]
  simp

/-- The value of the first lane. -/
def corner (f : Fits s) (X : Sheet s) : Cell := extractStridedSlice ⟨2, ![1, 1]⟩ ![0, 0] X f.corner

/-- It is the entry of the first row and lane. -/
theorem corner_apply (f : Fits s) (X : Sheet s) (h : 0 < s) : corner f X (ix2 0 0) = X (ix2 ⟨0, h⟩ 0) := by
  unfold corner extractStridedSlice
  refine congrArg X (funext fun z => Fin.ext ?_)
  match z with
  | ⟨0, _⟩ => rfl
  | ⟨1, _⟩ => rfl

/-- Three coordinates side by side. -/
def three (f : Fits s) (a b c : Cell) : FVec Ideal ⟨3, ![1, 1, 3]⟩ .f32 :=
  shapeCast ⟨3, ![1, 1, 3]⟩ (concatenate ⟨2, ![1, 3]⟩ 1 [⟨⟨2, ![1, 1]⟩, a⟩, ⟨⟨2, ![1, 1]⟩, b⟩, ⟨⟨2, ![1, 1]⟩, c⟩] f.three) f.up

/-- Each of them. -/
theorem three_apply (f : Fits s) (a b c : Cell) (p : Fin 3 → EReal) (ha : a (ix2 0 0) = p 0) (hb : b (ix2 0 0) = p 1)
    (hc : c (ix2 0 0) = p 2) (y : Fin 3) : three f a b c (ix3 0 0 y) = p y := by
  unfold three
  rw [Reads.lift]
  match y with
  | ⟨0, _⟩ => exact Eq.trans (congrArg a (funext fun z => Fin.ext (by match z with | ⟨0, _⟩ => rfl | ⟨1, _⟩ => rfl))) ha
  | ⟨1, _⟩ => exact Eq.trans (congrArg b (funext fun z => Fin.ext (by match z with | ⟨0, _⟩ => rfl | ⟨1, _⟩ => rfl))) hb
  | ⟨2, _⟩ => exact Eq.trans (congrArg c (funext fun z => Fin.ext (by match z with | ⟨0, _⟩ => rfl | ⟨1, _⟩ => rfl))) hc

/-- What is carried before the first round. -/
def start (f : Fits s) (X Y Z : Sheet s) : Sheet s × Cell × Cell × Cell :=
  (broadcast ⟨2, ![s, 128]⟩ (Scalar.ofBits .f32 0x501502F9#32), corner f X, corner f Y, corner f Z)

/-- It is the state before any round. -/
theorem holds_start [NeZero N] (f : Fits s) (hN : N = s * 128) (C : Fin N → Fin 3 → EReal) (X Y Z : Sheet s)
    (hX : ∀ r l, X (ix2 r l) = C (place hN r l) 0) (hY : ∀ r l, Y (ix2 r l) = C (place hN r l) 1)
    (hZ : ∀ r l, Z (ix2 r l) = C (place hN r l) 2) :
    Holds hN C (start f X Y Z) (state (Ideal.ofBits .f32 0x501502F9#32) C 0) := by
  have hs : 0 < s := by
    have := NeZero.ne N
    omega
  have first : place hN ⟨0, hs⟩ 0 = 0 := Fin.ext (by simp [place])
  refine ⟨fun _ _ => rfl, ?_, ?_, ?_⟩
  · exact (corner_apply f X hs).trans ((hX _ _).trans (by rw [first]; rfl))
  · exact (corner_apply f Y hs).trans ((hY _ _).trans (by rw [first]; rfl))
  · exact (corner_apply f Z hs).trans ((hZ _ _).trans (by rw [first]; rfl))

/-- After `k` rounds the carried values are the state's, and the first `k + 1` rows stored are the points' taken. -/
theorem rows {sig : RefSig} {κ : Kind} {sp : Space} [NeZero N] (f : Fits s) (hN : N = s * 128) (small : N < 2147483647)
    {far : EReal} (C : Fin N → Fin 3 → EReal) (X Y Z : Sheet s)
    (hX : ∀ r l, X (ix2 r l) = C (place hN r l) 0) (hY : ∀ r l, Y (ix2 r l) = C (place hN r l) 1)
    (hZ : ∀ r l, Z (ix2 r l) = C (place hN r l) 2)
    (v : View sig κ sp ⟨3, ![1, M, 3]⟩ .f32) (g)
    (S : ℕ → (Sheet s × Cell × Cell × Cell) × List (View.Piece (Elt Ideal) ⟨3, ![1, M, 3]⟩ .f32)) (n : ℕ)
    (h0 : Holds hN C (S 0).1 (state far C 0)) (e0 : (S 0).2 = [])
    (step : ∀ k < n, ∃ off inb, off = ![0, k + 1, 0] ∧ S (k + 1) = (round f X Y Z (S k).1,
      ⟨Rect.unit (s := ⟨3, ![1, M, 3]⟩) off ![1, 1, 3] inb,
        three f (round f X Y Z (S k).1).2.1 (round f X Y Z (S k).1).2.2.1 (round f X Y Z (S k).1).2.2.2⟩ :: (S k).2))
    (inb) (w : FVec Ideal ⟨3, ![1, 1, 3]⟩ .f32) (hw : ∀ y, w (ix3 0 0 y) = C 0 y) :
    ∀ k ≤ n, Holds hN C (S k).1 (state far C k) ∧ ∀ (j : Fin M), j.1 ≤ k → ∀ y,
      v.read (Elt Ideal) (v.writes (Elt Ideal) g ((S k).2 ++ [⟨Rect.unit (s := ⟨3, ![1, M, 3]⟩) ![0, 0, 0] ![1, 1, 3] inb, w⟩])) (ix3 0 j y)
        = C (state far C j.1).2 y := by
  intro k
  induction k with
  | zero =>
    refine fun _ => ⟨h0, fun j hj y => ?_⟩
    have j0 : j.1 = 0 := by omega
    rw [e0, List.nil_append, j0]
    refine (View.read_writes_cons_unit_of_mem v g inb w [] (ix3 0 j y) (ix3 0 0 y) rfl fun a => ?_).trans (hw y)
    match a with
    | ⟨0, _⟩ => rfl
    | ⟨1, _⟩ => exact j0
    | ⟨2, _⟩ => exact (Nat.zero_add _).symm
  | succ k ih =>
    intro hk
    obtain ⟨hold, ih⟩ := ih (by omega)
    obtain ⟨off, inb', hoff, e⟩ := step k (by omega)
    have next := hold.round f small X Y Z hX hY hZ
    rw [e]
    refine ⟨next, fun j hj y => ?_⟩
    rw [List.cons_append]
    by_cases hjk : j.1 = k + 1
    · refine (View.read_writes_cons_unit_of_mem v g inb' _ _ (ix3 0 j y) (ix3 0 0 y) hoff fun a => ?_).trans ?_
      · match a with
        | ⟨0, _⟩ => rfl
        | ⟨1, _⟩ => exact hjk
        | ⟨2, _⟩ => exact (Nat.zero_add _).symm
      · rw [hjk]
        exact three_apply f _ _ _ _ next.x next.y next.z y
    · refine (View.read_writes_cons_unit_of_not_mem v g inb' _ _ (ix3 0 j y) hoff 1 (.inl ?_)).trans (ih j (by omega) y)
      show j.1 < k + 1
      omega

end Cert.Rounds

end
-- ==== Proof.Taken0.lean ====
/- Farthest point sampling of the 4096 points of level 0: what the kernel's run leaves. -/
module

public import proofs.«01_k».proof.Proof.Rounds
public import proofs.«01_k».proof.Proof.HostReads
public import proofs.«01_k».proof.Proof.Gen.Sample0Ideal.Value

@[expose] public section

set_option maxRecDepth 16384

noncomputable section

namespace Cert.Taken0

open Cert.Sample0Ideal Cert.Sample0Ideal.Gen Cert.Sample0Ideal.Value Idealize.ShloMosaic Idealize.ShloMosaic.TcCoe Idealize.SL.Sem
open Cert.Far Cert.Lanes

/-- The shape relations of the rounds at this level. -/
theorem fits : Fits 32 :=
  ⟨iota_S32x128_d1_w32, iota_S32x128_d0_w32, broadcasts_S1x1_S32x128, reduces_S32x128_S128, shapeCasts_S128_S1x128,
    reduces_S1x128_S1, shapeCasts_S1_S1x1, slices_S32x128_o0_0_S1x1, shapeCasts_S1x1x32x128_S32x128,
    concatenates_S1x1_S1x1_S1x1_S1x3_d1, shapeCasts_S1x3_S1x1x3⟩

section Body

variable (c : Dev nD) (i : grid0.Coords) (a1 : Memref sig .tc .vmem S1x3x32x128 .f32) (h1 : a1.IsWhole)
  (a2 : Memref sig .tc .vmem S1x4096x3 .f32) (h2 : a2.IsWhole) (a3 : Memref sig .tc .vmem S1x1024x3 .f32) (h3 : a3.IsWhole)

/-- What a round hands to the next. -/
theorem round_eq (x y z : Vec Ideal S1x1x32x128 .f32) (k : Fin k0_t1_loop.trips) (acc) :
    tripR_k0_t1 (F := Ideal) Variants.none c none i a1 h1 a2 h2 a3 h3 x y z k acc
      = round fits (Rounds.plane fits x) (Rounds.plane fits y) (Rounds.plane fits z) acc := by
  unfold tripR_k0_t1 trip_k0_t1
  rfl

/-- What a round stores. -/
theorem row_eq (x y z : Vec Ideal S1x1x32x128 .f32) (k : Fin k0_t1_loop.trips) (acc) :
    tripL_k0_t1 (F := Ideal) Variants.none c none i a1 h1 a2 h2 a3 h3 x y z k acc
      = [⟨Rect.unit (s := S1x1024x3) (k0_off1 k) S1x1x3.size (k0_off1_inb k),
          Rounds.three fits (round fits (Rounds.plane fits x) (Rounds.plane fits y) (Rounds.plane fits z) acc).2.1
            (round fits (Rounds.plane fits x) (Rounds.plane fits y) (Rounds.plane fits z) acc).2.2.1
            (round fits (Rounds.plane fits x) (Rounds.plane fits y) (Rounds.plane fits z) acc).2.2.2⟩] := by
  unfold tripL_k0_t1 trip_k0_t1
  rfl

/-- A plane of the coordinates' block. -/
def sheet (x0 : Vec Ideal S1x3x32x128 .f32) : Fin 3 → Vec Ideal S1x1x32x128 .f32
  | 0 => View.ld x0 (Rect.unit (s := S1x3x32x128) ![0, 0, 0, 0] S1x1x32x128.size inb_S1x3x32x128_S1x1x32x128_0_0_0_0)
  | 1 => View.ld x0 (Rect.unit (s := S1x3x32x128) ![0, 1, 0, 0] S1x1x32x128.size inb_S1x3x32x128_S1x1x32x128_0_1_0_0)
  | 2 => View.ld x0 (Rect.unit (s := S1x3x32x128) ![0, 2, 0, 0] S1x1x32x128.size inb_S1x3x32x128_S1x1x32x128_0_2_0_0)

/-- Its entries. -/
theorem sheet_apply (x0 : Vec Ideal S1x3x32x128 .f32) (y : Fin 3) (r : Fin 32) (l : Fin 128) :
    Rounds.plane fits (sheet x0 y) (ix2 r l) = x0 (ix4 0 y r l) := by
  rw [Rounds.plane_apply]
  match y with
  | ⟨0, _⟩ | ⟨1, _⟩ | ⟨2, _⟩ =>
    refine congrArg x0 (funext fun z => Fin.ext ?_)
    match z with
    | ⟨0, _⟩ | ⟨1, _⟩ => rfl
    | ⟨2, _⟩ | ⟨3, _⟩ => exact (Nat.zero_add _).trans (Nat.one_mul _)

/-- The rows the body stores are the first point's and those of its rounds. -/
theorem pieces (x0 : Vec Ideal S1x3x32x128 .f32) (x1 : Vec Ideal S1x4096x3 .f32) :
    (kernelRun0_A c i a1 h1 a2 h2 a3 h3 x0 x1).1
      = (st_k0_t1 (F := Ideal) Variants.none c none i a1 h1 a2 h2 a3 h3 (sheet x0 0) (sheet x0 1) (sheet x0 2)
          (Rounds.start fits (Rounds.plane fits (sheet x0 0)) (Rounds.plane fits (sheet x0 1)) (Rounds.plane fits (sheet x0 2)))
          k0_t1_loop.trips).2
        ++ [⟨Rect.unit (s := S1x1024x3) ![0, 0, 0] S1x1x3.size inb_S1x1024x3_S1x1x3_0_0_0,
            k0_pay2 (View.ld x1 (Rect.unit (s := S1x4096x3) ![0, 0, 0] S1x1x3.size inb_S1x4096x3_S1x1x3_0_0_0))⟩] := by
  unfold kernelRun0_A
  dsimp only
  simp only [View.readAt_eq_ld, Memref.IsWhole.read_unread]
  rfl

/-- Where a round stores. -/
theorem off (k : Fin k0_t1_loop.trips) : k0_off1 k = ![0, k.1 + 1, 0] := by
  have h : k.1 < 1023 := k.2
  have e : (Scalar.indexCast (Scf.iv 1#32 1#32 k) : Index).toNat = k.1 + 1 := by
    simp only [Scalar.indexCast, Scf.iv]
    simp [BitVec.toNat_add, BitVec.toNat_ofNat]
    omega
  show ![0, (Scalar.indexCast (Scf.iv 1#32 1#32 k) : Index).toNat, 0] = _
  rw [e]

/-- What the body leaves: the rows of the points taken. -/
theorem out_apply (x0 : Vec Ideal S1x3x32x128 .f32) (x1 : Vec Ideal S1x4096x3 .f32) (C : Fin 4096 → Fin 3 → EReal)
    (h0 : ∀ y r l, x0 (ix4 0 y r l) = C (place (N := 4096) rfl r l) y) (hx : ∀ n y, x1 (ix3 0 n y) = C n y)
    (j : Fin 1024) (y : Fin 3) :
    out0_A_2 c i a1 h1 a2 h2 a3 h3 x0 x1 (ix3 0 j y) = C (state (Ideal.ofBits .f32 0x501502F9#32) C j.1).2 y := by
  unfold out0_A_2
  rw [pieces]
  have hs : ∀ y r l, Rounds.plane fits (sheet x0 y) (ix2 r l) = C (place (N := 4096) rfl r l) y := fun y r l =>
    (sheet_apply x0 y r l).trans (h0 y r l)
  refine (Rounds.rows fits rfl (by decide) C _ _ _ (hs 0) (hs 1) (hs 2) VO0_2 VO0_2.junk
    (st_k0_t1 (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))))
    k0_t1_loop.trips (Rounds.holds_start fits rfl C _ _ _ (hs 0) (hs 1) (hs 2)) rfl (fun k hk => ?_) _ _ (fun y => ?_)
    k0_t1_loop.trips le_rfl).2 j ?_ y
  · refine ⟨k0_off1 ⟨k, hk⟩, k0_off1_inb ⟨k, hk⟩, off ⟨k, hk⟩, ?_⟩
    have e := st_k0_t1_succ (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))) ⟨k, hk⟩
    rw [round_eq, row_eq] at e
    exact e
  · rw [← hx 0 y]
    unfold k0_pay2
    refine (Reads.lift _ _ _ _ _).trans ((Reads.drop _ _ _ _).trans (congrArg x1 (funext fun z => Fin.ext ?_)))
    match z with
    | ⟨0, _⟩ | ⟨1, _⟩ => rfl
    | ⟨2, _⟩ => exact (Nat.zero_add _).trans (Nat.one_mul _)
  · have := j.2
    show j.1 ≤ 1023
    omega

end Body

variable (m : (ℓ : Loc nD τ sig) → Buf (Elt Ideal) ℓ)

/-- The points of a batch. -/
def points (x : Vec Ideal S2x4096x3 .f32) (b : Fin 2) (n : Fin 4096) (y : Fin 3) : EReal := x (ix3 b n y)

/-- The points taken, in order, as a function of the argument. -/
def picked (x : Vec Ideal S2x4096x3 .f32) : Vec Ideal S2x1024x3 .f32 := fun i =>
  points x (i 0) (state (Ideal.ofBits .f32 0x501502F9#32) (points x (i 0)) (i 1).1).2 (i 2)

/-- Each window's block index at each grid point. -/
theorem index : ∀ t : Fin cfg0.N,
    (win0_0.index t (0 : Fin 4) = t.1 ∧ win0_0.index t (1 : Fin 4) = 0 ∧ win0_0.index t (2 : Fin 4) = 0 ∧ win0_0.index t (3 : Fin 4) = 0)
    ∧ (win0_1.index t (0 : Fin 3) = t.1 ∧ win0_1.index t (1 : Fin 3) = 0 ∧ win0_1.index t (2 : Fin 3) = 0)
    ∧ (win0_2.index t (0 : Fin 3) = t.1 ∧ win0_2.index t (1 : Fin 3) = 0 ∧ win0_2.index t (2 : Fin 3) = 0) :=
  (by decide +kernel : ∀ t : Fin grid0.N, _)

/-- The batch of a grid point. -/
def batch (t : Fin cfg0.N) : Fin 2 := ⟨t.1, by have := t.2; have : cfg0.N = 2 := rfl; omega⟩

/-- The blocks read at a place are the argument read at the batch's place. -/
theorem reads (c : Dev nD) (t : Fin cfg0.N) :
    (∀ (y : Fin 3) (r : Fin 32) (l : Fin 128), iblk m c 0 t (ix4 0 y r l)
      = points (m ((c : Thread nD τ).loc main_arg0)) (batch t) (place (N := 4096) rfl r l) y)
    ∧ ∀ (n : Fin 4096) (y : Fin 3), iblk m c 1 t (ix3 0 n y) = points (m ((c : Thread nD τ).loc main_arg0)) (batch t) n y := by
  have e : V m c main_v1 = shapeCast S2x3x32x128 (transpose S2x3x4096 [0, 2, 1] (m ((c : Thread nD τ).loc main_arg0))
      transposes_S2x4096x3_S2x3x4096_0_2_1) shapeCasts_S2x3x4096_S2x3x32x128 := rfl
  refine ⟨fun y r l => ?_, fun n y => ?_⟩
  · trans V m c main_v1 (ix4 (batch t) y r l)
    · blk_ext [iblk, batch, index t]
    · rw [e, HostReads.split _ _ rfl (batch t) y r l (place (N := 4096) rfl r l) rfl]
      exact congrArg (m ((c : Thread nD τ).loc main_arg0)) (funext fun z => Fin.ext (by match z with | ⟨0, _⟩ | ⟨1, _⟩ | ⟨2, _⟩ => rfl))
  · trans V m c main_arg0 (ix3 (batch t) n y)
    · blk_ext [iblk, batch, index t]
    · rfl

/-- What a grid point leaves is its block of the points taken. -/
theorem point (c : Dev nD) (t : Fin cfg0.N) (y : S1x1024x3.Idx) :
    out0_A_2 c (grid0.coords t) (ms0_0 t) (hs0_0 t) (ms0_1 t) (hs0_1 t) (ms0_2 t) (hs0_2 t) (iblk m c 0 t) (iblk m c 1 t) y
      = picked (m ((c : Thread nD τ).loc main_arg0)) (((View.whole main_v2).slice (win0_2.rect t)).emb y) := by
  obtain ⟨r0, r1⟩ := reads m c t
  obtain ⟨o, j, x, rfl⟩ : ∃ (o : Fin 1) (j : Fin 1024) (x : Fin 3), y = ix3 o j x := ⟨y 0, y 1, y 2, eq_ix3 y⟩
  obtain rfl : o = 0 := Subsingleton.elim _ _
  have e : ((View.whole main_v2).slice (win0_2.rect t)).emb (ix3 0 j x) = ix3 (batch t) j x := by
    blk_ext [batch, index t]
  rw [out_apply c _ _ _ _ _ _ _ _ _ (points (m ((c : Thread nD τ).loc main_arg0)) (batch t)) r0 r1, e]
  rfl

/-- The result array after the run. -/
theorem final (c : Dev nD) : (dats m 0 c).arrAt 2 cfg0.N = picked (m ((c : Thread nD τ).loc main_arg0)) := by
  refine (dats m 0 c).arrAt_eq_of_covers 2 _ (by decide +kernel) fun t hf y => ?_
  blk_simp
  rw [after0_2]
  unfold outsAt0
  exact point m c t y

/-- The kernel's run, its result the points taken. -/
theorem run (ρ : Dev nD → PrngReg) :
    θ_run defs (onTc (τ := τ) (main (F := Ideal))) ⟨m, fun _ => 0, ρ⟩ fun r => ∀ c : Dev nD,
      r.2.mem ((c : Thread nD τ).loc main_v2) = picked (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.Taken0

end
-- ==== Proof.RefTaken0.lean ====
/- Farthest point sampling of the 4096 points of level 0: what the reference's run leaves, and the claims of the call. -/
module

public import proofs.«01_k».proof.Proof.RefFar
public import proofs.«01_k».proof.Proof.Taken0
public import proofs.«01_k».proof.Proof.Gen.RefSample0Ideal.Run
public import proofs.«01_k».proof.Defs

@[expose] public section

set_option maxRecDepth 16384

noncomputable section

namespace Cert.RefTaken0

open Cert.RefSample0Ideal Cert.RefSample0Ideal.Gen Cert.RefSample0Ideal.Value Idealize.ShloMosaic Idealize.ShloMosaic.TcCoe
open Idealize.ShloMosaic.StableHlo Idealize.SL.Sem Cert.Far

/-- The shape relations of the steps at this level. -/
theorem fits : RefFar.Fits 2 4096 1024 :=
  ⟨bcast_S2_S2x1x1_0, bcast_S_S2x1x1, gather_S2x4096x3_S2x1x1_S2x1x3_2_1_0_0_1_2_113_wf, bcast_S2x1x3_S2x4096x3_0_1_2,
    reducesTo_S2x4096x3_S2x4096_d2, h_S_, bcast_S2x4096_S2x1x4096_0_2, sliceFits_S2x1x4096_S2x1x1, shapeCasts_S2x1x1_S2, bcast_S2_S2x1_0,
    updateFits_S2x1024_S2x1, bcast_S2x1024_S2x1024x1_0_1, bcast_S_S2x1024x1, gather_S2x4096x3_S2x1024x1_S2x1024x3_2_1_0_0_1_2_113_wf,
    shapeCasts_S2x1024x3_S2x1024x1x3, shapeCasts_S2x1024x1x3_S2x1024x3⟩

variable (m : (ℓ : Loc nD τ sig) → Buf (Elt Ideal) ℓ)

/-- What a valuation of the buffers holds after `k` steps over the points `C`. -/
structure Holds (C : Vec Ideal S2x4096x3 .f32) (k : ℕ) (V : Valuation τ sig (Elt Ideal)) : Prop where
  points : V (Proc.devRef .tc main_v3_0) = C
  state : RefFar.Holds (M := 1024) (Ideal.ofBits .f32 0x501502F9#32) C k (V (Proc.devRef .tc main_v3_2)) (V (Proc.devRef .tc main_v3_3))
    (V (Proc.devRef .tc main_v3_4)) (V (Proc.devRef .tc main_v3_5))

/-- The squared distances a trip leaves. -/
theorem dist_eq (V : Valuation τ sig (Elt Ideal)) : step_main_v3_4 V
    = RefFar.renew fits 4096#32 (V (Proc.devRef .tc main_v3_0)) (V (Proc.devRef .tc main_v3_4)) (V (Proc.devRef .tc main_v3_5)) := rfl

/-- The point a trip takes. -/
theorem next_eq (V : Valuation τ sig (Elt Ideal)) : step_main_v3_5 V = RefFar.next fits (step_main_v3_4 V) := rfl

/-- The list a trip leaves. -/
theorem list_eq (V : Valuation τ sig (Elt Ideal)) : step_main_v3_3 V
    = RefFar.put fits 1024#32 (V (Proc.devRef .tc main_v3_2)) (V (Proc.devRef .tc main_v3_3)) (step_main_v3_5 V) := rfl

/-- The count a trip leaves. -/
theorem count_eq (V : Valuation τ sig (Elt Ideal)) : step_main_v3_2 V
    = addi (V (Proc.devRef .tc main_v3_2)) (constantI RefFar.One 32 1#32) := rfl

/-- A trip is a step. -/
theorem Holds.step {C : Vec Ideal S2x4096x3 .f32} {k : ℕ} {V : Valuation τ sig (Elt Ideal)} (h : Holds C k V) (hk : k + 1 < 1024) :
    Holds C (k + 1) (STEP V) := by
  refine ⟨(STEP_main_v3_0 V).trans h.points, ?_⟩
  rw [STEP_main_v3_2, STEP_main_v3_3, STEP_main_v3_4, STEP_main_v3_5, list_eq, next_eq, dist_eq, count_eq, h.points]
  exact h.state.step fits 4096#32 1024#32 (by decide) (by decide) hk

/-- The buffers at the loop's entry. -/
theorem entry (c : Dev nD) : Holds (m ((c.tc : Thread nD τ).loc main_arg0)) 0 (entryContents preI m c) := by
  have e0 : entryContents preI m c (Proc.devRef .tc main_v3_0) = m ((c.tc : Thread nD τ).loc main_arg0) := by
    simp only [entryContents, afterL_cons, afterL_nil]
    after_reads_simp
    rfl
  have e2 : entryContents preI m c (Proc.devRef .tc main_v3_2) = constantI S_ 32 1#32 := by
    simp only [entryContents, afterL_cons, afterL_nil]
    after_reads_simp
    rfl
  have e3 : entryContents preI m c (Proc.devRef .tc main_v3_3) = broadcastInDim S2x1024 ![] bcast_S_S2x1024 (constantI S_ 32 0#32) := by
    simp only [entryContents, afterL_cons, afterL_nil]
    after_reads_simp
    rfl
  have e4 : entryContents preI m c (Proc.devRef .tc main_v3_4)
      = broadcastInDim S2x4096 ![] bcast_S_S2x4096 (constant (F := Ideal) S_ .f32 0x501502F9#32) := by
    simp only [entryContents, afterL_cons, afterL_nil]
    after_reads_simp
    rfl
  have e5 : entryContents preI m c (Proc.devRef .tc main_v3_5) = broadcastInDim S2 ![] bcast_S_S2 (constantI S_ 32 0#32) := by
    simp only [entryContents, afterL_cons, afterL_nil]
    after_reads_simp
    rfl
  refine ⟨e0, ?_⟩
  rw [e2, e3, e4, e5]
  exact RefFar.Holds.start (fun _ => rfl) (fun _ => rfl) (fun _ => rfl) fun _ => rfl

/-- The buffers after `k` trips. -/
theorem trips (c : Dev nD) : ∀ k, k < 1024 → Holds (m ((c.tc : Thread nD τ).loc main_arg0)) k (STEP^[k] (entryContents preI m c))
  | 0, _ => entry m c
  | k + 1, hk => by
    rw [Function.iterate_succ_apply']
    exact (trips c k (by omega)).step hk

/-- The result after the loop is the rows of the points listed. -/
theorem out_eq (V : Valuation τ sig (Elt Ideal)) : out_main_v7 V
    = RefFar.taken fits 4096#32 (V (Proc.devRef .tc main_arg0)) (V (Proc.devRef .tc main_v3_3)) := rfl

/-- The reference's result is the points taken. -/
theorem result (c : Dev nD) : out_main_v7 (STEP^[1023] (entryContents preI m c)) = Taken0.picked (m ((c.tc : Thread nD τ).loc main_arg0)) := by
  rw [out_eq, iter_main_arg0 m c 1023]
  funext z
  obtain ⟨b, j, y, rfl⟩ : ∃ (b : Fin 2) (j : Fin 1024) (y : Fin 3), z = ix3 b j y := ⟨z 0, z 1, z 2, eq_ix3 z⟩
  exact RefFar.taken_apply fits 4096#32 (by decide) _ _ b j _ ((trips m c 1023 (by decide)).state.list b j (by have := j.2; omega)) y

end Cert.RefTaken0

namespace Cert.Taken0

open Idealize.ShloMosaic Idealize.ShloMosaic.TcCoe Idealize.SL.Sem

/-- The reference runs and leaves its argument. -/
theorem frame : quiescent_RefSample0Ideal := fun m g _ =>
  (θ_run Cert.RefSample0Ideal.defs _ _).mono (fun r h => ⟨fun c => (h c).2, sem_eq_zero_of_no_sems (by decide) r.2⟩)
    (Cert.RefSample0Ideal.Value.run (F := Ideal) m g)

/-- No operation is replaced. -/
theorem preserves : preserves_Sample0_Sample0Ideal := trivial

/-- The kernel's result is the reference's. -/
theorem algebraic : algebraic_Sample0Ideal_RefSample0Ideal := by
  intro m g m' g' _ ha
  refine ⟨fun c => picked (m ((c.tc : Thread Cert.Sample0Ideal.nD Cert.Sample0Ideal.τ).loc Cert.Sample0Ideal.main_arg0)), run m g, ?_⟩
  refine (θ_run _ _ _).mono (fun r h c => ⟨(h c).1.trans ?_, (h c).2⟩) (Cert.RefSample0Ideal.Value.run m' g')
  rw [Cert.RefTaken0.result, ha c]

end Cert.Taken0

end
-- ==== Proof.Taken1.lean ====
/- Farthest point sampling of the 1024 points of level 1: what the kernel's run leaves. -/
module

public import proofs.«01_k».proof.Proof.Rounds
public import proofs.«01_k».proof.Proof.HostReads
public import proofs.«01_k».proof.Proof.Gen.Sample1Ideal.Value

@[expose] public section

set_option maxRecDepth 16384

noncomputable section

namespace Cert.Taken1

open Cert.Sample1Ideal Cert.Sample1Ideal.Gen Cert.Sample1Ideal.Value Idealize.ShloMosaic Idealize.ShloMosaic.TcCoe Idealize.SL.Sem
open Cert.Far Cert.Lanes

/-- The shape relations of the rounds at this level. -/
theorem fits : Fits 8 :=
  ⟨iota_S8x128_d1_w32, iota_S8x128_d0_w32, broadcasts_S1x1_S8x128, reduces_S8x128_S128, shapeCasts_S128_S1x128,
    reduces_S1x128_S1, shapeCasts_S1_S1x1, slices_S8x128_o0_0_S1x1, shapeCasts_S1x1x8x128_S8x128,
    concatenates_S1x1_S1x1_S1x1_S1x3_d1, shapeCasts_S1x3_S1x1x3⟩

section Body

variable (c : Dev nD) (i : grid0.Coords) (a1 : Memref sig .tc .vmem S1x3x8x128 .f32) (h1 : a1.IsWhole)
  (a2 : Memref sig .tc .vmem S1x1024x3 .f32) (h2 : a2.IsWhole) (a3 : Memref sig .tc .vmem S1x256x3 .f32) (h3 : a3.IsWhole)

/-- What a round hands to the next. -/
theorem round_eq (x y z : Vec Ideal S1x1x8x128 .f32) (k : Fin k0_t1_loop.trips) (acc) :
    tripR_k0_t1 (F := Ideal) Variants.none c none i a1 h1 a2 h2 a3 h3 x y z k acc
      = round fits (Rounds.plane fits x) (Rounds.plane fits y) (Rounds.plane fits z) acc := by
  unfold tripR_k0_t1 trip_k0_t1
  rfl

/-- What a round stores. -/
theorem row_eq (x y z : Vec Ideal S1x1x8x128 .f32) (k : Fin k0_t1_loop.trips) (acc) :
    tripL_k0_t1 (F := Ideal) Variants.none c none i a1 h1 a2 h2 a3 h3 x y z k acc
      = [⟨Rect.unit (s := S1x256x3) (k0_off1 k) S1x1x3.size (k0_off1_inb k),
          Rounds.three fits (round fits (Rounds.plane fits x) (Rounds.plane fits y) (Rounds.plane fits z) acc).2.1
            (round fits (Rounds.plane fits x) (Rounds.plane fits y) (Rounds.plane fits z) acc).2.2.1
            (round fits (Rounds.plane fits x) (Rounds.plane fits y) (Rounds.plane fits z) acc).2.2.2⟩] := by
  unfold tripL_k0_t1 trip_k0_t1
  rfl

/-- A plane of the coordinates' block. -/
def sheet (x0 : Vec Ideal S1x3x8x128 .f32) : Fin 3 → Vec Ideal S1x1x8x128 .f32
  | 0 => View.ld x0 (Rect.unit (s := S1x3x8x128) ![0, 0, 0, 0] S1x1x8x128.size inb_S1x3x8x128_S1x1x8x128_0_0_0_0)
  | 1 => View.ld x0 (Rect.unit (s := S1x3x8x128) ![0, 1, 0, 0] S1x1x8x128.size inb_S1x3x8x128_S1x1x8x128_0_1_0_0)
  | 2 => View.ld x0 (Rect.unit (s := S1x3x8x128) ![0, 2, 0, 0] S1x1x8x128.size inb_S1x3x8x128_S1x1x8x128_0_2_0_0)

/-- Its entries. -/
theorem sheet_apply (x0 : Vec Ideal S1x3x8x128 .f32) (y : Fin 3) (r : Fin 8) (l : Fin 128) :
    Rounds.plane fits (sheet x0 y) (ix2 r l) = x0 (ix4 0 y r l) := by
  rw [Rounds.plane_apply]
  match y with
  | ⟨0, _⟩ | ⟨1, _⟩ | ⟨2, _⟩ =>
    refine congrArg x0 (funext fun z => Fin.ext ?_)
    match z with
    | ⟨0, _⟩ | ⟨1, _⟩ => rfl
    | ⟨2, _⟩ | ⟨3, _⟩ => exact (Nat.zero_add _).trans (Nat.one_mul _)

/-- The rows the body stores are the first point's and those of its rounds. -/
theorem pieces (x0 : Vec Ideal S1x3x8x128 .f32) (x1 : Vec Ideal S1x1024x3 .f32) :
    (kernelRun0_A c i a1 h1 a2 h2 a3 h3 x0 x1).1
      = (st_k0_t1 (F := Ideal) Variants.none c none i a1 h1 a2 h2 a3 h3 (sheet x0 0) (sheet x0 1) (sheet x0 2)
          (Rounds.start fits (Rounds.plane fits (sheet x0 0)) (Rounds.plane fits (sheet x0 1)) (Rounds.plane fits (sheet x0 2)))
          k0_t1_loop.trips).2
        ++ [⟨Rect.unit (s := S1x256x3) ![0, 0, 0] S1x1x3.size inb_S1x256x3_S1x1x3_0_0_0,
            k0_pay2 (View.ld x1 (Rect.unit (s := S1x1024x3) ![0, 0, 0] S1x1x3.size inb_S1x1024x3_S1x1x3_0_0_0))⟩] := by
  unfold kernelRun0_A
  dsimp only
  simp only [View.readAt_eq_ld, Memref.IsWhole.read_unread]
  rfl

/-- Where a round stores. -/
theorem off (k : Fin k0_t1_loop.trips) : k0_off1 k = ![0, k.1 + 1, 0] := by
  have h : k.1 < 255 := k.2
  have e : (Scalar.indexCast (Scf.iv 1#32 1#32 k) : Index).toNat = k.1 + 1 := by
    simp only [Scalar.indexCast, Scf.iv]
    simp [BitVec.toNat_add, BitVec.toNat_ofNat]
    omega
  show ![0, (Scalar.indexCast (Scf.iv 1#32 1#32 k) : Index).toNat, 0] = _
  rw [e]

/-- What the body leaves: the rows of the points taken. -/
theorem out_apply (x0 : Vec Ideal S1x3x8x128 .f32) (x1 : Vec Ideal S1x1024x3 .f32) (C : Fin 1024 → Fin 3 → EReal)
    (h0 : ∀ y r l, x0 (ix4 0 y r l) = C (place (N := 1024) rfl r l) y) (hx : ∀ n y, x1 (ix3 0 n y) = C n y)
    (j : Fin 256) (y : Fin 3) :
    out0_A_2 c i a1 h1 a2 h2 a3 h3 x0 x1 (ix3 0 j y) = C (state (Ideal.ofBits .f32 0x501502F9#32) C j.1).2 y := by
  unfold out0_A_2
  rw [pieces]
  have hs : ∀ y r l, Rounds.plane fits (sheet x0 y) (ix2 r l) = C (place (N := 1024) rfl r l) y := fun y r l =>
    (sheet_apply x0 y r l).trans (h0 y r l)
  refine (Rounds.rows fits rfl (by decide) C _ _ _ (hs 0) (hs 1) (hs 2) VO0_2 VO0_2.junk
    (st_k0_t1 (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))))
    k0_t1_loop.trips (Rounds.holds_start fits rfl C _ _ _ (hs 0) (hs 1) (hs 2)) rfl (fun k hk => ?_) _ _ (fun y => ?_)
    k0_t1_loop.trips le_rfl).2 j ?_ y
  · refine ⟨k0_off1 ⟨k, hk⟩, k0_off1_inb ⟨k, hk⟩, off ⟨k, hk⟩, ?_⟩
    have e := st_k0_t1_succ (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))) ⟨k, hk⟩
    rw [round_eq, row_eq] at e
    exact e
  · rw [← hx 0 y]
    unfold k0_pay2
    refine (Reads.lift _ _ _ _ _).trans ((Reads.drop _ _ _ _).trans (congrArg x1 (funext fun z => Fin.ext ?_)))
    match z with
    | ⟨0, _⟩ | ⟨1, _⟩ => rfl
    | ⟨2, _⟩ => exact (Nat.zero_add _).trans (Nat.one_mul _)
  · have := j.2
    show j.1 ≤ 255
    omega

end Body

variable (m : (ℓ : Loc nD τ sig) → Buf (Elt Ideal) ℓ)

/-- The points of a batch. -/
def points (x : Vec Ideal S2x1024x3 .f32) (b : Fin 2) (n : Fin 1024) (y : Fin 3) : EReal := x (ix3 b n y)

/-- The points taken, in order, as a function of the argument. -/
def picked (x : Vec Ideal S2x1024x3 .f32) : Vec Ideal S2x256x3 .f32 := fun i =>
  points x (i 0) (state (Ideal.ofBits .f32 0x501502F9#32) (points x (i 0)) (i 1).1).2 (i 2)

/-- Each window's block index at each grid point. -/
theorem index : ∀ t : Fin cfg0.N,
    (win0_0.index t (0 : Fin 4) = t.1 ∧ win0_0.index t (1 : Fin 4) = 0 ∧ win0_0.index t (2 : Fin 4) = 0 ∧ win0_0.index t (3 : Fin 4) = 0)
    ∧ (win0_1.index t (0 : Fin 3) = t.1 ∧ win0_1.index t (1 : Fin 3) = 0 ∧ win0_1.index t (2 : Fin 3) = 0)
    ∧ (win0_2.index t (0 : Fin 3) = t.1 ∧ win0_2.index t (1 : Fin 3) = 0 ∧ win0_2.index t (2 : Fin 3) = 0) :=
  (by decide +kernel : ∀ t : Fin grid0.N, _)

/-- The batch of a grid point. -/
def batch (t : Fin cfg0.N) : Fin 2 := ⟨t.1, by have := t.2; have : cfg0.N = 2 := rfl; omega⟩

/-- The blocks read at a place are the argument read at the batch's place. -/
theorem reads (c : Dev nD) (t : Fin cfg0.N) :
    (∀ (y : Fin 3) (r : Fin 8) (l : Fin 128), iblk m c 0 t (ix4 0 y r l)
      = points (m ((c : Thread nD τ).loc main_arg0)) (batch t) (place (N := 1024) rfl r l) y)
    ∧ ∀ (n : Fin 1024) (y : Fin 3), iblk m c 1 t (ix3 0 n y) = points (m ((c : Thread nD τ).loc main_arg0)) (batch t) n y := by
  have e : V m c main_v1 = shapeCast S2x3x8x128 (transpose S2x3x1024 [0, 2, 1] (m ((c : Thread nD τ).loc main_arg0))
      transposes_S2x1024x3_S2x3x1024_0_2_1) shapeCasts_S2x3x1024_S2x3x8x128 := rfl
  refine ⟨fun y r l => ?_, fun n y => ?_⟩
  · trans V m c main_v1 (ix4 (batch t) y r l)
    · blk_ext [iblk, batch, index t]
    · rw [e, HostReads.split _ _ rfl (batch t) y r l (place (N := 1024) rfl r l) rfl]
      exact congrArg (m ((c : Thread nD τ).loc main_arg0)) (funext fun z => Fin.ext (by match z with | ⟨0, _⟩ | ⟨1, _⟩ | ⟨2, _⟩ => rfl))
  · trans V m c main_arg0 (ix3 (batch t) n y)
    · blk_ext [iblk, batch, index t]
    · rfl

/-- What a grid point leaves is its block of the points taken. -/
theorem point (c : Dev nD) (t : Fin cfg0.N) (y : S1x256x3.Idx) :
    out0_A_2 c (grid0.coords t) (ms0_0 t) (hs0_0 t) (ms0_1 t) (hs0_1 t) (ms0_2 t) (hs0_2 t) (iblk m c 0 t) (iblk m c 1 t) y
      = picked (m ((c : Thread nD τ).loc main_arg0)) (((View.whole main_v2).slice (win0_2.rect t)).emb y) := by
  obtain ⟨r0, r1⟩ := reads m c t
  obtain ⟨o, j, x, rfl⟩ : ∃ (o : Fin 1) (j : Fin 256) (x : Fin 3), y = ix3 o j x := ⟨y 0, y 1, y 2, eq_ix3 y⟩
  obtain rfl : o = 0 := Subsingleton.elim _ _
  have e : ((View.whole main_v2).slice (win0_2.rect t)).emb (ix3 0 j x) = ix3 (batch t) j x := by
    blk_ext [batch, index t]
  rw [out_apply c _ _ _ _ _ _ _ _ _ (points (m ((c : Thread nD τ).loc main_arg0)) (batch t)) r0 r1, e]
  rfl

/-- The result array after the run. -/
theorem final (c : Dev nD) : (dats m 0 c).arrAt 2 cfg0.N = picked (m ((c : Thread nD τ).loc main_arg0)) := by
  refine (dats m 0 c).arrAt_eq_of_covers 2 _ (by decide +kernel) fun t hf y => ?_
  blk_simp
  rw [after0_2]
  unfold outsAt0
  exact point m c t y

/-- The kernel's run, its result the points taken. -/
theorem run (ρ : Dev nD → PrngReg) :
    θ_run defs (onTc (τ := τ) (main (F := Ideal))) ⟨m, fun _ => 0, ρ⟩ fun r => ∀ c : Dev nD,
      r.2.mem ((c : Thread nD τ).loc main_v2) = picked (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.Taken1

end
-- ==== Proof.RefTaken1.lean ====
/- Farthest point sampling of the 1024 points of level 1: what the reference's run leaves, and the claims of the call. -/
module

public import proofs.«01_k».proof.Proof.RefFar
public import proofs.«01_k».proof.Proof.Taken1
public import proofs.«01_k».proof.Proof.Gen.RefSample1Ideal.Run
public import proofs.«01_k».proof.Defs

@[expose] public section

set_option maxRecDepth 16384

noncomputable section

namespace Cert.RefTaken1

open Cert.RefSample1Ideal Cert.RefSample1Ideal.Gen Cert.RefSample1Ideal.Value Idealize.ShloMosaic Idealize.ShloMosaic.TcCoe
open Idealize.ShloMosaic.StableHlo Idealize.SL.Sem Cert.Far

/-- The shape relations of the steps at this level. -/
theorem fits : RefFar.Fits 2 1024 256 :=
  ⟨bcast_S2_S2x1x1_0, bcast_S_S2x1x1, gather_S2x1024x3_S2x1x1_S2x1x3_2_1_0_0_1_2_113_wf, bcast_S2x1x3_S2x1024x3_0_1_2,
    reducesTo_S2x1024x3_S2x1024_d2, h_S_, bcast_S2x1024_S2x1x1024_0_2, sliceFits_S2x1x1024_S2x1x1, shapeCasts_S2x1x1_S2, bcast_S2_S2x1_0,
    updateFits_S2x256_S2x1, bcast_S2x256_S2x256x1_0_1, bcast_S_S2x256x1, gather_S2x1024x3_S2x256x1_S2x256x3_2_1_0_0_1_2_113_wf,
    shapeCasts_S2x256x3_S2x256x1x3, shapeCasts_S2x256x1x3_S2x256x3⟩

variable (m : (ℓ : Loc nD τ sig) → Buf (Elt Ideal) ℓ)

/-- What a valuation of the buffers holds after `k` steps over the points `C`. -/
structure Holds (C : Vec Ideal S2x1024x3 .f32) (k : ℕ) (V : Valuation τ sig (Elt Ideal)) : Prop where
  points : V (Proc.devRef .tc main_v3_0) = C
  state : RefFar.Holds (M := 256) (Ideal.ofBits .f32 0x501502F9#32) C k (V (Proc.devRef .tc main_v3_2)) (V (Proc.devRef .tc main_v3_3))
    (V (Proc.devRef .tc main_v3_4)) (V (Proc.devRef .tc main_v3_5))

/-- The squared distances a trip leaves. -/
theorem dist_eq (V : Valuation τ sig (Elt Ideal)) : step_main_v3_4 V
    = RefFar.renew fits 1024#32 (V (Proc.devRef .tc main_v3_0)) (V (Proc.devRef .tc main_v3_4)) (V (Proc.devRef .tc main_v3_5)) := rfl

/-- The point a trip takes. -/
theorem next_eq (V : Valuation τ sig (Elt Ideal)) : step_main_v3_5 V = RefFar.next fits (step_main_v3_4 V) := rfl

/-- The list a trip leaves. -/
theorem list_eq (V : Valuation τ sig (Elt Ideal)) : step_main_v3_3 V
    = RefFar.put fits 256#32 (V (Proc.devRef .tc main_v3_2)) (V (Proc.devRef .tc main_v3_3)) (step_main_v3_5 V) := rfl

/-- The count a trip leaves. -/
theorem count_eq (V : Valuation τ sig (Elt Ideal)) : step_main_v3_2 V
    = addi (V (Proc.devRef .tc main_v3_2)) (constantI RefFar.One 32 1#32) := rfl

/-- A trip is a step. -/
theorem Holds.step {C : Vec Ideal S2x1024x3 .f32} {k : ℕ} {V : Valuation τ sig (Elt Ideal)} (h : Holds C k V) (hk : k + 1 < 256) :
    Holds C (k + 1) (STEP V) := by
  refine ⟨(STEP_main_v3_0 V).trans h.points, ?_⟩
  rw [STEP_main_v3_2, STEP_main_v3_3, STEP_main_v3_4, STEP_main_v3_5, list_eq, next_eq, dist_eq, count_eq, h.points]
  exact h.state.step fits 1024#32 256#32 (by decide) (by decide) hk

/-- The buffers at the loop's entry. -/
theorem entry (c : Dev nD) : Holds (m ((c.tc : Thread nD τ).loc main_arg0)) 0 (entryContents preI m c) := by
  have e0 : entryContents preI m c (Proc.devRef .tc main_v3_0) = m ((c.tc : Thread nD τ).loc main_arg0) := by
    simp only [entryContents, afterL_cons, afterL_nil]
    after_reads_simp
    rfl
  have e2 : entryContents preI m c (Proc.devRef .tc main_v3_2) = constantI S_ 32 1#32 := by
    simp only [entryContents, afterL_cons, afterL_nil]
    after_reads_simp
    rfl
  have e3 : entryContents preI m c (Proc.devRef .tc main_v3_3) = broadcastInDim S2x256 ![] bcast_S_S2x256 (constantI S_ 32 0#32) := by
    simp only [entryContents, afterL_cons, afterL_nil]
    after_reads_simp
    rfl
  have e4 : entryContents preI m c (Proc.devRef .tc main_v3_4)
      = broadcastInDim S2x1024 ![] bcast_S_S2x1024 (constant (F := Ideal) S_ .f32 0x501502F9#32) := by
    simp only [entryContents, afterL_cons, afterL_nil]
    after_reads_simp
    rfl
  have e5 : entryContents preI m c (Proc.devRef .tc main_v3_5) = broadcastInDim S2 ![] bcast_S_S2 (constantI S_ 32 0#32) := by
    simp only [entryContents, afterL_cons, afterL_nil]
    after_reads_simp
    rfl
  refine ⟨e0, ?_⟩
  rw [e2, e3, e4, e5]
  exact RefFar.Holds.start (fun _ => rfl) (fun _ => rfl) (fun _ => rfl) fun _ => rfl

/-- The buffers after `k` trips. -/
theorem trips (c : Dev nD) : ∀ k, k < 256 → Holds (m ((c.tc : Thread nD τ).loc main_arg0)) k (STEP^[k] (entryContents preI m c))
  | 0, _ => entry m c
  | k + 1, hk => by
    rw [Function.iterate_succ_apply']
    exact (trips c k (by omega)).step hk

/-- The result after the loop is the rows of the points listed. -/
theorem out_eq (V : Valuation τ sig (Elt Ideal)) : out_main_v7 V
    = RefFar.taken fits 1024#32 (V (Proc.devRef .tc main_arg0)) (V (Proc.devRef .tc main_v3_3)) := rfl

/-- The reference's result is the points taken. -/
theorem result (c : Dev nD) : out_main_v7 (STEP^[255] (entryContents preI m c)) = Taken1.picked (m ((c.tc : Thread nD τ).loc main_arg0)) := by
  rw [out_eq, iter_main_arg0 m c 255]
  funext z
  obtain ⟨b, j, y, rfl⟩ : ∃ (b : Fin 2) (j : Fin 256) (y : Fin 3), z = ix3 b j y := ⟨z 0, z 1, z 2, eq_ix3 z⟩
  exact RefFar.taken_apply fits 1024#32 (by decide) _ _ b j _ ((trips m c 255 (by decide)).state.list b j (by have := j.2; omega)) y

end Cert.RefTaken1

namespace Cert.Taken1

open Idealize.ShloMosaic Idealize.ShloMosaic.TcCoe Idealize.SL.Sem

/-- The reference runs and leaves its argument. -/
theorem frame : quiescent_RefSample1Ideal := fun m g _ =>
  (θ_run Cert.RefSample1Ideal.defs _ _).mono (fun r h => ⟨fun c => (h c).2, sem_eq_zero_of_no_sems (by decide) r.2⟩)
    (Cert.RefSample1Ideal.Value.run (F := Ideal) m g)

/-- No operation is replaced. -/
theorem preserves : preserves_Sample1_Sample1Ideal := trivial

/-- The kernel's result is the reference's. -/
theorem algebraic : algebraic_Sample1Ideal_RefSample1Ideal := by
  intro m g m' g' _ ha
  refine ⟨fun c => picked (m ((c.tc : Thread Cert.Sample1Ideal.nD Cert.Sample1Ideal.τ).loc Cert.Sample1Ideal.main_arg0)), run m g, ?_⟩
  refine (θ_run _ _ _).mono (fun r h c => ⟨(h c).1.trans ?_, (h c).2⟩) (Cert.RefSample1Ideal.Value.run m' g')
  rw [Cert.RefTaken1.result, ha c]

end Cert.Taken1

end
-- ==== Proof.Taken2.lean ====
/- Farthest point sampling of the 256 points of level 2: what the kernel's run leaves. -/
module

public import proofs.«01_k».proof.Proof.Rounds
public import proofs.«01_k».proof.Proof.HostReads
public import proofs.«01_k».proof.Proof.Gen.Sample2Ideal.Value

@[expose] public section

set_option maxRecDepth 16384

noncomputable section

namespace Cert.Taken2

open Cert.Sample2Ideal Cert.Sample2Ideal.Gen Cert.Sample2Ideal.Value Idealize.ShloMosaic Idealize.ShloMosaic.TcCoe Idealize.SL.Sem
open Cert.Far Cert.Lanes

/-- The shape relations of the rounds at this level. -/
theorem fits : Fits 2 :=
  ⟨iota_S2x128_d1_w32, iota_S2x128_d0_w32, broadcasts_S1x1_S2x128, reduces_S2x128_S128, shapeCasts_S128_S1x128,
    reduces_S1x128_S1, shapeCasts_S1_S1x1, slices_S2x128_o0_0_S1x1, shapeCasts_S1x1x2x128_S2x128,
    concatenates_S1x1_S1x1_S1x1_S1x3_d1, shapeCasts_S1x3_S1x1x3⟩

section Body

variable (c : Dev nD) (i : grid0.Coords) (a1 : Memref sig .tc .vmem S1x3x2x128 .f32) (h1 : a1.IsWhole)
  (a2 : Memref sig .tc .vmem S1x256x3 .f32) (h2 : a2.IsWhole) (a3 : Memref sig .tc .vmem S1x64x3 .f32) (h3 : a3.IsWhole)

/-- What a round hands to the next. -/
theorem round_eq (x y z : Vec Ideal S1x1x2x128 .f32) (k : Fin k0_t1_loop.trips) (acc) :
    tripR_k0_t1 (F := Ideal) Variants.none c none i a1 h1 a2 h2 a3 h3 x y z k acc
      = round fits (Rounds.plane fits x) (Rounds.plane fits y) (Rounds.plane fits z) acc := by
  unfold tripR_k0_t1 trip_k0_t1
  rfl

/-- What a round stores. -/
theorem row_eq (x y z : Vec Ideal S1x1x2x128 .f32) (k : Fin k0_t1_loop.trips) (acc) :
    tripL_k0_t1 (F := Ideal) Variants.none c none i a1 h1 a2 h2 a3 h3 x y z k acc
      = [⟨Rect.unit (s := S1x64x3) (k0_off1 k) S1x1x3.size (k0_off1_inb k),
          Rounds.three fits (round fits (Rounds.plane fits x) (Rounds.plane fits y) (Rounds.plane fits z) acc).2.1
            (round fits (Rounds.plane fits x) (Rounds.plane fits y) (Rounds.plane fits z) acc).2.2.1
            (round fits (Rounds.plane fits x) (Rounds.plane fits y) (Rounds.plane fits z) acc).2.2.2⟩] := by
  unfold tripL_k0_t1 trip_k0_t1
  rfl

/-- A plane of the coordinates' block. -/
def sheet (x0 : Vec Ideal S1x3x2x128 .f32) : Fin 3 → Vec Ideal S1x1x2x128 .f32
  | 0 => View.ld x0 (Rect.unit (s := S1x3x2x128) ![0, 0, 0, 0] S1x1x2x128.size inb_S1x3x2x128_S1x1x2x128_0_0_0_0)
  | 1 => View.ld x0 (Rect.unit (s := S1x3x2x128) ![0, 1, 0, 0] S1x1x2x128.size inb_S1x3x2x128_S1x1x2x128_0_1_0_0)
  | 2 => View.ld x0 (Rect.unit (s := S1x3x2x128) ![0, 2, 0, 0] S1x1x2x128.size inb_S1x3x2x128_S1x1x2x128_0_2_0_0)

/-- Its entries. -/
theorem sheet_apply (x0 : Vec Ideal S1x3x2x128 .f32) (y : Fin 3) (r : Fin 2) (l : Fin 128) :
    Rounds.plane fits (sheet x0 y) (ix2 r l) = x0 (ix4 0 y r l) := by
  rw [Rounds.plane_apply]
  match y with
  | ⟨0, _⟩ | ⟨1, _⟩ | ⟨2, _⟩ =>
    refine congrArg x0 (funext fun z => Fin.ext ?_)
    match z with
    | ⟨0, _⟩ | ⟨1, _⟩ => rfl
    | ⟨2, _⟩ | ⟨3, _⟩ => exact (Nat.zero_add _).trans (Nat.one_mul _)

/-- The rows the body stores are the first point's and those of its rounds. -/
theorem pieces (x0 : Vec Ideal S1x3x2x128 .f32) (x1 : Vec Ideal S1x256x3 .f32) :
    (kernelRun0_A c i a1 h1 a2 h2 a3 h3 x0 x1).1
      = (st_k0_t1 (F := Ideal) Variants.none c none i a1 h1 a2 h2 a3 h3 (sheet x0 0) (sheet x0 1) (sheet x0 2)
          (Rounds.start fits (Rounds.plane fits (sheet x0 0)) (Rounds.plane fits (sheet x0 1)) (Rounds.plane fits (sheet x0 2)))
          k0_t1_loop.trips).2
        ++ [⟨Rect.unit (s := S1x64x3) ![0, 0, 0] S1x1x3.size inb_S1x64x3_S1x1x3_0_0_0,
            k0_pay2 (View.ld x1 (Rect.unit (s := S1x256x3) ![0, 0, 0] S1x1x3.size inb_S1x256x3_S1x1x3_0_0_0))⟩] := by
  unfold kernelRun0_A
  dsimp only
  simp only [View.readAt_eq_ld, Memref.IsWhole.read_unread]
  rfl

/-- Where a round stores. -/
theorem off (k : Fin k0_t1_loop.trips) : k0_off1 k = ![0, k.1 + 1, 0] := by
  have h : k.1 < 63 := k.2
  have e : (Scalar.indexCast (Scf.iv 1#32 1#32 k) : Index).toNat = k.1 + 1 := by
    simp only [Scalar.indexCast, Scf.iv]
    simp [BitVec.toNat_add, BitVec.toNat_ofNat]
    omega
  show ![0, (Scalar.indexCast (Scf.iv 1#32 1#32 k) : Index).toNat, 0] = _
  rw [e]

/-- What the body leaves: the rows of the points taken. -/
theorem out_apply (x0 : Vec Ideal S1x3x2x128 .f32) (x1 : Vec Ideal S1x256x3 .f32) (C : Fin 256 → Fin 3 → EReal)
    (h0 : ∀ y r l, x0 (ix4 0 y r l) = C (place (N := 256) rfl r l) y) (hx : ∀ n y, x1 (ix3 0 n y) = C n y)
    (j : Fin 64) (y : Fin 3) :
    out0_A_2 c i a1 h1 a2 h2 a3 h3 x0 x1 (ix3 0 j y) = C (state (Ideal.ofBits .f32 0x501502F9#32) C j.1).2 y := by
  unfold out0_A_2
  rw [pieces]
  have hs : ∀ y r l, Rounds.plane fits (sheet x0 y) (ix2 r l) = C (place (N := 256) rfl r l) y := fun y r l =>
    (sheet_apply x0 y r l).trans (h0 y r l)
  refine (Rounds.rows fits rfl (by decide) C _ _ _ (hs 0) (hs 1) (hs 2) VO0_2 VO0_2.junk
    (st_k0_t1 (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))))
    k0_t1_loop.trips (Rounds.holds_start fits rfl C _ _ _ (hs 0) (hs 1) (hs 2)) rfl (fun k hk => ?_) _ _ (fun y => ?_)
    k0_t1_loop.trips le_rfl).2 j ?_ y
  · refine ⟨k0_off1 ⟨k, hk⟩, k0_off1_inb ⟨k, hk⟩, off ⟨k, hk⟩, ?_⟩
    have e := st_k0_t1_succ (F := Ideal) Variants.none c none i a1 h1 a2 h2 a3 h3 (sheet x0 0) (sheet x0 1) (sheet x0 2)
      (Rounds.start fits (Rounds.plane fits (sheet x0 0)) (Rounds.plane fits (sheet x0 1)) (Rounds.plane fits (sheet x0 2))) ⟨k, hk⟩
    rw [round_eq, row_eq] at e
    exact e
  · rw [← hx 0 y]
    unfold k0_pay2
    refine (Reads.lift _ _ _ _ _).trans ((Reads.drop _ _ _ _).trans (congrArg x1 (funext fun z => Fin.ext ?_)))
    match z with
    | ⟨0, _⟩ | ⟨1, _⟩ => rfl
    | ⟨2, _⟩ => exact (Nat.zero_add _).trans (Nat.one_mul _)
  · have := j.2
    show j.1 ≤ 63
    omega

end Body

variable (m : (ℓ : Loc nD τ sig) → Buf (Elt Ideal) ℓ)

/-- The points of a batch. -/
def points (x : Vec Ideal S2x256x3 .f32) (b : Fin 2) (n : Fin 256) (y : Fin 3) : EReal := x (ix3 b n y)

/-- The points taken, in order, as a function of the argument. -/
def picked (x : Vec Ideal S2x256x3 .f32) : Vec Ideal S2x64x3 .f32 := fun i =>
  points x (i 0) (state (Ideal.ofBits .f32 0x501502F9#32) (points x (i 0)) (i 1).1).2 (i 2)

/-- Each window's block index at each grid point. -/
theorem index : ∀ t : Fin cfg0.N,
    (win0_0.index t (0 : Fin 4) = t.1 ∧ win0_0.index t (1 : Fin 4) = 0 ∧ win0_0.index t (2 : Fin 4) = 0 ∧ win0_0.index t (3 : Fin 4) = 0)
    ∧ (win0_1.index t (0 : Fin 3) = t.1 ∧ win0_1.index t (1 : Fin 3) = 0 ∧ win0_1.index t (2 : Fin 3) = 0)
    ∧ (win0_2.index t (0 : Fin 3) = t.1 ∧ win0_2.index t (1 : Fin 3) = 0 ∧ win0_2.index t (2 : Fin 3) = 0) :=
  (by decide +kernel : ∀ t : Fin grid0.N, _)

/-- The batch of a grid point. -/
def batch (t : Fin cfg0.N) : Fin 2 := ⟨t.1, by have := t.2; have : cfg0.N = 2 := rfl; omega⟩

/-- The blocks read at a place are the argument read at the batch's place. -/
theorem reads (c : Dev nD) (t : Fin cfg0.N) :
    (∀ (y : Fin 3) (r : Fin 2) (l : Fin 128), iblk m c 0 t (ix4 0 y r l)
      = points (m ((c : Thread nD τ).loc main_arg0)) (batch t) (place (N := 256) rfl r l) y)
    ∧ ∀ (n : Fin 256) (y : Fin 3), iblk m c 1 t (ix3 0 n y) = points (m ((c : Thread nD τ).loc main_arg0)) (batch t) n y := by
  have e : V m c main_v1 = shapeCast S2x3x2x128 (transpose S2x3x256 [0, 2, 1] (m ((c : Thread nD τ).loc main_arg0))
      transposes_S2x256x3_S2x3x256_0_2_1) shapeCasts_S2x3x256_S2x3x2x128 := rfl
  refine ⟨fun y r l => ?_, fun n y => ?_⟩
  · trans V m c main_v1 (ix4 (batch t) y r l)
    · blk_ext [iblk, batch, index t]
    · rw [e, HostReads.split _ _ rfl (batch t) y r l (place (N := 256) rfl r l) rfl]
      exact congrArg (m ((c : Thread nD τ).loc main_arg0)) (funext fun z => Fin.ext (by match z with | ⟨0, _⟩ | ⟨1, _⟩ | ⟨2, _⟩ => rfl))
  · trans V m c main_arg0 (ix3 (batch t) n y)
    · blk_ext [iblk, batch, index t]
    · rfl

/-- What a grid point leaves is its block of the points taken. -/
theorem point (c : Dev nD) (t : Fin cfg0.N) (y : S1x64x3.Idx) :
    out0_A_2 c (grid0.coords t) (ms0_0 t) (hs0_0 t) (ms0_1 t) (hs0_1 t) (ms0_2 t) (hs0_2 t) (iblk m c 0 t) (iblk m c 1 t) y
      = picked (m ((c : Thread nD τ).loc main_arg0)) (((View.whole main_v2).slice (win0_2.rect t)).emb y) := by
  obtain ⟨r0, r1⟩ := reads m c t
  obtain ⟨o, j, x, rfl⟩ : ∃ (o : Fin 1) (j : Fin 64) (x : Fin 3), y = ix3 o j x := ⟨y 0, y 1, y 2, eq_ix3 y⟩
  obtain rfl : o = 0 := Subsingleton.elim _ _
  have e : ((View.whole main_v2).slice (win0_2.rect t)).emb (ix3 0 j x) = ix3 (batch t) j x := by
    blk_ext [batch, index t]
  rw [out_apply c _ _ _ _ _ _ _ _ _ (points (m ((c : Thread nD τ).loc main_arg0)) (batch t)) r0 r1, e]
  rfl

/-- The result array after the run. -/
theorem final (c : Dev nD) : (dats m 0 c).arrAt 2 cfg0.N = picked (m ((c : Thread nD τ).loc main_arg0)) := by
  refine (dats m 0 c).arrAt_eq_of_covers 2 _ (by decide +kernel) fun t hf y => ?_
  blk_simp
  rw [after0_2]
  unfold outsAt0
  exact point m c t y

/-- The kernel's run, its result the points taken. -/
theorem run (ρ : Dev nD → PrngReg) :
    θ_run defs (onTc (τ := τ) (main (F := Ideal))) ⟨m, fun _ => 0, ρ⟩ fun r => ∀ c : Dev nD,
      r.2.mem ((c : Thread nD τ).loc main_v2) = picked (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.Taken2

end
-- ==== Proof.RefTaken2.lean ====
/- Farthest point sampling of the 256 points of level 2: what the reference's run leaves, and the claims of the call. -/
module

public import proofs.«01_k».proof.Proof.RefFar
public import proofs.«01_k».proof.Proof.Taken2
public import proofs.«01_k».proof.Proof.Gen.RefSample2Ideal.Run
public import proofs.«01_k».proof.Defs

@[expose] public section

set_option maxRecDepth 16384

noncomputable section

namespace Cert.RefTaken2

open Cert.RefSample2Ideal Cert.RefSample2Ideal.Gen Cert.RefSample2Ideal.Value Idealize.ShloMosaic Idealize.ShloMosaic.TcCoe
open Idealize.ShloMosaic.StableHlo Idealize.SL.Sem Cert.Far

/-- The shape relations of the steps at this level. -/
theorem fits : RefFar.Fits 2 256 64 :=
  ⟨bcast_S2_S2x1x1_0, bcast_S_S2x1x1, gather_S2x256x3_S2x1x1_S2x1x3_2_1_0_0_1_2_113_wf, bcast_S2x1x3_S2x256x3_0_1_2,
    reducesTo_S2x256x3_S2x256_d2, h_S_, bcast_S2x256_S2x1x256_0_2, sliceFits_S2x1x256_S2x1x1, shapeCasts_S2x1x1_S2, bcast_S2_S2x1_0,
    updateFits_S2x64_S2x1, bcast_S2x64_S2x64x1_0_1, bcast_S_S2x64x1, gather_S2x256x3_S2x64x1_S2x64x3_2_1_0_0_1_2_113_wf,
    shapeCasts_S2x64x3_S2x64x1x3, shapeCasts_S2x64x1x3_S2x64x3⟩

variable (m : (ℓ : Loc nD τ sig) → Buf (Elt Ideal) ℓ)

/-- What a valuation of the buffers holds after `k` steps over the points `C`. -/
structure Holds (C : Vec Ideal S2x256x3 .f32) (k : ℕ) (V : Valuation τ sig (Elt Ideal)) : Prop where
  points : V (Proc.devRef .tc main_v3_0) = C
  state : RefFar.Holds (M := 64) (Ideal.ofBits .f32 0x501502F9#32) C k (V (Proc.devRef .tc main_v3_2)) (V (Proc.devRef .tc main_v3_3))
    (V (Proc.devRef .tc main_v3_4)) (V (Proc.devRef .tc main_v3_5))

/-- The squared distances a trip leaves. -/
theorem dist_eq (V : Valuation τ sig (Elt Ideal)) : step_main_v3_4 V
    = RefFar.renew fits 256#32 (V (Proc.devRef .tc main_v3_0)) (V (Proc.devRef .tc main_v3_4)) (V (Proc.devRef .tc main_v3_5)) := rfl

/-- The point a trip takes. -/
theorem next_eq (V : Valuation τ sig (Elt Ideal)) : step_main_v3_5 V = RefFar.next fits (step_main_v3_4 V) := rfl

/-- The list a trip leaves. -/
theorem list_eq (V : Valuation τ sig (Elt Ideal)) : step_main_v3_3 V
    = RefFar.put fits 64#32 (V (Proc.devRef .tc main_v3_2)) (V (Proc.devRef .tc main_v3_3)) (step_main_v3_5 V) := rfl

/-- The count a trip leaves. -/
theorem count_eq (V : Valuation τ sig (Elt Ideal)) : step_main_v3_2 V
    = addi (V (Proc.devRef .tc main_v3_2)) (constantI RefFar.One 32 1#32) := rfl

/-- A trip is a step. -/
theorem Holds.step {C : Vec Ideal S2x256x3 .f32} {k : ℕ} {V : Valuation τ sig (Elt Ideal)} (h : Holds C k V) (hk : k + 1 < 64) :
    Holds C (k + 1) (STEP V) := by
  refine ⟨(STEP_main_v3_0 V).trans h.points, ?_⟩
  rw [STEP_main_v3_2, STEP_main_v3_3, STEP_main_v3_4, STEP_main_v3_5, list_eq, next_eq, dist_eq, count_eq, h.points]
  exact h.state.step fits 256#32 64#32 (by decide) (by decide) hk

/-- The buffers at the loop's entry. -/
theorem entry (c : Dev nD) : Holds (m ((c.tc : Thread nD τ).loc main_arg0)) 0 (entryContents preI m c) := by
  have e0 : entryContents preI m c (Proc.devRef .tc main_v3_0) = m ((c.tc : Thread nD τ).loc main_arg0) := by
    simp only [entryContents, afterL_cons, afterL_nil]
    after_reads_simp
    rfl
  have e2 : entryContents preI m c (Proc.devRef .tc main_v3_2) = constantI S_ 32 1#32 := by
    simp only [entryContents, afterL_cons, afterL_nil]
    after_reads_simp
    rfl
  have e3 : entryContents preI m c (Proc.devRef .tc main_v3_3) = broadcastInDim S2x64 ![] bcast_S_S2x64 (constantI S_ 32 0#32) := by
    simp only [entryContents, afterL_cons, afterL_nil]
    after_reads_simp
    rfl
  have e4 : entryContents preI m c (Proc.devRef .tc main_v3_4)
      = broadcastInDim S2x256 ![] bcast_S_S2x256 (constant (F := Ideal) S_ .f32 0x501502F9#32) := by
    simp only [entryContents, afterL_cons, afterL_nil]
    after_reads_simp
    rfl
  have e5 : entryContents preI m c (Proc.devRef .tc main_v3_5) = broadcastInDim S2 ![] bcast_S_S2 (constantI S_ 32 0#32) := by
    simp only [entryContents, afterL_cons, afterL_nil]
    after_reads_simp
    rfl
  refine ⟨e0, ?_⟩
  rw [e2, e3, e4, e5]
  exact RefFar.Holds.start (fun _ => rfl) (fun _ => rfl) (fun _ => rfl) fun _ => rfl

/-- The buffers after `k` trips. -/
theorem trips (c : Dev nD) : ∀ k, k < 64 → Holds (m ((c.tc : Thread nD τ).loc main_arg0)) k (STEP^[k] (entryContents preI m c))
  | 0, _ => entry m c
  | k + 1, hk => by
    rw [Function.iterate_succ_apply']
    exact (trips c k (by omega)).step hk

/-- The result after the loop is the rows of the points listed. -/
theorem out_eq (V : Valuation τ sig (Elt Ideal)) : out_main_v7 V
    = RefFar.taken fits 256#32 (V (Proc.devRef .tc main_arg0)) (V (Proc.devRef .tc main_v3_3)) := rfl

/-- The reference's result is the points taken. -/
theorem result (c : Dev nD) : out_main_v7 (STEP^[63] (entryContents preI m c)) = Taken2.picked (m ((c.tc : Thread nD τ).loc main_arg0)) := by
  rw [out_eq, iter_main_arg0 m c 63]
  funext z
  obtain ⟨b, j, y, rfl⟩ : ∃ (b : Fin 2) (j : Fin 64) (y : Fin 3), z = ix3 b j y := ⟨z 0, z 1, z 2, eq_ix3 z⟩
  exact RefFar.taken_apply fits 256#32 (by decide) _ _ b j _ ((trips m c 63 (by decide)).state.list b j (by have := j.2; omega)) y

end Cert.RefTaken2

namespace Cert.Taken2

open Idealize.ShloMosaic Idealize.ShloMosaic.TcCoe Idealize.SL.Sem

/-- The reference runs and leaves its argument. -/
theorem frame : quiescent_RefSample2Ideal := fun m g _ =>
  (θ_run Cert.RefSample2Ideal.defs _ _).mono (fun r h => ⟨fun c => (h c).2, sem_eq_zero_of_no_sems (by decide) r.2⟩)
    (Cert.RefSample2Ideal.Value.run (F := Ideal) m g)

/-- No operation is replaced. -/
theorem preserves : preserves_Sample2_Sample2Ideal := trivial

/-- The kernel's result is the reference's. -/
theorem algebraic : algebraic_Sample2Ideal_RefSample2Ideal := by
  intro m g m' g' _ ha
  refine ⟨fun c => picked (m ((c.tc : Thread Cert.Sample2Ideal.nD Cert.Sample2Ideal.τ).loc Cert.Sample2Ideal.main_arg0)), run m g, ?_⟩
  refine (θ_run _ _ _).mono (fun r h c => ⟨(h c).1.trans ?_, (h c).2⟩) (Cert.RefSample2Ideal.Value.run m' g')
  rw [Cert.RefTaken2.result, ha c]

end Cert.Taken2

end
-- ==== Proof.lean ====
module

public import proofs.«01_k».proof.Defs
public import proofs.«01_k».proof.Proof.Gen.Attention0
public import proofs.«01_k».proof.Proof.Gen.Attention0.Skeleton
public import proofs.«01_k».proof.Proof.Gen.Attention0.Launch
public import proofs.«01_k».proof.Proof.Gen.Attention0.Points
public import proofs.«01_k».proof.Proof.Gen.Attention0.Frame
public import proofs.«01_k».proof.Proof.Gen.Attention0Ideal
public import proofs.«01_k».proof.Proof.Gen.Attention0Ideal.Skeleton
public import proofs.«01_k».proof.Proof.Gen.Attention0Ideal.Launch
public import proofs.«01_k».proof.Proof.Gen.Attention0Ideal.Points
public import proofs.«01_k».proof.Proof.Gen.Attention0Ideal.Frame
public import proofs.«01_k».proof.Proof.Gen.RefAttention0Ideal
public import proofs.«01_k».proof.Proof.Gen.Attention1
public import proofs.«01_k».proof.Proof.Gen.Attention1.Skeleton
public import proofs.«01_k».proof.Proof.Gen.Attention1.Launch
public import proofs.«01_k».proof.Proof.Gen.Attention1.Points
public import proofs.«01_k».proof.Proof.Gen.Attention1.Frame
public import proofs.«01_k».proof.Proof.Gen.Attention1Ideal
public import proofs.«01_k».proof.Proof.Gen.Attention1Ideal.Skeleton
public import proofs.«01_k».proof.Proof.Gen.Attention1Ideal.Launch
public import proofs.«01_k».proof.Proof.Gen.Attention1Ideal.Points
public import proofs.«01_k».proof.Proof.Gen.Attention1Ideal.Frame
public import proofs.«01_k».proof.Proof.Gen.RefAttention1Ideal
public import proofs.«01_k».proof.Proof.Gen.Attention2
public import proofs.«01_k».proof.Proof.Gen.Attention2.Skeleton
public import proofs.«01_k».proof.Proof.Gen.Attention2.Launch
public import proofs.«01_k».proof.Proof.Gen.Attention2.Points
public import proofs.«01_k».proof.Proof.Gen.Attention2.Frame
public import proofs.«01_k».proof.Proof.Gen.Attention2Ideal
public import proofs.«01_k».proof.Proof.Gen.Attention2Ideal.Skeleton
public import proofs.«01_k».proof.Proof.Gen.Attention2Ideal.Launch
public import proofs.«01_k».proof.Proof.Gen.Attention2Ideal.Points
public import proofs.«01_k».proof.Proof.Gen.Attention2Ideal.Frame
public import proofs.«01_k».proof.Proof.Gen.RefAttention2Ideal
public import proofs.«01_k».proof.Proof.Gen.Attention3
public import proofs.«01_k».proof.Proof.Gen.Attention3.Skeleton
public import proofs.«01_k».proof.Proof.Gen.Attention3.Launch
public import proofs.«01_k».proof.Proof.Gen.Attention3.Points
public import proofs.«01_k».proof.Proof.Gen.Attention3.Frame
public import proofs.«01_k».proof.Proof.Gen.Attention3Ideal
public import proofs.«01_k».proof.Proof.Gen.Attention3Ideal.Skeleton
public import proofs.«01_k».proof.Proof.Gen.Attention3Ideal.Launch
public import proofs.«01_k».proof.Proof.Gen.Attention3Ideal.Points
public import proofs.«01_k».proof.Proof.Gen.Attention3Ideal.Frame
public import proofs.«01_k».proof.Proof.Gen.RefAttention3Ideal
public import proofs.«01_k».proof.Proof.Gen.Features0
public import proofs.«01_k».proof.Proof.Gen.Features0.Skeleton
public import proofs.«01_k».proof.Proof.Gen.Features0.Launch
public import proofs.«01_k».proof.Proof.Gen.Features0.Points
public import proofs.«01_k».proof.Proof.Gen.Features0.Frame
public import proofs.«01_k».proof.Proof.Gen.Features0Ideal
public import proofs.«01_k».proof.Proof.Gen.Features0Ideal.Skeleton
public import proofs.«01_k».proof.Proof.Gen.Features0Ideal.Launch
public import proofs.«01_k».proof.Proof.Gen.Features0Ideal.Points
public import proofs.«01_k».proof.Proof.Gen.Features0Ideal.Frame
public import proofs.«01_k».proof.Proof.Gen.RefFeatures0Ideal
public import proofs.«01_k».proof.Proof.Gen.Features1
public import proofs.«01_k».proof.Proof.Gen.Features1.Skeleton
public import proofs.«01_k».proof.Proof.Gen.Features1.Launch
public import proofs.«01_k».proof.Proof.Gen.Features1.Points
public import proofs.«01_k».proof.Proof.Gen.Features1.Frame
public import proofs.«01_k».proof.Proof.Gen.Features1Ideal
public import proofs.«01_k».proof.Proof.Gen.Features1Ideal.Skeleton
public import proofs.«01_k».proof.Proof.Gen.Features1Ideal.Launch
public import proofs.«01_k».proof.Proof.Gen.Features1Ideal.Points
public import proofs.«01_k».proof.Proof.Gen.Features1Ideal.Frame
public import proofs.«01_k».proof.Proof.Gen.RefFeatures1Ideal
public import proofs.«01_k».proof.Proof.Gen.Features2
public import proofs.«01_k».proof.Proof.Gen.Features2.Skeleton
public import proofs.«01_k».proof.Proof.Gen.Features2.Launch
public import proofs.«01_k».proof.Proof.Gen.Features2.Points
public import proofs.«01_k».proof.Proof.Gen.Features2.Frame
public import proofs.«01_k».proof.Proof.Gen.Features2Ideal
public import proofs.«01_k».proof.Proof.Gen.Features2Ideal.Skeleton
public import proofs.«01_k».proof.Proof.Gen.Features2Ideal.Launch
public import proofs.«01_k».proof.Proof.Gen.Features2Ideal.Points
public import proofs.«01_k».proof.Proof.Gen.Features2Ideal.Frame
public import proofs.«01_k».proof.Proof.Gen.RefFeatures2Ideal
public import proofs.«01_k».proof.Proof.Gen.Sample0
public import proofs.«01_k».proof.Proof.Gen.Sample0.Skeleton
public import proofs.«01_k».proof.Proof.Gen.Sample0.Loops
public import proofs.«01_k».proof.Proof.Gen.Sample0.Launch
public import proofs.«01_k».proof.Proof.Gen.Sample0.Points
public import proofs.«01_k».proof.Proof.Gen.Sample0.Frame
public import proofs.«01_k».proof.Proof.Gen.Sample0Ideal
public import proofs.«01_k».proof.Proof.Gen.Sample0Ideal.Skeleton
public import proofs.«01_k».proof.Proof.Gen.Sample0Ideal.Loops
public import proofs.«01_k».proof.Proof.Gen.Sample0Ideal.Launch
public import proofs.«01_k».proof.Proof.Gen.Sample0Ideal.Points
public import proofs.«01_k».proof.Proof.Gen.Sample0Ideal.Frame
public import proofs.«01_k».proof.Proof.Gen.RefSample0Ideal
public import proofs.«01_k».proof.Proof.Gen.Sample1
public import proofs.«01_k».proof.Proof.Gen.Sample1.Skeleton
public import proofs.«01_k».proof.Proof.Gen.Sample1.Loops
public import proofs.«01_k».proof.Proof.Gen.Sample1.Launch
public import proofs.«01_k».proof.Proof.Gen.Sample1.Points
public import proofs.«01_k».proof.Proof.Gen.Sample1.Frame
public import proofs.«01_k».proof.Proof.Gen.Sample1Ideal
public import proofs.«01_k».proof.Proof.Gen.Sample1Ideal.Skeleton
public import proofs.«01_k».proof.Proof.Gen.Sample1Ideal.Loops
public import proofs.«01_k».proof.Proof.Gen.Sample1Ideal.Launch
public import proofs.«01_k».proof.Proof.Gen.Sample1Ideal.Points
public import proofs.«01_k».proof.Proof.Gen.Sample1Ideal.Frame
public import proofs.«01_k».proof.Proof.Gen.RefSample1Ideal
public import proofs.«01_k».proof.Proof.Gen.Sample2
public import proofs.«01_k».proof.Proof.Gen.Sample2.Skeleton
public import proofs.«01_k».proof.Proof.Gen.Sample2.Loops
public import proofs.«01_k».proof.Proof.Gen.Sample2.Launch
public import proofs.«01_k».proof.Proof.Gen.Sample2.Points
public import proofs.«01_k».proof.Proof.Gen.Sample2.Frame
public import proofs.«01_k».proof.Proof.Gen.Sample2Ideal
public import proofs.«01_k».proof.Proof.Gen.Sample2Ideal.Skeleton
public import proofs.«01_k».proof.Proof.Gen.Sample2Ideal.Loops
public import proofs.«01_k».proof.Proof.Gen.Sample2Ideal.Launch
public import proofs.«01_k».proof.Proof.Gen.Sample2Ideal.Points
public import proofs.«01_k».proof.Proof.Gen.Sample2Ideal.Frame
public import proofs.«01_k».proof.Proof.Gen.RefSample2Ideal
public import proofs.«01_k».proof.Proof.Gen.Linear
public import proofs.«01_k».proof.Proof.Gen.Linear.Skeleton
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Launch
public import proofs.«01_k».proof.Proof.Gen.LinearIdeal.Points
public import proofs.«01_k».proof.Proof.Gen.LinearIdeal.Frame
public import proofs.«01_k».proof.Proof.Gen.RefLinearIdeal
public import proofs.«01_k».proof.Proof.Gen.Pre_apart0
public import proofs.«01_k».proof.Proof.Gen.Pre_apart1
public import proofs.«01_k».proof.Proof.Gen.Pre_apart2
public import proofs.«01_k».proof.Proof.Gen.Pre_apart3
public import proofs.«01_k».proof.Proof.Gen.Pre_near0
public import proofs.«01_k».proof.Proof.Gen.Pre_near1
public import proofs.«01_k».proof.Proof.Gen.Pre_near2
public import proofs.«01_k».proof.Proof.Gen.Attention0Ideal.Value
public import proofs.«01_k».proof.Proof.Gen.RefAttention0Ideal.Read
public import proofs.«01_k».proof.Proof.Gen.RefAttention0Ideal.Run
public import proofs.«01_k».proof.Proof.Gen.Attention1Ideal.Value
public import proofs.«01_k».proof.Proof.Gen.RefAttention1Ideal.Read
public import proofs.«01_k».proof.Proof.Gen.RefAttention1Ideal.Run
public import proofs.«01_k».proof.Proof.Gen.Attention2Ideal.Value
public import proofs.«01_k».proof.Proof.Gen.RefAttention2Ideal.Read
public import proofs.«01_k».proof.Proof.Gen.RefAttention2Ideal.Run
public import proofs.«01_k».proof.Proof.Gen.Attention3Ideal.Value
public import proofs.«01_k».proof.Proof.Gen.RefAttention3Ideal.Read
public import proofs.«01_k».proof.Proof.Gen.RefAttention3Ideal.Run
public import proofs.«01_k».proof.Proof.Gen.Features0Ideal.Value
public import proofs.«01_k».proof.Proof.Gen.RefFeatures0Ideal.Read
public import proofs.«01_k».proof.Proof.Gen.RefFeatures0Ideal.Run
public import proofs.«01_k».proof.Proof.Gen.Features1Ideal.Value
public import proofs.«01_k».proof.Proof.Gen.RefFeatures1Ideal.Read
public import proofs.«01_k».proof.Proof.Gen.RefFeatures1Ideal.Run
public import proofs.«01_k».proof.Proof.Gen.Features2Ideal.Value
public import proofs.«01_k».proof.Proof.Gen.RefFeatures2Ideal.Read
public import proofs.«01_k».proof.Proof.Gen.RefFeatures2Ideal.Run
public import proofs.«01_k».proof.Proof.Gen.LinearIdeal.Value
public import proofs.«01_k».proof.Proof.Gen.RefLinearIdeal.Read
public import proofs.«01_k».proof.Proof.Gen.RefLinearIdeal.Run
public import proofs.«01_k».proof.Proof.RefFeature0
public import proofs.«01_k».proof.Proof.RefFeature1
public import proofs.«01_k».proof.Proof.RefFeature2
public import proofs.«01_k».proof.Proof.Ref0
public import proofs.«01_k».proof.Proof.Ref1
public import proofs.«01_k».proof.Proof.Ref2
public import proofs.«01_k».proof.Proof.Ref3
public import proofs.«01_k».proof.Proof.Line
public import proofs.«01_k».proof.Proof.Gen.RefSample0Ideal.Run
public import proofs.«01_k».proof.Proof.Gen.RefSample1Ideal.Run
public import proofs.«01_k».proof.Proof.Gen.RefSample2Ideal.Run
public import proofs.«01_k».proof.Proof.RefTaken0
public import proofs.«01_k».proof.Proof.RefTaken1
public import proofs.«01_k».proof.Proof.RefTaken2
public import Idealize.ShloMosaic.Adequacy
public import Idealize.ShloMosaic.Init

@[expose] public section

noncomputable section

namespace Cert.Proof

open Idealize.ShloMosaic Idealize.SL.Sem Cert.Attention0

/-- Every claim, from the module of its call. -/
theorem claim : Cert.Claim := ⟨Cert.Attention0.Gen.facts, Cert.Attention0Ideal.Gen.facts, Cert.RefAttention0Ideal.Gen.facts, Cert.Attention1.Gen.facts,
  Cert.Attention1Ideal.Gen.facts, Cert.RefAttention1Ideal.Gen.facts, Cert.Attention2.Gen.facts, Cert.Attention2Ideal.Gen.facts,
  Cert.RefAttention2Ideal.Gen.facts, Cert.Attention3.Gen.facts, Cert.Attention3Ideal.Gen.facts, Cert.RefAttention3Ideal.Gen.facts,
  Cert.Features0.Gen.facts, Cert.Features0Ideal.Gen.facts, Cert.RefFeatures0Ideal.Gen.facts, Cert.Features1.Gen.facts,
  Cert.Features1Ideal.Gen.facts, Cert.RefFeatures1Ideal.Gen.facts, Cert.Features2.Gen.facts, Cert.Features2Ideal.Gen.facts,
  Cert.RefFeatures2Ideal.Gen.facts, Cert.Sample0.Gen.facts, Cert.Sample0Ideal.Gen.facts, Cert.RefSample0Ideal.Gen.facts,
  Cert.Sample1.Gen.facts, Cert.Sample1Ideal.Gen.facts, Cert.RefSample1Ideal.Gen.facts, Cert.Sample2.Gen.facts,
  Cert.Sample2Ideal.Gen.facts, Cert.RefSample2Ideal.Gen.facts, Cert.Linear.Gen.facts, Cert.LinearIdeal.Gen.facts,
  Cert.RefLinearIdeal.Gen.facts, Cert.Pre_apart0.Gen.facts, Cert.Pre_apart1.Gen.facts, Cert.Pre_apart2.Gen.facts,
  Cert.Pre_apart3.Gen.facts, Cert.Pre_near0.Gen.facts, Cert.Pre_near1.Gen.facts, Cert.Pre_near2.Gen.facts,
  fun m g _ => Cert.Attention0.Gen.frame m g,
  fun m g _ => Cert.Attention0Ideal.Gen.frame m g,
  fun m g _ => Cert.Attention0Ideal.Gen.frame m g,
  Level0.frame,
  fun m g _ => Level0.frame m g trivial,
  fun m g _ => Cert.Attention1.Gen.frame m g,
  fun m g _ => Cert.Attention1Ideal.Gen.frame m g,
  fun m g _ => Cert.Attention1Ideal.Gen.frame m g,
  Level1.frame,
  fun m g _ => Level1.frame m g trivial,
  fun m g _ => Cert.Attention2.Gen.frame m g,
  fun m g _ => Cert.Attention2Ideal.Gen.frame m g,
  fun m g _ => Cert.Attention2Ideal.Gen.frame m g,
  Level2.frame,
  fun m g _ => Level2.frame m g trivial,
  fun m g _ => Cert.Attention3.Gen.frame m g,
  fun m g _ => Cert.Attention3Ideal.Gen.frame m g,
  fun m g _ => Cert.Attention3Ideal.Gen.frame m g,
  Level3.frame,
  fun m g _ => Level3.frame m g trivial,
  fun m g _ => Cert.Features0.Gen.frame m g,
  fun m g _ => Cert.Features0Ideal.Gen.frame m g,
  fun m g _ => Cert.Features0Ideal.Gen.frame m g,
  Feature0.frame,
  fun m g _ => Feature0.frame m g trivial,
  fun m g _ => Cert.Features1.Gen.frame m g,
  fun m g _ => Cert.Features1Ideal.Gen.frame m g,
  fun m g _ => Cert.Features1Ideal.Gen.frame m g,
  Feature1.frame,
  fun m g _ => Feature1.frame m g trivial,
  fun m g _ => Cert.Features2.Gen.frame m g,
  fun m g _ => Cert.Features2Ideal.Gen.frame m g,
  fun m g _ => Cert.Features2Ideal.Gen.frame m g,
  Feature2.frame,
  fun m g _ => Feature2.frame m g trivial,
  fun m g _ => Cert.Sample0.Gen.frame m g,
  fun m g _ => Cert.Sample0Ideal.Gen.frame m g,
  Taken0.frame,
  fun m g _ => Cert.Sample1.Gen.frame m g,
  fun m g _ => Cert.Sample1Ideal.Gen.frame m g,
  Taken1.frame,
  fun m g _ => Cert.Sample2.Gen.frame m g,
  fun m g _ => Cert.Sample2Ideal.Gen.frame m g,
  Taken2.frame,
  fun m g _ => Cert.Linear.Gen.frame m g,
  fun m g _ => Cert.LinearIdeal.Gen.frame m g,
  Line.frame,
  Level0.preserves,
  Level0.algebraic,
  Level1.preserves,
  Level1.algebraic,
  Level2.preserves,
  Level2.algebraic,
  Level3.preserves,
  Level3.algebraic,
  Feature0.preserves,
  Feature0.algebraic,
  Feature1.preserves,
  Feature1.algebraic,
  Feature2.preserves,
  Feature2.algebraic,
  Taken0.preserves,
  Taken0.algebraic,
  Taken1.preserves,
  Taken1.algebraic,
  Taken2.preserves,
  Taken2.algebraic,
  Line.preserves,
  Line.algebraic⟩

end Cert.Proof

end
